-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_ReferenceFoxIdeal (m : (ℓ : Loc Cert.ReferenceFoxIdeal.nD Cert.ReferenceFoxIdeal.τ Cert.ReferenceFoxIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelAtt [hPre_causal_pairs : Cert.Pre_causal_pairs.Facts] (m : (ℓ : Loc Cert.KernelAtt.nD Cert.KernelAtt.τ Cert.KernelAtt.sig) → Buf (Elt Bits) ℓ) : Prop :=
  ∀ c : Dev Cert.KernelAtt.nD,
    (Cert.Pre_causal_pairs.fn (F := Bits) (m ((c.tc : Thread Cert.KernelAtt.nD Cert.KernelAtt.τ).loc Cert.KernelAtt.main_arg0)) (m ((c.tc : Thread Cert.KernelAtt.nD Cert.KernelAtt.τ).loc Cert.KernelAtt.main_arg1)) (m ((c.tc : Thread Cert.KernelAtt.nD Cert.KernelAtt.τ).loc Cert.KernelAtt.main_arg2)) (m ((c.tc : Thread Cert.KernelAtt.nD Cert.KernelAtt.τ).loc Cert.KernelAtt.main_arg3)) (m ((c.tc : Thread Cert.KernelAtt.nD Cert.KernelAtt.τ).loc Cert.KernelAtt.main_arg4)) (m ((c.tc : Thread Cert.KernelAtt.nD Cert.KernelAtt.τ).loc Cert.KernelAtt.main_arg5)) (m ((c.tc : Thread Cert.KernelAtt.nD Cert.KernelAtt.τ).loc Cert.KernelAtt.main_arg6)) (m ((c.tc : Thread Cert.KernelAtt.nD Cert.KernelAtt.τ).loc Cert.KernelAtt.main_arg7))) = (fun _ => 1#1)

def Pre_KernelAttIdeal [hPre_causal_pairs : Cert.Pre_causal_pairs.Facts] (m : (ℓ : Loc Cert.KernelAttIdeal.nD Cert.KernelAttIdeal.τ Cert.KernelAttIdeal.sig) → Buf (Elt Ideal) ℓ) : Prop :=
  ∀ c : Dev Cert.KernelAttIdeal.nD,
    (Cert.Pre_causal_pairs.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3)) (m ((c.tc : Thread Cert.KernelAttIdeal.nD Cert.KernelAttIdeal.τ).loc Cert.KernelAttIdeal.main_arg4)) (m ((c.tc : Thread Cert.KernelAttIdeal.nD Cert.KernelAttIdeal.τ).loc Cert.KernelAttIdeal.main_arg5)) (m ((c.tc : Thread Cert.KernelAttIdeal.nD Cert.KernelAttIdeal.τ).loc Cert.KernelAttIdeal.main_arg6)) (m ((c.tc : Thread Cert.KernelAttIdeal.nD Cert.KernelAttIdeal.τ).loc Cert.KernelAttIdeal.main_arg7))) = (fun _ => 1#1)

def Pre_KernelAttIdeal_finite_pairs [hPre_finite_pairs : Cert.Pre_finite_pairs.Facts] (m : (ℓ : Loc Cert.KernelAttIdeal.nD Cert.KernelAttIdeal.τ Cert.KernelAttIdeal.sig) → Buf (Elt Ideal) ℓ) : Prop :=
  ∀ c : Dev Cert.KernelAttIdeal.nD,
    (Cert.Pre_finite_pairs.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3)) (m ((c.tc : Thread Cert.KernelAttIdeal.nD Cert.KernelAttIdeal.τ).loc Cert.KernelAttIdeal.main_arg4)) (m ((c.tc : Thread Cert.KernelAttIdeal.nD Cert.KernelAttIdeal.τ).loc Cert.KernelAttIdeal.main_arg5)) (m ((c.tc : Thread Cert.KernelAttIdeal.nD Cert.KernelAttIdeal.τ).loc Cert.KernelAttIdeal.main_arg6)) (m ((c.tc : Thread Cert.KernelAttIdeal.nD Cert.KernelAttIdeal.τ).loc Cert.KernelAttIdeal.main_arg7))) = (fun _ => 1#1)

def Pre_ReferenceAttIdeal (m : (ℓ : Loc Cert.ReferenceAttIdeal.nD Cert.ReferenceAttIdeal.τ Cert.ReferenceAttIdeal.sig) → Buf (Elt Ideal) ℓ) : Prop :=
  True

def Pre_ReferenceAttIdeal_finite_pairs [hPre_finite_pairs : Cert.Pre_finite_pairs.Facts] (m : (ℓ : Loc Cert.ReferenceAttIdeal.nD Cert.ReferenceAttIdeal.τ Cert.ReferenceAttIdeal.sig) → Buf (Elt Ideal) ℓ) : Prop :=
  ∀ c : Dev Cert.ReferenceAttIdeal.nD,
    (Cert.Pre_finite_pairs.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3)) (m ((c.tc : Thread Cert.ReferenceAttIdeal.nD Cert.ReferenceAttIdeal.τ).loc Cert.ReferenceAttIdeal.main_arg4)) (m ((c.tc : Thread Cert.ReferenceAttIdeal.nD Cert.ReferenceAttIdeal.τ).loc Cert.ReferenceAttIdeal.main_arg5)) (m ((c.tc : Thread Cert.ReferenceAttIdeal.nD Cert.ReferenceAttIdeal.τ).loc Cert.ReferenceAttIdeal.main_arg6)) (m ((c.tc : Thread Cert.ReferenceAttIdeal.nD Cert.ReferenceAttIdeal.τ).loc Cert.ReferenceAttIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3))
      ∧ r.2.sem = fun _ => 0)

def quiescent_KernelAtt [hKernelAtt : Cert.KernelAtt.Facts] [hPre_causal_pairs : Cert.Pre_causal_pairs.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1)
      ∧ r.2.mem ((c.tc : Thread Cert.KernelAtt.nD Cert.KernelAtt.τ).loc Cert.KernelAtt.main_arg2) = m ((c.tc : Thread Cert.KernelAtt.nD Cert.KernelAtt.τ).loc Cert.KernelAtt.main_arg2)
      ∧ r.2.mem ((c.tc : Thread Cert.KernelAtt.nD Cert.KernelAtt.τ).loc Cert.KernelAtt.main_arg3) = m ((c.tc : Thread Cert.KernelAtt.nD Cert.KernelAtt.τ).loc Cert.KernelAtt.main_arg3)
      ∧ r.2.mem ((c.tc : Thread Cert.KernelAtt.nD Cert.KernelAtt.τ).loc Cert.KernelAtt.main_arg4) = m ((c.tc : Thread Cert.KernelAtt.nD Cert.KernelAtt.τ).loc Cert.KernelAtt.main_arg4)
      ∧ r.2.mem ((c.tc : Thread Cert.KernelAtt.nD Cert.KernelAtt.τ).loc Cert.KernelAtt.main_arg5) = m ((c.tc : Thread Cert.KernelAtt.nD Cert.KernelAtt.τ).loc Cert.KernelAtt.main_arg5)
      ∧ r.2.mem ((c.tc : Thread Cert.KernelAtt.nD Cert.KernelAtt.τ).loc Cert.KernelAtt.main_arg6) = m ((c.tc : Thread Cert.KernelAtt.nD Cert.KernelAtt.τ).loc Cert.KernelAtt.main_arg6)
      ∧ r.2.mem ((c.tc : Thread Cert.KernelAtt.nD Cert.KernelAtt.τ).loc Cert.KernelAtt.main_arg7) = m ((c.tc : Thread Cert.KernelAtt.nD Cert.KernelAtt.τ).loc Cert.KernelAtt.main_arg7))
      ∧ r.2.sem = fun _ => 0)

def quiescent_KernelAttIdeal [hKernelAttIdeal : Cert.KernelAttIdeal.Facts] [hPre_causal_pairs : Cert.Pre_causal_pairs.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3)
      ∧ r.2.mem ((c.tc : Thread Cert.KernelAttIdeal.nD Cert.KernelAttIdeal.τ).loc Cert.KernelAttIdeal.main_arg4) = m ((c.tc : Thread Cert.KernelAttIdeal.nD Cert.KernelAttIdeal.τ).loc Cert.KernelAttIdeal.main_arg4)
      ∧ r.2.mem ((c.tc : Thread Cert.KernelAttIdeal.nD Cert.KernelAttIdeal.τ).loc Cert.KernelAttIdeal.main_arg5) = m ((c.tc : Thread Cert.KernelAttIdeal.nD Cert.KernelAttIdeal.τ).loc Cert.KernelAttIdeal.main_arg5)
      ∧ r.2.mem ((c.tc : Thread Cert.KernelAttIdeal.nD Cert.KernelAttIdeal.τ).loc Cert.KernelAttIdeal.main_arg6) = m ((c.tc : Thread Cert.KernelAttIdeal.nD Cert.KernelAttIdeal.τ).loc Cert.KernelAttIdeal.main_arg6)
      ∧ r.2.mem ((c.tc : Thread Cert.KernelAttIdeal.nD Cert.KernelAttIdeal.τ).loc Cert.KernelAttIdeal.main_arg7) = m ((c.tc : Thread Cert.KernelAttIdeal.nD Cert.KernelAttIdeal.τ).loc Cert.KernelAttIdeal.main_arg7))
      ∧ r.2.sem = fun _ => 0)

def quiescent_KernelAttIdeal_pre_finite_pairs [hKernelAttIdeal : Cert.KernelAttIdeal.Facts] [hPre_finite_pairs : Cert.Pre_finite_pairs.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal_finite_pairs m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3)
      ∧ r.2.mem ((c.tc : Thread Cert.KernelAttIdeal.nD Cert.KernelAttIdeal.τ).loc Cert.KernelAttIdeal.main_arg4) = m ((c.tc : Thread Cert.KernelAttIdeal.nD Cert.KernelAttIdeal.τ).loc Cert.KernelAttIdeal.main_arg4)
      ∧ r.2.mem ((c.tc : Thread Cert.KernelAttIdeal.nD Cert.KernelAttIdeal.τ).loc Cert.KernelAttIdeal.main_arg5) = m ((c.tc : Thread Cert.KernelAttIdeal.nD Cert.KernelAttIdeal.τ).loc Cert.KernelAttIdeal.main_arg5)
      ∧ r.2.mem ((c.tc : Thread Cert.KernelAttIdeal.nD Cert.KernelAttIdeal.τ).loc Cert.KernelAttIdeal.main_arg6) = m ((c.tc : Thread Cert.KernelAttIdeal.nD Cert.KernelAttIdeal.τ).loc Cert.KernelAttIdeal.main_arg6)
      ∧ r.2.mem ((c.tc : Thread Cert.KernelAttIdeal.nD Cert.KernelAttIdeal.τ).loc Cert.KernelAttIdeal.main_arg7) = m ((c.tc : Thread Cert.KernelAttIdeal.nD Cert.KernelAttIdeal.τ).loc Cert.KernelAttIdeal.main_arg7))
      ∧ r.2.sem = fun _ => 0)

def quiescent_ReferenceAttIdeal [hReferenceAttIdeal : Cert.ReferenceAttIdeal.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3)
      ∧ r.2.mem ((c.tc : Thread Cert.ReferenceAttIdeal.nD Cert.ReferenceAttIdeal.τ).loc Cert.ReferenceAttIdeal.main_arg4) = m ((c.tc : Thread Cert.ReferenceAttIdeal.nD Cert.ReferenceAttIdeal.τ).loc Cert.ReferenceAttIdeal.main_arg4)
      ∧ r.2.mem ((c.tc : Thread Cert.ReferenceAttIdeal.nD Cert.ReferenceAttIdeal.τ).loc Cert.ReferenceAttIdeal.main_arg5) = m ((c.tc : Thread Cert.ReferenceAttIdeal.nD Cert.ReferenceAttIdeal.τ).loc Cert.ReferenceAttIdeal.main_arg5)
      ∧ r.2.mem ((c.tc : Thread Cert.ReferenceAttIdeal.nD Cert.ReferenceAttIdeal.τ).loc Cert.ReferenceAttIdeal.main_arg6) = m ((c.tc : Thread Cert.ReferenceAttIdeal.nD Cert.ReferenceAttIdeal.τ).loc Cert.ReferenceAttIdeal.main_arg6)
      ∧ r.2.mem ((c.tc : Thread Cert.ReferenceAttIdeal.nD Cert.ReferenceAttIdeal.τ).loc Cert.ReferenceAttIdeal.main_arg7) = m ((c.tc : Thread Cert.ReferenceAttIdeal.nD Cert.ReferenceAttIdeal.τ).loc Cert.ReferenceAttIdeal.main_arg7))
      ∧ r.2.sem = fun _ => 0)

def quiescent_ReferenceAttIdeal_pre_finite_pairs [hReferenceAttIdeal : Cert.ReferenceAttIdeal.Facts] [hPre_finite_pairs : Cert.Pre_finite_pairs.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal_finite_pairs m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3)
      ∧ r.2.mem ((c.tc : Thread Cert.ReferenceAttIdeal.nD Cert.ReferenceAttIdeal.τ).loc Cert.ReferenceAttIdeal.main_arg4) = m ((c.tc : Thread Cert.ReferenceAttIdeal.nD Cert.ReferenceAttIdeal.τ).loc Cert.ReferenceAttIdeal.main_arg4)
      ∧ r.2.mem ((c.tc : Thread Cert.ReferenceAttIdeal.nD Cert.ReferenceAttIdeal.τ).loc Cert.ReferenceAttIdeal.main_arg5) = m ((c.tc : Thread Cert.ReferenceAttIdeal.nD Cert.ReferenceAttIdeal.τ).loc Cert.ReferenceAttIdeal.main_arg5)
      ∧ r.2.mem ((c.tc : Thread Cert.ReferenceAttIdeal.nD Cert.ReferenceAttIdeal.τ).loc Cert.ReferenceAttIdeal.main_arg6) = m ((c.tc : Thread Cert.ReferenceAttIdeal.nD Cert.ReferenceAttIdeal.τ).loc Cert.ReferenceAttIdeal.main_arg6)
      ∧ r.2.mem ((c.tc : Thread Cert.ReferenceAttIdeal.nD Cert.ReferenceAttIdeal.τ).loc Cert.ReferenceAttIdeal.main_arg7) = m ((c.tc : Thread Cert.ReferenceAttIdeal.nD Cert.ReferenceAttIdeal.τ).loc Cert.ReferenceAttIdeal.main_arg7))
      ∧ r.2.sem = fun _ => 0)

def preserves_Kernel_KernelIdeal : Prop :=
  True

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v3_0)) (v1 : (c : Dev Cert.KernelInIdeal.nD) → Buf (Elt Ideal) ((c.tc : Thread Cert.KernelInIdeal.nD Cert.KernelInIdeal.τ).loc Cert.KernelInIdeal.main_v3_1)) (v2 : (c : Dev Cert.KernelInIdeal.nD) → Buf (Elt Ideal) ((c.tc : Thread Cert.KernelInIdeal.nD Cert.KernelInIdeal.τ).loc Cert.KernelInIdeal.main_v3_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v3_0) = v0 c
          ∧ r.2.mem ((c.tc : Thread Cert.KernelInIdeal.nD Cert.KernelInIdeal.τ).loc Cert.KernelInIdeal.main_v3_1) = v1 c
          ∧ r.2.mem ((c.tc : Thread Cert.KernelInIdeal.nD Cert.KernelInIdeal.τ).loc Cert.KernelInIdeal.main_v3_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v15) = v0 c
          ∧ r.2.mem ((c.tc : Thread Cert.ReferenceInIdeal.nD Cert.ReferenceInIdeal.τ).loc Cert.ReferenceInIdeal.main_v18) = v1 c
          ∧ r.2.mem ((c.tc : Thread Cert.ReferenceInIdeal.nD Cert.ReferenceInIdeal.τ).loc Cert.ReferenceInIdeal.main_v20) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelFox_KernelFoxIdeal : Prop :=
  True

def algebraic_KernelFoxIdeal_ReferenceFoxIdeal [hKernelFoxIdeal : Cert.KernelFoxIdeal.Facts] [hReferenceFoxIdeal : Cert.ReferenceFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)) →
    ∃ (v0 : (c : Dev Cert.KernelFoxIdeal.nD) → Buf (Elt Ideal) ((c.tc : Thread Cert.KernelFoxIdeal.nD Cert.KernelFoxIdeal.τ).loc Cert.KernelFoxIdeal.main_v0)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v0) = v0 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v2) = v0 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)) →
    ∃ (v0 : (c : Dev Cert.KernelCIdeal.nD) → Buf (Elt Ideal) ((c.tc : Thread Cert.KernelCIdeal.nD Cert.KernelCIdeal.τ).loc Cert.KernelCIdeal.main_v3)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v3) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v4) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)) →
    ∃ (v0 : (c : Dev Cert.KernelMidIdeal.nD) → Buf (Elt Ideal) ((c.tc : Thread Cert.KernelMidIdeal.nD Cert.KernelMidIdeal.τ).loc Cert.KernelMidIdeal.main_v4_0)) (v1 : (c : Dev Cert.KernelMidIdeal.nD) → Buf (Elt Ideal) ((c.tc : Thread Cert.KernelMidIdeal.nD Cert.KernelMidIdeal.τ).loc Cert.KernelMidIdeal.main_v4_1)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v4_0) = v0 c
          ∧ r.2.mem ((c.tc : Thread Cert.KernelMidIdeal.nD Cert.KernelMidIdeal.τ).loc Cert.KernelMidIdeal.main_v4_1) = v1 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v5) = v0 c
          ∧ r.2.mem ((c.tc : Thread Cert.ReferenceMidIdeal.nD Cert.ReferenceMidIdeal.τ).loc Cert.ReferenceMidIdeal.main_v21) = v1 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v16) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)) →
    ∃ (v0 : (c : Dev Cert.KernelGluIdeal.nD) → Buf (Elt Ideal) ((c.tc : Thread Cert.KernelGluIdeal.nD Cert.KernelGluIdeal.τ).loc Cert.KernelGluIdeal.main_v10)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v10) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v29) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3))

def preserves_KernelAtt_KernelAttIdeal : Prop :=
  True

def algebraic_KernelAttIdeal_ReferenceAttIdeal_pre_finite_pairs [hKernelAttIdeal : Cert.KernelAttIdeal.Facts] [hReferenceAttIdeal : Cert.ReferenceAttIdeal.Facts] [hPre_finite_pairs : Cert.Pre_finite_pairs.Facts] : Prop :=
  ∀ (m : (ℓ : Loc Cert.KernelAttIdeal.nD Cert.KernelAttIdeal.τ Cert.KernelAttIdeal.sig) → Buf (Elt Ideal) ℓ) (g : Dev Cert.KernelAttIdeal.nD → PrngReg)
    (m' : (ℓ : Loc Cert.ReferenceAttIdeal.nD Cert.ReferenceAttIdeal.τ Cert.ReferenceAttIdeal.sig) → Buf (Elt Ideal) ℓ) (g' : Dev Cert.ReferenceAttIdeal.nD → PrngReg), Pre_KernelAttIdeal_finite_pairs m →
    (∀ c : Dev Cert.KernelAttIdeal.nD,
      m' ((c.tc : Thread Cert.ReferenceAttIdeal.nD Cert.ReferenceAttIdeal.τ).loc Cert.ReferenceAttIdeal.main_arg0) = m ((c.tc : Thread Cert.KernelAttIdeal.nD Cert.KernelAttIdeal.τ).loc Cert.KernelAttIdeal.main_arg0)
      ∧ m' ((c.tc : Thread Cert.ReferenceAttIdeal.nD Cert.ReferenceAttIdeal.τ).loc Cert.ReferenceAttIdeal.main_arg1) = m ((c.tc : Thread Cert.KernelAttIdeal.nD Cert.KernelAttIdeal.τ).loc Cert.KernelAttIdeal.main_arg1)
      ∧ m' ((c.tc : Thread Cert.ReferenceAttIdeal.nD Cert.ReferenceAttIdeal.τ).loc Cert.ReferenceAttIdeal.main_arg2) = m ((c.tc : Thread Cert.KernelAttIdeal.nD Cert.KernelAttIdeal.τ).loc Cert.KernelAttIdeal.main_arg2)
      ∧ m' ((c.tc : Thread Cert.ReferenceAttIdeal.nD Cert.ReferenceAttIdeal.τ).loc Cert.ReferenceAttIdeal.main_arg3) = m ((c.tc : Thread Cert.KernelAttIdeal.nD Cert.KernelAttIdeal.τ).loc Cert.KernelAttIdeal.main_arg3)
      ∧ m' ((c.tc : Thread Cert.ReferenceAttIdeal.nD Cert.ReferenceAttIdeal.τ).loc Cert.ReferenceAttIdeal.main_arg4) = m ((c.tc : Thread Cert.KernelAttIdeal.nD Cert.KernelAttIdeal.τ).loc Cert.KernelAttIdeal.main_arg4)
      ∧ m' ((c.tc : Thread Cert.ReferenceAttIdeal.nD Cert.ReferenceAttIdeal.τ).loc Cert.ReferenceAttIdeal.main_arg5) = m ((c.tc : Thread Cert.KernelAttIdeal.nD Cert.KernelAttIdeal.τ).loc Cert.KernelAttIdeal.main_arg5)
      ∧ m' ((c.tc : Thread Cert.ReferenceAttIdeal.nD Cert.ReferenceAttIdeal.τ).loc Cert.ReferenceAttIdeal.main_arg6) = m ((c.tc : Thread Cert.KernelAttIdeal.nD Cert.KernelAttIdeal.τ).loc Cert.KernelAttIdeal.main_arg6)
      ∧ m' ((c.tc : Thread Cert.ReferenceAttIdeal.nD Cert.ReferenceAttIdeal.τ).loc Cert.ReferenceAttIdeal.main_arg7) = m ((c.tc : Thread Cert.KernelAttIdeal.nD Cert.KernelAttIdeal.τ).loc Cert.KernelAttIdeal.main_arg7)) →
    ∃ (v0 : (c : Dev Cert.KernelAttIdeal.nD) → Buf (Elt Ideal) ((c.tc : Thread Cert.KernelAttIdeal.nD Cert.KernelAttIdeal.τ).loc Cert.KernelAttIdeal.main_v0)),
      θ_run (Cert.KernelAttIdeal.defs (F := Ideal)) (onTc (τ := Cert.KernelAttIdeal.τ) (Cert.KernelAttIdeal.main (F := Ideal))) ⟨m, fun _ => 0, g⟩ (fun r => ∀ c : Dev Cert.KernelAttIdeal.nD,
          r.2.mem ((c.tc : Thread Cert.KernelAttIdeal.nD Cert.KernelAttIdeal.τ).loc Cert.KernelAttIdeal.main_v0) = v0 c
          ∧ r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
          ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
          ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
          ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3)
          ∧ r.2.mem ((c.tc : Thread Cert.KernelAttIdeal.nD Cert.KernelAttIdeal.τ).loc Cert.KernelAttIdeal.main_arg4) = m ((c.tc : Thread Cert.KernelAttIdeal.nD Cert.KernelAttIdeal.τ).loc Cert.KernelAttIdeal.main_arg4)
          ∧ r.2.mem ((c.tc : Thread Cert.KernelAttIdeal.nD Cert.KernelAttIdeal.τ).loc Cert.KernelAttIdeal.main_arg5) = m ((c.tc : Thread Cert.KernelAttIdeal.nD Cert.KernelAttIdeal.τ).loc Cert.KernelAttIdeal.main_arg5)
          ∧ r.2.mem ((c.tc : Thread Cert.KernelAttIdeal.nD Cert.KernelAttIdeal.τ).loc Cert.KernelAttIdeal.main_arg6) = m ((c.tc : Thread Cert.KernelAttIdeal.nD Cert.KernelAttIdeal.τ).loc Cert.KernelAttIdeal.main_arg6)
          ∧ r.2.mem ((c.tc : Thread Cert.KernelAttIdeal.nD Cert.KernelAttIdeal.τ).loc Cert.KernelAttIdeal.main_arg7) = m ((c.tc : Thread Cert.KernelAttIdeal.nD Cert.KernelAttIdeal.τ).loc Cert.KernelAttIdeal.main_arg7))
      ∧ θ_run (Cert.ReferenceAttIdeal.defs (F := Ideal)) (onTc (τ := Cert.ReferenceAttIdeal.τ) (Cert.ReferenceAttIdeal.main (F := Ideal))) ⟨m', fun _ => 0, g'⟩ (fun r => ∀ c : Dev Cert.ReferenceAttIdeal.nD,
          r.2.mem ((c.tc : Thread Cert.ReferenceAttIdeal.nD Cert.ReferenceAttIdeal.τ).loc Cert.ReferenceAttIdeal.main_v46) = v0 c
          ∧ r.2.mem ((c.tc : Thread Cert.ReferenceAttIdeal.nD Cert.ReferenceAttIdeal.τ).loc Cert.ReferenceAttIdeal.main_arg0) = m' ((c.tc : Thread Cert.ReferenceAttIdeal.nD Cert.ReferenceAttIdeal.τ).loc Cert.ReferenceAttIdeal.main_arg0)
          ∧ r.2.mem ((c.tc : Thread Cert.ReferenceAttIdeal.nD Cert.ReferenceAttIdeal.τ).loc Cert.ReferenceAttIdeal.main_arg1) = m' ((c.tc : Thread Cert.ReferenceAttIdeal.nD Cert.ReferenceAttIdeal.τ).loc Cert.ReferenceAttIdeal.main_arg1)
          ∧ r.2.mem ((c.tc : Thread Cert.ReferenceAttIdeal.nD Cert.ReferenceAttIdeal.τ).loc Cert.ReferenceAttIdeal.main_arg2) = m' ((c.tc : Thread Cert.ReferenceAttIdeal.nD Cert.ReferenceAttIdeal.τ).loc Cert.ReferenceAttIdeal.main_arg2)
          ∧ r.2.mem ((c.tc : Thread Cert.ReferenceAttIdeal.nD Cert.ReferenceAttIdeal.τ).loc Cert.ReferenceAttIdeal.main_arg3) = m' ((c.tc : Thread Cert.ReferenceAttIdeal.nD Cert.ReferenceAttIdeal.τ).loc Cert.ReferenceAttIdeal.main_arg3)
          ∧ r.2.mem ((c.tc : Thread Cert.ReferenceAttIdeal.nD Cert.ReferenceAttIdeal.τ).loc Cert.ReferenceAttIdeal.main_arg4) = m' ((c.tc : Thread Cert.ReferenceAttIdeal.nD Cert.ReferenceAttIdeal.τ).loc Cert.ReferenceAttIdeal.main_arg4)
          ∧ r.2.mem ((c.tc : Thread Cert.ReferenceAttIdeal.nD Cert.ReferenceAttIdeal.τ).loc Cert.ReferenceAttIdeal.main_arg5) = m' ((c.tc : Thread Cert.ReferenceAttIdeal.nD Cert.ReferenceAttIdeal.τ).loc Cert.ReferenceAttIdeal.main_arg5)
          ∧ r.2.mem ((c.tc : Thread Cert.ReferenceAttIdeal.nD Cert.ReferenceAttIdeal.τ).loc Cert.ReferenceAttIdeal.main_arg6) = m' ((c.tc : Thread Cert.ReferenceAttIdeal.nD Cert.ReferenceAttIdeal.τ).loc Cert.ReferenceAttIdeal.main_arg6)
          ∧ r.2.mem ((c.tc : Thread Cert.ReferenceAttIdeal.nD Cert.ReferenceAttIdeal.τ).loc Cert.ReferenceAttIdeal.main_arg7) = m' ((c.tc : Thread Cert.ReferenceAttIdeal.nD Cert.ReferenceAttIdeal.τ).loc Cert.ReferenceAttIdeal.main_arg7))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelFox : Cert.KernelFox.Facts) (hKernelFoxIdeal : Cert.KernelFoxIdeal.Facts) (hReferenceFoxIdeal : Cert.ReferenceFoxIdeal.Facts) (hKernelC : Cert.KernelC.Facts) (hKernelCIdeal : Cert.KernelCIdeal.Facts) (hReferenceCIdeal : Cert.ReferenceCIdeal.Facts) (hKernelMid : Cert.KernelMid.Facts) (hKernelMidIdeal : Cert.KernelMidIdeal.Facts) (hReferenceMidIdeal : Cert.ReferenceMidIdeal.Facts) (hKernelOut : Cert.KernelOut.Facts) (hKernelOutIdeal : Cert.KernelOutIdeal.Facts) (hReferenceOutIdeal : Cert.ReferenceOutIdeal.Facts) (hKernelGlu : Cert.KernelGlu.Facts) (hKernelGluIdeal : Cert.KernelGluIdeal.Facts) (hReferenceGluIdeal : Cert.ReferenceGluIdeal.Facts) (hKernelAtt : Cert.KernelAtt.Facts) (hKernelAttIdeal : Cert.KernelAttIdeal.Facts) (hReferenceAttIdeal : Cert.ReferenceAttIdeal.Facts) (hPre_causal_pairs : Cert.Pre_causal_pairs.Facts) (hPre_finite_pairs : Cert.Pre_finite_pairs.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFox (hKernelFox := hKernelFox)
    ∧ quiescent_KernelFoxIdeal (hKernelFoxIdeal := hKernelFoxIdeal)
    ∧ quiescent_ReferenceFoxIdeal (hReferenceFoxIdeal := hReferenceFoxIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelAtt (hKernelAtt := hKernelAtt) (hPre_causal_pairs := hPre_causal_pairs)
    ∧ quiescent_KernelAttIdeal (hKernelAttIdeal := hKernelAttIdeal) (hPre_causal_pairs := hPre_causal_pairs)
    ∧ quiescent_KernelAttIdeal_pre_finite_pairs (hKernelAttIdeal := hKernelAttIdeal) (hPre_finite_pairs := hPre_finite_pairs)
    ∧ quiescent_ReferenceAttIdeal (hReferenceAttIdeal := hReferenceAttIdeal)
    ∧ quiescent_ReferenceAttIdeal_pre_finite_pairs (hReferenceAttIdeal := hReferenceAttIdeal) (hPre_finite_pairs := hPre_finite_pairs)
    ∧ preserves_Kernel_KernelIdeal
    ∧ preserves_KernelIn_KernelInIdeal
    ∧ algebraic_KernelInIdeal_ReferenceInIdeal (hKernelInIdeal := hKernelInIdeal) (hReferenceInIdeal := hReferenceInIdeal)
    ∧ preserves_KernelFox_KernelFoxIdeal
    ∧ algebraic_KernelFoxIdeal_ReferenceFoxIdeal (hKernelFoxIdeal := hKernelFoxIdeal) (hReferenceFoxIdeal := hReferenceFoxIdeal)
    ∧ preserves_KernelC_KernelCIdeal
    ∧ algebraic_KernelCIdeal_ReferenceCIdeal (hKernelCIdeal := hKernelCIdeal) (hReferenceCIdeal := hReferenceCIdeal)
    ∧ preserves_KernelMid_KernelMidIdeal
    ∧ algebraic_KernelMidIdeal_ReferenceMidIdeal (hKernelMidIdeal := hKernelMidIdeal) (hReferenceMidIdeal := hReferenceMidIdeal)
    ∧ preserves_KernelOut_KernelOutIdeal
    ∧ algebraic_KernelOutIdeal_ReferenceOutIdeal (hKernelOutIdeal := hKernelOutIdeal) (hReferenceOutIdeal := hReferenceOutIdeal)
    ∧ preserves_KernelGlu_KernelGluIdeal
    ∧ algebraic_KernelGluIdeal_ReferenceGluIdeal (hKernelGluIdeal := hKernelGluIdeal) (hReferenceGluIdeal := hReferenceGluIdeal)
    ∧ preserves_KernelAtt_KernelAttIdeal
    ∧ algebraic_KernelAttIdeal_ReferenceAttIdeal_pre_finite_pairs (hKernelAttIdeal := hKernelAttIdeal) (hReferenceAttIdeal := hReferenceAttIdeal) (hPre_finite_pairs := hPre_finite_pairs)
-- ==== Pre_causal_pairs.lean ====
abbrev S10 : Shape := ⟨1, ![10]⟩
abbrev S8192x1024 : Shape := ⟨2, ![8192, 1024]⟩
abbrev S8192x128 : Shape := ⟨2, ![8192, 128]⟩
abbrev S_ : Shape := ⟨0, ![]⟩

class Facts : Prop where
  bcast_S_S10 : S_.BroadcastsInDim S10 (![] : Fin 0 → Fin S10.rank)
  natLt_1_32 : 1 < 32
  reducesTo_S10_S_d0 : S10.ReducesTo [0] S_
  h_S_ : 0 < S_.numel

variable [Facts]

def fn_part1 {F : FTy → Type} [FloatOps F] (main_arg0 : IVec S10 32) (main_arg1 : IVec S10 32) (main_v0 : IVec S10 32) (main_v11 : IVec S10 32) (main_v14 : IVec S10 32) (main_v17 : IVec S10 32) (main_c_4 : IVec S_ 32) : IVec S_ 1 :=
  let main_v18 : IVec S10 32 := broadcastInDim S10 ![] bcast_S_S10 main_c_4
  let main_v19 : IVec S10 32 := muli main_v17 main_v18
  let main_v20 : IVec S10 32 := addi main_v14 main_v19
  let main_c_5 : IVec S_ 32 := constantI S_ 32 6#32
  let main_v21 : IVec S10 32 := broadcastInDim S10 ![] bcast_S_S10 main_c_5
  let main_v22 : IVec S10 1 := cmpi .sge main_v0 main_v21
  let main_v23 : IVec S10 32 := (extui 32 · natLt_1_32) main_v22
  let main_c_6 : IVec S_ 32 := constantI S_ 32 3#32
  let main_v24 : IVec S10 32 := broadcastInDim S10 ![] bcast_S_S10 main_c_6
  let main_v25 : IVec S10 32 := muli main_v23 main_v24
  let main_v26 : IVec S10 32 := addi main_v20 main_v25
  let main_v27 : IVec S10 1 := cmpi .eq main_arg0 main_v11
  let main_c_7 : IVec S_ 1 := constantI S_ 1 1#1
  let main_v28 : IVec S_ 1 := (fun x v => Host.reduce IntOp.andi x v reducesTo_S10_S_d0 h_S_) main_v27 main_c_7
  let main_v29 : IVec S10 32 := subi main_v0 main_v26
  let main_v30 : IVec S10 1 := cmpi .eq main_arg1 main_v29
  let main_c_8 : IVec S_ 1 := constantI S_ 1 1#1
  let main_v31 : IVec S_ 1 := (fun x v => Host.reduce IntOp.andi x v reducesTo_S10_S_d0 h_S_) main_v30 main_c_8
  let main_v32 : IVec S_ 1 := andi main_v28 main_v31
  main_v32

def fn {F : FTy → Type} [FloatOps F] (main_arg0 : IVec S10 32) (main_arg1 : IVec S10 32) (main_arg2 : FVec F S8192x1024 .bf16) (main_arg3 : FVec F S8192x128 .bf16) (main_arg4 : FVec F S8192x1024 .bf16) (main_arg5 : FVec F S8192x128 .bf16) (main_arg6 : FVec F S8192x1024 .bf16) (main_arg7 : FVec F S8192x1024 .bf16) : IVec S_ 1 :=
  let main_v0 : IVec S10 32 := iotaInDim S10 32 0
  let main_c : IVec S_ 32 := constantI S_ 32 1#32
  let main_v1 : IVec S10 32 := broadcastInDim S10 ![] bcast_S_S10 main_c
  let main_v2 : IVec S10 1 := cmpi .sge main_v0 main_v1
  let main_v3 : IVec S10 32 := (extui 32 · natLt_1_32) main_v2
  let main_c_0 : IVec S_ 32 := constantI S_ 32 3#32
  let main_v4 : IVec S10 32 := broadcastInDim S10 ![] bcast_S_S10 main_c_0
  let main_v5 : IVec S10 1 := cmpi .sge main_v0 main_v4
  let main_v6 : IVec S10 32 := (extui 32 · natLt_1_32) main_v5
  let main_v7 : IVec S10 32 := addi main_v3 main_v6
  let main_c_1 : IVec S_ 32 := constantI S_ 32 6#32
  let main_v8 : IVec S10 32 := broadcastInDim S10 ![] bcast_S_S10 main_c_1
  let main_v9 : IVec S10 1 := cmpi .sge main_v0 main_v8
  let main_v10 : IVec S10 32 := (extui 32 · natLt_1_32) main_v9
  let main_v11 : IVec S10 32 := addi main_v7 main_v10
  let main_c_2 : IVec S_ 32 := constantI S_ 32 1#32
  let main_v12 : IVec S10 32 := broadcastInDim S10 ![] bcast_S_S10 main_c_2
  let main_v13 : IVec S10 1 := cmpi .sge main_v0 main_v12
  let main_v14 : IVec S10 32 := (extui 32 · natLt_1_32) main_v13
  let main_c_3 : IVec S_ 32 := constantI S_ 32 3#32
  let main_v15 : IVec S10 32 := broadcastInDim S10 ![] bcast_S_S10 main_c_3
  let main_v16 : IVec S10 1 := cmpi .sge main_v0 main_v15
  let main_v17 : IVec S10 32 := (extui 32 · natLt_1_32) main_v16
  let main_c_4 : IVec S_ 32 := constantI S_ 32 2#32
  fn_part1 (F := F) main_arg0 main_arg1 main_v0 main_v11 main_v14 main_v17 main_c_4
-- ==== Pre_finite_pairs.lean ====
abbrev S10 : Shape := ⟨1, ![10]⟩
abbrev S8192x1024 : Shape := ⟨2, ![8192, 1024]⟩
abbrev S8192x128 : Shape := ⟨2, ![8192, 128]⟩
abbrev S_ : Shape := ⟨0, ![]⟩

class Facts : Prop where
  bcast_S_S10 : S_.BroadcastsInDim S10 (![] : Fin 0 → Fin S10.rank)
  natLt_1_32 : 1 < 32
  reducesTo_S10_S_d0 : S10.ReducesTo [0] S_
  h_S_ : 0 < S_.numel
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part3 {F : FTy → Type} [FloatOps F] (main_v50 : IVec S_ 1) (main_v54 : IVec S8192x128 1) : IVec S_ 1 :=
  let main_c_15 : IVec S_ 1 := constantI S_ 1 1#1
  let main_v55 : IVec S_ 1 := (fun x v => Host.reduce IntOp.andi x v reducesTo_S8192x128_S_d0_1 h_S_) main_v54 main_c_15
  let main_v56 : IVec S_ 1 := andi main_v50 main_v55
  main_v56

def fn_part2 {F : FTy → Type} [FloatOps F] (main_arg3 : FVec F S8192x128 .bf16) (main_arg4 : FVec F S8192x1024 .bf16) (main_arg5 : FVec F S8192x128 .bf16) (main_v32 : IVec S_ 1) (main_v36 : IVec S8192x1024 1) : IVec S_ 1 :=
  let main_c_9 : IVec S_ 1 := constantI S_ 1 1#1
  let main_v37 : IVec S_ 1 := (fun x v => Host.reduce IntOp.andi x v reducesTo_S8192x1024_S_d0_1 h_S_) main_v36 main_c_9
  let main_v38 : IVec S_ 1 := andi main_v32 main_v37
  let main_v39 : FVec F S8192x128 .f32 := (extf .f32 · bitsLt_bf16_f32) main_arg3
  let main_v40 : FVec F S8192x128 .f32 := Host.absf main_v39
  let main_cst_10 : FVec F S_ .f32 := constant S_ .f32 0x7F800000#32
  let main_v41 : FVec F S8192x128 .f32 := broadcastInDim S8192x128 ![] bcast_S_S8192x128 main_cst_10
  let main_v42 : IVec S8192x128 1 := cmpf .olt main_v40 main_v41
  let main_c_11 : IVec S_ 1 := constantI S_ 1 1#1
  let main_v43 : IVec S_ 1 := (fun x v => Host.reduce IntOp.andi x v reducesTo_S8192x128_S_d0_1 h_S_) main_v42 main_c_11
  let main_v44 : IVec S_ 1 := andi main_v38 main_v43
  let main_v45 : FVec F S8192x1024 .f32 := (extf .f32 · bitsLt_bf16_f32) main_arg4
  let main_v46 : FVec F S8192x1024 .f32 := Host.absf main_v45
  let main_cst_12 : FVec F S_ .f32 := constant S_ .f32 0x7F800000#32
  let main_v47 : FVec F S8192x1024 .f32 := broadcastInDim S8192x1024 ![] bcast_S_S8192x1024 main_cst_12
  let main_v48 : IVec S8192x1024 1 := cmpf .olt main_v46 main_v47
  let main_c_13 : IVec S_ 1 := constantI S_ 1 1#1
  let main_v49 : IVec S_ 1 := (fun x v => Host.reduce IntOp.andi x v reducesTo_S8192x1024_S_d0_1 h_S_) main_v48 main_c_13
  let main_v50 : IVec S_ 1 := andi main_v44 main_v49
  let main_v51 : FVec F S8192x128 .f32 := (extf .f32 · bitsLt_bf16_f32) main_arg5
  let main_v52 : FVec F S8192x128 .f32 := Host.absf main_v51
  let main_cst_14 : FVec F S_ .f32 := constant S_ .f32 0x7F800000#32
  let main_v53 : FVec F S8192x128 .f32 := broadcastInDim S8192x128 ![] bcast_S_S8192x128 main_cst_14
  let main_v54 : IVec S8192x128 1 := cmpf .olt main_v52 main_v53
  fn_part3 (F := F) main_v50 main_v54

def fn_part1 {F : FTy → Type} [FloatOps F] (main_arg0 : IVec S10 32) (main_arg1 : IVec S10 32) (main_arg2 : FVec F S8192x1024 .bf16) (main_arg3 : FVec F S8192x128 .bf16) (main_arg4 : FVec F S8192x1024 .bf16) (main_arg5 : FVec F S8192x128 .bf16) (main_v0 : IVec S10 32) (main_v11 : IVec S10 32) (main_v14 : IVec S10 32) (main_v17 : IVec S10 32) (main_c_4 : IVec S_ 32) : IVec S_ 1 :=
  let main_v18 : IVec S10 32 := broadcastInDim S10 ![] bcast_S_S10 main_c_4
  let main_v19 : IVec S10 32 := muli main_v17 main_v18
  let main_v20 : IVec S10 32 := addi main_v14 main_v19
  let main_c_5 : IVec S_ 32 := constantI S_ 32 6#32
  let main_v21 : IVec S10 32 := broadcastInDim S10 ![] bcast_S_S10 main_c_5
  let main_v22 : IVec S10 1 := cmpi .sge main_v0 main_v21
  let main_v23 : IVec S10 32 := (extui 32 · natLt_1_32) main_v22
  let main_c_6 : IVec S_ 32 := constantI S_ 32 3#32
  let main_v24 : IVec S10 32 := broadcastInDim S10 ![] bcast_S_S10 main_c_6
  let main_v25 : IVec S10 32 := muli main_v23 main_v24
  let main_v26 : IVec S10 32 := addi main_v20 main_v25
  let main_v27 : IVec S10 1 := cmpi .eq main_arg0 main_v11
  let main_c_7 : IVec S_ 1 := constantI S_ 1 1#1
  let main_v28 : IVec S_ 1 := (fun x v => Host.reduce IntOp.andi x v reducesTo_S10_S_d0 h_S_) main_v27 main_c_7
  let main_v29 : IVec S10 32 := subi main_v0 main_v26
  let main_v30 : IVec S10 1 := cmpi .eq main_arg1 main_v29
  let main_c_8 : IVec S_ 1 := constantI S_ 1 1#1
  let main_v31 : IVec S_ 1 := (fun x v => Host.reduce IntOp.andi x v reducesTo_S10_S_d0 h_S_) main_v30 main_c_8
  let main_v32 : IVec S_ 1 := andi main_v28 main_v31
  let main_v33 : FVec F S8192x1024 .f32 := (extf .f32 · bitsLt_bf16_f32) main_arg2
  let main_v34 : FVec F S8192x1024 .f32 := Host.absf main_v33
  let main_cst : FVec F S_ .f32 := constant S_ .f32 0x7F800000#32
  let main_v35 : FVec F S8192x1024 .f32 := broadcastInDim S8192x1024 ![] bcast_S_S8192x1024 main_cst
  let main_v36 : IVec S8192x1024 1 := cmpf .olt main_v34 main_v35
  fn_part2 (F := F) main_arg3 main_arg4 main_arg5 main_v32 main_v36

def fn {F : FTy → Type} [FloatOps F] (main_arg0 : IVec S10 32) (main_arg1 : IVec S10 32) (main_arg2 : FVec F S8192x1024 .bf16) (main_arg3 : FVec F S8192x128 .bf16) (main_arg4 : FVec F S8192x1024 .bf16) (main_arg5 : FVec F S8192x128 .bf16) (main_arg6 : FVec F S8192x1024 .bf16) (main_arg7 : FVec F S8192x1024 .bf16) : IVec S_ 1 :=
  let main_v0 : IVec S10 32 := iotaInDim S10 32 0
  let main_c : IVec S_ 32 := constantI S_ 32 1#32
  let main_v1 : IVec S10 32 := broadcastInDim S10 ![] bcast_S_S10 main_c
  let main_v2 : IVec S10 1 := cmpi .sge main_v0 main_v1
  let main_v3 : IVec S10 32 := (extui 32 · natLt_1_32) main_v2
  let main_c_0 : IVec S_ 32 := constantI S_ 32 3#32
  let main_v4 : IVec S10 32 := broadcastInDim S10 ![] bcast_S_S10 main_c_0
  let main_v5 : IVec S10 1 := cmpi .sge main_v0 main_v4
  let main_v6 : IVec S10 32 := (extui 32 · natLt_1_32) main_v5
  let main_v7 : IVec S10 32 := addi main_v3 main_v6
  let main_c_1 : IVec S_ 32 := constantI S_ 32 6#32
  let main_v8 : IVec S10 32 := broadcastInDim S10 ![] bcast_S_S10 main_c_1
  let main_v9 : IVec S10 1 := cmpi .sge main_v0 main_v8
  let main_v10 : IVec S10 32 := (extui 32 · natLt_1_32) main_v9
  let main_v11 : IVec S10 32 := addi main_v7 main_v10
  let main_c_2 : IVec S_ 32 := constantI S_ 32 1#32
  let main_v12 : IVec S10 32 := broadcastInDim S10 ![] bcast_S_S10 main_c_2
  let main_v13 : IVec S10 1 := cmpi .sge main_v0 main_v12
  let main_v14 : IVec S10 32 := (extui 32 · natLt_1_32) main_v13
  let main_c_3 : IVec S_ 32 := constantI S_ 32 3#32
  let main_v15 : IVec S10 32 := broadcastInDim S10 ![] bcast_S_S10 main_c_3
  let main_v16 : IVec S10 1 := cmpi .sge main_v0 main_v15
  let main_v17 : IVec S10 32 := (extui 32 · natLt_1_32) main_v16
  let main_c_4 : IVec S_ 32 := constantI S_ 32 2#32
  fn_part1 (F := F) main_arg0 main_arg1 main_arg2 main_arg3 main_arg4 main_arg5 main_v0 main_v11 main_v14 main_v17 main_c_4
-- ==== Kernel.lean ====
abbrev S2x4096x4096 : Shape := ⟨3, ![2, 4096, 4096]⟩
abbrev S1x128x64 : Shape := ⟨3, ![1, 128, 64]⟩
abbrev S1x128 : Shape := ⟨2, ![1, 128]⟩
abbrev S1x128x64x16 : Shape := ⟨4, ![1, 128, 64, 16]⟩
abbrev S1x128x16x64 : Shape := ⟨4, ![1, 128, 16, 64]⟩
abbrev S1x2048 : Shape := ⟨2, ![1, 2048]⟩
abbrev S512x16x4096 : Shape := ⟨3, ![512, 16, 4096]⟩
abbrev S16x4096x512 : Shape := ⟨3, ![16, 4096, 512]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S2048 : Shape := ⟨1, ![2048]⟩
abbrev S_ : Shape := ⟨0, ![]⟩
abbrev S128x1 : Shape := ⟨2, ![128, 1]⟩
abbrev S128x64x1 : Shape := ⟨3, ![128, 64, 1]⟩
abbrev S17 : Shape := ⟨1, ![17]⟩
abbrev S1x17x1 : Shape := ⟨3, ![1, 17, 1]⟩
abbrev S128x1x64 : Shape := ⟨3, ![128, 1, 64]⟩
abbrev S128x1x1 : Shape := ⟨3, ![128, 1, 1]⟩
abbrev S128x17x64 : Shape := ⟨3, ![128, 17, 64]⟩
abbrev S128x64x17 : Shape := ⟨3, ![128, 64, 17]⟩
abbrev S128x64x16x1 : Shape := ⟨4, ![128, 64, 16, 1]⟩
abbrev S128x64x1x16 : Shape := ⟨4, ![128, 64, 1, 16]⟩
abbrev S128x64x16x16 : Shape := ⟨4, ![128, 64, 16, 16]⟩
abbrev S128x64x256 : Shape := ⟨3, ![128, 64, 256]⟩
abbrev S128x16x256 : Shape := ⟨3, ![128, 16, 256]⟩
abbrev S256 : Shape := ⟨1, ![256]⟩
abbrev S128x16x1 : Shape := ⟨3, ![128, 16, 1]⟩
abbrev S1x256 : Shape := ⟨2, ![1, 256]⟩
abbrev S16 : Shape := ⟨1, ![16]⟩
abbrev S16x1 : Shape := ⟨2, ![16, 1]⟩
abbrev S16x256 : Shape := ⟨2, ![16, 256]⟩
abbrev S1x16x256 : Shape := ⟨3, ![1, 16, 256]⟩
abbrev S1x256x1 : Shape := ⟨3, ![1, 256, 1]⟩
abbrev S16x1x1 : Shape := ⟨3, ![16, 1, 1]⟩
abbrev S1x1x256 : Shape := ⟨3, ![1, 1, 256]⟩
abbrev S16x1x256 : Shape := ⟨3, ![16, 1, 256]⟩
abbrev S16x256x256 : Shape := ⟨3, ![16, 256, 256]⟩
abbrev S1x256x256 : Shape := ⟨3, ![1, 256, 256]⟩
abbrev S128x1x16x256x1 : Shape := ⟨5, ![128, 1, 16, 256, 1]⟩
abbrev S1x16x1x256x256 : Shape := ⟨5, ![1, 16, 1, 256, 256]⟩
abbrev S128x16x16x256x256 : Shape := ⟨5, ![128, 16, 16, 256, 256]⟩
abbrev S128x16x16x256 : Shape := ⟨4, ![128, 16, 16, 256]⟩
abbrev S128x256x256 : Shape := ⟨3, ![128, 256, 256]⟩
abbrev S128x128x256 : Shape := ⟨3, ![128, 128, 256]⟩
abbrev S128x1x16x64 : Shape := ⟨4, ![128, 1, 16, 64]⟩
abbrev S128x16x1x64 : Shape := ⟨4, ![128, 16, 1, 64]⟩
abbrev S128x16x16x64 : Shape := ⟨4, ![128, 16, 16, 64]⟩
abbrev S128x16x16x128 : Shape := ⟨4, ![128, 16, 16, 128]⟩
abbrev S128x256x128 : Shape := ⟨3, ![128, 256, 128]⟩
abbrev S3 : Shape := ⟨1, ![3]⟩
abbrev S8 : Shape := ⟨1, ![8]⟩
abbrev S11 : Shape := ⟨1, ![11]⟩
abbrev S1x11x1 : Shape := ⟨3, ![1, 11, 1]⟩
abbrev S128x11x64 : Shape := ⟨3, ![128, 11, 64]⟩
abbrev S1x128x1x11x1x64 : Shape := ⟨6, ![1, 128, 1, 11, 1, 64]⟩
abbrev S1x128x1x11x2x64 : Shape := ⟨6, ![1, 128, 1, 11, 2, 64]⟩
abbrev S128x11x128 : Shape := ⟨3, ![128, 11, 128]⟩
abbrev S128x22x128 : Shape := ⟨3, ![128, 22, 128]⟩
abbrev S16x2048x512 : Shape := ⟨3, ![16, 2048, 512]⟩
abbrev S16x256x512 : Shape := ⟨3, ![16, 256, 512]⟩
abbrev S16x128x256 : Shape := ⟨3, ![16, 128, 256]⟩
abbrev S16x256x128 : Shape := ⟨3, ![16, 256, 128]⟩
abbrev S16x22x128 : Shape := ⟨3, ![16, 22, 128]⟩
abbrev S8x128 : Shape := ⟨2, ![8, 128]⟩
abbrev S16x16x512 : Shape := ⟨3, ![16, 16, 512]⟩
abbrev S256x512 : Shape := ⟨2, ![256, 512]⟩
abbrev S1x128x256 : Shape := ⟨3, ![1, 128, 256]⟩
abbrev S128x256 : Shape := ⟨2, ![128, 256]⟩
abbrev S128x512 : Shape := ⟨2, ![128, 512]⟩
abbrev S256x256 : Shape := ⟨2, ![256, 256]⟩
abbrev S1x22x128 : Shape := ⟨3, ![1, 22, 128]⟩
abbrev S22x128 : Shape := ⟨2, ![22, 128]⟩
abbrev S64x512 : Shape := ⟨2, ![64, 512]⟩
abbrev S64x256 : Shape := ⟨2, ![64, 256]⟩
abbrev S256x128 : Shape := ⟨2, ![256, 128]⟩
abbrev S256x1 : Shape := ⟨2, ![256, 1]⟩
abbrev S1x256x128 : Shape := ⟨3, ![1, 256, 128]⟩

abbrev nBuf : Space → Nat
  | .hbm => 433
  | .vmem => 13
  | .smem => 0
  | _ => 0

abbrev hbmTy0_0 (i : Nat) : BufTy := match i % 128 with
  | 0 => ⟨S2x4096x4096, .f32⟩
  | 1 => ⟨S1x128x64, .f32⟩
  | 2 => ⟨S1x128x64, .f32⟩
  | 3 => ⟨S1x128, .f32⟩
  | 4 => ⟨S1x128x64x16, .f32⟩
  | 5 => ⟨S1x128x64x16, .f32⟩
  | 6 => ⟨S1x128x16x64, .f32⟩
  | 7 => ⟨S1x128x16x64, .f32⟩
  | 8 => ⟨S1x2048, .f32⟩
  | 9 => ⟨S2x4096x4096, .bf16⟩
  | 10 => ⟨S512x16x4096, .bf16⟩
  | 11 => ⟨S16x4096x512, .bf16⟩
  | 12 => ⟨S128x64, .f32⟩
  | 13 => ⟨S128x64, .f32⟩
  | 14 => ⟨S128, .f32⟩
  | 15 => ⟨S128x64x16, .f32⟩
  | 16 => ⟨S128x64x16, .f32⟩
  | 17 => ⟨S128x16x64, .f32⟩
  | 18 => ⟨S128x16x64, .f32⟩
  | 19 => ⟨S2048, .f32⟩
  | 20 => ⟨S_, .f32⟩
  | 21 => ⟨S128x64, .f32⟩
  | 22 => ⟨S128x64, .f32⟩
  | 23 => ⟨S128, .f32⟩
  | 24 => ⟨S128x1, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S_, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64x1, .f32⟩
  | 51 => ⟨S128x64x16, .f32⟩
  | 52 => ⟨S128x64x16, .f32⟩
  | 53 => ⟨S128x64x1, .f32⟩
  | 54 => ⟨S128x64x16, .f32⟩
  | 55 => ⟨S128x64x16, .f32⟩
  | 56 => ⟨S128x64x16, .f32⟩
  | 57 => ⟨S128x64x1, .f32⟩
  | 58 => ⟨S128x64x16, .f32⟩
  | 59 => ⟨S128x64x16, .f32⟩
  | 60 => ⟨S128x64x1, .f32⟩
  | 61 => ⟨S128x64x16, .f32⟩
  | 62 => ⟨S128x64x16, .f32⟩
  | 63 => ⟨S128x64x16, .f32⟩
  | 64 => ⟨S17, .i32⟩
  | 65 => ⟨S17, .f32⟩
  | 66 => ⟨S1x17x1, .f32⟩
  | 67 => ⟨S128x1x64, .f32⟩
  | 68 => ⟨S128x1x1, .f32⟩
  | 69 => ⟨S128x1x64, .f32⟩
  | 70 => ⟨S128x1x64, .f32⟩
  | 71 => ⟨S128x17x64, .f32⟩
  | 72 => ⟨S128x17x64, .f32⟩
  | 73 => ⟨S128x17x64, .f32⟩
  | 74 => ⟨S128x17x64, .f32⟩
  | 75 => ⟨S128x1x64, .f32⟩
  | 76 => ⟨S128x1x1, .f32⟩
  | 77 => ⟨S128x1x64, .f32⟩
  | 78 => ⟨S128x1x64, .f32⟩
  | 79 => ⟨S128x17x64, .f32⟩
  | 80 => ⟨S128x17x64, .f32⟩
  | 81 => ⟨S128x17x64, .f32⟩
  | 82 => ⟨S128x17x64, .f32⟩
  | 83 => ⟨S128x17x64, .f32⟩
  | 84 => ⟨S128x17x64, .f32⟩
  | 85 => ⟨S128x17x64, .f32⟩
  | 86 => ⟨S128x64x17, .f32⟩
  | 87 => ⟨S128x64x17, .f32⟩
  | 88 => ⟨S128x64x16, .f32⟩
  | 89 => ⟨S128x64x16, .f32⟩
  | 90 => ⟨S128x64x16x1, .f32⟩
  | 91 => ⟨S128x64x1x16, .f32⟩
  | 92 => ⟨S128x64x16x16, .f32⟩
  | 93 => ⟨S128x64x16x16, .f32⟩
  | 94 => ⟨S128x64x16x16, .f32⟩
  | 95 => ⟨S128x64x16x1, .f32⟩
  | 96 => ⟨S128x64x1x16, .f32⟩
  | 97 => ⟨S128x64x16x16, .f32⟩
  | 98 => ⟨S128x64x16x16, .f32⟩
  | 99 => ⟨S128x64x16x16, .f32⟩
  | 100 => ⟨S128x64x16x16, .f32⟩
  | 101 => ⟨S128x64x16x1, .f32⟩
  | 102 => ⟨S128x64x1x16, .f32⟩
  | 103 => ⟨S128x64x16x16, .f32⟩
  | 104 => ⟨S128x64x16x16, .f32⟩
  | 105 => ⟨S128x64x16x16, .f32⟩
  | 106 => ⟨S128x64x16x1, .f32⟩
  | 107 => ⟨S128x64x1x16, .f32⟩
  | 108 => ⟨S128x64x16x16, .f32⟩
  | 109 => ⟨S128x64x16x16, .f32⟩
  | 110 => ⟨S128x64x16x16, .f32⟩
  | 111 => ⟨S128x64x16x16, .f32⟩
  | 112 => ⟨S128x64x256, .f32⟩
  | 113 => ⟨S128x64x256, .f32⟩
  | 114 => ⟨S128x16x256, .f32⟩
  | 115 => ⟨S128x16x256, .f32⟩
  | 116 => ⟨S128x16x256, .f32⟩
  | 117 => ⟨S256, .i32⟩
  | 118 => ⟨S128x16x1, .f32⟩
  | 119 => ⟨S1x256, .i32⟩
  | 120 => ⟨S16, .i32⟩
  | 121 => ⟨S16x1, .i32⟩
  | 122 => ⟨S16x256, .i32⟩
  | 123 => ⟨S16x256, .i32⟩
  | 124 => ⟨S16x256, .i1⟩
  | 125 => ⟨S16x256, .f32⟩
  | 126 => ⟨S1x16x256, .f32⟩
  | 127 => ⟨S128x16x256, .f32⟩
  | _ => ⟨S2x4096x4096, .f32⟩

abbrev hbmTy0_1 (i : Nat) : BufTy := match i % 128 with
  | 0 => ⟨S128x16x256, .f32⟩
  | 1 => ⟨S128x16x256, .f32⟩
  | 2 => ⟨S128x16x256, .f32⟩
  | 3 => ⟨S1x256x1, .i32⟩
  | 4 => ⟨S_, .i32⟩
  | 5 => ⟨S_, .i32⟩
  | 6 => ⟨S1x256x1, .i32⟩
  | 7 => ⟨S1x256x1, .i32⟩
  | 8 => ⟨S1x256x1, .i32⟩
  | 9 => ⟨S_, .i32⟩
  | 10 => ⟨S1x256x1, .i32⟩
  | 11 => ⟨S1x256x1, .i1⟩
  | 12 => ⟨S1x256x1, .i32⟩
  | 13 => ⟨S1x256x1, .i32⟩
  | 14 => ⟨S_, .i32⟩
  | 15 => ⟨S1x256x1, .i32⟩
  | 16 => ⟨S1x256x1, .i1⟩
  | 17 => ⟨S1x256x1, .i1⟩
  | 18 => ⟨S_, .i32⟩
  | 19 => ⟨S1x256x1, .i32⟩
  | 20 => ⟨S1x256x1, .i32⟩
  | 21 => ⟨S1x256x1, .i32⟩
  | 22 => ⟨S16, .i32⟩
  | 23 => ⟨S16x1x1, .i32⟩
  | 24 => ⟨S1x1x256, .i32⟩
  | 25 => ⟨S_, .i32⟩
  | 26 => ⟨S_, .i32⟩
  | 27 => ⟨S1x1x256, .i32⟩
  | 28 => ⟨S1x1x256, .i32⟩
  | 29 => ⟨S1x1x256, .i32⟩
  | 30 => ⟨S_, .i32⟩
  | 31 => ⟨S1x1x256, .i32⟩
  | 32 => ⟨S1x1x256, .i1⟩
  | 33 => ⟨S1x1x256, .i32⟩
  | 34 => ⟨S1x1x256, .i32⟩
  | 35 => ⟨S_, .i32⟩
  | 36 => ⟨S1x1x256, .i32⟩
  | 37 => ⟨S1x1x256, .i1⟩
  | 38 => ⟨S1x1x256, .i1⟩
  | 39 => ⟨S_, .i32⟩
  | 40 => ⟨S1x1x256, .i32⟩
  | 41 => ⟨S1x1x256, .i32⟩
  | 42 => ⟨S1x1x256, .i32⟩
  | 43 => ⟨S16x1x256, .i32⟩
  | 44 => ⟨S16x1x256, .i32⟩
  | 45 => ⟨S16x1x256, .i32⟩
  | 46 => ⟨S16x256x256, .i32⟩
  | 47 => ⟨S16x256x256, .i32⟩
  | 48 => ⟨S16x256x256, .i1⟩
  | 49 => ⟨S1x256x1, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x256x1, .i32⟩
  | 57 => ⟨S1x256x1, .i32⟩
  | 58 => ⟨S_, .i32⟩
  | 59 => ⟨S1x256x1, .i32⟩
  | 60 => ⟨S1x256x1, .i1⟩
  | 61 => ⟨S_, .i32⟩
  | 62 => ⟨S1x256x1, .i32⟩
  | 63 => ⟨S1x256x1, .i1⟩
  | 64 => ⟨S_, .i32⟩
  | 65 => ⟨S_, .i1⟩
  | 66 => ⟨S1x256x1, .i1⟩
  | 67 => ⟨S1x256x1, .i1⟩
  | 68 => ⟨S1x256x1, .i1⟩
  | 69 => ⟨S1x256x1, .i32⟩
  | 70 => ⟨S1x256x1, .i32⟩
  | 71 => ⟨S1x256x1, .i32⟩
  | 72 => ⟨S1x1x256, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1x1x256, .i32⟩
  | 80 => ⟨S1x1x256, .i32⟩
  | 81 => ⟨S_, .i32⟩
  | 82 => ⟨S1x1x256, .i32⟩
  | 83 => ⟨S1x1x256, .i1⟩
  | 84 => ⟨S_, .i32⟩
  | 85 => ⟨S1x1x256, .i32⟩
  | 86 => ⟨S1x1x256, .i1⟩
  | 87 => ⟨S_, .i32⟩
  | 88 => ⟨S_, .i1⟩
  | 89 => ⟨S1x1x256, .i1⟩
  | 90 => ⟨S1x1x256, .i1⟩
  | 91 => ⟨S1x1x256, .i1⟩
  | 92 => ⟨S1x1x256, .i32⟩
  | 93 => ⟨S1x1x256, .i32⟩
  | 94 => ⟨S1x1x256, .i32⟩
  | 95 => ⟨S1x256x256, .i32⟩
  | 96 => ⟨S1x256x256, .i32⟩
  | 97 => ⟨S1x256x256, .i1⟩
  | 98 => ⟨S16x256x256, .i1⟩
  | 99 => ⟨S16x256x256, .i1⟩
  | 100 => ⟨S16x256x256, .bf16⟩
  | 101 => ⟨S128x16x256, .bf16⟩
  | 102 => ⟨S128x16x256, .f32⟩
  | 103 => ⟨S128x1x16x256x1, .f32⟩
  | 104 => ⟨S16x256x256, .f32⟩
  | 105 => ⟨S1x16x1x256x256, .f32⟩
  | 106 => ⟨S128x16x16x256x256, .f32⟩
  | 107 => ⟨S128x16x16x256x256, .f32⟩
  | 108 => ⟨S128x16x16x256x256, .f32⟩
  | 109 => ⟨S_, .f32⟩
  | 110 => ⟨S128x16x16x256, .f32⟩
  | 111 => ⟨S128x16x16x256, .bf16⟩
  | 112 => ⟨S128x256x256, .bf16⟩
  | 113 => ⟨S128x64x16, .f32⟩
  | 114 => ⟨S128x64x16, .f32⟩
  | 115 => ⟨S128x64x16, .f32⟩
  | 116 => ⟨S128x64x16, .f32⟩
  | 117 => ⟨S128x64x16x1, .f32⟩
  | 118 => ⟨S128x64x1x16, .f32⟩
  | 119 => ⟨S128x64x16x16, .f32⟩
  | 120 => ⟨S128x64x16x16, .f32⟩
  | 121 => ⟨S128x64x16x16, .f32⟩
  | 122 => ⟨S128x64x16x1, .f32⟩
  | 123 => ⟨S128x64x1x16, .f32⟩
  | 124 => ⟨S128x64x16x16, .f32⟩
  | 125 => ⟨S128x64x16x16, .f32⟩
  | 126 => ⟨S128x64x16x16, .f32⟩
  | 127 => ⟨S128x64x16x16, .f32⟩
  | _ => ⟨S2x4096x4096, .f32⟩

abbrev hbmTy0_2 (i : Nat) : BufTy := match i % 128 with
  | 0 => ⟨S128x64x16x1, .f32⟩
  | 1 => ⟨S128x64x1x16, .f32⟩
  | 2 => ⟨S128x64x16x16, .f32⟩
  | 3 => ⟨S128x64x16x16, .f32⟩
  | 4 => ⟨S128x64x16x16, .f32⟩
  | 5 => ⟨S128x64x16x1, .f32⟩
  | 6 => ⟨S128x64x1x16, .f32⟩
  | 7 => ⟨S128x64x16x16, .f32⟩
  | 8 => ⟨S128x64x16x16, .f32⟩
  | 9 => ⟨S128x64x16x16, .f32⟩
  | 10 => ⟨S128x64x16x16, .f32⟩
  | 11 => ⟨S128x64x256, .f32⟩
  | 12 => ⟨S128x64x256, .f32⟩
  | 13 => ⟨S128x128x256, .f32⟩
  | 14 => ⟨S128x128x256, .bf16⟩
  | 15 => ⟨S128x1x16x64, .f32⟩
  | 16 => ⟨S128x16x64, .f32⟩
  | 17 => ⟨S128x16x1x64, .f32⟩
  | 18 => ⟨S128x16x16x64, .f32⟩
  | 19 => ⟨S128x16x16x64, .f32⟩
  | 20 => ⟨S128x16x16x64, .f32⟩
  | 21 => ⟨S128x1x16x64, .f32⟩
  | 22 => ⟨S128x16x64, .f32⟩
  | 23 => ⟨S128x16x1x64, .f32⟩
  | 24 => ⟨S128x16x16x64, .f32⟩
  | 25 => ⟨S128x16x16x64, .f32⟩
  | 26 => ⟨S128x16x16x64, .f32⟩
  | 27 => ⟨S128x16x16x64, .f32⟩
  | 28 => ⟨S128x1x16x64, .f32⟩
  | 29 => ⟨S128x16x64, .f32⟩
  | 30 => ⟨S128x16x1x64, .f32⟩
  | 31 => ⟨S128x16x16x64, .f32⟩
  | 32 => ⟨S128x16x16x64, .f32⟩
  | 33 => ⟨S128x16x16x64, .f32⟩
  | 34 => ⟨S128x1x16x64, .f32⟩
  | 35 => ⟨S128x16x64, .f32⟩
  | 36 => ⟨S128x16x1x64, .f32⟩
  | 37 => ⟨S128x16x16x64, .f32⟩
  | 38 => ⟨S128x16x16x64, .f32⟩
  | 39 => ⟨S128x16x16x64, .f32⟩
  | 40 => ⟨S128x16x16x64, .f32⟩
  | 41 => ⟨S128x16x16x64, .f32⟩
  | 42 => ⟨S128x16x16x128, .f32⟩
  | 43 => ⟨S128x256x128, .f32⟩
  | 44 => ⟨S128x256x128, .bf16⟩
  | 45 => ⟨S3, .i32⟩
  | 46 => ⟨S_, .i32⟩
  | 47 => ⟨S_, .i32⟩
  | 48 => ⟨S_, .i1⟩
  | 49 => ⟨S_, .i32⟩
  | 50 => ⟨S3, .i32⟩
  | 51 => ⟨S3, .i1⟩
  | 52 => ⟨S3, .i1⟩
  | 53 => ⟨S3, .i1⟩
  | 54 => ⟨S_, .i32⟩
  | 55 => ⟨S_, .i32⟩
  | 56 => ⟨S3, .i32⟩
  | 57 => ⟨S3, .i32⟩
  | 58 => ⟨S3, .i32⟩
  | 59 => ⟨S_, .i32⟩
  | 60 => ⟨S3, .i32⟩
  | 61 => ⟨S3, .i32⟩
  | 62 => ⟨S_, .i32⟩
  | 63 => ⟨S3, .i32⟩
  | 64 => ⟨S3, .i32⟩
  | 65 => ⟨S_, .i32⟩
  | 66 => ⟨S3, .i32⟩
  | 67 => ⟨S3, .i1⟩
  | 68 => ⟨S3, .i32⟩
  | 69 => ⟨S_, .i32⟩
  | 70 => ⟨S_, .i32⟩
  | 71 => ⟨S_, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S_, .i32⟩
  | 81 => ⟨S3, .i32⟩
  | 82 => ⟨S3, .i1⟩
  | 83 => ⟨S3, .i32⟩
  | 84 => ⟨S_, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S_, .i32⟩
  | 94 => ⟨S3, .i32⟩
  | 95 => ⟨S3, .i1⟩
  | 96 => ⟨S3, .i32⟩
  | 97 => ⟨S_, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i1⟩
  | 109 => ⟨S3, .i32⟩
  | 110 => ⟨S_, .i32⟩
  | 111 => ⟨S_, .i32⟩
  | 112 => ⟨S3, .i32⟩
  | 113 => ⟨S3, .i32⟩
  | 114 => ⟨S_, .i32⟩
  | 115 => ⟨S3, .i32⟩
  | 116 => ⟨S3, .i32⟩
  | 117 => ⟨S3, .i32⟩
  | 118 => ⟨S3, .i32⟩
  | 119 => ⟨S_, .i32⟩
  | 120 => ⟨S3, .i32⟩
  | 121 => ⟨S3, .i1⟩
  | 122 => ⟨S3, .i32⟩
  | 123 => ⟨S_, .i32⟩
  | 124 => ⟨S_, .i32⟩
  | 125 => ⟨S3, .i32⟩
  | 126 => ⟨S3, .i32⟩
  | 127 => ⟨S_, .i32⟩
  | _ => ⟨S2x4096x4096, .f32⟩

abbrev hbmTy0_3 (i : Nat) : BufTy := match i % 128 with
  | 0 => ⟨S3, .i32⟩
  | 1 => ⟨S3, .i32⟩
  | 2 => ⟨S3, .i32⟩
  | 3 => ⟨S3, .i32⟩
  | 4 => ⟨S_, .i32⟩
  | 5 => ⟨S3, .i32⟩
  | 6 => ⟨S3, .i1⟩
  | 7 => ⟨S3, .i32⟩
  | 8 => ⟨S_, .i32⟩
  | 9 => ⟨S_, .i32⟩
  | 10 => ⟨S3, .i32⟩
  | 11 => ⟨S3, .i32⟩
  | 12 => ⟨S8, .i32⟩
  | 13 => ⟨S_, .i32⟩
  | 14 => ⟨S8, .i32⟩
  | 15 => ⟨S8, .i32⟩
  | 16 => ⟨S11, .i32⟩
  | 17 => ⟨S_, .i32⟩
  | 18 => ⟨S11, .i32⟩
  | 19 => ⟨S11, .i32⟩
  | 20 => ⟨S11, .f32⟩
  | 21 => ⟨S1x11x1, .f32⟩
  | 22 => ⟨S128x1x64, .f32⟩
  | 23 => ⟨S128x1x1, .f32⟩
  | 24 => ⟨S128x1x64, .f32⟩
  | 25 => ⟨S128x1x64, .f32⟩
  | 26 => ⟨S128x11x64, .f32⟩
  | 27 => ⟨S128x11x64, .f32⟩
  | 28 => ⟨S128x11x64, .f32⟩
  | 29 => ⟨S128x11x64, .f32⟩
  | 30 => ⟨S128x1x64, .f32⟩
  | 31 => ⟨S128x1x1, .f32⟩
  | 32 => ⟨S128x1x64, .f32⟩
  | 33 => ⟨S128x1x64, .f32⟩
  | 34 => ⟨S128x11x64, .f32⟩
  | 35 => ⟨S128x11x64, .f32⟩
  | 36 => ⟨S128x11x64, .f32⟩
  | 37 => ⟨S128x11x64, .f32⟩
  | 38 => ⟨S128x11x64, .f32⟩
  | 39 => ⟨S128x11x64, .f32⟩
  | 40 => ⟨S128x11x64, .f32⟩
  | 41 => ⟨S1x128x1x11x1x64, .f32⟩
  | 42 => ⟨S1x128x1x11x2x64, .f32⟩
  | 43 => ⟨S128x11x128, .f32⟩
  | 44 => ⟨S1x128x1x11x1x64, .f32⟩
  | 45 => ⟨S1x128x1x11x2x64, .f32⟩
  | 46 => ⟨S128x11x128, .f32⟩
  | 47 => ⟨S128x22x128, .f32⟩
  | 48 => ⟨S16x2048x512, .bf16⟩
  | _ => ⟨S2x4096x4096, .f32⟩

abbrev hbmTy (i : Nat) : BufTy := match i / 128 with
  | 0 => hbmTy0_0 i
  | 1 => hbmTy0_1 i
  | 2 => hbmTy0_2 i
  | 3 => hbmTy0_3 i
  | _ => ⟨S2x4096x4096, .f32⟩

abbrev bufTy : (tb : Table) → Fin (tcTables nBuf tb) → BufTy
  | .hbm, ⟨i, _⟩ => hbmTy i
  | .local _ .vmem, ⟨0, _⟩ => ⟨S16x256x512, .bf16⟩
  | .local _ .vmem, ⟨1, _⟩ => ⟨S16x256x512, .bf16⟩
  | .local _ .vmem, ⟨2, _⟩ => ⟨S16x256x256, .bf16⟩
  | .local _ .vmem, ⟨3, _⟩ => ⟨S16x256x256, .bf16⟩
  | .local _ .vmem, ⟨4, _⟩ => ⟨S16x128x256, .bf16⟩
  | .local _ .vmem, ⟨5, _⟩ => ⟨S16x128x256, .bf16⟩
  | .local _ .vmem, ⟨6, _⟩ => ⟨S16x256x128, .bf16⟩
  | .local _ .vmem, ⟨7, _⟩ => ⟨S16x256x128, .bf16⟩
  | .local _ .vmem, ⟨8, _⟩ => ⟨S16x22x128, .f32⟩
  | .local _ .vmem, ⟨9, _⟩ => ⟨S16x22x128, .f32⟩
  | .local _ .vmem, ⟨10, _⟩ => ⟨S16x256x512, .bf16⟩
  | .local _ .vmem, ⟨11, _⟩ => ⟨S16x256x512, .bf16⟩
  | .local _ .vmem, ⟨12, _⟩ => ⟨S8x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_c : Ref sig .tc := ⟨.hbm, 132, rfl⟩
abbrev main_call0_v0 : Ref sig .tc := ⟨.hbm, 133, rfl⟩
abbrev main_call0_v1 : Ref sig .tc := ⟨.hbm, 134, rfl⟩
abbrev main_call0_v2 : Ref sig .tc := ⟨.hbm, 135, rfl⟩
abbrev main_call0_v3 : Ref sig .tc := ⟨.hbm, 136, rfl⟩
abbrev main_call0_v4 : Ref sig .tc := ⟨.hbm, 137, rfl⟩
abbrev main_call0_v5 : Ref sig .tc := ⟨.hbm, 138, rfl⟩
abbrev main_call0_v6 : Ref sig .tc := ⟨.hbm, 139, rfl⟩
abbrev main_call0_v7 : Ref sig .tc := ⟨.hbm, 140, rfl⟩
abbrev main_call0_v8 : Ref sig .tc := ⟨.hbm, 141, rfl⟩
abbrev main_call0_c : Ref sig .tc := ⟨.hbm, 142, rfl⟩
abbrev main_call0_v9 : Ref sig .tc := ⟨.hbm, 143, rfl⟩
abbrev main_call0_v10 : Ref sig .tc := ⟨.hbm, 144, rfl⟩
abbrev main_call0_v11 : Ref sig .tc := ⟨.hbm, 145, rfl⟩
abbrev main_call0_c_0 : Ref sig .tc := ⟨.hbm, 146, rfl⟩
abbrev main_call0_v12 : Ref sig .tc := ⟨.hbm, 147, rfl⟩
abbrev main_call0_v13 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_c_1 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_call1_v5 : Ref sig .tc := ⟨.hbm, 159, rfl⟩
abbrev main_call1_v6 : Ref sig .tc := ⟨.hbm, 160, rfl⟩
abbrev main_call1_v7 : Ref sig .tc := ⟨.hbm, 161, rfl⟩
abbrev main_call1_v8 : Ref sig .tc := ⟨.hbm, 162, rfl⟩
abbrev main_call1_c : Ref sig .tc := ⟨.hbm, 163, rfl⟩
abbrev main_call1_v9 : Ref sig .tc := ⟨.hbm, 164, rfl⟩
abbrev main_call1_v10 : Ref sig .tc := ⟨.hbm, 165, rfl⟩
abbrev main_call1_v11 : Ref sig .tc := ⟨.hbm, 166, rfl⟩
abbrev main_call1_c_0 : Ref sig .tc := ⟨.hbm, 167, rfl⟩
abbrev main_call1_v12 : Ref sig .tc := ⟨.hbm, 168, rfl⟩
abbrev main_call1_v13 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_2 : Ref sig .tc := ⟨.hbm, 178, rfl⟩
abbrev main_call2_v0 : Ref sig .tc := ⟨.hbm, 179, rfl⟩
abbrev main_call2_c : Ref sig .tc := ⟨.hbm, 180, rfl⟩
abbrev main_call2_v1 : Ref sig .tc := ⟨.hbm, 181, rfl⟩
abbrev main_call2_c_0 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_call2_c_1 : Ref sig .tc := ⟨.hbm, 186, rfl⟩
abbrev main_call2_v5 : Ref sig .tc := ⟨.hbm, 187, rfl⟩
abbrev main_call2_v6 : Ref sig .tc := ⟨.hbm, 188, rfl⟩
abbrev main_call2_c_2 : Ref sig .tc := ⟨.hbm, 189, rfl⟩
abbrev main_call2_v7 : Ref sig .tc := ⟨.hbm, 190, rfl⟩
abbrev main_call2_v8 : Ref sig .tc := ⟨.hbm, 191, rfl⟩
abbrev main_call2_c_3 : Ref sig .tc := ⟨.hbm, 192, rfl⟩
abbrev main_call2_v9 : Ref sig .tc := ⟨.hbm, 193, rfl⟩
abbrev main_call2_v10 : Ref sig .tc := ⟨.hbm, 194, rfl⟩
abbrev main_call2_v11 : Ref sig .tc := ⟨.hbm, 195, rfl⟩
abbrev main_call2_v12 : Ref sig .tc := ⟨.hbm, 196, rfl⟩
abbrev main_call2_v13 : Ref sig .tc := ⟨.hbm, 197, rfl⟩
abbrev main_call2_v14 : Ref sig .tc := ⟨.hbm, 198, rfl⟩
abbrev main_v133 : Ref sig .tc := ⟨.hbm, 199, rfl⟩
abbrev main_v134 : Ref sig .tc := ⟨.hbm, 200, rfl⟩
abbrev main_c_3 : Ref sig .tc := ⟨.hbm, 201, rfl⟩
abbrev main_call3_v0 : Ref sig .tc := ⟨.hbm, 202, rfl⟩
abbrev main_call3_c : Ref sig .tc := ⟨.hbm, 203, rfl⟩
abbrev main_call3_v1 : Ref sig .tc := ⟨.hbm, 204, rfl⟩
abbrev main_call3_c_0 : Ref sig .tc := ⟨.hbm, 205, rfl⟩
abbrev main_call3_v2 : Ref sig .tc := ⟨.hbm, 206, rfl⟩
abbrev main_call3_v3 : Ref sig .tc := ⟨.hbm, 207, rfl⟩
abbrev main_call3_v4 : Ref sig .tc := ⟨.hbm, 208, rfl⟩
abbrev main_call3_c_1 : Ref sig .tc := ⟨.hbm, 209, rfl⟩
abbrev main_call3_v5 : Ref sig .tc := ⟨.hbm, 210, rfl⟩
abbrev main_call3_v6 : Ref sig .tc := ⟨.hbm, 211, rfl⟩
abbrev main_call3_c_2 : Ref sig .tc := ⟨.hbm, 212, rfl⟩
abbrev main_call3_v7 : Ref sig .tc := ⟨.hbm, 213, rfl⟩
abbrev main_call3_v8 : Ref sig .tc := ⟨.hbm, 214, rfl⟩
abbrev main_call3_c_3 : Ref sig .tc := ⟨.hbm, 215, rfl⟩
abbrev main_call3_v9 : Ref sig .tc := ⟨.hbm, 216, rfl⟩
abbrev main_call3_v10 : Ref sig .tc := ⟨.hbm, 217, rfl⟩
abbrev main_call3_v11 : Ref sig .tc := ⟨.hbm, 218, rfl⟩
abbrev main_call3_v12 : Ref sig .tc := ⟨.hbm, 219, rfl⟩
abbrev main_call3_v13 : Ref sig .tc := ⟨.hbm, 220, rfl⟩
abbrev main_call3_v14 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_cst_4 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_c_5 : Ref sig .tc := ⟨.hbm, 302, rfl⟩
abbrev main_c_6 : Ref sig .tc := ⟨.hbm, 303, rfl⟩
abbrev main_v214 : Ref sig .tc := ⟨.hbm, 304, rfl⟩
abbrev main_c_7 : Ref sig .tc := ⟨.hbm, 305, rfl⟩
abbrev main_v215 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_c_8 : Ref sig .tc := ⟨.hbm, 310, rfl⟩
abbrev main_c_9 : Ref sig .tc := ⟨.hbm, 311, rfl⟩
abbrev main_call4_v0 : Ref sig .tc := ⟨.hbm, 312, rfl⟩
abbrev main_call4_v1 : Ref sig .tc := ⟨.hbm, 313, rfl⟩
abbrev main_v219 : Ref sig .tc := ⟨.hbm, 314, rfl⟩
abbrev main_c_10 : Ref sig .tc := ⟨.hbm, 315, rfl⟩
abbrev main_v220 : Ref sig .tc := ⟨.hbm, 316, rfl⟩
abbrev main_v221 : Ref sig .tc := ⟨.hbm, 317, rfl⟩
abbrev main_c_11 : Ref sig .tc := ⟨.hbm, 318, rfl⟩
abbrev main_v222 : Ref sig .tc := ⟨.hbm, 319, rfl⟩
abbrev main_v223 : Ref sig .tc := ⟨.hbm, 320, rfl⟩
abbrev main_call5_c : Ref sig .tc := ⟨.hbm, 321, rfl⟩
abbrev main_call5_v0 : Ref sig .tc := ⟨.hbm, 322, rfl⟩
abbrev main_call5_v1 : Ref sig .tc := ⟨.hbm, 323, rfl⟩
abbrev main_v224 : Ref sig .tc := ⟨.hbm, 324, rfl⟩
abbrev main_c_12 : Ref sig .tc := ⟨.hbm, 325, rfl⟩
abbrev main_c_13 : Ref sig .tc := ⟨.hbm, 326, rfl⟩
abbrev main_v225 : Ref sig .tc := ⟨.hbm, 327, rfl⟩
abbrev main_c_14 : Ref sig .tc := ⟨.hbm, 328, rfl⟩
abbrev main_v226 : Ref sig .tc := ⟨.hbm, 329, rfl⟩
abbrev main_v227 : Ref sig .tc := ⟨.hbm, 330, rfl⟩
abbrev main_c_15 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_call6_c : Ref sig .tc := ⟨.hbm, 336, rfl⟩
abbrev main_call6_v0 : Ref sig .tc := ⟨.hbm, 337, rfl⟩
abbrev main_call6_v1 : Ref sig .tc := ⟨.hbm, 338, rfl⟩
abbrev main_v232 : Ref sig .tc := ⟨.hbm, 339, rfl⟩
abbrev main_v233 : Ref sig .tc := ⟨.hbm, 340, rfl⟩
abbrev main_c_16 : Ref sig .tc := ⟨.hbm, 341, rfl⟩
abbrev main_v234 : Ref sig .tc := ⟨.hbm, 342, rfl⟩
abbrev main_v235 : Ref sig .tc := ⟨.hbm, 343, rfl⟩
abbrev main_c_17 : Ref sig .tc := ⟨.hbm, 344, rfl⟩
abbrev main_v236 : Ref sig .tc := ⟨.hbm, 345, rfl⟩
abbrev main_v237 : Ref sig .tc := ⟨.hbm, 346, rfl⟩
abbrev main_v238 : Ref sig .tc := ⟨.hbm, 347, rfl⟩
abbrev main_v239 : Ref sig .tc := ⟨.hbm, 348, rfl⟩
abbrev main_call7_c : Ref sig .tc := ⟨.hbm, 349, rfl⟩
abbrev main_call7_v0 : Ref sig .tc := ⟨.hbm, 350, rfl⟩
abbrev main_call7_v1 : Ref sig .tc := ⟨.hbm, 351, rfl⟩
abbrev main_v240 : Ref sig .tc := ⟨.hbm, 352, rfl⟩
abbrev main_v241 : Ref sig .tc := ⟨.hbm, 353, rfl⟩
abbrev main_c_18 : Ref sig .tc := ⟨.hbm, 354, rfl⟩
abbrev main_v242 : Ref sig .tc := ⟨.hbm, 355, rfl⟩
abbrev main_v243 : Ref sig .tc := ⟨.hbm, 356, rfl⟩
abbrev main_c_19 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_call8_c : Ref sig .tc := ⟨.hbm, 362, rfl⟩
abbrev main_call8_v0 : Ref sig .tc := ⟨.hbm, 363, rfl⟩
abbrev main_call8_v1 : Ref sig .tc := ⟨.hbm, 364, rfl⟩
abbrev main_v248 : Ref sig .tc := ⟨.hbm, 365, rfl⟩
abbrev main_v249 : Ref sig .tc := ⟨.hbm, 366, rfl⟩
abbrev main_c_20 : Ref sig .tc := ⟨.hbm, 367, rfl⟩
abbrev main_v250 : Ref sig .tc := ⟨.hbm, 368, rfl⟩
abbrev main_v251 : Ref sig .tc := ⟨.hbm, 369, rfl⟩
abbrev main_c_21 : Ref sig .tc := ⟨.hbm, 370, rfl⟩
abbrev main_v252 : Ref sig .tc := ⟨.hbm, 371, rfl⟩
abbrev main_v253 : Ref sig .tc := ⟨.hbm, 372, rfl⟩
abbrev main_v254 : Ref sig .tc := ⟨.hbm, 373, rfl⟩
abbrev main_v255 : Ref sig .tc := ⟨.hbm, 374, rfl⟩
abbrev main_call9_c : Ref sig .tc := ⟨.hbm, 375, rfl⟩
abbrev main_call9_v0 : Ref sig .tc := ⟨.hbm, 376, rfl⟩
abbrev main_call9_v1 : Ref sig .tc := ⟨.hbm, 377, rfl⟩
abbrev main_v256 : Ref sig .tc := ⟨.hbm, 378, rfl⟩
abbrev main_v257 : Ref sig .tc := ⟨.hbm, 379, rfl⟩
abbrev main_c_22 : Ref sig .tc := ⟨.hbm, 380, rfl⟩
abbrev main_v258 : Ref sig .tc := ⟨.hbm, 381, rfl⟩
abbrev main_v259 : Ref sig .tc := ⟨.hbm, 382, rfl⟩
abbrev main_c_23 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_v263 : Ref sig .tc := ⟨.hbm, 387, rfl⟩
abbrev main_call10_c : Ref sig .tc := ⟨.hbm, 388, rfl⟩
abbrev main_call10_v0 : Ref sig .tc := ⟨.hbm, 389, rfl⟩
abbrev main_call10_v1 : Ref sig .tc := ⟨.hbm, 390, rfl⟩
abbrev main_v264 : Ref sig .tc := ⟨.hbm, 391, rfl⟩
abbrev main_v265 : Ref sig .tc := ⟨.hbm, 392, rfl⟩
abbrev main_c_24 : Ref sig .tc := ⟨.hbm, 393, rfl⟩
abbrev main_v266 : Ref sig .tc := ⟨.hbm, 394, rfl⟩
abbrev main_v267 : Ref sig .tc := ⟨.hbm, 395, rfl⟩
abbrev main_v268 : Ref sig .tc := ⟨.hbm, 396, rfl⟩
abbrev main_c_25 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_c_26 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_v288 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_v295 : Ref sig .tc := ⟨.hbm, 425, rfl⟩
abbrev main_v296 : Ref sig .tc := ⟨.hbm, 426, rfl⟩
abbrev main_v297 : Ref sig .tc := ⟨.hbm, 427, rfl⟩
abbrev main_v298 : Ref sig .tc := ⟨.hbm, 428, rfl⟩
abbrev main_v299 : Ref sig .tc := ⟨.hbm, 429, rfl⟩
abbrev main_v300 : Ref sig .tc := ⟨.hbm, 430, rfl⟩
abbrev main_v301 : Ref sig .tc := ⟨.hbm, 431, rfl⟩
abbrev main_v302 : Ref sig .tc := ⟨.hbm, 432, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x22x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x4096x4096 : Shape := ⟨3, ![2, 4096, 4096]⟩
abbrev S1x128x64 : Shape := ⟨3, ![1, 128, 64]⟩
abbrev S1x128 : Shape := ⟨2, ![1, 128]⟩
abbrev S1x128x64x16 : Shape := ⟨4, ![1, 128, 64, 16]⟩
abbrev S1x128x16x64 : Shape := ⟨4, ![1, 128, 16, 64]⟩
abbrev S1x2048 : Shape := ⟨2, ![1, 2048]⟩
abbrev S2x4096x2048 : Shape := ⟨3, ![2, 4096, 2048]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S2048 : Shape := ⟨1, ![2048]⟩
abbrev S2x4096x128x16 : Shape := ⟨4, ![2, 4096, 128, 16]⟩
abbrev S_ : Shape := ⟨0, ![]⟩
abbrev S128x1 : Shape := ⟨2, ![128, 1]⟩
abbrev S128x64x1 : Shape := ⟨3, ![128, 64, 1]⟩
abbrev S128x2x4096x64 : Shape := ⟨4, ![128, 2, 4096, 64]⟩
abbrev S2x4096x128x64 : Shape := ⟨4, ![2, 4096, 128, 64]⟩
abbrev S2x128x64 : Shape := ⟨3, ![2, 128, 64]⟩
abbrev S4096x2x128x64 : Shape := ⟨4, ![4096, 2, 128, 64]⟩
abbrev S1x2x128x64 : Shape := ⟨4, ![1, 2, 128, 64]⟩
abbrev S128x4096x2x16 : Shape := ⟨4, ![128, 4096, 2, 16]⟩
abbrev S1x1x2048 : Shape := ⟨3, ![1, 1, 2048]⟩
abbrev S512x16x2048 : Shape := ⟨3, ![512, 16, 2048]⟩
abbrev S16x2048x512 : Shape := ⟨3, ![16, 2048, 512]⟩

abbrev nBuf : Space → Nat
  | .hbm => 140
  | .vmem => 0
  | .smem => 0
  | _ => 0

abbrev hbmTy0_0 (i : Nat) : BufTy := match i % 128 with
  | 0 => ⟨S2x4096x4096, .f32⟩
  | 1 => ⟨S1x128x64, .f32⟩
  | 2 => ⟨S1x128x64, .f32⟩
  | 3 => ⟨S1x128, .f32⟩
  | 4 => ⟨S1x128x64x16, .f32⟩
  | 5 => ⟨S1x128x64x16, .f32⟩
  | 6 => ⟨S1x128x16x64, .f32⟩
  | 7 => ⟨S1x128x16x64, .f32⟩
  | 8 => ⟨S1x2048, .f32⟩
  | 9 => ⟨S2x4096x2048, .f32⟩
  | 10 => ⟨S2x4096x2048, .f32⟩
  | 11 => ⟨S128x64, .f32⟩
  | 12 => ⟨S128x64, .f32⟩
  | 13 => ⟨S128, .f32⟩
  | 14 => ⟨S128x64x16, .f32⟩
  | 15 => ⟨S128x64x16, .f32⟩
  | 16 => ⟨S128x16x64, .f32⟩
  | 17 => ⟨S128x16x64, .f32⟩
  | 18 => ⟨S2048, .f32⟩
  | 19 => ⟨S2x4096x128x16, .f32⟩
  | 20 => ⟨S_, .f32⟩
  | 21 => ⟨S128x64, .f32⟩
  | 22 => ⟨S128x64, .f32⟩
  | 23 => ⟨S128, .f32⟩
  | 24 => ⟨S128x1, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S_, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64x1, .f32⟩
  | 51 => ⟨S128x64x16, .f32⟩
  | 52 => ⟨S128x64x16, .f32⟩
  | 53 => ⟨S128x64x1, .f32⟩
  | 54 => ⟨S128x64x16, .f32⟩
  | 55 => ⟨S128x64x16, .f32⟩
  | 56 => ⟨S128x64x16, .f32⟩
  | 57 => ⟨S128x64x1, .f32⟩
  | 58 => ⟨S128x64x16, .f32⟩
  | 59 => ⟨S128x64x16, .f32⟩
  | 60 => ⟨S128x64x1, .f32⟩
  | 61 => ⟨S128x64x16, .f32⟩
  | 62 => ⟨S128x64x16, .f32⟩
  | 63 => ⟨S128x64x16, .f32⟩
  | 64 => ⟨S128x2x4096x64, .f32⟩
  | 65 => ⟨S2x4096x128x64, .f32⟩
  | 66 => ⟨S128x2x4096x64, .f32⟩
  | 67 => ⟨S2x4096x128x64, .f32⟩
  | 68 => ⟨S_, .f32⟩
  | 69 => ⟨S2x128x64, .f32⟩
  | 70 => ⟨S4096x2x128x64, .f32⟩
  | 71 => ⟨S4096x2x128x64, .f32⟩
  | 72 => ⟨S_, .f32⟩
  | 73 => ⟨S4096x2x128x64, .f32⟩
  | 74 => ⟨S_, .f32⟩
  | 75 => ⟨S4096x2x128x64, .f32⟩
  | 76 => ⟨S_, .i32⟩
  | 77 => ⟨S4096x2x128x64, .f32⟩
  | 78 => ⟨S4096x2x128x64, .f32⟩
  | 79 => ⟨S128x64, .f32⟩
  | 80 => ⟨S128x64, .f32⟩
  | 81 => ⟨S_, .i32⟩
  | 82 => ⟨S2x128x64, .f32⟩
  | 83 => ⟨S2x128x64, .f32⟩
  | 84 => ⟨S4096x2x128x64, .f32⟩
  | 85 => ⟨S4096x2x128x64, .f32⟩
  | 86 => ⟨S_, .i32⟩
  | 87 => ⟨S_, .i1⟩
  | 88 => ⟨S_, .i32⟩
  | 89 => ⟨S_, .i32⟩
  | 90 => ⟨S_, .i32⟩
  | 91 => ⟨S1x2x128x64, .f32⟩
  | 92 => ⟨S2x128x64, .f32⟩
  | 93 => ⟨S_, .i32⟩
  | 94 => ⟨S_, .i32⟩
  | 95 => ⟨S_, .i32⟩
  | 96 => ⟨S1x2x128x64, .f32⟩
  | 97 => ⟨S2x128x64, .f32⟩
  | 98 => ⟨S1x128x64, .f32⟩
  | 99 => ⟨S2x128x64, .f32⟩
  | 100 => ⟨S2x128x64, .f32⟩
  | 101 => ⟨S1x128x64, .f32⟩
  | 102 => ⟨S2x128x64, .f32⟩
  | 103 => ⟨S2x128x64, .f32⟩
  | 104 => ⟨S2x128x64, .f32⟩
  | 105 => ⟨S2x128x64, .f32⟩
  | 106 => ⟨S1x128x64, .f32⟩
  | 107 => ⟨S2x128x64, .f32⟩
  | 108 => ⟨S2x128x64, .f32⟩
  | 109 => ⟨S1x128x64, .f32⟩
  | 110 => ⟨S2x128x64, .f32⟩
  | 111 => ⟨S2x128x64, .f32⟩
  | 112 => ⟨S2x128x64, .f32⟩
  | 113 => ⟨S2x128x64, .f32⟩
  | 114 => ⟨S1x2x128x64, .f32⟩
  | 115 => ⟨S_, .i32⟩
  | 116 => ⟨S_, .i32⟩
  | 117 => ⟨S_, .i32⟩
  | 118 => ⟨S4096x2x128x64, .f32⟩
  | 119 => ⟨S1x2x128x64, .f32⟩
  | 120 => ⟨S_, .i32⟩
  | 121 => ⟨S_, .i32⟩
  | 122 => ⟨S_, .i32⟩
  | 123 => ⟨S4096x2x128x64, .f32⟩
  | 124 => ⟨S_, .i32⟩
  | 125 => ⟨S_, .i32⟩
  | 126 => ⟨S128x4096x2x16, .f32⟩
  | 127 => ⟨S2x4096x128x16, .f32⟩
  | _ => ⟨S2x4096x4096, .f32⟩

abbrev hbmTy0_1 (i : Nat) : BufTy := match i % 128 with
  | 0 => ⟨S128x4096x2x16, .f32⟩
  | 1 => ⟨S2x4096x128x16, .f32⟩
  | 2 => ⟨S2x4096x128x16, .f32⟩
  | 3 => ⟨S2x4096x2048, .f32⟩
  | 4 => ⟨S2x4096x2048, .f32⟩
  | 5 => ⟨S1x1x2048, .f32⟩
  | 6 => ⟨S2x4096x2048, .f32⟩
  | 7 => ⟨S2x4096x2048, .f32⟩
  | 8 => ⟨S2x4096x2048, .f32⟩
  | 9 => ⟨S2x4096x2048, .bf16⟩
  | 10 => ⟨S512x16x2048, .bf16⟩
  | 11 => ⟨S16x2048x512, .bf16⟩
  | _ => ⟨S2x4096x4096, .f32⟩

abbrev hbmTy (i : Nat) : BufTy := match i / 128 with
  | 0 => hbmTy0_0 i
  | 1 => hbmTy0_1 i
  | _ => ⟨S2x4096x4096, .f32⟩

abbrev bufTy : (tb : Table) → Fin (tcTables nBuf tb) → BufTy
  | .hbm, ⟨i, _⟩ => hbmTy i
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_1 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_2 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_c : Ref sig .tc := ⟨.hbm, 76, rfl⟩
abbrev main_v62_0 : Ref sig .tc := ⟨.hbm, 77, rfl⟩
abbrev main_v62_1 : Ref sig .tc := ⟨.hbm, 78, rfl⟩
abbrev main_v62_2 : Ref sig .tc := ⟨.hbm, 79, rfl⟩
abbrev main_v62_3 : Ref sig .tc := ⟨.hbm, 80, rfl⟩
abbrev main_v62_4 : Ref sig .tc := ⟨.hbm, 81, rfl⟩
abbrev main_v62_5 : Ref sig .tc := ⟨.hbm, 82, rfl⟩
abbrev main_v62_6 : Ref sig .tc := ⟨.hbm, 83, rfl⟩
abbrev main_v62_7 : Ref sig .tc := ⟨.hbm, 84, rfl⟩
abbrev main_v62_8 : Ref sig .tc := ⟨.hbm, 85, rfl⟩
abbrev main_while0c_c_12 : Ref sig .tc := ⟨.hbm, 86, rfl⟩
abbrev main_while0c_v77 : Ref sig .tc := ⟨.hbm, 87, rfl⟩
abbrev main_while0b_call0_c : Ref sig .tc := ⟨.hbm, 88, rfl⟩
abbrev main_while0b_call0_c_0 : Ref sig .tc := ⟨.hbm, 89, rfl⟩
abbrev main_while0b_call0_c_1 : Ref sig .tc := ⟨.hbm, 90, rfl⟩
abbrev main_while0b_call0_v0 : Ref sig .tc := ⟨.hbm, 91, rfl⟩
abbrev main_while0b_v77 : Ref sig .tc := ⟨.hbm, 92, rfl⟩
abbrev main_while0b_call1_c : Ref sig .tc := ⟨.hbm, 93, rfl⟩
abbrev main_while0b_call1_c_0 : Ref sig .tc := ⟨.hbm, 94, rfl⟩
abbrev main_while0b_call1_c_1 : Ref sig .tc := ⟨.hbm, 95, rfl⟩
abbrev main_while0b_call1_v0 : Ref sig .tc := ⟨.hbm, 96, rfl⟩
abbrev main_while0b_v78 : Ref sig .tc := ⟨.hbm, 97, rfl⟩
abbrev main_while0b_v79 : Ref sig .tc := ⟨.hbm, 98, rfl⟩
abbrev main_while0b_v80 : Ref sig .tc := ⟨.hbm, 99, rfl⟩
abbrev main_while0b_v81 : Ref sig .tc := ⟨.hbm, 100, rfl⟩
abbrev main_while0b_v82 : Ref sig .tc := ⟨.hbm, 101, rfl⟩
abbrev main_while0b_v83 : Ref sig .tc := ⟨.hbm, 102, rfl⟩
abbrev main_while0b_v84 : Ref sig .tc := ⟨.hbm, 103, rfl⟩
abbrev main_while0b_v85 : Ref sig .tc := ⟨.hbm, 104, rfl⟩
abbrev main_while0b_v86 : Ref sig .tc := ⟨.hbm, 105, rfl⟩
abbrev main_while0b_v87 : Ref sig .tc := ⟨.hbm, 106, rfl⟩
abbrev main_while0b_v88 : Ref sig .tc := ⟨.hbm, 107, rfl⟩
abbrev main_while0b_v89 : Ref sig .tc := ⟨.hbm, 108, rfl⟩
abbrev main_while0b_v90 : Ref sig .tc := ⟨.hbm, 109, rfl⟩
abbrev main_while0b_v91 : Ref sig .tc := ⟨.hbm, 110, rfl⟩
abbrev main_while0b_v92 : Ref sig .tc := ⟨.hbm, 111, rfl⟩
abbrev main_while0b_v93 : Ref sig .tc := ⟨.hbm, 112, rfl⟩
abbrev main_while0b_v94 : Ref sig .tc := ⟨.hbm, 113, rfl⟩
abbrev main_while0b_call2_v0 : Ref sig .tc := ⟨.hbm, 114, rfl⟩
abbrev main_while0b_call2_c : Ref sig .tc := ⟨.hbm, 115, rfl⟩
abbrev main_while0b_call2_c_0 : Ref sig .tc := ⟨.hbm, 116, rfl⟩
abbrev main_while0b_call2_c_1 : Ref sig .tc := ⟨.hbm, 117, rfl⟩
abbrev main_while0b_v95 : Ref sig .tc := ⟨.hbm, 118, rfl⟩
abbrev main_while0b_call3_v0 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_c_1 : Ref sig .tc := ⟨.hbm, 122, rfl⟩
abbrev main_while0b_v96 : Ref sig .tc := ⟨.hbm, 123, rfl⟩
abbrev main_while0b_c_12 : Ref sig .tc := ⟨.hbm, 124, rfl⟩
abbrev main_while0b_v97 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩

abbrev nD : Nat := 1
abbrev τ : Topo := Topo.v7x

variable {F : FTy → Type} [FloatOps F]

abbrev main_while0_count : Scf.Loop 32 := ⟨0#32, 4096#32, 1#32⟩
-- ==== KernelIn.lean ====
abbrev S2x4096x2048 : Shape := ⟨3, ![2, 4096, 2048]⟩
abbrev S1x2048 : Shape := ⟨2, ![1, 2048]⟩
abbrev S3072x2048 : Shape := ⟨2, ![3072, 2048]⟩
abbrev S128x2048 : Shape := ⟨2, ![128, 2048]⟩
abbrev S8192x2048 : Shape := ⟨2, ![8192, 2048]⟩
abbrev S2048 : Shape := ⟨1, ![2048]⟩
abbrev S8192x3072 : Shape := ⟨2, ![8192, 3072]⟩
abbrev S8192x128 : Shape := ⟨2, ![8192, 128]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S3072x2048, .bf16⟩
  | .hbm, ⟨3, _⟩ => ⟨S128x2048, .bf16⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .bf16⟩
  | .hbm, ⟨8, _⟩ => ⟨S8192x3072, .bf16⟩
  | .hbm, ⟨9, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3072x2048, .bf16⟩
  | .local _ .vmem, ⟨4, _⟩ => ⟨S128x2048, .bf16⟩
  | .local _ .vmem, ⟨5, _⟩ => ⟨S512x2048, .bf16⟩
  | .local _ .vmem, ⟨6, _⟩ => ⟨S512x2048, .bf16⟩
  | .local _ .vmem, ⟨7, _⟩ => ⟨S512x3072, .bf16⟩
  | .local _ .vmem, ⟨8, _⟩ => ⟨S512x3072, .bf16⟩
  | .local _ .vmem, ⟨9, _⟩ => ⟨S512x128, .f32⟩
  | .local _ .vmem, ⟨10, _⟩ => ⟨S512x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInIdeal.lean ====
abbrev S2x4096x2048 : Shape := ⟨3, ![2, 4096, 2048]⟩
abbrev S1x2048 : Shape := ⟨2, ![1, 2048]⟩
abbrev S3072x2048 : Shape := ⟨2, ![3072, 2048]⟩
abbrev S128x2048 : Shape := ⟨2, ![128, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S2048x3072 : Shape := ⟨2, ![2048, 3072]⟩
abbrev S8192x3072 : Shape := ⟨2, ![8192, 3072]⟩
abbrev S2048x128 : Shape := ⟨2, ![2048, 128]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S3072x2048, .bf16⟩
  | .hbm, ⟨3, _⟩ => ⟨S128x2048, .bf16⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x2048, .bf16⟩
  | .hbm, ⟨22, _⟩ => ⟨S8192x2048, .bf16⟩
  | .hbm, ⟨23, _⟩ => ⟨S2048x3072, .bf16⟩
  | .hbm, ⟨24, _⟩ => ⟨S8192x3072, .f32⟩
  | .hbm, ⟨25, _⟩ => ⟨S8192x3072, .bf16⟩
  | .hbm, ⟨26, _⟩ => ⟨S2048x128, .bf16⟩
  | .hbm, ⟨27, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelFox.lean ====
abbrev S8192x2048 : Shape := ⟨2, ![8192, 2048]⟩
abbrev S4096x2048 : Shape := ⟨2, ![4096, 2048]⟩
abbrev S8192x4096 : Shape := ⟨2, ![8192, 4096]⟩
abbrev S512x2048 : Shape := ⟨2, ![512, 2048]⟩
abbrev S512x4096 : Shape := ⟨2, ![512, 4096]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S4096x2048, .bf16⟩
  | .local _ .vmem, ⟨3, _⟩ => ⟨S512x4096, .bf16⟩
  | .local _ .vmem, ⟨4, _⟩ => ⟨S512x4096, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFoxIdeal.lean ====
abbrev S8192x2048 : Shape := ⟨2, ![8192, 2048]⟩
abbrev S4096x2048 : Shape := ⟨2, ![4096, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S2048x4096, .bf16⟩
  | .hbm, ⟨3, _⟩ => ⟨S8192x4096, .f32⟩
  | .hbm, ⟨4, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelC.lean ====
abbrev S2x4096x2048 : Shape := ⟨3, ![2, 4096, 2048]⟩
abbrev S1x2048x4096 : Shape := ⟨3, ![1, 2048, 4096]⟩
abbrev S512x32768 : Shape := ⟨2, ![512, 32768]⟩
abbrev S2048x4096 : Shape := ⟨2, ![2048, 4096]⟩
abbrev S16x4096x512 : Shape := ⟨3, ![16, 4096, 512]⟩
abbrev S2048x2048 : Shape := ⟨2, ![2048, 2048]⟩
abbrev S512x2048 : Shape := ⟨2, ![512, 2048]⟩
abbrev S1x2048x512 : Shape := ⟨3, ![1, 2048, 512]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S1x2048x4096, .f32⟩
  | .hbm, ⟨2, _⟩ => ⟨S2x4096x2048, .bf16⟩
  | .hbm, ⟨3, _⟩ => ⟨S512x32768, .bf16⟩
  | .hbm, ⟨4, _⟩ => ⟨S2048x4096, .f32⟩
  | .hbm, ⟨5, _⟩ => ⟨S16x4096x512, .bf16⟩
  | .local _ .vmem, ⟨0, _⟩ => ⟨S2048x2048, .f32⟩
  | .local _ .vmem, ⟨1, _⟩ => ⟨S512x2048, .bf16⟩
  | .local _ .vmem, ⟨2, _⟩ => ⟨S512x2048, .bf16⟩
  | .local _ .vmem, ⟨3, _⟩ => ⟨S1x2048x512, .bf16⟩
  | .local _ .vmem, ⟨4, _⟩ => ⟨S1x2048x512, .bf16⟩
  | .local _ .vmem, ⟨5, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceCIdeal.lean ====
abbrev S2x4096x2048 : Shape := ⟨3, ![2, 4096, 2048]⟩
abbrev S1x2048x4096 : Shape := ⟨3, ![1, 2048, 4096]⟩
abbrev S2048x4096 : Shape := ⟨2, ![2048, 4096]⟩
abbrev S2x4096x4096 : Shape := ⟨3, ![2, 4096, 4096]⟩
abbrev S512x16x4096 : Shape := ⟨3, ![512, 16, 4096]⟩
abbrev S16x4096x512 : Shape := ⟨3, ![16, 4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x4096, .f32⟩
  | .hbm, ⟨2, _⟩ => ⟨S2048x4096, .f32⟩
  | .hbm, ⟨3, _⟩ => ⟨S2x4096x4096, .f32⟩
  | .hbm, ⟨4, _⟩ => ⟨S2x4096x4096, .bf16⟩
  | .hbm, ⟨5, _⟩ => ⟨S512x16x4096, .bf16⟩
  | .hbm, ⟨6, _⟩ => ⟨S16x4096x512, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMid.lean ====
abbrev S8192x1024 : Shape := ⟨2, ![8192, 1024]⟩
abbrev S1x2048x2048 : Shape := ⟨3, ![1, 2048, 2048]⟩
abbrev S2x4096x2048 : Shape := ⟨3, ![2, 4096, 2048]⟩
abbrev S1x2048 : Shape := ⟨2, ![1, 2048]⟩
abbrev S2048x2048 : Shape := ⟨2, ![2048, 2048]⟩
abbrev S8192x2048 : Shape := ⟨2, ![8192, 2048]⟩
abbrev S2048 : Shape := ⟨1, ![2048]⟩
abbrev S512x32768 : Shape := ⟨2, ![512, 32768]⟩
abbrev S512x1024 : Shape := ⟨2, ![512, 1024]⟩
abbrev S512x2048 : Shape := ⟨2, ![512, 2048]⟩
abbrev S32x32768 : Shape := ⟨2, ![32, 32768]⟩
abbrev S256x2048 : Shape := ⟨2, ![256, 2048]⟩
abbrev S256x1024 : Shape := ⟨2, ![256, 1024]⟩
abbrev S1024x2048 : Shape := ⟨2, ![1024, 2048]⟩
abbrev S256x256 : Shape := ⟨2, ![256, 256]⟩
abbrev S256 : Shape := ⟨1, ![256]⟩
abbrev S256x1 : Shape := ⟨2, ![256, 1]⟩
abbrev S16x2048 : Shape := ⟨2, ![16, 2048]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S2x4096x2048, .f32⟩
  | .hbm, ⟨4, _⟩ => ⟨S1x2048, .f32⟩
  | .hbm, ⟨5, _⟩ => ⟨S2048x2048, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S512x32768, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S32x32768, .bf16⟩
  | .local _ .vmem, ⟨11, _⟩ => ⟨S32x32768, .bf16⟩
  | .local _ .vmem, ⟨12, _⟩ => ⟨S2048x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x32768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMidIdeal.lean ====
abbrev S8192x1024 : Shape := ⟨2, ![8192, 1024]⟩
abbrev S1x2048x2048 : Shape := ⟨3, ![1, 2048, 2048]⟩
abbrev S2x4096x2048 : Shape := ⟨3, ![2, 4096, 2048]⟩
abbrev S1x2048 : Shape := ⟨2, ![1, 2048]⟩
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S512x32768 : Shape := ⟨2, ![512, 32768]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S2x4096x2048, .f32⟩
  | .hbm, ⟨4, _⟩ => ⟨S1x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S512x32768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== KernelOut.lean ====
abbrev S2x4096x2048 : Shape := ⟨3, ![2, 4096, 2048]⟩
abbrev S1x2048x2048 : Shape := ⟨3, ![1, 2048, 2048]⟩
abbrev S2048 : Shape := ⟨1, ![2048]⟩
abbrev S512x32768 : Shape := ⟨2, ![512, 32768]⟩
abbrev S2048x2048 : Shape := ⟨2, ![2048, 2048]⟩
abbrev S8192x2048 : Shape := ⟨2, ![8192, 2048]⟩
abbrev S1x2048 : Shape := ⟨2, ![1, 2048]⟩
abbrev S32x32768 : Shape := ⟨2, ![32, 32768]⟩
abbrev S512x2048 : Shape := ⟨2, ![512, 2048]⟩
abbrev S256x256 : Shape := ⟨2, ![256, 256]⟩
abbrev S16x2048 : Shape := ⟨2, ![16, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S1x2048x2048, .f32⟩
  | .hbm, ⟨2, _⟩ => ⟨S2x4096x2048, .f32⟩
  | .hbm, ⟨3, _⟩ => ⟨S2048, .f32⟩
  | .hbm, ⟨4, _⟩ => ⟨S2x4096x2048, .bf16⟩
  | .hbm, ⟨5, _⟩ => ⟨S512x32768, .bf16⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S8192x2048, .f32⟩
  | .local _ .vmem, ⟨0, _⟩ => ⟨S32x32768, .bf16⟩
  | .local _ .vmem, ⟨1, _⟩ => ⟨S32x32768, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOutIdeal.lean ====
abbrev S2x4096x2048 : Shape := ⟨3, ![2, 4096, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x2048, .f32⟩
  | .hbm, ⟨2, _⟩ => ⟨S2x4096x2048, .f32⟩
  | .hbm, ⟨3, _⟩ => ⟨S2048, .f32⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelGlu.lean ====
abbrev S2x4096x2048 : Shape := ⟨3, ![2, 4096, 2048]⟩
abbrev S1x2048x2048 : Shape := ⟨3, ![1, 2048, 2048]⟩
abbrev S1x2048 : Shape := ⟨2, ![1, 2048]⟩
abbrev S512x16x2048 : Shape := ⟨3, ![512, 16, 2048]⟩
abbrev S16x2048x512 : Shape := ⟨3, ![16, 2048, 512]⟩
abbrev S2x4096x4096 : Shape := ⟨3, ![2, 4096, 4096]⟩
abbrev S512x16x4096 : Shape := ⟨3, ![512, 16, 4096]⟩
abbrev S16x4096x512 : Shape := ⟨3, ![16, 4096, 512]⟩
abbrev S2048x2048 : Shape := ⟨2, ![2048, 2048]⟩
abbrev S2048 : Shape := ⟨1, ![2048]⟩
abbrev S2048x1 : Shape := ⟨2, ![2048, 1]⟩
abbrev S512x32768 : Shape := ⟨2, ![512, 32768]⟩
abbrev S1x2048x512 : Shape := ⟨3, ![1, 2048, 512]⟩
abbrev S512x2048 : Shape := ⟨2, ![512, 2048]⟩
abbrev S2048x512 : Shape := ⟨2, ![2048, 512]⟩
abbrev S1x2048x256 : Shape := ⟨3, ![1, 2048, 256]⟩
abbrev S2048x256 : Shape := ⟨2, ![2048, 256]⟩
abbrev S512x256 : Shape := ⟨2, ![512, 256]⟩
abbrev S512x1 : Shape := ⟨2, ![512, 1]⟩
abbrev S1x512x256 : Shape := ⟨3, ![1, 512, 256]⟩
abbrev S256x512 : Shape := ⟨2, ![256, 512]⟩

abbrev nBuf : Space → Nat
  | .hbm => 15
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048x2048, .f32⟩
  | .hbm, ⟨3, _⟩ => ⟨S1x2048, .f32⟩
  | .hbm, ⟨4, _⟩ => ⟨S2x4096x2048, .bf16⟩
  | .hbm, ⟨5, _⟩ => ⟨S512x16x2048, .bf16⟩
  | .hbm, ⟨6, _⟩ => ⟨S16x2048x512, .bf16⟩
  | .hbm, ⟨7, _⟩ => ⟨S2x4096x4096, .f32⟩
  | .hbm, ⟨8, _⟩ => ⟨S2x4096x4096, .bf16⟩
  | .hbm, ⟨9, _⟩ => ⟨S512x16x4096, .bf16⟩
  | .hbm, ⟨10, _⟩ => ⟨S16x4096x512, .bf16⟩
  | .hbm, ⟨11, _⟩ => ⟨S2048x2048, .f32⟩
  | .hbm, ⟨12, _⟩ => ⟨S2048, .f32⟩
  | .hbm, ⟨13, _⟩ => ⟨S2048x1, .f32⟩
  | .hbm, ⟨14, _⟩ => ⟨S512x32768, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x2048, .f32⟩
  | .local _ .vmem, ⟨3, _⟩ => ⟨S2048x1, .f32⟩
  | .local _ .vmem, ⟨4, _⟩ => ⟨S1x2048x512, .bf16⟩
  | .local _ .vmem, ⟨5, _⟩ => ⟨S1x2048x512, .bf16⟩
  | .local _ .vmem, ⟨6, _⟩ => ⟨S512x2048, .bf16⟩
  | .local _ .vmem, ⟨7, _⟩ => ⟨S512x2048, .bf16⟩
  | .local _ .vmem, ⟨8, _⟩ => ⟨S2048x512, .f32⟩
  | .local _ .vmem, ⟨9, _⟩ => ⟨S2048x512, .bf16⟩
  | .local _ .vmem, ⟨10, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGluIdeal.lean ====
abbrev S2x4096x2048 : Shape := ⟨3, ![2, 4096, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S1x1x2048 : Shape := ⟨3, ![1, 1, 2048]⟩
abbrev S512x32768 : Shape := ⟨2, ![512, 32768]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048x2048, .f32⟩
  | .hbm, ⟨3, _⟩ => ⟨S1x2048, .f32⟩
  | .hbm, ⟨4, _⟩ => ⟨S2x4096x2048, .f32⟩
  | .hbm, ⟨5, _⟩ => ⟨S2x4096x2048, .f32⟩
  | .hbm, ⟨6, _⟩ => ⟨S_, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S2048x2048, .f32⟩
  | .hbm, ⟨22, _⟩ => ⟨S2x4096x2048, .f32⟩
  | .hbm, ⟨23, _⟩ => ⟨S2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x4096x2048, .f32⟩
  | .hbm, ⟨40, _⟩ => ⟨S2x4096x2048, .f32⟩
  | .hbm, ⟨41, _⟩ => ⟨S_, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S2x4096x2048, .bf16⟩
  | .hbm, ⟨47, _⟩ => ⟨S512x32768, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== KernelAtt.lean ====
abbrev S10 : Shape := ⟨1, ![10]⟩
abbrev S8192x1024 : Shape := ⟨2, ![8192, 1024]⟩
abbrev S8192x128 : Shape := ⟨2, ![8192, 128]⟩
abbrev S1024x1024 : Shape := ⟨2, ![1024, 1024]⟩
abbrev S1 : Shape := ⟨1, ![1]⟩
abbrev S1024x128 : Shape := ⟨2, ![1024, 128]⟩
abbrev S8x1x1024 : Shape := ⟨3, ![8, 1, 1024]⟩
abbrev S8x128x1024 : Shape := ⟨3, ![8, 128, 1024]⟩
abbrev S1x128 : Shape := ⟨2, ![1, 128]⟩
abbrev S1024x256 : Shape := ⟨2, ![1024, 256]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩
abbrev S512x128 : Shape := ⟨2, ![512, 128]⟩
abbrev S512x256 : Shape := ⟨2, ![512, 256]⟩
abbrev S512x1024 : Shape := ⟨2, ![512, 1024]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 7
  | .vmem => 17
  | .smem => 2
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .bf16⟩
  | .hbm, ⟨3, _⟩ => ⟨S8192x128, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x1x1024, .f32⟩
  | .local _ .vmem, ⟨15, _⟩ => ⟨S8x1x1024, .f32⟩
  | .local _ .vmem, ⟨16, _⟩ => ⟨S8x128x1024, .f32⟩
  | .local _ .smem, ⟨0, _⟩ => ⟨S10, .i32⟩
  | .local _ .smem, ⟨1, _⟩ => ⟨S10, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 10], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v11 : BitVec 1 := Scalar.cmpi .eq v3 v1
  let v12 : BitVec 32 := Scalar.extui v11
  let c0_i32_2 : BitVec 32 := 0#32
  let v13 : BitVec 1 := Scalar.cmpi .ne v12 c0_i32_2
  v13

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceAttIdeal.lean ====
abbrev S10 : Shape := ⟨1, ![10]⟩
abbrev S8192x1024 : Shape := ⟨2, ![8192, 1024]⟩
abbrev S8192x128 : Shape := ⟨2, ![8192, 128]⟩
abbrev S8192x64 : Shape := ⟨2, ![8192, 64]⟩
abbrev S2x4096x8x8 : Shape := ⟨4, ![2, 4096, 8, 8]⟩
abbrev S2x8x4096x8 : Shape := ⟨4, ![2, 8, 4096, 8]⟩
abbrev S2x8x4096x4096 : Shape := ⟨4, ![2, 8, 4096, 4096]⟩
abbrev S2x4096x8x128 : Shape := ⟨4, ![2, 4096, 8, 128]⟩
abbrev S2x8x4096x128 : Shape := ⟨4, ![2, 8, 4096, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S10, .i32⟩
  | .hbm, ⟨1, _⟩ => ⟨S10, .i32⟩
  | .hbm, ⟨2, _⟩ => ⟨S8192x1024, .bf16⟩
  | .hbm, ⟨3, _⟩ => ⟨S8192x128, .bf16⟩
  | .hbm, ⟨4, _⟩ => ⟨S8192x1024, .bf16⟩
  | .hbm, ⟨5, _⟩ => ⟨S8192x128, .bf16⟩
  | .hbm, ⟨6, _⟩ => ⟨S8192x1024, .bf16⟩
  | .hbm, ⟨7, _⟩ => ⟨S8192x1024, .bf16⟩
  | .hbm, ⟨8, _⟩ => ⟨S8192x64, .bf16⟩
  | .hbm, ⟨9, _⟩ => ⟨S8192x64, .f32⟩
  | .hbm, ⟨10, _⟩ => ⟨S2x4096x8x8, .f32⟩
  | .hbm, ⟨11, _⟩ => ⟨S2x8x4096x8, .f32⟩
  | .hbm, ⟨12, _⟩ => ⟨S8192x64, .bf16⟩
  | .hbm, ⟨13, _⟩ => ⟨S8192x64, .f32⟩
  | .hbm, ⟨14, _⟩ => ⟨S2x4096x8x8, .f32⟩
  | .hbm, ⟨15, _⟩ => ⟨S2x8x4096x8, .f32⟩
  | .hbm, ⟨16, _⟩ => ⟨S2x8x4096x4096, .f32⟩
  | .hbm, ⟨17, _⟩ => ⟨S8192x1024, .f32⟩
  | .hbm, ⟨18, _⟩ => ⟨S2x4096x8x128, .f32⟩
  | .hbm, ⟨19, _⟩ => ⟨S2x8x4096x128, .f32⟩
  | .hbm, ⟨20, _⟩ => ⟨S8192x1024, .f32⟩
  | .hbm, ⟨21, _⟩ => ⟨S2x4096x8x128, .f32⟩
  | .hbm, ⟨22, _⟩ => ⟨S2x8x4096x128, .f32⟩
  | .hbm, ⟨23, _⟩ => ⟨S2x8x4096x4096, .f32⟩
  | .hbm, ⟨24, _⟩ => ⟨S2x8x4096x4096, .f32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S2x8x4096x4096, .i1⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S2x8x4096, .f32⟩
  | .hbm, ⟨39, _⟩ => ⟨S2x8x4096x1, .f32⟩
  | .hbm, ⟨40, _⟩ => ⟨S2x8x4096x4096, .f32⟩
  | .hbm, ⟨41, _⟩ => ⟨S2x8x4096x4096, .f32⟩
  | .hbm, ⟨42, _⟩ => ⟨S_, .f32⟩
  | .hbm, ⟨43, _⟩ => ⟨S2x8x4096x4096, .f32⟩
  | .hbm, ⟨44, _⟩ => ⟨S2x8x4096x4096, .f32⟩
  | .hbm, ⟨45, _⟩ => ⟨S_, .f32⟩
  | .hbm, ⟨46, _⟩ => ⟨S2x8x4096, .f32⟩
  | .hbm, ⟨47, _⟩ => ⟨S2x8x4096x1, .f32⟩
  | .hbm, ⟨48, _⟩ => ⟨S2x8x4096x4096, .f32⟩
  | .hbm, ⟨49, _⟩ => ⟨S2x8x4096x4096, .f32⟩
  | .hbm, ⟨50, _⟩ => ⟨S2x8x4096x4096, .bf16⟩
  | .hbm, ⟨51, _⟩ => ⟨S2x8x4096x4096, .f32⟩
  | .hbm, ⟨52, _⟩ => ⟨S8192x1024, .f32⟩
  | .hbm, ⟨53, _⟩ => ⟨S2x4096x8x128, .f32⟩
  | .hbm, ⟨54, _⟩ => ⟨S2x8x4096x128, .f32⟩
  | .hbm, ⟨55, _⟩ => ⟨S2x8x4096x128, .f32⟩
  | .hbm, ⟨56, _⟩ => ⟨S2x4096x8x128, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Proof.Softmax.lean ====
/- The softmax sums of one query over its keys, block of keys by block of keys, over the extended reals. -/
module

public import Idealize.ShloMosaic.Lib.Pipeline.ValueKit

@[expose] public section

noncomputable section

open Idealize.ShloMosaic

namespace Cert.Softmax

/-- The weight of a key of score `s` below a maximum `m`. -/
def weight (s m : EReal) : EReal := Ideal.exp2 (s - m)

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem weight_nonneg (s m : EReal) : 0 ≤ weight s m := exp2_nonneg _

theorem weight_bot (m : EReal) : weight ⊥ m = 0 := by
  unfold weight
  rw [sub_eq_add_neg, EReal.bot_add, Ideal.exp2_bot]

/-- A weight below the maximum is a real number. -/
theorem weight_ne_top (s m : EReal) (h : s ≤ m) : weight s m ≠ ⊤ := by
  unfold weight
  induction m with
  | bot => rw [le_bot_iff.mp h]; simp [sub_eq_add_neg]
  | top => simp [sub_eq_add_neg]
  | coe r =>
    induction s with
    | bot => simp [sub_eq_add_neg]
    | top => exact absurd h (by simp)
    | coe q => rw [← EReal.coe_sub, Ideal.exp2_coe]; exact EReal.coe_ne_top _

/-- Moving the maximum up scales the weight. -/
theorem weight_mul (s a b : EReal) (h : s ≤ a) (h' : a ≤ b) : weight a b * weight s a = weight s b := by
  unfold weight
  induction b with
  | bot => rw [le_bot_iff.mp h'] at h ⊢; rw [le_bot_iff.mp h]; simp [sub_eq_add_neg]
  | top => simp [sub_eq_add_neg]
  | coe b =>
    induction a with
    | bot => rw [le_bot_iff.mp h]; simp [sub_eq_add_neg]
    | top => exact absurd h' (by simp)
    | coe a =>
      induction s with
      | bot => simp [sub_eq_add_neg]
      | top => exact absurd h (by simp)
      | coe s =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (s - a) = (2 : ℝ) ^ (s - b)
        rw [← Real.rpow_add (by norm_num)]
        congr 1
        ring

/-- A real factor that is not negative goes into a finite sum. -/
theorem mul_sum_real {ι : Type*} (K : Finset ι) (c : EReal) (h0 : 0 ≤ c) (ht : c ≠ ⊤) (f : ι → EReal) : c * ∑ k ∈ K, f k = ∑ k ∈ K, c * f k := by
  classical
  induction K using Finset.induction_on with
  | empty => simp
  | insert k K hk ih => rw [Finset.sum_insert hk, Finset.sum_insert hk, EReal.left_distrib_of_nonneg_of_ne_top h0 ht, ih]

/-- The greatest score of the first `n` keys. -/
def top (s : ℕ → EReal) (n : ℕ) : EReal := (Finset.range n).sup s

/-- The sum of the weights of the first `n` keys below `m`, each times its value. -/
def total (s v : ℕ → EReal) (m : EReal) (n : ℕ) : EReal := ∑ k ∈ Finset.range n, v k * weight (s k) m

theorem le_top (s : ℕ → EReal) (n k : ℕ) (h : k < n) : s k ≤ top s n := Finset.le_sup (Finset.mem_range.mpr h)

theorem top_add (s : ℕ → EReal) (n w : ℕ) : top s (n + w) = max (top s n) (Finset.univ.sup fun k : Fin w => s (n + k)) := by
  refine le_antisymm (Finset.sup_le fun k hk => ?_) (max_le ?_ (Finset.sup_le fun k _ => le_top s _ _ (by omega)))
  · by_cases h : k < n
    · exact le_max_of_le_left (le_top s n k h)
    · have hk' := Finset.mem_range.mp hk
      refine le_max_of_le_right ?_
      have := Finset.le_sup (f := fun j : Fin w => s (n + j)) (Finset.mem_univ (⟨k - n, by omega⟩ : Fin w))
      simpa [Nat.add_sub_of_le (Nat.le_of_not_lt h)] using this
  · exact Finset.sup_le fun k hk => le_top s _ _ (by have := Finset.mem_range.mp hk; omega)

theorem top_mono (s : ℕ → EReal) (n w : ℕ) : top s n ≤ top s (n + w) := by rw [top_add]; exact le_max_left _ _

/-- Absorbing `w` more keys: the sums so far scaled to the new maximum, and the new keys' own. -/
theorem total_add (s v : ℕ → EReal) (n w : ℕ) :
    total s v (top s (n + w)) (n + w)
      = weight (top s n) (top s (n + w)) * total s v (top s n) n + ∑ k : Fin w, v (n + k) * weight (s (n + k)) (top s (n + w)) := by
  unfold total
  rw [Finset.sum_range_add, Finset.sum_range (fun x => v (n + x) * weight (s (n + x)) (top s (n + w))),
    mul_sum_real _ _ (weight_nonneg _ _) (weight_ne_top _ _ (top_mono s n w))]
  congr 1
  refine Finset.sum_congr rfl fun k hk => ?_
  rw [mul_left_comm, weight_mul _ _ _ (le_top s n k (Finset.mem_range.mp hk)) (top_mono s n w)]

/-- Keys whose score is the least one weigh nothing. -/
theorem top_pad (s : ℕ → EReal) (n w : ℕ) (h : ∀ k, n ≤ k → k < n + w → s k = ⊥) : top s (n + w) = top s n := by
  rw [top_add]
  refine max_eq_left (Finset.sup_le fun k _ => ?_)
  rw [h _ (by omega) (by omega)]
  exact bot_le

theorem total_pad (s v : ℕ → EReal) (m : EReal) (n w : ℕ) (h : ∀ k, n ≤ k → k < n + w → s k = ⊥) : total s v m (n + w) = total s v m n := by
  unfold total
  rw [Finset.sum_range_add]
  refine (congrArg (_ + ·) (Finset.sum_eq_zero fun k hk => ?_)).trans (add_zero _)
  rw [h _ (by omega) (by have := Finset.mem_range.mp hk; omega), weight_bot, mul_zero]

theorem sup_univ (s : ℕ → EReal) (n : ℕ) : (Finset.univ.sup fun k : Fin n => s k) = top s n := by
  have := top_add s 0 n
  simp only [Nat.zero_add] at this
  rw [this]
  simp [top]

theorem sum_univ (s v : ℕ → EReal) (m : EReal) (n : ℕ) : (∑ k : Fin n, v k * weight (s k) m) = total s v m n := by
  unfold total
  exact (Finset.sum_range (fun k => v k * weight (s k) m)).symm

theorem inv_nonneg (l : EReal) (h : 0 ≤ l) : 0 ≤ l⁻¹ := EReal.inv_nonneg_of_nonneg h

theorem inv_ne_top (l : EReal) : l⁻¹ ≠ ⊤ := by
  induction l with
  | bot => simp
  | top => simp
  | coe r => rw [← EReal.coe_inv]; exact EReal.coe_ne_top _

/-- The value sums over the weights' sum: the sum of the values times the softmax. -/
theorem total_div (s v : ℕ → EReal) (m : EReal) (n : ℕ) :
    total s v m n / total s (fun _ => 1) m n = ∑ k : Fin n, weight (s k) m / total s (fun _ => 1) m n * v k := by
  have h0 : 0 ≤ total s (fun _ => 1) m n := Finset.sum_nonneg fun k _ => mul_nonneg zero_le_one (weight_nonneg _ _)
  generalize total s (fun _ => 1) m n = l at h0
  rw [← sum_univ, EReal.div_eq_inv_mul, mul_sum_real _ _ (inv_nonneg l h0) (inv_ne_top l)]
  refine Finset.sum_congr rfl fun k _ => ?_
  rw [EReal.div_eq_inv_mul, mul_assoc, mul_comm (v _)]

end Cert.Softmax

end
-- ==== Proof.Division.lean ====
/- Finite scores: the weights' sum is not zero, and dividing the weighted values by it weighs them by its shares. -/
module

public import proofs.«01_k».proof.Proof.Softmax

@[expose] public section

noncomputable section

open Idealize.ShloMosaic

namespace Cert.Softmax

/-- A real number. -/
def IsReal (x : EReal) : Prop := x ≠ ⊥ ∧ x ≠ ⊤

theorem isReal_coe (r : ℝ) : IsReal (r : EReal) := ⟨EReal.coe_ne_bot r, EReal.coe_ne_top r⟩

theorem exists_coe {x : EReal} (h : IsReal x) : ∃ r : ℝ, x = r := by
  obtain ⟨h1, h2⟩ := h
  induction x with
  | bot => exact absurd rfl h1
  | top => exact absurd rfl h2
  | coe r => exact ⟨r, rfl⟩

theorem isReal_mul {x y : EReal} (hx : IsReal x) (hy : IsReal y) : IsReal (x * y) := by
  obtain ⟨a, rfl⟩ := exists_coe hx
  obtain ⟨b, rfl⟩ := exists_coe hy
  rw [← EReal.coe_mul]
  exact isReal_coe _

theorem isReal_add {x y : EReal} (hx : IsReal x) (hy : IsReal y) : IsReal (x + y) := by
  obtain ⟨a, rfl⟩ := exists_coe hx
  obtain ⟨b, rfl⟩ := exists_coe hy
  rw [← EReal.coe_add]
  exact isReal_coe _

theorem isReal_zero : IsReal 0 := isReal_coe 0

theorem isReal_sum {ι : Type*} (K : Finset ι) (f : ι → EReal) (h : ∀ k ∈ K, IsReal (f k)) : IsReal (∑ k ∈ K, f k) := by
  classical
  induction K using Finset.induction_on with
  | empty => rw [Finset.sum_empty]; exact isReal_zero
  | insert k K hk ih =>
    rw [Finset.sum_insert hk]
    exact isReal_add (h k (Finset.mem_insert_self ..)) (ih fun j hj => h j (Finset.mem_insert_of_mem hj))

/-- A magnitude below infinity is a real number's. -/
theorem isReal_of_abs {x : EReal} (h : max x (-x) < ⊤) : IsReal x := by
  obtain ⟨h1, h2⟩ := max_lt_iff.mp h
  refine ⟨?_, h1.ne⟩
  rintro rfl
  exact absurd h2 (by simp)

/-- The weight of a real score below a maximum that is not infinite is not zero. -/
theorem weight_ne_zero {s m : EReal} (hs : IsReal s) (hm : IsReal m) : weight s m ≠ 0 := by
  obtain ⟨a, rfl⟩ := exists_coe hs
  obtain ⟨b, rfl⟩ := exists_coe hm
  unfold weight
  rw [← EReal.coe_sub, Ideal.exp2_coe]
  intro h
  have : (2 : ℝ) ^ (a - b) = 0 := EReal.coe_eq_zero.mp h
  exact absurd this (Real.rpow_pos_of_pos (by norm_num) _).ne'

/-- No score infinite and one real: the maximum is real. -/
theorem isReal_top {s : ℕ → EReal} {n t : ℕ} (h : ∀ k < n, s k ≠ ⊤) (ht : t < n) (hr : IsReal (s t)) : IsReal (top s n) := by
  refine ⟨fun e => hr.1 (le_bot_iff.mp (e ▸ le_top s n t ht)), ?_⟩
  refine ((Finset.sup_lt_iff (by simp)).mpr fun k hk => lt_top_iff_ne_top.mpr (h k (Finset.mem_range.mp hk))).ne

/-- The weights' sum is then not zero. -/
theorem total_ne_zero {s : ℕ → EReal} {n t : ℕ} (h : ∀ k < n, s k ≠ ⊤) (ht : t < n) (hr : IsReal (s t)) :
    total s (fun _ => 1) (top s n) n ≠ 0 := by
  intro e
  have hz := (Finset.sum_eq_zero_iff_of_nonneg fun k _ => mul_nonneg zero_le_one (weight_nonneg (s k) (top s n))).mp e t (Finset.mem_range.mpr ht)
  rw [one_mul] at hz
  exact weight_ne_zero hr (isReal_top h ht hr) hz

theorem div_of_ne {x y : EReal} (h : y ≠ 0) : Ideal.div x y = x * y⁻¹ := if_neg h

/-- The weighted values over the weights' sum: the values weighed by the shares. -/
theorem div_total {s : ℕ → EReal} {n t : ℕ} (h : ∀ k < n, s k ≠ ⊤) (ht : t < n) (hr : IsReal (s t)) (v : ℕ → EReal) :
    Ideal.div (total s v (top s n) n) (total s (fun _ => 1) (top s n) n)
      = ∑ k : Fin n, Ideal.div (weight (s k) (top s n)) (total s (fun _ => 1) (top s n) n) * v k := by
  have hl := total_ne_zero h ht hr
  have h0 : 0 ≤ total s (fun _ => 1) (top s n) n := Finset.sum_nonneg fun k _ => mul_nonneg zero_le_one (weight_nonneg _ _)
  generalize total s (fun _ => 1) (top s n) n = l at h0 hl
  rw [div_of_ne hl, ← sum_univ, mul_comm, mul_sum_real _ _ (inv_nonneg l h0) (inv_ne_top l)]
  refine Finset.sum_congr rfl fun k _ => ?_
  rw [div_of_ne hl, mul_comm (v _), ← mul_assoc, mul_comm l⁻¹]

/-- Two to a power. -/
theorem pow_two (x : EReal) : Ideal.pow 2 x = Ideal.exp2 x := by
  have h2 : (2 : EReal) = ((2 : ℝ) : EReal) := rfl
  rw [h2]
  induction x with
  | bot =>
    show (if (2 : ℝ) < 0 then (⊥ : EReal) else if (1 : ℝ) < 2 then 0 else if (2 : ℝ) = 1 then 1 else ⊤) = 0
    rw [if_neg (by norm_num), if_pos (by norm_num)]
  | top =>
    show (if (2 : ℝ) < 0 then (⊥ : EReal) else if (1 : ℝ) < 2 then ⊤ else if (2 : ℝ) = 1 then 1 else 0) = ⊤
    rw [if_neg (by norm_num), if_pos (by norm_num)]
  | coe r => rfl

end Cert.Softmax

end
-- ==== Proof.Pins.lean ====
/- What the preconditions say: the tables list the pairs of blocks, and the scores' arguments are finite. -/
module

public import proofs.«01_k».proof.Defs
public import proofs.«01_k».proof.Proof.Division
public import proofs.«01_k».proof.Proof.Gen.Pre_causal_pairs
public import proofs.«01_k».proof.Proof.Gen.Pre_finite_pairs
public import proofs.«01_k».proof.Proof.Gen.KernelAtt.Flash
public import proofs.«01_k».proof.Proof.Gen.KernelAttIdeal.Flash
public import Idealize.ShloMosaic.Lib.ReduceAll

@[expose] public section

set_option maxRecDepth 16384

noncomputable section

open Idealize.ShloMosaic Idealize.ShloMosaic.TcCoe Idealize.SL.Sem
open Cert.Softmax

namespace Cert.Pins

theorem both {x y : BitVec 1} (h : IntOp.andi x y = 1#1) : x = 1#1 ∧ y = 1#1 := by
  revert x y
  decide

theorem ofBool_one (p : Bool) : (BitVec.ofBool p = 1#1) ↔ p = true := by cases p <;> decide

/-- The block of queries of the pair at a place. -/
def rowWord (n : BitVec 32) : BitVec 32 :=
  (BitVec.ofBool (BitVec.sle 1#32 n)).setWidth 32 + (BitVec.ofBool (BitVec.sle 3#32 n)).setWidth 32 + (BitVec.ofBool (BitVec.sle 6#32 n)).setWidth 32

/-- The place of the first pair of its block of queries. -/
def startWord (n : BitVec 32) : BitVec 32 :=
  (BitVec.ofBool (BitVec.sle 1#32 n)).setWidth 32 + (BitVec.ofBool (BitVec.sle 3#32 n)).setWidth 32 * 2#32 + (BitVec.ofBool (BitVec.sle 6#32 n)).setWidth 32 * 3#32

theorem row_entry : ∀ r : Fin 10, rowWord (BitVec.ofNat 32 r.val) = ([0#32, 1#32, 1#32, 2#32, 2#32, 2#32, 3#32, 3#32, 3#32, 3#32] : List (BitVec 32)).getD r.val 0#32 := by decide

theorem start_entry : ∀ r : Fin 10, BitVec.ofNat 32 r.val - startWord (BitVec.ofNat 32 r.val) = ([0#32, 0#32, 1#32, 0#32, 1#32, 2#32, 0#32, 1#32, 2#32, 3#32] : List (BitVec 32)).getD r.val 0#32 := by decide

theorem causal {F : FTy → Type} [FloatOps F] (a0 a1 : IVec Cert.Pre_causal_pairs.S10 32) (a2 a3 a4 a5 a6 a7) (h : Cert.Pre_causal_pairs.fn (F := F) a0 a1 a2 a3 a4 a5 a6 a7 = fun _ => 1#1) (x : Cert.Pre_causal_pairs.S10.Idx) :
    a0 x = rowWord (BitVec.ofNat 32 (x 0).val) ∧ a1 x = BitVec.ofNat 32 (x 0).val - startWord (BitVec.ofNat 32 (x 0).val) := by
  haveI : Subsingleton Cert.Pre_causal_pairs.S_.Idx := ⟨fun a b => funext fun i => i.elim0⟩
  have e := congrFun h (fun a => a.elim0)
  unfold Cert.Pre_causal_pairs.fn Cert.Pre_causal_pairs.fn_part1 at e
  obtain ⟨h0, h1⟩ := both e
  have k0 : BitVec.ofBool (a0 x == rowWord (BitVec.ofNat 32 (x 0).val)) = 1#1 := Host.reduce_andi_all _ _ _ _ _ h0 x
  have k1 : BitVec.ofBool (a1 x == BitVec.ofNat 32 (x 0).val - startWord (BitVec.ofNat 32 (x 0).val)) = 1#1 := Host.reduce_andi_all _ _ _ _ _ h1 x
  rw [ofBool_one, beq_iff_eq] at k0 k1
  exact ⟨k0, k1⟩

theorem finite (a0 a1 : IVec Cert.Pre_finite_pairs.S10 32) (a2 a3 a4 a5 a6 a7) (h : Cert.Pre_finite_pairs.fn (F := Ideal) a0 a1 a2 a3 a4 a5 a6 a7 = fun _ => 1#1) :
    (∀ x, a0 x = rowWord (BitVec.ofNat 32 (x 0).val) ∧ a1 x = BitVec.ofNat 32 (x 0).val - startWord (BitVec.ofNat 32 (x 0).val))
      ∧ (∀ x, IsReal (a2 x)) ∧ (∀ x, IsReal (a3 x)) ∧ (∀ x, IsReal (a4 x)) ∧ ∀ x, IsReal (a5 x) := by
  haveI : Subsingleton Cert.Pre_finite_pairs.S_.Idx := ⟨fun a b => funext fun i => i.elim0⟩
  have top_word : Ideal.ofBits .f32 0x7F800000#32 = ⊤ := by simp [Ideal.ofBits, Ideal.ieee]
  have e := congrFun h (fun a => a.elim0)
  unfold Cert.Pre_finite_pairs.fn Cert.Pre_finite_pairs.fn_part1 Cert.Pre_finite_pairs.fn_part2 Cert.Pre_finite_pairs.fn_part3 at e
  obtain ⟨e, h5⟩ := both e
  obtain ⟨e, h4⟩ := both e
  obtain ⟨e, h3⟩ := both e
  obtain ⟨e, h2⟩ := both e
  obtain ⟨h0, h1⟩ := both e
  refine ⟨fun x => ?_, fun x => ?_, fun x => ?_, fun x => ?_, fun x => ?_⟩
  · have k0 : BitVec.ofBool (a0 x == rowWord (BitVec.ofNat 32 (x 0).val)) = 1#1 := Host.reduce_andi_all _ _ _ _ _ h0 x
    have k1 : BitVec.ofBool (a1 x == BitVec.ofNat 32 (x 0).val - startWord (BitVec.ofNat 32 (x 0).val)) = 1#1 := Host.reduce_andi_all _ _ _ _ _ h1 x
    rw [ofBool_one, beq_iff_eq] at k0 k1
    exact ⟨k0, k1⟩
  · have k : Ideal.cmp .olt (max (a2 x) (-(a2 x))) (Ideal.ofBits .f32 0x7F800000#32) = 1#1 := Host.reduce_andi_all _ _ _ _ _ h2 x
    rw [top_word, Ideal.cmp, ofBool_one, decide_eq_true_iff] at k
    exact isReal_of_abs k
  · have k : Ideal.cmp .olt (max (a3 x) (-(a3 x))) (Ideal.ofBits .f32 0x7F800000#32) = 1#1 := Host.reduce_andi_all _ _ _ _ _ h3 x
    rw [top_word, Ideal.cmp, ofBool_one, decide_eq_true_iff] at k
    exact isReal_of_abs k
  · have k : Ideal.cmp .olt (max (a4 x) (-(a4 x))) (Ideal.ofBits .f32 0x7F800000#32) = 1#1 := Host.reduce_andi_all _ _ _ _ _ h4 x
    rw [top_word, Ideal.cmp, ofBool_one, decide_eq_true_iff] at k
    exact isReal_of_abs k
  · have k : Ideal.cmp .olt (max (a5 x) (-(a5 x))) (Ideal.ofBits .f32 0x7F800000#32) = 1#1 := Host.reduce_andi_all _ _ _ _ _ h5 x
    rw [top_word, Ideal.cmp, ofBool_one, decide_eq_true_iff] at k
    exact isReal_of_abs k

theorem pinned_bits (m : (ℓ : Loc Cert.KernelAtt.nD Cert.KernelAtt.τ Cert.KernelAtt.sig) → Buf (Elt Bits) ℓ) (h : Cert.Pre_KernelAtt m) : Cert.KernelAtt.Gen.Pinned 0 m :=
  ⟨fun c => funext fun x => ((causal _ _ _ _ _ _ _ _ (h c) x).1).trans (row_entry (x 0)), fun c => funext fun x => ((causal _ _ _ _ _ _ _ _ (h c) x).2).trans (start_entry (x 0))⟩

theorem pinned (m : (ℓ : Loc Cert.KernelAttIdeal.nD Cert.KernelAttIdeal.τ Cert.KernelAttIdeal.sig) → Buf (Elt Ideal) ℓ) (h : Cert.Pre_KernelAttIdeal m) : Cert.KernelAttIdeal.Gen.Pinned 0 m :=
  ⟨fun c => funext fun x => ((causal _ _ _ _ _ _ _ _ (h c) x).1).trans (row_entry (x 0)), fun c => funext fun x => ((causal _ _ _ _ _ _ _ _ (h c) x).2).trans (start_entry (x 0))⟩

theorem pinned_finite (m : (ℓ : Loc Cert.KernelAttIdeal.nD Cert.KernelAttIdeal.τ Cert.KernelAttIdeal.sig) → Buf (Elt Ideal) ℓ) (h : Cert.Pre_KernelAttIdeal_finite_pairs m) : Cert.KernelAttIdeal.Gen.Pinned 0 m :=
  ⟨fun c => funext fun x => (((finite _ _ _ _ _ _ _ _ (h c)).1 x).1).trans (row_entry (x 0)), fun c => funext fun x => (((finite _ _ _ _ _ _ _ _ (h c)).1 x).2).trans (start_entry (x 0))⟩

end Cert.Pins

end
-- ==== Proof.AttRun.lean ====
/- The attention's reference: its operations as a list, and what they leave. -/
module

public import proofs.«01_k».proof.Proof.Gen.ReferenceAttIdeal
public import Idealize.ShloMosaic.Lib.StableHlo.Run
public import Idealize.ShloMosaic.Lib.Pipeline.ValueKit

@[expose] public section

noncomputable section

open Idealize.ShloMosaic Idealize.ShloMosaic.TcCoe Idealize.SL.Sem Idealize.ShloMosaic.StableHlo

namespace Cert.ReferenceAttIdeal.Att

open Cert.ReferenceAttIdeal Cert.ReferenceAttIdeal.Gen

/-- A row-major array's heads apart. -/
abbrev heads (x : FVec Ideal S8192x1024 .bf16) : FVec Ideal S2x8x4096x128 .f32 :=
  transpose S2x8x4096x128 [0, 2, 1, 3] (shapeCast S2x4096x8x128 (extf .f32 x bitsLt_bf16_f32) shapeCasts_S8192x1024_S2x4096x8x128) transposes_S2x4096x8x128_S2x8x4096x128_0_2_1_3

/-- The corrections' heads apart. -/
abbrev lanes (x : FVec Ideal S8192x128 .bf16) : FVec Ideal S2x8x4096x8 .f32 :=
  transpose S2x8x4096x8 [0, 2, 1, 3] (shapeCast S2x4096x8x8 (extf .f32 (extractStridedSlice S8192x64 ![0, 0] x slices_S8192x128_S8192x64_0_0) bitsLt_bf16_f32)
    shapeCasts_S8192x64_S2x4096x8x8) transposes_S2x4096x8x8_S2x8x4096x8_0_2_1_3

/-- The scores, minus infinity at the keys after the query. -/
abbrev scores (q : FVec Ideal S8192x1024 .bf16) (qa : FVec Ideal S8192x128 .bf16) (k : FVec Ideal S8192x1024 .bf16) (ka : FVec Ideal S8192x128 .bf16) :
    FVec Ideal S2x8x4096x4096 .f32 :=
  select (broadcastInDim S2x8x4096x4096 ![2, 3] bcast_S4096x4096_S2x8x4096x4096_2_3
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (addf (Host.dotGeneral dot_S2x8x4096x128_S2x8x4096x128_S2x8x4096x4096_3_3_2_2_01_01 none (heads q) (heads k))
      (Host.dotGeneral dot_S2x8x4096x8_S2x8x4096x8_S2x8x4096x4096_3_3_2_2_01_01 none (lanes qa) (lanes ka)))
    (broadcastInDim S2x8x4096x4096 ![] bcast_S_S2x8x4096x4096 (constant S_ .f32 0xFF800000#32))

/-- The powers of two of the scores below their maximum. -/
abbrev powers (s : FVec Ideal S2x8x4096x4096 .f32) : FVec Ideal S2x8x4096x4096 .f32 :=
  Host.powf (broadcastInDim S2x8x4096x4096 ![] bcast_S_S2x8x4096x4096 (constant S_ .f32 0x40000000#32))
    (subf s (broadcastInDim S2x8x4096x4096 ![0, 1, 2, 3] bcast_S2x8x4096x1_S2x8x4096x4096_0_1_2_3
      (broadcastInDim S2x8x4096x1 ![0, 1, 2] bcast_S2x8x4096_S2x8x4096x1_0_1_2
        (Host.reduce FloatOps.maximumf s (constant S_ .f32 0xFF800000#32) reducesTo_S2x8x4096x4096_S2x8x4096_d3 h_S_))))

/-- Each divided by its query's sum. -/
abbrev shares (w : FVec Ideal S2x8x4096x4096 .f32) : FVec Ideal S2x8x4096x4096 .f32 :=
  extf .f32 (truncf .bf16 (Host.divf w (broadcastInDim S2x8x4096x4096 ![0, 1, 2, 3] bcast_S2x8x4096x1_S2x8x4096x4096_0_1_2_3
    (broadcastInDim S2x8x4096x1 ![0, 1, 2] bcast_S2x8x4096_S2x8x4096x1_0_1_2
      (Host.reduceAdd w (constant S_ .f32 0x00000000#32) reducesTo_S2x8x4096x4096_S2x8x4096_d3 h_S_)))) bitsLt_bf16_f32) bitsLt_bf16_f32

/-- The values so weighted. -/
abbrev mixed (w : FVec Ideal S2x8x4096x4096 .f32) (v : FVec Ideal S8192x1024 .bf16) : FVec Ideal S8192x1024 .f32 :=
  shapeCast S8192x1024 (transpose S2x4096x8x128 [0, 2, 1, 3]
    (Host.dotGeneral dot_S2x8x4096x4096_S2x8x4096x128_S2x8x4096x128_3_2_2_3_01_01 none w (heads v)) transposes_S2x8x4096x128_S2x4096x8x128_0_2_1_3)
    shapeCasts_S2x4096x8x128_S8192x1024

/-- The gate. -/
abbrev gated (g : FVec Ideal S8192x1024 .bf16) : FVec Ideal S8192x1024 .f32 :=
  mulf (extf .f32 g bitsLt_bf16_f32) (Host.divf (broadcastInDim S8192x1024 ![] bcast_S_S8192x1024 (constant S_ .f32 0x3F800000#32))
    (addf (broadcastInDim S8192x1024 ![] bcast_S_S8192x1024 (constant S_ .f32 0x3F800000#32)) (Host.exp (Host.negf (extf .f32 g bitsLt_bf16_f32)))))

section Ops

variable {F : FTy → Type} [FloatOps F]

/-- The operations, in order. -/
abbrev ops : List (HloOp τ sig (Elt F)) :=
  [ unary main_arg3 main_v0 ((extractStridedSlice S8192x64 ![0, 0] · slices_S8192x128_S8192x64_0_0) : (⟨S8192x128, .bf16⟩ : BufTy).Contents (Elt F) → (⟨S8192x64, .bf16⟩ : BufTy).Contents (Elt F)),
    unary main_v0 main_v1 ((extf .f32 · bitsLt_bf16_f32) : (⟨S8192x64, .bf16⟩ : BufTy).Contents (Elt F) → (⟨S8192x64, .f32⟩ : BufTy).Contents (Elt F)),
    reshape main_v1 main_v2 (rfl : (.f32 : EltTy) = .f32) shapeCasts_S8192x64_S2x4096x8x8,
    unary main_v2 main_v3 ((transpose S2x8x4096x8 [0, 2, 1, 3] · transposes_S2x4096x8x8_S2x8x4096x8_0_2_1_3) : (⟨S2x4096x8x8, .f32⟩ : BufTy).Contents (Elt F) → (⟨S2x8x4096x8, .f32⟩ : BufTy).Contents (Elt F)),
    unary main_arg5 main_v4 ((extractStridedSlice S8192x64 ![0, 0] · slices_S8192x128_S8192x64_0_0) : (⟨S8192x128, .bf16⟩ : BufTy).Contents (Elt F) → (⟨S8192x64, .bf16⟩ : BufTy).Contents (Elt F)),
    unary main_v4 main_v5 ((extf .f32 · bitsLt_bf16_f32) : (⟨S8192x64, .bf16⟩ : BufTy).Contents (Elt F) → (⟨S8192x64, .f32⟩ : BufTy).Contents (Elt F)),
    reshape main_v5 main_v6 (rfl : (.f32 : EltTy) = .f32) shapeCasts_S8192x64_S2x4096x8x8,
    unary main_v6 main_v7 ((transpose S2x8x4096x8 [0, 2, 1, 3] · transposes_S2x4096x8x8_S2x8x4096x8_0_2_1_3) : (⟨S2x4096x8x8, .f32⟩ : BufTy).Contents (Elt F) → (⟨S2x8x4096x8, .f32⟩ : BufTy).Contents (Elt F)),
    binary main_v3 main_v7 main_v8 ((fun l r => Host.dotGeneral dot_S2x8x4096x8_S2x8x4096x8_S2x8x4096x4096_3_3_2_2_01_01 none l r) : (⟨S2x8x4096x8, .f32⟩ : BufTy).Contents (Elt F) → (⟨S2x8x4096x8, .f32⟩ : BufTy).Contents (Elt F) → (⟨S2x8x4096x4096, .f32⟩ : BufTy).Contents (Elt F)),
    unary main_arg2 main_v9 ((extf .f32 · bitsLt_bf16_f32) : (⟨S8192x1024, .bf16⟩ : BufTy).Contents (Elt F) → (⟨S8192x1024, .f32⟩ : BufTy).Contents (Elt F)),
    reshape main_v9 main_v10 (rfl : (.f32 : EltTy) = .f32) shapeCasts_S8192x1024_S2x4096x8x128,
    unary main_v10 main_v11 ((transpose S2x8x4096x128 [0, 2, 1, 3] · transposes_S2x4096x8x128_S2x8x4096x128_0_2_1_3) : (⟨S2x4096x8x128, .f32⟩ : BufTy).Contents (Elt F) → (⟨S2x8x4096x128, .f32⟩ : BufTy).Contents (Elt F)),
    unary main_arg4 main_v12 ((extf .f32 · bitsLt_bf16_f32) : (⟨S8192x1024, .bf16⟩ : BufTy).Contents (Elt F) → (⟨S8192x1024, .f32⟩ : BufTy).Contents (Elt F)),
    reshape main_v12 main_v13 (rfl : (.f32 : EltTy) = .f32) shapeCasts_S8192x1024_S2x4096x8x128,
    unary main_v13 main_v14 ((transpose S2x8x4096x128 [0, 2, 1, 3] · transposes_S2x4096x8x128_S2x8x4096x128_0_2_1_3) : (⟨S2x4096x8x128, .f32⟩ : BufTy).Contents (Elt F) → (⟨S2x8x4096x128, .f32⟩ : BufTy).Contents (Elt F)),
    binary main_v11 main_v14 main_v15 ((fun l r => Host.dotGeneral dot_S2x8x4096x128_S2x8x4096x128_S2x8x4096x4096_3_3_2_2_01_01 none l r) : (⟨S2x8x4096x128, .f32⟩ : BufTy).Contents (Elt F) → (⟨S2x8x4096x128, .f32⟩ : BufTy).Contents (Elt F) → (⟨S2x8x4096x4096, .f32⟩ : BufTy).Contents (Elt F)),
    binary main_v15 main_v8 main_v16 (addf : (⟨S2x8x4096x4096, .f32⟩ : BufTy).Contents (Elt F) → (⟨S2x8x4096x4096, .f32⟩ : BufTy).Contents (Elt F) → (⟨S2x8x4096x4096, .f32⟩ : BufTy).Contents (Elt F)),
    nullary main_v17 (iotaInDim S4096 32 0),
    unary main_v17 main_v18 (broadcastInDim S4096x1 ![0] bcast_S4096_S4096x1_0 : (⟨S4096, .i32⟩ : BufTy).Contents (Elt F) → (⟨S4096x1, .i32⟩ : BufTy).Contents (Elt F)),
    nullary main_v19 (iotaInDim S4096 32 0),
    unary main_v19 main_v20 (broadcastInDim S1x4096 ![1] bcast_S4096_S1x4096_1 : (⟨S4096, .i32⟩ : BufTy).Contents (Elt F) → (⟨S1x4096, .i32⟩ : BufTy).Contents (Elt F)),
    unary main_v18 main_v21 (broadcastInDim S4096x4096 ![0, 1] bcast_S4096x1_S4096x4096_0_1 : (⟨S4096x1, .i32⟩ : BufTy).Contents (Elt F) → (⟨S4096x4096, .i32⟩ : BufTy).Contents (Elt F)),
    unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    binary main_v21 main_v22 main_v23 (cmpi .sge : (⟨S4096x4096, .i32⟩ : BufTy).Contents (Elt F) → (⟨S4096x4096, .i32⟩ : BufTy).Contents (Elt F) → (⟨S4096x4096, .i1⟩ : BufTy).Contents (Elt F)),
    nullary main_cst (constant S_ .f32 0xFF800000#32),
    TRef.unary (TRef.of (T := ⟨S_, .f32⟩) main_cst) (TRef.of (T := ⟨S_, .f32⟩) main_call0_v0) id,
    TRef.unary (TRef.of (T := ⟨S4096x4096, .i1⟩) main_v23) (TRef.of (T := ⟨S2x8x4096x4096, .i1⟩) main_call0_v1) (broadcastInDim S2x8x4096x4096 ![2, 3] bcast_S4096x4096_S2x8x4096x4096_2_3),
    TRef.unary (TRef.of (T := ⟨S_, .f32⟩) main_call0_v0) (TRef.of (T := ⟨S2x8x4096x4096, .f32⟩) main_call0_v2) (broadcastInDim S2x8x4096x4096 ![] bcast_S_S2x8x4096x4096),
    TRef.ternary (TRef.of (T := ⟨S2x8x4096x4096, .i1⟩) main_call0_v1) (TRef.of (T := ⟨S2x8x4096x4096, .f32⟩) main_v16) (TRef.of (T := ⟨S2x8x4096x4096, .f32⟩) main_call0_v2) (TRef.of (T := ⟨S2x8x4096x4096, .f32⟩) main_v24) select,
    nullary main_cst_0 (constant S_ .f32 0xFF800000#32),
    binary main_v24 main_cst_0 main_v25 ((fun x v => Host.reduce FloatOps.maximumf x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    unary main_v25 main_v26 (broadcastInDim S2x8x4096x1 ![0, 1, 2] bcast_S2x8x4096_S2x8x4096x1_0_1_2 : (⟨S2x8x4096, .f32⟩ : BufTy).Contents (Elt F) → (⟨S2x8x4096x1, .f32⟩ : BufTy).Contents (Elt F)),
    unary main_v26 main_v27 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    binary main_v24 main_v27 main_v28 (subf : (⟨S2x8x4096x4096, .f32⟩ : BufTy).Contents (Elt F) → (⟨S2x8x4096x4096, .f32⟩ : BufTy).Contents (Elt F) → (⟨S2x8x4096x4096, .f32⟩ : BufTy).Contents (Elt F)),
    nullary main_cst_1 (constant S_ .f32 0x40000000#32),
    unary main_cst_1 main_v29 (broadcastInDim S2x8x4096x4096 ![] bcast_S_S2x8x4096x4096 : (⟨S_, .f32⟩ : BufTy).Contents (Elt F) → (⟨S2x8x4096x4096, .f32⟩ : BufTy).Contents (Elt F)),
    binary main_v29 main_v28 main_v30 (Host.powf : (⟨S2x8x4096x4096, .f32⟩ : BufTy).Contents (Elt F) → (⟨S2x8x4096x4096, .f32⟩ : BufTy).Contents (Elt F) → (⟨S2x8x4096x4096, .f32⟩ : BufTy).Contents (Elt F)),
    nullary main_cst_2 (constant S_ .f32 0x00000000#32),
    binary main_v30 main_cst_2 main_v31 ((fun x v => Host.reduceAdd x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    unary main_v31 main_v32 (broadcastInDim S2x8x4096x1 ![0, 1, 2] bcast_S2x8x4096_S2x8x4096x1_0_1_2 : (⟨S2x8x4096, .f32⟩ : BufTy).Contents (Elt F) → (⟨S2x8x4096x1, .f32⟩ : BufTy).Contents (Elt F)),
    unary main_v32 main_v33 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    binary main_v30 main_v33 main_v34 (Host.divf : (⟨S2x8x4096x4096, .f32⟩ : BufTy).Contents (Elt F) → (⟨S2x8x4096x4096, .f32⟩ : BufTy).Contents (Elt F) → (⟨S2x8x4096x4096, .f32⟩ : BufTy).Contents (Elt F)),
    unary main_v34 main_v35 ((truncf .bf16 · bitsLt_bf16_f32) : (⟨S2x8x4096x4096, .f32⟩ : BufTy).Contents (Elt F) → (⟨S2x8x4096x4096, .bf16⟩ : BufTy).Contents (Elt F)),
    unary main_v35 main_v36 ((extf .f32 · bitsLt_bf16_f32) : (⟨S2x8x4096x4096, .bf16⟩ : BufTy).Contents (Elt F) → (⟨S2x8x4096x4096, .f32⟩ : BufTy).Contents (Elt F)),
    unary main_arg6 main_v37 ((extf .f32 · bitsLt_bf16_f32) : (⟨S8192x1024, .bf16⟩ : BufTy).Contents (Elt F) → (⟨S8192x1024, .f32⟩ : BufTy).Contents (Elt F)),
    reshape main_v37 main_v38 (rfl : (.f32 : EltTy) = .f32) shapeCasts_S8192x1024_S2x4096x8x128,
    unary main_v38 main_v39 ((transpose S2x8x4096x128 [0, 2, 1, 3] · transposes_S2x4096x8x128_S2x8x4096x128_0_2_1_3) : (⟨S2x4096x8x128, .f32⟩ : BufTy).Contents (Elt F) → (⟨S2x8x4096x128, .f32⟩ : BufTy).Contents (Elt F)),
    binary main_v36 main_v39 main_v40 ((fun l r => Host.dotGeneral dot_S2x8x4096x4096_S2x8x4096x128_S2x8x4096x128_3_2_2_3_01_01 none l r) : (⟨S2x8x4096x4096, .f32⟩ : BufTy).Contents (Elt F) → (⟨S2x8x4096x128, .f32⟩ : BufTy).Contents (Elt F) → (⟨S2x8x4096x128, .f32⟩ : BufTy).Contents (Elt F)),
    unary main_v40 main_v41 ((transpose S2x4096x8x128 [0, 2, 1, 3] · transposes_S2x8x4096x128_S2x4096x8x128_0_2_1_3) : (⟨S2x8x4096x128, .f32⟩ : BufTy).Contents (Elt F) → (⟨S2x4096x8x128, .f32⟩ : BufTy).Contents (Elt F)),
    reshape main_v41 main_v42 (rfl : (.f32 : EltTy) = .f32) shapeCasts_S2x4096x8x128_S8192x1024,
    unary main_arg7 main_v43 ((extf .f32 · bitsLt_bf16_f32) : (⟨S8192x1024, .bf16⟩ : BufTy).Contents (Elt F) → (⟨S8192x1024, .f32⟩ : BufTy).Contents (Elt F)),
    TRef.unary (TRef.of (T := ⟨S8192x1024, .f32⟩) main_v43) (TRef.of (T := ⟨S8192x1024, .f32⟩) main_call1_v0) Host.negf,
    TRef.unary (TRef.of (T := ⟨S8192x1024, .f32⟩) main_call1_v0) (TRef.of (T := ⟨S8192x1024, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8192x1024, .f32⟩) main_call1_v2) (broadcastInDim S8192x1024 ![] bcast_S_S8192x1024),
    TRef.binary (TRef.of (T := ⟨S8192x1024, .f32⟩) main_call1_v2) (TRef.of (T := ⟨S8192x1024, .f32⟩) main_call1_v1) (TRef.of (T := ⟨S8192x1024, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8192x1024, .f32⟩) main_call1_v4) (broadcastInDim S8192x1024 ![] bcast_S_S8192x1024),
    TRef.binary (TRef.of (T := ⟨S8192x1024, .f32⟩) main_call1_v4) (TRef.of (T := ⟨S8192x1024, .f32⟩) main_call1_v3) (TRef.of (T := ⟨S8192x1024, .f32⟩) main_call1_v5) Host.divf,
    TRef.binary (TRef.of (T := ⟨S8192x1024, .f32⟩) main_v43) (TRef.of (T := ⟨S8192x1024, .f32⟩) main_call1_v5) (TRef.of (T := ⟨S8192x1024, .f32⟩) main_v44) mulf,
    binary main_v42 main_v44 main_v45 (mulf : (⟨S8192x1024, .f32⟩ : BufTy).Contents (Elt F) → (⟨S8192x1024, .f32⟩ : BufTy).Contents (Elt F) → (⟨S8192x1024, .f32⟩ : BufTy).Contents (Elt F)),
    unary main_v45 main_v46 ((truncf .bf16 · bitsLt_bf16_f32) : (⟨S8192x1024, .f32⟩ : BufTy).Contents (Elt F) → (⟨S8192x1024, .bf16⟩ : BufTy).Contents (Elt F)) ]

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨unary_bufs_sub .., unary_bufs_sub .., reshape_bufs_sub .., unary_bufs_sub .., unary_bufs_sub .., unary_bufs_sub .., reshape_bufs_sub .., unary_bufs_sub .., binary_bufs_sub .., unary_bufs_sub .., reshape_bufs_sub .., unary_bufs_sub .., unary_bufs_sub .., reshape_bufs_sub .., unary_bufs_sub .., binary_bufs_sub .., binary_bufs_sub .., nullary_bufs_sub .., unary_bufs_sub .., nullary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., unary_bufs_sub .., unary_bufs_sub .., reshape_bufs_sub .., unary_bufs_sub .., binary_bufs_sub .., unary_bufs_sub .., reshape_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub ..⟩

end Ops

set_option maxRecDepth 16384 in
set_option maxHeartbeats 4000000 in
/-- The reference ends, its result the gated mixture, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = truncf .bf16 (mulf (mixed (shares (powers (scores (m ((c.tc : Thread nD τ).loc main_arg2)) (m ((c.tc : Thread nD τ).loc main_arg3)) (m ((c.tc : Thread nD τ).loc main_arg4)) (m ((c.tc : Thread nD τ).loc main_arg5))))) (m ((c.tc : Thread nD τ).loc main_arg6)))
        (gated (m ((c.tc : Thread nD τ).loc main_arg7)))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v46).trans (by simp only [ops, TRef.binary, TRef.ternary, TRef.nullary, TRef.unary, TRef.toBuf, TRef.ofBuf, cast_eq]; after_results_simp <;> rfl),
      (h c main_arg0).trans (by simp only [ops, TRef.binary, TRef.ternary, TRef.nullary, TRef.unary, TRef.toBuf, TRef.ofBuf, cast_eq]; after_results_simp <;> rfl),
      (h c main_arg1).trans (by simp only [ops, TRef.binary, TRef.ternary, TRef.nullary, TRef.unary, TRef.toBuf, TRef.ofBuf, cast_eq]; after_results_simp <;> rfl),
      (h c main_arg2).trans (by simp only [ops, TRef.binary, TRef.ternary, TRef.nullary, TRef.unary, TRef.toBuf, TRef.ofBuf, cast_eq]; after_results_simp <;> rfl),
      (h c main_arg3).trans (by simp only [ops, TRef.binary, TRef.ternary, TRef.nullary, TRef.unary, TRef.toBuf, TRef.ofBuf, cast_eq]; after_results_simp <;> rfl),
      (h c main_arg4).trans (by simp only [ops, TRef.binary, TRef.ternary, TRef.nullary, TRef.unary, TRef.toBuf, TRef.ofBuf, cast_eq]; after_results_simp <;> rfl),
      (h c main_arg5).trans (by simp only [ops, TRef.binary, TRef.ternary, TRef.nullary, TRef.unary, TRef.toBuf, TRef.ofBuf, cast_eq]; after_results_simp <;> rfl),
      (h c main_arg6).trans (by simp only [ops, TRef.binary, TRef.ternary, TRef.nullary, TRef.unary, TRef.toBuf, TRef.ofBuf, cast_eq]; after_results_simp <;> rfl),
      (h c main_arg7).trans (by simp only [ops, TRef.binary, TRef.ternary, TRef.nullary, TRef.unary, TRef.toBuf, TRef.ofBuf, cast_eq]; after_results_simp <;> rfl)⟩)
    (run_seq scopedRefs_eq scopedSems_eq defs main (fun _ => ops) main_eq (fun _ => ops_sub) m ρ)

end Cert.ReferenceAttIdeal.Att

end
-- ==== Proof.Places.lean ====
/- The grid's twenty points: which blocks each reads, and which path it takes. -/
module

public import proofs.«01_k».proof.Proof.Gen.KernelAttIdeal.Flash
public import Idealize.ShloMosaic.Lib.Pipeline.ValueKit

@[expose] public section

set_option maxRecDepth 16384

noncomputable section

open Idealize.ShloMosaic Idealize.ShloMosaic.TcCoe Idealize.SL.Sem

namespace Cert.KernelAttIdeal.Att

open Cert.KernelAttIdeal Cert.KernelAttIdeal.Gen

/-- The query block of the `p`-th pair. -/
def I (p : ℕ) : ℕ := (if 1 ≤ p then 1 else 0) + (if 3 ≤ p then 1 else 0) + (if 6 ≤ p then 1 else 0)

/-- The key block of the `p`-th pair. -/
def J (p : ℕ) : ℕ := p - ((if 1 ≤ p then 1 else 0) + (if 3 ≤ p then 2 else 0) + (if 6 ≤ p then 3 else 0))

theorem points : (cfgA 0).N = 20 := by decide +kernel

theorem fills : ∀ t : Fin (cfgA 0).N, P0_0 0 t ↔ J (t.val % 10) = 0 := by decide +kernel

theorem below : ∀ t : Fin (cfgA 0).N, P0_1 0 t ↔ J (t.val % 10) < I (t.val % 10) := by decide +kernel

theorem one_group : ∀ t : Fin (cfgA 0).N, BitVec.ofNat 32 (crd 0 t 1).val = 0#32 := by decide +kernel

theorem places0 : ∀ t : Fin (cfgA 0).N,
    cc0_transform_0 (F := Ideal) k0_off1_inb numel1_S1 (pfN 0) (crd 0 t) = ![4 * (t.val / 10) + I (t.val % 10), 0] := by
  decide +kernel

theorem places1 : ∀ t : Fin (cfgA 0).N,
    cc0_transform_1 (F := Ideal) k0_off1_inb numel1_S1 (pfN 0) (crd 0 t) = ![4 * (t.val / 10) + I (t.val % 10), 0] := by
  decide +kernel

theorem places2 : ∀ t : Fin (cfgA 0).N,
    cc0_transform_2 (F := Ideal) k0_off1_inb numel1_S1 (pfN 0) (crd 0 t) = ![4 * (t.val / 10) + J (t.val % 10), 0] := by
  decide +kernel

theorem places3 : ∀ t : Fin (cfgA 0).N,
    cc0_transform_3 (F := Ideal) k0_off1_inb numel1_S1 (pfN 0) (crd 0 t) = ![4 * (t.val / 10) + J (t.val % 10), 0] := by
  decide +kernel

theorem places4 : ∀ t : Fin (cfgA 0).N,
    cc0_transform_4 (F := Ideal) k0_off1_inb numel1_S1 (pfN 0) (crd 0 t) = ![4 * (t.val / 10) + J (t.val % 10), 0] := by
  decide +kernel

theorem places5 : ∀ t : Fin (cfgA 0).N,
    cc0_transform_5 (F := Ideal) k0_off1_inb numel1_S1 (pfN 0) (crd 0 t) = ![4 * (t.val / 10) + I (t.val % 10), 0] := by
  decide +kernel

theorem places6 : ∀ t : Fin (cfgA 0).N,
    cc0_transform_6 (F := Ideal) k0_off1_inb numel1_S1 (pfN 0) (crd 0 t) = ![4 * (t.val / 10) + I (t.val % 10), 0] := by
  decide +kernel

variable (m : (ℓ : Loc nD τ sig) → Buf (Elt Ideal) ℓ) (ρ : Dev nD → PrngReg) (c : Dev nD)

theorem block0 (t : Fin (cfgA 0).N) (r : Fin 1024) (e : Fin 1024) (k : Fin 8192)
    (hk : k.val = 1024 * (4 * (t.val / 10) + I (t.val % 10)) + r.val) :
    iblk 0 m ρ c 0 t (ix2 r e) = m ((c : Thread nD τ).loc main_arg2) (ix2 k e) := by
  refine congrArg (m ((c : Thread nD τ).loc main_arg2)) (funext fun a => Fin.ext ?_)
  fin_cases a
  · refine Eq.trans (b := cc0_transform_0 (F := Ideal) k0_off1_inb numel1_S1 (pfN 0) (crd 0 t) 0 * 1024 + 1 * r.val) rfl ?_
    rw [places0]
    show (4 * (t.val / 10) + I (t.val % 10)) * 1024 + 1 * r.val = k.val
    omega
  · refine Eq.trans (b := cc0_transform_0 (F := Ideal) k0_off1_inb numel1_S1 (pfN 0) (crd 0 t) 1 * 1024 + 1 * e.val) rfl ?_
    rw [places0]
    show 0 * 1024 + 1 * e.val = e.val
    omega

theorem block1 (t : Fin (cfgA 0).N) (r : Fin 1024) (e : Fin 128) (k : Fin 8192)
    (hk : k.val = 1024 * (4 * (t.val / 10) + I (t.val % 10)) + r.val) :
    iblk 0 m ρ c 1 t (ix2 r e) = m ((c : Thread nD τ).loc main_arg3) (ix2 k e) := by
  refine congrArg (m ((c : Thread nD τ).loc main_arg3)) (funext fun a => Fin.ext ?_)
  fin_cases a
  · refine Eq.trans (b := cc0_transform_1 (F := Ideal) k0_off1_inb numel1_S1 (pfN 0) (crd 0 t) 0 * 1024 + 1 * r.val) rfl ?_
    rw [places1]
    show (4 * (t.val / 10) + I (t.val % 10)) * 1024 + 1 * r.val = k.val
    omega
  · refine Eq.trans (b := cc0_transform_1 (F := Ideal) k0_off1_inb numel1_S1 (pfN 0) (crd 0 t) 1 * 128 + 1 * e.val) rfl ?_
    rw [places1]
    show 0 * 128 + 1 * e.val = e.val
    omega

theorem block2 (t : Fin (cfgA 0).N) (r : Fin 1024) (e : Fin 1024) (k : Fin 8192)
    (hk : k.val = 1024 * (4 * (t.val / 10) + J (t.val % 10)) + r.val) :
    iblk 0 m ρ c 2 t (ix2 r e) = m ((c : Thread nD τ).loc main_arg4) (ix2 k e) := by
  refine congrArg (m ((c : Thread nD τ).loc main_arg4)) (funext fun a => Fin.ext ?_)
  fin_cases a
  · refine Eq.trans (b := cc0_transform_2 (F := Ideal) k0_off1_inb numel1_S1 (pfN 0) (crd 0 t) 0 * 1024 + 1 * r.val) rfl ?_
    rw [places2]
    show (4 * (t.val / 10) + J (t.val % 10)) * 1024 + 1 * r.val = k.val
    omega
  · refine Eq.trans (b := cc0_transform_2 (F := Ideal) k0_off1_inb numel1_S1 (pfN 0) (crd 0 t) 1 * 1024 + 1 * e.val) rfl ?_
    rw [places2]
    show 0 * 1024 + 1 * e.val = e.val
    omega

theorem block3 (t : Fin (cfgA 0).N) (r : Fin 1024) (e : Fin 128) (k : Fin 8192)
    (hk : k.val = 1024 * (4 * (t.val / 10) + J (t.val % 10)) + r.val) :
    iblk 0 m ρ c 3 t (ix2 r e) = m ((c : Thread nD τ).loc main_arg5) (ix2 k e) := by
  refine congrArg (m ((c : Thread nD τ).loc main_arg5)) (funext fun a => Fin.ext ?_)
  fin_cases a
  · refine Eq.trans (b := cc0_transform_3 (F := Ideal) k0_off1_inb numel1_S1 (pfN 0) (crd 0 t) 0 * 1024 + 1 * r.val) rfl ?_
    rw [places3]
    show (4 * (t.val / 10) + J (t.val % 10)) * 1024 + 1 * r.val = k.val
    omega
  · refine Eq.trans (b := cc0_transform_3 (F := Ideal) k0_off1_inb numel1_S1 (pfN 0) (crd 0 t) 1 * 128 + 1 * e.val) rfl ?_
    rw [places3]
    show 0 * 128 + 1 * e.val = e.val
    omega

theorem block4 (t : Fin (cfgA 0).N) (r : Fin 1024) (e : Fin 1024) (k : Fin 8192)
    (hk : k.val = 1024 * (4 * (t.val / 10) + J (t.val % 10)) + r.val) :
    iblk 0 m ρ c 4 t (ix2 r e) = m ((c : Thread nD τ).loc main_arg6) (ix2 k e) := by
  refine congrArg (m ((c : Thread nD τ).loc main_arg6)) (funext fun a => Fin.ext ?_)
  fin_cases a
  · refine Eq.trans (b := cc0_transform_4 (F := Ideal) k0_off1_inb numel1_S1 (pfN 0) (crd 0 t) 0 * 1024 + 1 * r.val) rfl ?_
    rw [places4]
    show (4 * (t.val / 10) + J (t.val % 10)) * 1024 + 1 * r.val = k.val
    omega
  · refine Eq.trans (b := cc0_transform_4 (F := Ideal) k0_off1_inb numel1_S1 (pfN 0) (crd 0 t) 1 * 1024 + 1 * e.val) rfl ?_
    rw [places4]
    show 0 * 1024 + 1 * e.val = e.val
    omega

theorem block5 (t : Fin (cfgA 0).N) (r : Fin 1024) (e : Fin 1024) (k : Fin 8192)
    (hk : k.val = 1024 * (4 * (t.val / 10) + I (t.val % 10)) + r.val) :
    iblk 0 m ρ c 5 t (ix2 r e) = m ((c : Thread nD τ).loc main_arg7) (ix2 k e) := by
  refine congrArg (m ((c : Thread nD τ).loc main_arg7)) (funext fun a => Fin.ext ?_)
  fin_cases a
  · refine Eq.trans (b := cc0_transform_5 (F := Ideal) k0_off1_inb numel1_S1 (pfN 0) (crd 0 t) 0 * 1024 + 1 * r.val) rfl ?_
    rw [places5]
    show (4 * (t.val / 10) + I (t.val % 10)) * 1024 + 1 * r.val = k.val
    omega
  · refine Eq.trans (b := cc0_transform_5 (F := Ideal) k0_off1_inb numel1_S1 (pfN 0) (crd 0 t) 1 * 1024 + 1 * e.val) rfl ?_
    rw [places5]
    show 0 * 1024 + 1 * e.val = e.val
    omega

end Cert.KernelAttIdeal.Att

end
-- ==== Proof.Heads.lean ====
/- One head of the attention block: the scores of a block of keys and queries, and the running sums they update. -/
module

public import proofs.«01_k».proof.Proof.Softmax
public import proofs.«01_k».proof.Proof.Gen.KernelAttIdeal.Skeleton

@[expose] public section

set_option maxRecDepth 16384

noncomputable section

open Idealize.ShloMosaic Idealize.ShloMosaic.TcCoe Idealize.SL.Sem

namespace Cert.KernelAttIdeal.Att

open Cert.KernelAttIdeal Cert.KernelAttIdeal.Gen

/-- The 128 lanes of the score correction. -/
def lane : IVec S1x128 32 := iota Kind.tc S1x128 32 [1] iota_S1x128_d1_w32

/-- The group of eight a lane is in, rounded down. -/
def group : IVec S1x128 32 :=
  select
    (andi
      (cmpi .ne
        (subi (extui 32 (cmpi .sgt lane (broadcast S1x128 0#32)) natLt_1_32) (extui 32 (cmpi .slt lane (broadcast S1x128 0#32)) natLt_1_32))
        (broadcast S1x128 (Scalar.subi (Scalar.extui (Scalar.cmpi .sgt 8#32 0#32)) (Scalar.extui (Scalar.cmpi .slt 8#32 0#32)))))
      (cmpi .ne (remsi lane (broadcast S1x128 8#32)) (broadcast S1x128 0#32)))
    (subi (divsi lane (broadcast S1x128 8#32)) (broadcast S1x128 1#32))
    (divsi lane (broadcast S1x128 8#32))

/-- The lanes of head `h` in head group `b`. -/
def mine (b h : BitVec 32) : IVec S1x128 1 := cmpi .eq group (broadcast S1x128 (Scalar.addi (Scalar.muli b 8#32) h))

/-- The lanes of head `h` are its eight. -/
theorem mine_at : ∀ (h : Fin 8) (a : Fin 128), mine 0#32 (BitVec.ofNat 32 h.val) (ix2 0 a) = if a.val / 8 = h.val then 1#1 else 0#1 := by
  decide +kernel

variable (M : IVec S1x128 1)

/-- The lanes of one head of a block of corrections, zero at the others. -/
def only (x : Vec Ideal S1024x128 .bf16) : Vec Ideal S1024x128 .bf16 :=
  select (broadcastTo S1024x128 (shapeCast S1x128 M shapeCasts_S1x128_S1x128) broadcasts_S1x128_S1024x128) x
    (broadcast S1024x128 (Scalar.ofBits .bf16 0x0000#16 : Ideal .bf16))

/-- The same for half a block. -/
def onlyHalf (x : Vec Ideal S512x128 .bf16) : Vec Ideal S512x128 .bf16 :=
  select (broadcastTo S512x128 (shapeCast S1x128 M shapeCasts_S1x128_S1x128) broadcasts_S1x128_S512x128) x
    (broadcast S512x128 (Scalar.ofBits .bf16 0x0000#16 : Ideal .bf16))

/-- A block's queries beside their corrections. -/
def beside (q qa : Vec Ideal S1024x128 .bf16) : FVec Ideal S1024x256 .bf16 :=
  concatenate S1024x256 1 [⟨S1024x128, q⟩, ⟨S1024x128, only M qa⟩] concatenates_S1024x128_S1024x128_S1024x256_d1

/-- The scores of a block of 1024 keys. -/
def full (q qa k ka : Vec Ideal S1024x128 .bf16) : FVec Ideal S1024x1024 .f32 := k0_pay10 (beside M q qa) k (only M ka)

/-- The scores of the first 512 keys of the block on the diagonal. -/
def early (q qa : Vec Ideal S1024x128 .bf16) (k ka : Vec Ideal S512x128 .bf16) : FVec Ideal S512x1024 .f32 :=
  k0_pay100 (beside M q qa) k (onlyHalf M ka)

/-- The scores of its last 512 keys and queries. -/
def late (q qa k ka : Vec Ideal S512x128 .bf16) : FVec Ideal S512x512 .f32 :=
  k0_pay103 M q qa (Scalar.ofBits .bf16 0x0000#16) (shapeCast S1x128 M shapeCasts_S1x128_S1x128) k ka

/-- A score: the product of the key and the query, and of their corrections in the head's lanes. -/
def dots (k q : Fin 128 → EReal) (ka qa : Fin 128 → EReal) : EReal :=
  ∑ d : Fin 128, k d * q d + ∑ a : Fin 128, (if M (ix2 0 a) = 1#1 then ka a else 0) * (if M (ix2 0 a) = 1#1 then qa a else 0)

theorem only_at (x : Vec Ideal S1024x128 .bf16) (r : Fin 1024) (a : Fin 128) : only M x (ix2 r a) = if M (ix2 0 a) = 1#1 then x (ix2 r a) else 0 := by
  unfold only
  pointwise
  rfl

theorem onlyHalf_at (x : Vec Ideal S512x128 .bf16) (r : Fin 512) (a : Fin 128) : onlyHalf M x (ix2 r a) = if M (ix2 0 a) = 1#1 then x (ix2 r a) else 0 := by
  unfold onlyHalf
  pointwise
  rfl

theorem full_at (q qa k ka : Vec Ideal S1024x128 .bf16) (r p : Fin 1024) :
    full M q qa k ka (ix2 r p) = dots M (fun d => k (ix2 r d)) (fun d => q (ix2 p d)) (fun d => ka (ix2 r d)) (fun d => qa (ix2 p d)) := by
  unfold full beside dots
  obtain ⟨A, hA⟩ : ∃ A, only M ka = A := ⟨_, rfl⟩
  obtain ⟨B, hB⟩ : ∃ B, only M qa = B := ⟨_, rfl⟩
  rw [hA, hB]
  have e : ∀ a : Fin 128, (if M (ix2 0 a) = 1#1 then ka (ix2 r a) else 0) * (if M (ix2 0 a) = 1#1 then qa (ix2 p a) else 0) = A (ix2 r a) * B (ix2 p a) :=
    fun a => by rw [← hA, ← hB, only_at, only_at]
  simp only [e]
  clear e hA hB
  pointwise [k0_pay10]

/-- The mask of a block on the diagonal, decided on the numbers. -/
theorem causal (o r p : Nat) (ho : o < 1024) (hr : r < 1024) (hp : p < 1024) (x : EReal) :
    Scalar.select (IntOp.cmpi .sge (IntOp.addi (BitVec.ofNat 32 p) (BitVec.ofNat 32 o)) (IntOp.addi (BitVec.ofNat 32 r) (BitVec.ofNat 32 o))) x
      (Ideal.ofBits .f32 4286578688#32) = if r ≤ p then x else ⊥ := by
  have hb : Ideal.ofBits .f32 4286578688#32 = ⊥ := by
    simp [Ideal.ofBits, Ideal.ieee]
  have hc : IntOp.cmpi .sge (IntOp.addi (BitVec.ofNat 32 p) (BitVec.ofNat 32 o)) (IntOp.addi (BitVec.ofNat 32 r) (BitVec.ofNat 32 o))
      = BitVec.ofBool (decide (r ≤ p)) := by
    unfold IntOp.cmpi IntOp.addi
    simp only [← BitVec.ofNat_add]
    congr 1
    rw [Bool.eq_iff_iff]
    have t : ∀ n < 2048, (BitVec.ofNat 32 n).toInt = n := fun n hn => by
      rw [BitVec.toInt_eq_toNat_of_lt (by rw [BitVec.toNat_ofNat]; omega), BitVec.toNat_ofNat]; omega
    simp only [decide_eq_true_eq, BitVec.sle_iff_toInt_le, t (r + o) (by omega), t (p + o) (by omega)]
    omega
  rw [hb, hc]
  by_cases h : r ≤ p <;> simp [Scalar.select, h]

theorem early_at (q qa : Vec Ideal S1024x128 .bf16) (k ka : Vec Ideal S512x128 .bf16) (r : Fin 512) (p : Fin 1024) :
    early M q qa k ka (ix2 r p)
      = if r.val ≤ p.val then dots M (fun d => k (ix2 r d)) (fun d => q (ix2 p d)) (fun d => ka (ix2 r d)) (fun d => qa (ix2 p d)) else ⊥ := by
  unfold early beside dots
  obtain ⟨A, hA⟩ : ∃ A, onlyHalf M ka = A := ⟨_, rfl⟩
  obtain ⟨B, hB⟩ : ∃ B, only M qa = B := ⟨_, rfl⟩
  rw [hA, hB]
  have e : ∀ a : Fin 128, (if M (ix2 0 a) = 1#1 then ka (ix2 r a) else 0) * (if M (ix2 0 a) = 1#1 then qa (ix2 p a) else 0) = A (ix2 r a) * B (ix2 p a) :=
    fun a => by rw [← hA, ← hB, onlyHalf_at, only_at]
  simp only [e]
  clear e hA hB
  rw [← causal 0 r.val p.val (by omega) (by omega) (by omega)]
  pointwise [k0_pay100]

theorem late_at (q qa k ka : Vec Ideal S512x128 .bf16) (r p : Fin 512) :
    late M q qa k ka (ix2 r p)
      = if r.val ≤ p.val then dots M (fun d => k (ix2 r d)) (fun d => q (ix2 p d)) (fun d => ka (ix2 r d)) (fun d => qa (ix2 p d)) else ⊥ := by
  unfold late dots
  rw [← causal 512 r.val p.val (by omega) (by omega) (by omega)]
  have e : ∀ a : Fin 128, (if M (ix2 0 a) = 1#1 then ka (ix2 r a) else 0) * (if M (ix2 0 a) = 1#1 then qa (ix2 p a) else 0)
      = Scalar.select (M (ix2 0 a)) (Scalar.select (M (ix2 0 a)) (ka (ix2 r a) * qa (ix2 p a)) 0) 0 :=
    fun a => by by_cases h : M (ix2 0 a) = 1#1 <;> simp [Scalar.select, h]
  simp only [e]
  pointwise [k0_pay103]

end Cert.KernelAttIdeal.Att

end
-- ==== Proof.Inputs.lean ====
/- What a grid point reads: a head's columns of a block, the corrections whole, a head's row of the running sums. -/
module

public import proofs.«01_k».proof.Proof.Heads
public import Idealize.ShloMosaic.Lib.Pipeline.ValueKit

@[expose] public section

noncomputable section

open Idealize.ShloMosaic Idealize.ShloMosaic.TcCoe Idealize.SL.Sem

namespace Cert.KernelAttIdeal.Att

open Cert.KernelAttIdeal Cert.KernelAttIdeal.Gen

theorem inb_cols (h : Fin 8) : ∀ a : Fin 2, (![0, 128 * h.val] : Fin 2 → ℕ) a + S1024x128.size a ≤ S1024x1024.size a := by
  revert h; decide

theorem inb_all : ∀ a : Fin 2, (![0, 0] : Fin 2 → ℕ) a + S1024x128.size a ≤ S1024x128.size a := by decide

theorem inb_row (h : Fin 8) : ∀ a : Fin 3, (![h.val, 0, 0] : Fin 3 → ℕ) a + S1x1x1024.size a ≤ S8x1x1024.size a := by
  revert h; decide

theorem inb_rows (h : Fin 8) : ∀ a : Fin 3, (![h.val, 0, 0] : Fin 3 → ℕ) a + S1x128x1024.size a ≤ S8x128x1024.size a := by
  revert h; decide

/-- The columns of head `h`. -/
def cols (h : Fin 8) (x : S1024x1024.Idx → Elt Ideal .bf16) : Vec Ideal S1024x128 .bf16 :=
  fun y => x ((Rect.unit (s := S1024x1024) ![0, 128 * h.val] S1024x128.size (inb_cols h)).toLoadRect.idx y)

/-- The corrections, every head's. -/
def all (x : S1024x128.Idx → Elt Ideal .bf16) : Vec Ideal S1024x128 .bf16 :=
  fun y => x ((Rect.unit (s := S1024x128) ![0, 0] S1024x128.size inb_all).toLoadRect.idx y)

/-- The row of head `h`. -/
def row (h : Fin 8) (x : S8x1x1024.Idx → Elt Ideal .f32) : Vec Ideal S1x1x1024 .f32 :=
  fun y => x ((Rect.unit (s := S8x1x1024) ![h.val, 0, 0] S1x1x1024.size (inb_row h)).toLoadRect.idx y)

/-- The accumulator of head `h`. -/
def rows (h : Fin 8) (x : S8x128x1024.Idx → Elt Ideal .f32) : Vec Ideal S1x128x1024 .f32 :=
  fun y => x ((Rect.unit (s := S8x128x1024) ![h.val, 0, 0] S1x128x1024.size (inb_rows h)).toLoadRect.idx y)

/-- The lanes of head `h` at a grid point's head group. -/
def own (b : BitVec 32) (h : Fin 8) : IVec S1x128 1 := mine b (BitVec.ofNat 32 h.val)

/-- What writes leave in the maxima's buffer. -/
theorem left0 (L : List (View.Piece (Elt Ideal) S8x1x1024 .f32)) (y : S8x1x1024.Idx) :
    (View.whole cc0_scratch0).writes (Elt Ideal) (View.whole cc0_scratch0).junk L y = View.canon L y :=
  congrFun (View.read_writes_junk_eq_canon (View.whole cc0_scratch0) L) y

/-- What writes leave in the sums' buffer. -/
theorem left1 (L : List (View.Piece (Elt Ideal) S8x1x1024 .f32)) (y : S8x1x1024.Idx) :
    (View.whole cc0_scratch1).writes (Elt Ideal) (View.whole cc0_scratch1).junk L y = View.canon L y :=
  congrFun (View.read_writes_junk_eq_canon (View.whole cc0_scratch1) L) y

/-- What writes leave in the accumulators' buffer. -/
theorem left2 (L : List (View.Piece (Elt Ideal) S8x128x1024 .f32)) (y : S8x128x1024.Idx) :
    (View.whole cc0_scratch2).writes (Elt Ideal) (View.whole cc0_scratch2).junk L y = View.canon L y :=
  congrFun (View.read_writes_junk_eq_canon (View.whole cc0_scratch2) L) y

end Cert.KernelAttIdeal.Att

end
-- ==== Proof.Diagonal.lean ====
/- The block on the diagonal in two halves: every query with the first 512 keys, then the last 512 queries with the last. -/
module

public import proofs.«01_k».proof.Proof.Inputs
public import proofs.«01_k».proof.Proof.Gen.KernelAttIdeal.Flash.Runs

@[expose] public section

noncomputable section

open Idealize.ShloMosaic Idealize.ShloMosaic.TcCoe Idealize.SL.Sem

namespace Cert.KernelAttIdeal.Att

open Cert.KernelAttIdeal Cert.KernelAttIdeal.Gen

theorem inb_half (o : Fin 2) (h : Fin 8) :
    ∀ a : Fin 2, (![512 * o.val, 128 * h.val] : Fin 2 → ℕ) a + S512x128.size a ≤ S1024x1024.size a := by
  revert o h; decide

theorem inb_allHalf (o : Fin 2) : ∀ a : Fin 2, (![512 * o.val, 0] : Fin 2 → ℕ) a + S512x128.size a ≤ S1024x128.size a := by
  revert o; decide

/-- Half the rows of the columns of head `h`. -/
def colsHalf (o : Fin 2) (h : Fin 8) (x : S1024x1024.Idx → Elt Ideal .bf16) : Vec Ideal S512x128 .bf16 :=
  fun y => x ((Rect.unit (s := S1024x1024) ![512 * o.val, 128 * h.val] S512x128.size (inb_half o h)).toLoadRect.idx y)

/-- Half the rows of the corrections. -/
def allHalf (o : Fin 2) (x : S1024x128.Idx → Elt Ideal .bf16) : Vec Ideal S512x128 .bf16 :=
  fun y => x ((Rect.unit (s := S1024x128) ![512 * o.val, 0] S512x128.size (inb_allHalf o)).toLoadRect.idx y)

/-- The last 512 queries' part of a head's row. -/
def tailRow (x : Vec Ideal S1x1x1024 .f32) : Vec Ideal S1x1x512 .f32 :=
  fun y => x (ix3 0 0 (⟨512 + (y 2).val, by have : (y 2).val < 512 := (y 2).isLt; omega⟩ : Fin 1024))

/-- The last 512 queries' part of a head's accumulator. -/
def tailRows (x : Vec Ideal S1x128x1024 .f32) : Vec Ideal S1x128x512 .f32 :=
  fun y => x (ix3 0 (⟨(y 1).val, (y 1).isLt⟩ : Fin 128) (⟨512 + (y 2).val, by have : (y 2).val < 512 := (y 2).isLt; omega⟩ : Fin 1024))

/-- A head's row, its last 512 entries replaced. -/
def joinRow (x : Vec Ideal S1x1x1024 .f32) (z : Vec Ideal S1x1x512 .f32) : Vec Ideal S1x1x1024 .f32 :=
  fun y => if (y 2).val < 512 then x y
    else z (ix3 0 0 (⟨(y 2).val - 512, by have : (y 2).val < 1024 := (y 2).isLt; omega⟩ : Fin 512))

/-- A head's accumulator, its last 512 columns replaced. -/
def joinRows (x : Vec Ideal S1x128x1024 .f32) (z : Vec Ideal S1x128x512 .f32) : Vec Ideal S1x128x1024 .f32 :=
  fun y => if (y 2).val < 512 then x y
    else z (ix3 0 (⟨(y 1).val, (y 1).isLt⟩ : Fin 128) (⟨(y 2).val - 512, by have : (y 2).val < 1024 := (y 2).isLt; omega⟩ : Fin 512))

variable (b : BitVec 32) (h : Fin 8) (x0 : S1024x1024.Idx → Elt Ideal .bf16) (x1 : S1024x128.Idx → Elt Ideal .bf16)
  (x2 : S1024x1024.Idx → Elt Ideal .bf16) (x3 : S1024x128.Idx → Elt Ideal .bf16) (x4 : S1024x1024.Idx → Elt Ideal .bf16)
  (m l : Vec Ideal S1x1x1024 .f32) (a : Vec Ideal S1x128x1024 .f32)

/-- The scores of the first 512 keys. -/
def earlyScores : FVec Ideal S512x1024 .f32 := early (own b h) (cols h x0) (all x1) (colsHalf 0 h x2) (allHalf 0 x3)

/-- The scores of the last 512 keys and queries. -/
def lateScores : FVec Ideal S512x512 .f32 := late (own b h) (colsHalf 1 h x0) (allHalf 1 x1) (colsHalf 1 h x2) (allHalf 1 x3)

def earlyMax : Vec Ideal S1x1x1024 .f32 := k0_pay110 (k0_pay105 (earlyScores b h x0 x1 x2 x3) m)
def earlySum : Vec Ideal S1x1x1024 .f32 := k0_pay108 (earlyScores b h x0 x1 x2 x3) m l
def earlyAcc : Vec Ideal S1x128x1024 .f32 :=
  k0_pay109 (k0_pay106 (earlyScores b h x0 x1 x2 x3) m) (k0_pay107 (earlyScores b h x0 x1 x2 x3) m) a (colsHalf 0 h x4)

def lateSum : Vec Ideal S1x1x512 .f32 :=
  k0_pay276 (k0_pay274 (lateScores b h x0 x1 x2 x3) (tailRow (earlyMax b h x0 x1 x2 x3 m)))
    (k0_pay275 (lateScores b h x0 x1 x2 x3) (tailRow (earlyMax b h x0 x1 x2 x3 m))) (tailRow (earlySum b h x0 x1 x2 x3 m l))
def lateAcc : Vec Ideal S1x128x512 .f32 :=
  k0_pay277 (k0_pay274 (lateScores b h x0 x1 x2 x3) (tailRow (earlyMax b h x0 x1 x2 x3 m)))
    (k0_pay275 (lateScores b h x0 x1 x2 x3) (tailRow (earlyMax b h x0 x1 x2 x3 m))) (tailRows (earlyAcc b h x0 x1 x2 x3 x4 m a)) (colsHalf 1 h x4)

/-- A head's sums after the block. -/
def lastSum : Vec Ideal S1x1x1024 .f32 := joinRow (earlySum b h x0 x1 x2 x3 m l) (lateSum b h x0 x1 x2 x3 m l)

/-- A head's accumulators after the block. -/
def lastAcc : Vec Ideal S1x128x1024 .f32 := joinRows (earlyAcc b h x0 x1 x2 x3 x4 m a) (lateAcc b h x0 x1 x2 x3 x4 m a)

/-- What writes leave in the output block. -/
theorem leftOut (L : List (View.Piece (Elt Ideal) S1024x1024 .bf16)) (y : S1024x1024.Idx) :
    VO0_6.read (Elt Ideal) (VO0_6.writes (Elt Ideal) VO0_6.junk L) y = View.canon L y :=
  congrFun (View.read_writes_junk_eq_canon VO0_6 L) y

end Cert.KernelAttIdeal.Att

end
-- ==== Proof.Fold.lean ====
/- A reduction to the maximum, from −∞, as a supremum. -/
module

public import proofs.«01_k».proof.Proof.Heads
public import Idealize.ShloMosaic.Lib.Pipeline.ValueKit

@[expose] public section

set_option maxRecDepth 16384

noncomputable section

open Idealize.ShloMosaic Idealize.ShloMosaic.TcCoe Idealize.SL.Sem
open Cert.Softmax

namespace Cert.KernelAttIdeal.Att

open Cert.KernelAttIdeal Cert.KernelAttIdeal.Gen

theorem bot_word : Ideal.ofBits .f32 4286578688#32 = ⊥ := by
  simp [Ideal.ofBits, Ideal.ieee]

/-- A fold of `max` from −∞ is the supremum. -/
theorem fold_sup {w : Nat} (f : Fin w → EReal) : Finset.fold max (Ideal.ofBits .f32 4286578688#32) f Finset.univ = Finset.univ.sup f := by
  rw [bot_word]; rfl

end Cert.KernelAttIdeal.Att

end
-- ==== Proof.FullStep.lean ====
/- Absorbing a block of 1024 keys: the running maximum, the running sum and the accumulator of one head after it. -/
module

public import proofs.«01_k».proof.Proof.Fold
public import Idealize.ShloMosaic.Lib.Pipeline.ValueKit

@[expose] public section

set_option maxRecDepth 16384

noncomputable section

open Idealize.ShloMosaic Idealize.ShloMosaic.TcCoe Idealize.SL.Sem
open Cert.Softmax

namespace Cert.KernelAttIdeal.Att

open Cert.KernelAttIdeal Cert.KernelAttIdeal.Gen

section Full

variable (S : FVec Ideal S1024x1024 .f32) (m l : Vec Ideal S1x1x1024 .f32) (a : Vec Ideal S1x128x1024 .f32) (v : Vec Ideal S1024x128 .bf16)

theorem full_max_at (p : Fin 1024) :
    k0_pay16 S m (ix2 0 p) = max (m (ix3 0 0 p)) (Finset.univ.sup fun r : Fin 1024 => S (ix2 r p)) := by
  rw [← fold_sup]
  pointwise [k0_pay16, k0_pay15]

theorem full_cast_at (N : FVec Ideal S1x1024 .f32) (p : Fin 1024) : k0_pay21 N (ix3 0 0 p) = N (ix2 0 p) := by
  pointwise [k0_pay21]

theorem full_fade_at (p : Fin 1024) : k0_pay17 S m (ix2 0 p) = weight (m (ix3 0 0 p)) (k0_pay16 S m (ix2 0 p)) := by
  unfold k0_pay17
  generalize k0_pay16 S m = N
  pointwise [k0_pay15]
  rfl

theorem full_weight_at (r p : Fin 1024) : k0_pay18 S m (ix2 r p) = weight (S (ix2 r p)) (k0_pay16 S m (ix2 0 p)) := by
  unfold k0_pay18
  generalize k0_pay16 S m = N
  pointwise
  rfl

theorem full_sum_at (p : Fin 1024) :
    k0_pay19 S m l (ix3 0 0 p) = k0_pay17 S m (ix2 0 p) * l (ix3 0 0 p) + ∑ r : Fin 1024, k0_pay18 S m (ix2 r p) := by
  unfold k0_pay19
  generalize k0_pay17 S m = N
  generalize k0_pay18 S m = W
  pointwise

theorem full_acc_at (d : Fin 128) (p : Fin 1024) :
    k0_pay20 S m a v (ix3 0 d p) = k0_pay17 S m (ix2 0 p) * a (ix3 0 d p) + ∑ r : Fin 1024, v (ix2 r d) * k0_pay18 S m (ix2 r p) := by
  unfold k0_pay20
  generalize k0_pay17 S m = N
  generalize k0_pay18 S m = W
  pointwise

variable (s u : ℕ → EReal) (n : ℕ)

/-- The running maximum after the block. -/
theorem full_max {p : Fin 1024} (hm : m (ix3 0 0 p) = top s n) (hs : ∀ r : Fin 1024, S (ix2 r p) = s (n + r)) :
    k0_pay21 (k0_pay16 S m) (ix3 0 0 p) = top s (n + 1024) := by
  rw [full_cast_at, full_max_at, hm, top_add]
  simp only [hs]

/-- The running sum after the block. -/
theorem full_sum {p : Fin 1024} (hm : m (ix3 0 0 p) = top s n) (hs : ∀ r : Fin 1024, S (ix2 r p) = s (n + r))
    (hl : l (ix3 0 0 p) = total s (fun _ => 1) (top s n) n) :
    k0_pay19 S m l (ix3 0 0 p) = total s (fun _ => 1) (top s (n + 1024)) (n + 1024) := by
  have e : k0_pay16 S m (ix2 0 p) = top s (n + 1024) := (full_cast_at _ p).symm.trans (full_max S m s n hm hs)
  rw [full_sum_at, full_fade_at, hl, hm, e, total_add]
  simp only [full_weight_at, hs, e, one_mul]

/-- The accumulator after the block. -/
theorem full_acc {p : Fin 1024} (d : Fin 128) (hm : m (ix3 0 0 p) = top s n) (hs : ∀ r : Fin 1024, S (ix2 r p) = s (n + r))
    (ha : a (ix3 0 d p) = total s u (top s n) n) (hv : ∀ r : Fin 1024, v (ix2 r d) = u (n + r)) :
    k0_pay20 S m a v (ix3 0 d p) = total s u (top s (n + 1024)) (n + 1024) := by
  have e : k0_pay16 S m (ix2 0 p) = top s (n + 1024) := (full_cast_at _ p).symm.trans (full_max S m s n hm hs)
  rw [full_acc_at, full_fade_at, ha, hm, e, total_add]
  simp only [full_weight_at, hs, hv, e]

end Full

end Cert.KernelAttIdeal.Att

end
-- ==== Proof.EarlyStep.lean ====
/- Absorbing the first 512 keys of the block on the diagonal, for all its queries. -/
module

public import proofs.«01_k».proof.Proof.Fold
public import Idealize.ShloMosaic.Lib.Pipeline.ValueKit

@[expose] public section

set_option maxRecDepth 16384

noncomputable section

open Idealize.ShloMosaic Idealize.ShloMosaic.TcCoe Idealize.SL.Sem
open Cert.Softmax

namespace Cert.KernelAttIdeal.Att

open Cert.KernelAttIdeal Cert.KernelAttIdeal.Gen

section Early

variable (S : FVec Ideal S512x1024 .f32) (m l : Vec Ideal S1x1x1024 .f32) (a : Vec Ideal S1x128x1024 .f32) (v : Vec Ideal S512x128 .bf16)

theorem early_max_at (p : Fin 1024) :
    k0_pay105 S m (ix2 0 p) = max (m (ix3 0 0 p)) (Finset.univ.sup fun r : Fin 512 => S (ix2 r p)) := by
  rw [← fold_sup]
  pointwise [k0_pay105, k0_pay104]

theorem early_cast_at (N : FVec Ideal S1x1024 .f32) (p : Fin 1024) : k0_pay110 N (ix3 0 0 p) = N (ix2 0 p) := by
  pointwise [k0_pay110]

theorem early_fade_at (p : Fin 1024) : k0_pay106 S m (ix2 0 p) = weight (m (ix3 0 0 p)) (k0_pay105 S m (ix2 0 p)) := by
  unfold k0_pay106
  generalize k0_pay105 S m = N
  pointwise [k0_pay104]
  rfl

theorem early_weight_at (r : Fin 512) (p : Fin 1024) : k0_pay107 S m (ix2 r p) = weight (S (ix2 r p)) (k0_pay105 S m (ix2 0 p)) := by
  unfold k0_pay107
  generalize k0_pay105 S m = N
  pointwise
  rfl

theorem early_sum_at (p : Fin 1024) :
    k0_pay108 S m l (ix3 0 0 p) = k0_pay106 S m (ix2 0 p) * l (ix3 0 0 p) + ∑ r : Fin 512, k0_pay107 S m (ix2 r p) := by
  unfold k0_pay108
  generalize k0_pay106 S m = N
  generalize k0_pay107 S m = W
  pointwise

theorem early_acc_at (d : Fin 128) (p : Fin 1024) :
    k0_pay109 (k0_pay106 S m) (k0_pay107 S m) a v (ix3 0 d p) = k0_pay106 S m (ix2 0 p) * a (ix3 0 d p) + ∑ r : Fin 512, v (ix2 r d) * k0_pay107 S m (ix2 r p) := by
  unfold k0_pay109
  generalize k0_pay106 S m = N
  generalize k0_pay107 S m = W
  pointwise

variable (s u : ℕ → EReal) (n : ℕ)

/-- The running maximum after the block. -/
theorem early_max {p : Fin 1024} (hm : m (ix3 0 0 p) = top s n) (hs : ∀ r : Fin 512, S (ix2 r p) = s (n + r)) :
    k0_pay110 (k0_pay105 S m) (ix3 0 0 p) = top s (n + 512) := by
  rw [early_cast_at, early_max_at, hm, top_add]
  simp only [hs]

/-- The running sum after the block. -/
theorem early_sum {p : Fin 1024} (hm : m (ix3 0 0 p) = top s n) (hs : ∀ r : Fin 512, S (ix2 r p) = s (n + r))
    (hl : l (ix3 0 0 p) = total s (fun _ => 1) (top s n) n) :
    k0_pay108 S m l (ix3 0 0 p) = total s (fun _ => 1) (top s (n + 512)) (n + 512) := by
  have e : k0_pay105 S m (ix2 0 p) = top s (n + 512) := (early_cast_at _ p).symm.trans (early_max S m s n hm hs)
  rw [early_sum_at, early_fade_at, hl, hm, e, total_add]
  simp only [early_weight_at, hs, e, one_mul]

/-- The accumulator after the block. -/
theorem early_acc {p : Fin 1024} (d : Fin 128) (hm : m (ix3 0 0 p) = top s n) (hs : ∀ r : Fin 512, S (ix2 r p) = s (n + r))
    (ha : a (ix3 0 d p) = total s u (top s n) n) (hv : ∀ r : Fin 512, v (ix2 r d) = u (n + r)) :
    k0_pay109 (k0_pay106 S m) (k0_pay107 S m) a v (ix3 0 d p) = total s u (top s (n + 512)) (n + 512) := by
  have e : k0_pay105 S m (ix2 0 p) = top s (n + 512) := (early_cast_at _ p).symm.trans (early_max S m s n hm hs)
  rw [early_acc_at, early_fade_at, ha, hm, e, total_add]
  simp only [early_weight_at, hs, hv, e]

end Early

end Cert.KernelAttIdeal.Att

end
-- ==== Proof.LateStep.lean ====
/- Absorbing the last 512 keys of the block on the diagonal, for its last 512 queries. -/
module

public import proofs.«01_k».proof.Proof.Fold
public import Idealize.ShloMosaic.Lib.Pipeline.ValueKit

@[expose] public section

set_option maxRecDepth 16384

noncomputable section

open Idealize.ShloMosaic Idealize.ShloMosaic.TcCoe Idealize.SL.Sem
open Cert.Softmax

namespace Cert.KernelAttIdeal.Att

open Cert.KernelAttIdeal Cert.KernelAttIdeal.Gen

section Late

variable (S : FVec Ideal S512x512 .f32) (m l : Vec Ideal S1x1x512 .f32) (a : Vec Ideal S1x128x512 .f32) (v : Vec Ideal S512x128 .bf16)

theorem late_max_at (p : Fin 512) :
    k0_pay273 S m (ix2 0 p) = max (m (ix3 0 0 p)) (Finset.univ.sup fun r : Fin 512 => S (ix2 r p)) := by
  rw [← fold_sup]
  pointwise [k0_pay273, k0_pay272]

theorem late_cast_at (N : FVec Ideal S1x512 .f32) (p : Fin 512) : k0_pay278 N (ix3 0 0 p) = N (ix2 0 p) := by
  pointwise [k0_pay278]

theorem late_fade_at (p : Fin 512) : k0_pay274 S m (ix2 0 p) = weight (m (ix3 0 0 p)) (k0_pay273 S m (ix2 0 p)) := by
  unfold k0_pay274
  generalize k0_pay273 S m = N
  pointwise [k0_pay272]
  rfl

theorem late_weight_at (r p : Fin 512) : k0_pay275 S m (ix2 r p) = weight (S (ix2 r p)) (k0_pay273 S m (ix2 0 p)) := by
  unfold k0_pay275
  generalize k0_pay273 S m = N
  pointwise
  rfl

theorem late_sum_at (p : Fin 512) :
    k0_pay276 (k0_pay274 S m) (k0_pay275 S m) l (ix3 0 0 p) = k0_pay274 S m (ix2 0 p) * l (ix3 0 0 p) + ∑ r : Fin 512, k0_pay275 S m (ix2 r p) := by
  unfold k0_pay276
  generalize k0_pay274 S m = N
  generalize k0_pay275 S m = W
  pointwise

theorem late_acc_at (d : Fin 128) (p : Fin 512) :
    k0_pay277 (k0_pay274 S m) (k0_pay275 S m) a v (ix3 0 d p) = k0_pay274 S m (ix2 0 p) * a (ix3 0 d p) + ∑ r : Fin 512, v (ix2 r d) * k0_pay275 S m (ix2 r p) := by
  unfold k0_pay277
  generalize k0_pay274 S m = N
  generalize k0_pay275 S m = W
  pointwise

variable (s u : ℕ → EReal) (n : ℕ)

/-- The running maximum after the block. -/
theorem late_max {p : Fin 512} (hm : m (ix3 0 0 p) = top s n) (hs : ∀ r : Fin 512, S (ix2 r p) = s (n + r)) :
    k0_pay278 (k0_pay273 S m) (ix3 0 0 p) = top s (n + 512) := by
  rw [late_cast_at, late_max_at, hm, top_add]
  simp only [hs]

/-- The running sum after the block. -/
theorem late_sum {p : Fin 512} (hm : m (ix3 0 0 p) = top s n) (hs : ∀ r : Fin 512, S (ix2 r p) = s (n + r))
    (hl : l (ix3 0 0 p) = total s (fun _ => 1) (top s n) n) :
    k0_pay276 (k0_pay274 S m) (k0_pay275 S m) l (ix3 0 0 p) = total s (fun _ => 1) (top s (n + 512)) (n + 512) := by
  have e : k0_pay273 S m (ix2 0 p) = top s (n + 512) := (late_cast_at _ p).symm.trans (late_max S m s n hm hs)
  rw [late_sum_at, late_fade_at, hl, hm, e, total_add]
  simp only [late_weight_at, hs, e, one_mul]

/-- The accumulator after the block. -/
theorem late_acc {p : Fin 512} (d : Fin 128) (hm : m (ix3 0 0 p) = top s n) (hs : ∀ r : Fin 512, S (ix2 r p) = s (n + r))
    (ha : a (ix3 0 d p) = total s u (top s n) n) (hv : ∀ r : Fin 512, v (ix2 r d) = u (n + r)) :
    k0_pay277 (k0_pay274 S m) (k0_pay275 S m) a v (ix3 0 d p) = total s u (top s (n + 512)) (n + 512) := by
  have e : k0_pay273 S m (ix2 0 p) = top s (n + 512) := (late_cast_at _ p).symm.trans (late_max S m s n hm hs)
  rw [late_acc_at, late_fade_at, ha, hm, e, total_add]
  simp only [late_weight_at, hs, hv, e]

end Late

end Cert.KernelAttIdeal.Att

end
-- ==== Proof.Absorb.lean ====
/- A head's blocks of queries and keys: what the running sums hold after a block of keys before the queries, and
after the block on the diagonal. -/
module

public import proofs.«01_k».proof.Proof.Diagonal
public import proofs.«01_k».proof.Proof.FullStep
public import proofs.«01_k».proof.Proof.EarlyStep
public import proofs.«01_k».proof.Proof.LateStep

@[expose] public section

set_option maxRecDepth 16384

noncomputable section

open Idealize.ShloMosaic Idealize.ShloMosaic.TcCoe Idealize.SL.Sem
open Cert.Softmax

namespace Cert.KernelAttIdeal.Att

open Cert.KernelAttIdeal Cert.KernelAttIdeal.Gen

/-- Column `d` of head `h`. -/
def col (h : Fin 8) (d : Fin 128) : Fin 1024 := ⟨128 * h.val + d.val, by omega⟩

theorem cols_at (h : Fin 8) (x : S1024x1024.Idx → Elt Ideal .bf16) (r : Fin 1024) (d : Fin 128) : cols h x (ix2 r d) = x (ix2 r (col h d)) := by
  refine congrArg x (funext fun a => Fin.ext ?_)
  fin_cases a
  · show 0 + 1 * r.val = r.val; omega
  · show 128 * h.val + 1 * d.val = 128 * h.val + d.val; omega

theorem all_at (x : S1024x128.Idx → Elt Ideal .bf16) (r : Fin 1024) (d : Fin 128) : all x (ix2 r d) = x (ix2 r d) := by
  refine congrArg x (funext fun a => Fin.ext ?_)
  fin_cases a
  · show 0 + 1 * r.val = r.val; omega
  · show 0 + 1 * d.val = d.val; omega

theorem row_at (h : Fin 8) (x : S8x1x1024.Idx → Elt Ideal .f32) (p : Fin 1024) : row h x (ix3 0 0 p) = x (ix3 h 0 p) := by
  refine congrArg x (funext fun a => Fin.ext ?_)
  fin_cases a
  · show h.val + 1 * 0 = h.val; omega
  · rfl
  · show 0 + 1 * p.val = p.val; omega

theorem rows_at (h : Fin 8) (x : S8x128x1024.Idx → Elt Ideal .f32) (d : Fin 128) (p : Fin 1024) : rows h x (ix3 0 d p) = x (ix3 h d p) := by
  refine congrArg x (funext fun a => Fin.ext ?_)
  fin_cases a
  · show h.val + 1 * 0 = h.val; omega
  · show 0 + 1 * d.val = d.val; omega
  · show 0 + 1 * p.val = p.val; omega

/-- Row `r` of a half. -/
def halfway (o : Fin 2) (r : Fin 512) : Fin 1024 := ⟨512 * o.val + r.val, by omega⟩

theorem colsHalf_at (o : Fin 2) (h : Fin 8) (x : S1024x1024.Idx → Elt Ideal .bf16) (r : Fin 512) (d : Fin 128) :
    colsHalf o h x (ix2 r d) = x (ix2 (halfway o r) (col h d)) := by
  refine congrArg x (funext fun a => Fin.ext ?_)
  fin_cases a
  · show 512 * o.val + 1 * r.val = 512 * o.val + r.val; omega
  · show 128 * h.val + 1 * d.val = 128 * h.val + d.val; omega

theorem allHalf_at (o : Fin 2) (x : S1024x128.Idx → Elt Ideal .bf16) (r : Fin 512) (d : Fin 128) :
    allHalf o x (ix2 r d) = x (ix2 (halfway o r) d) := by
  refine congrArg x (funext fun a => Fin.ext ?_)
  fin_cases a
  · show 512 * o.val + 1 * r.val = 512 * o.val + r.val; omega
  · show 0 + 1 * d.val = d.val; omega

variable (b : BitVec 32) (h : Fin 8) (x0 : S1024x1024.Idx → Elt Ideal .bf16) (x1 : S1024x128.Idx → Elt Ideal .bf16)
  (x2 : S1024x1024.Idx → Elt Ideal .bf16) (x3 : S1024x128.Idx → Elt Ideal .bf16) (x4 : S1024x1024.Idx → Elt Ideal .bf16)

/-- The score of a block's key `r` and query `p`. -/
def pair (r p : Fin 1024) : EReal :=
  dots (own b h) (fun d => x2 (ix2 r (col h d))) (fun d => x0 (ix2 p (col h d))) (fun d => x3 (ix2 r d)) (fun d => x1 (ix2 p d))

theorem full_pair (r p : Fin 1024) : full (own b h) (cols h x0) (all x1) (cols h x2) (all x3) (ix2 r p) = pair b h x0 x1 x2 x3 r p := by
  rw [full_at]; simp only [cols_at, all_at]; rfl

theorem early_pair (r : Fin 512) (p : Fin 1024) :
    earlyScores b h x0 x1 x2 x3 (ix2 r p) = if r.val ≤ p.val then pair b h x0 x1 x2 x3 (halfway 0 r) p else ⊥ := by
  unfold earlyScores
  rw [early_at]; simp only [cols_at, all_at, colsHalf_at, allHalf_at]; rfl

theorem late_pair (r p : Fin 512) :
    lateScores b h x0 x1 x2 x3 (ix2 r p) = if r.val ≤ p.val then pair b h x0 x1 x2 x3 (halfway 1 r) (halfway 1 p) else ⊥ := by
  unfold lateScores
  rw [late_at]; simp only [colsHalf_at, allHalf_at]; rfl

variable (m l : Vec Ideal S1x1x1024 .f32) (a : Vec Ideal S1x128x1024 .f32) (s u : ℕ → EReal) (n : ℕ) (p : Fin 1024)

/-- Past the block on the diagonal, what the running sums divide. -/
theorem last_sum (hm : m (ix3 0 0 p) = top s n) (hl : l (ix3 0 0 p) = total s (fun _ => 1) (top s n) n)
    (hs : ∀ r : Fin 1024, s (n + r) = if r.val ≤ p.val then pair b h x0 x1 x2 x3 r p else ⊥) :
    lastSum b h x0 x1 x2 x3 m l (ix3 0 0 p) = total s (fun _ => 1) (top s (n + 1024)) (n + 1024) := by
  have h0 : ∀ r : Fin 512, earlyScores b h x0 x1 x2 x3 (ix2 r p) = s (n + r) := fun r => by
    have := hs (halfway 0 r)
    rw [early_pair]
    have e : (halfway 0 r).val = r.val := by show 512 * 0 + r.val = r.val; omega
    rw [e] at this; exact this.symm
  have hm' : earlyMax b h x0 x1 x2 x3 m (ix3 0 0 p) = top s (n + 512) := early_max _ m s n hm h0
  have hl' : earlySum b h x0 x1 x2 x3 m l (ix3 0 0 p) = total s (fun _ => 1) (top s (n + 512)) (n + 512) := early_sum _ m l s n hm h0 hl
  by_cases hp : p.val < 512
  · have hb : ∀ k, n + 512 ≤ k → k < n + 512 + 512 → s k = ⊥ := fun k h1 h2 => by
      have := hs ⟨k - n, by omega⟩
      rw [if_neg (by show ¬ (k - n ≤ p.val); omega)] at this
      rw [← this]; congr 1; show k = n + (k - n); omega
    rw [show n + 1024 = n + 512 + 512 by omega, top_pad s (n + 512) 512 hb, total_pad s _ _ (n + 512) 512 hb, ← hl']
    exact if_pos hp
  · obtain ⟨q, rfl⟩ : ∃ q : Fin 512, p = halfway 1 q := ⟨⟨p.val - 512, by omega⟩, Fin.ext (by show p.val = 512 * 1 + (p.val - 512); omega)⟩
    have h1 : ∀ r : Fin 512, lateScores b h x0 x1 x2 x3 (ix2 r q) = s (n + 512 + r) := fun r => by
      have := hs (halfway 1 r)
      rw [late_pair]
      have e : n + (halfway 1 r).val = n + 512 + r.val := by show n + (512 * 1 + r.val) = _; omega
      rw [e] at this
      rw [this]
      have e' : ((halfway 1 r).val ≤ (halfway 1 q).val) ↔ r.val ≤ q.val := by show 512 * 1 + r.val ≤ 512 * 1 + q.val ↔ _; omega
      simp only [e']
    have ht : ∀ x : Vec Ideal S1x1x1024 .f32, tailRow x (ix3 0 0 q) = x (ix3 0 0 (halfway 1 q)) := fun x => rfl
    refine (if_neg hp).trans ?_
    have hq : (⟨(halfway 1 q).val - 512, by have := (halfway 1 q).isLt; omega⟩ : Fin 512) = q := Fin.ext (by show 512 * 1 + q.val - 512 = q.val; omega)
    refine (congrArg (fun z => lateSum b h x0 x1 x2 x3 m l (ix3 0 0 z)) hq).trans ?_
    exact late_sum _ _ _ s (n + 512) ((ht _).trans hm') h1 ((ht _).trans hl')

/-- Past the block on the diagonal, the weighted values. -/
theorem last_acc (d : Fin 128) (hm : m (ix3 0 0 p) = top s n) (ha : a (ix3 0 d p) = total s u (top s n) n)
    (hs : ∀ r : Fin 1024, s (n + r) = if r.val ≤ p.val then pair b h x0 x1 x2 x3 r p else ⊥) (hv : ∀ r : Fin 1024, x4 (ix2 r (col h d)) = u (n + r)) :
    lastAcc b h x0 x1 x2 x3 x4 m a (ix3 0 d p) = total s u (top s (n + 1024)) (n + 1024) := by
  have h0 : ∀ r : Fin 512, earlyScores b h x0 x1 x2 x3 (ix2 r p) = s (n + r) := fun r => by
    have := hs (halfway 0 r)
    rw [early_pair]
    have e : (halfway 0 r).val = r.val := by show 512 * 0 + r.val = r.val; omega
    rw [e] at this; exact this.symm
  have hv0 : ∀ r : Fin 512, colsHalf 0 h x4 (ix2 r d) = u (n + r) := fun r => by
    rw [colsHalf_at, hv]; congr 2; show 512 * 0 + r.val = r.val; omega
  have hv1 : ∀ r : Fin 512, colsHalf 1 h x4 (ix2 r d) = u (n + 512 + r) := fun r => by
    rw [colsHalf_at, hv]; congr 1; show n + (512 * 1 + r.val) = n + 512 + r.val; omega
  have hm' : earlyMax b h x0 x1 x2 x3 m (ix3 0 0 p) = top s (n + 512) := early_max _ m s n hm h0
  have ha' : earlyAcc b h x0 x1 x2 x3 x4 m a (ix3 0 d p) = total s u (top s (n + 512)) (n + 512) := early_acc _ m a _ s u n d hm h0 ha hv0
  by_cases hp : p.val < 512
  · have hb : ∀ k, n + 512 ≤ k → k < n + 512 + 512 → s k = ⊥ := fun k h1 h2 => by
      have := hs ⟨k - n, by omega⟩
      rw [if_neg (by show ¬ (k - n ≤ p.val); omega)] at this
      rw [← this]; congr 1; show k = n + (k - n); omega
    rw [show n + 1024 = n + 512 + 512 by omega, top_pad s (n + 512) 512 hb, total_pad s _ _ (n + 512) 512 hb, ← ha']
    exact if_pos hp
  · obtain ⟨q, rfl⟩ : ∃ q : Fin 512, p = halfway 1 q := ⟨⟨p.val - 512, by omega⟩, Fin.ext (by show p.val = 512 * 1 + (p.val - 512); omega)⟩
    have h1 : ∀ r : Fin 512, lateScores b h x0 x1 x2 x3 (ix2 r q) = s (n + 512 + r) := fun r => by
      have := hs (halfway 1 r)
      rw [late_pair]
      have e : n + (halfway 1 r).val = n + 512 + r.val := by show n + (512 * 1 + r.val) = _; omega
      rw [e] at this
      rw [this]
      have e' : ((halfway 1 r).val ≤ (halfway 1 q).val) ↔ r.val ≤ q.val := by show 512 * 1 + r.val ≤ 512 * 1 + q.val ↔ _; omega
      simp only [e']
    have ht : ∀ x : Vec Ideal S1x1x1024 .f32, tailRow x (ix3 0 0 q) = x (ix3 0 0 (halfway 1 q)) := fun x => rfl
    have ht' : ∀ x : Vec Ideal S1x128x1024 .f32, tailRows x (ix3 0 d q) = x (ix3 0 d (halfway 1 q)) := fun x => rfl
    refine (if_neg hp).trans ?_
    have hq : (⟨(halfway 1 q).val - 512, by have := (halfway 1 q).isLt; omega⟩ : Fin 512) = q := Fin.ext (by show 512 * 1 + q.val - 512 = q.val; omega)
    refine (congrArg (fun z => lateAcc b h x0 x1 x2 x3 x4 m a (ix3 0 d z)) hq).trans ?_
    exact late_acc _ _ _ _ s u (n + 512) d ((ht _).trans hm') h1 ((ht' _).trans ha') hv1

end Cert.KernelAttIdeal.Att

end
-- ==== Proof.Pieces.lean ====
/- Reading back what a list of writes left: the last write over an index decides it. -/
module

public import Idealize.ShloMosaic.Lib.Pipeline.ValueKit

@[expose] public section

noncomputable section

open Idealize.ShloMosaic Idealize.ShloMosaic.TcCoe Idealize.SL.Sem

namespace Cert.Pieces

variable {s : Shape} {e : EltTy} {off size : Fin s.rank → ℕ} (inb : ∀ a, off a + size a ≤ s.size a)
  (f : (Rect.unit off size inb).shape.Idx → Elt Ideal e) (L : List (View.Piece (Elt Ideal) s e))

/-- An index inside the last write. -/
theorem inside (x : (Rect.unit off size inb).shape.Idx) (y : s.Idx) (h : ∀ a, (y a).val = off a + (x a).val) :
    View.canon (⟨Rect.unit off size inb, f⟩ :: L) y = f x := by
  have e : y = (Rect.unit off size inb).emb x := funext fun a => Fin.ext (by
    rw [h a]
    show _ = off a + 1 * (x a).val
    omega)
  rw [e]
  exact View.canon_cons_emb _ _ _ _

/-- An index the last write does not reach. -/
theorem outside (y : s.Idx) (a : Fin s.rank) (h : (y a).val < off a ∨ off a + size a ≤ (y a).val) :
    View.canon (⟨Rect.unit off size inb, f⟩ :: L) y = View.canon L y := by
  refine View.canon_cons_of_not_mem _ _ fun hy => ?_
  obtain ⟨x, lt, hx⟩ := (Rect.unit off size inb).mem_set.mp hy a
  have e : (y a).val = off a + 1 * x := hx
  have lt' : x < size a := lt
  omega

end Cert.Pieces

end
-- ==== Proof.PathA.lean ====
/- The path of the first row's only grid point: the buffers are filled, then updated, then read out. -/
module

public import proofs.«01_k».proof.Proof.Heads
public import proofs.«01_k».proof.Proof.Pieces
public import proofs.«01_k».proof.Proof.Diagonal
public import proofs.«01_k».proof.Proof.Gen.KernelAttIdeal.Flash.Runs

@[expose] public section

set_option maxRecDepth 16384

noncomputable section

open Idealize.ShloMosaic Idealize.ShloMosaic.TcCoe Idealize.SL.Sem

namespace Cert.KernelAttIdeal.Att

open Cert.KernelAttIdeal Cert.KernelAttIdeal.Gen Cert.KernelAttIdeal.Gen.kernelRun0_A

variable (c : Dev nD) (i : grid0.Coords) (arg5 : Memref sig .tc .vmem S1024x1024 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (T0 : (S10.Idx → Elt Ideal .i32)) (T1 : (S10.Idx → Elt Ideal .i32))
     (x0 : (S1024x1024.Idx → Elt Ideal .bf16)) (x1 : (S1024x128.Idx → Elt Ideal .bf16)) (x2 : (S1024x1024.Idx → Elt Ideal .bf16)) (x3 : (S1024x128.Idx → Elt Ideal .bf16)) (x4 : (S1024x1024.Idx → Elt Ideal .bf16)) (x5 : (S1024x1024.Idx → Elt Ideal .bf16)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1)

/-- The maximum of head 0 is read as it was filled. -/
theorem A_old0_0 : sl.v118  = (row 0 (k0_pay1 (F := Ideal))) := by
  unfold sl.v118
  rw [View.readCov_eq_canon']
  funext j
  unfold sl.HS0_1
  exact Pieces.inside _ _ _ _ _ fun a => (by fin_cases a <;> exact (Nat.zero_add _).symm)

/-- The maximum of head 1 is read as it was filled. -/
theorem A_old0_1 : sl.v308 i arg5 arg6 arg7 arg8 x0 x1 x2 x3 = (row 1 (k0_pay1 (F := Ideal))) := by
  unfold sl.v308
  rw [View.readCov_eq_canon']
  funext j
  unfold sl.HS0_3
  refine (Pieces.outside _ _ _ _ (0 : Fin 3) (Or.inr (show 0 + 1 ≤ 1 + 1 * _ by omega))).trans ?_
  unfold sl.HS0_2
  refine (Pieces.outside _ _ _ _ (0 : Fin 3) (Or.inr (show 0 + 1 ≤ 1 + 1 * _ by omega))).trans ?_
  unfold sl.HS0_1
  exact Pieces.inside _ _ _ _ _ fun a => (by fin_cases a <;> exact (Nat.zero_add _).symm)

/-- The maximum of head 2 is read as it was filled. -/
theorem A_old0_2 : sl.v498 i arg5 arg6 arg7 arg8 x0 x1 x2 x3 = (row 2 (k0_pay1 (F := Ideal))) := by
  unfold sl.v498
  rw [View.readCov_eq_canon']
  funext j
  unfold sl.HS0_5
  refine (Pieces.outside _ _ _ _ (0 : Fin 3) (Or.inr (show 1 + 1 ≤ 2 + 1 * _ by omega))).trans ?_
  unfold sl.HS0_4
  refine (Pieces.outside _ _ _ _ (0 : Fin 3) (Or.inr (show 1 + 1 ≤ 2 + 1 * _ by omega))).trans ?_
  unfold sl.HS0_3
  refine (Pieces.outside _ _ _ _ (0 : Fin 3) (Or.inr (show 0 + 1 ≤ 2 + 1 * _ by omega))).trans ?_
  unfold sl.HS0_2
  refine (Pieces.outside _ _ _ _ (0 : Fin 3) (Or.inr (show 0 + 1 ≤ 2 + 1 * _ by omega))).trans ?_
  unfold sl.HS0_1
  exact Pieces.inside _ _ _ _ _ fun a => (by fin_cases a <;> exact (Nat.zero_add _).symm)

/-- The maximum of head 3 is read as it was filled. -/
theorem A_old0_3 : sl.v688 i arg5 arg6 arg7 arg8 x0 x1 x2 x3 = (row 3 (k0_pay1 (F := Ideal))) := by
  unfold sl.v688
  rw [View.readCov_eq_canon']
  funext j
  unfold sl.HS0_7
  refine (Pieces.outside _ _ _ _ (0 : Fin 3) (Or.inr (show 2 + 1 ≤ 3 + 1 * _ by omega))).trans ?_
  unfold sl.HS0_6
  refine (Pieces.outside _ _ _ _ (0 : Fin 3) (Or.inr (show 2 + 1 ≤ 3 + 1 * _ by omega))).trans ?_
  unfold sl.HS0_5
  refine (Pieces.outside _ _ _ _ (0 : Fin 3) (Or.inr (show 1 + 1 ≤ 3 + 1 * _ by omega))).trans ?_
  unfold sl.HS0_4
  refine (Pieces.outside _ _ _ _ (0 : Fin 3) (Or.inr (show 1 + 1 ≤ 3 + 1 * _ by omega))).trans ?_
  unfold sl.HS0_3
  refine (Pieces.outside _ _ _ _ (0 : Fin 3) (Or.inr (show 0 + 1 ≤ 3 + 1 * _ by omega))).trans ?_
  unfold sl.HS0_2
  refine (Pieces.outside _ _ _ _ (0 : Fin 3) (Or.inr (show 0 + 1 ≤ 3 + 1 * _ by omega))).trans ?_
  unfold sl.HS0_1
  exact Pieces.inside _ _ _ _ _ fun a => (by fin_cases a <;> exact (Nat.zero_add _).symm)

/-- The maximum of head 4 is read as it was filled. -/
theorem A_old0_4 : sl.v878 i arg5 arg6 arg7 arg8 x0 x1 x2 x3 = (row 4 (k0_pay1 (F := Ideal))) := by
  unfold sl.v878
  rw [View.readCov_eq_canon']
  funext j
  unfold sl.HS0_9
  refine (Pieces.outside _ _ _ _ (0 : Fin 3) (Or.inr (show 3 + 1 ≤ 4 + 1 * _ by omega))).trans ?_
  unfold sl.HS0_8
  refine (Pieces.outside _ _ _ _ (0 : Fin 3) (Or.inr (show 3 + 1 ≤ 4 + 1 * _ by omega))).trans ?_
  unfold sl.HS0_7
  refine (Pieces.outside _ _ _ _ (0 : Fin 3) (Or.inr (show 2 + 1 ≤ 4 + 1 * _ by omega))).trans ?_
  unfold sl.HS0_6
  refine (Pieces.outside _ _ _ _ (0 : Fin 3) (Or.inr (show 2 + 1 ≤ 4 + 1 * _ by omega))).trans ?_
  unfold sl.HS0_5
  refine (Pieces.outside _ _ _ _ (0 : Fin 3) (Or.inr (show 1 + 1 ≤ 4 + 1 * _ by omega))).trans ?_
  unfold sl.HS0_4
  refine (Pieces.outside _ _ _ _ (0 : Fin 3) (Or.inr (show 1 + 1 ≤ 4 + 1 * _ by omega))).trans ?_
  unfold sl.HS0_3
  refine (Pieces.outside _ _ _ _ (0 : Fin 3) (Or.inr (show 0 + 1 ≤ 4 + 1 * _ by omega))).trans ?_
  unfold sl.HS0_2
  refine (Pieces.outside _ _ _ _ (0 : Fin 3) (Or.inr (show 0 + 1 ≤ 4 + 1 * _ by omega))).trans ?_
  unfold sl.HS0_1
  exact Pieces.inside _ _ _ _ _ fun a => (by fin_cases a <;> exact (Nat.zero_add _).symm)

/-- The maximum of head 5 is read as it was filled. -/
theorem A_old0_5 : sl.v1068 i arg5 arg6 arg7 arg8 x0 x1 x2 x3 = (row 5 (k0_pay1 (F := Ideal))) := by
  unfold sl.v1068
  rw [View.readCov_eq_canon']
  funext j
  unfold sl.HS0_11
  refine (Pieces.outside _ _ _ _ (0 : Fin 3) (Or.inr (show 4 + 1 ≤ 5 + 1 * _ by omega))).trans ?_
  unfold sl.HS0_10
  refine (Pieces.outside _ _ _ _ (0 : Fin 3) (Or.inr (show 4 + 1 ≤ 5 + 1 * _ by omega))).trans ?_
  unfold sl.HS0_9
  refine (Pieces.outside _ _ _ _ (0 : Fin 3) (Or.inr (show 3 + 1 ≤ 5 + 1 * _ by omega))).trans ?_
  unfold sl.HS0_8
  refine (Pieces.outside _ _ _ _ (0 : Fin 3) (Or.inr (show 3 + 1 ≤ 5 + 1 * _ by omega))).trans ?_
  unfold sl.HS0_7
  refine (Pieces.outside _ _ _ _ (0 : Fin 3) (Or.inr (show 2 + 1 ≤ 5 + 1 * _ by omega))).trans ?_
  unfold sl.HS0_6
  refine (Pieces.outside _ _ _ _ (0 : Fin 3) (Or.inr (show 2 + 1 ≤ 5 + 1 * _ by omega))).trans ?_
  unfold sl.HS0_5
  refine (Pieces.outside _ _ _ _ (0 : Fin 3) (Or.inr (show 1 + 1 ≤ 5 + 1 * _ by omega))).trans ?_
  unfold sl.HS0_4
  refine (Pieces.outside _ _ _ _ (0 : Fin 3) (Or.inr (show 1 + 1 ≤ 5 + 1 * _ by omega))).trans ?_
  unfold sl.HS0_3
  refine (Pieces.outside _ _ _ _ (0 : Fin 3) (Or.inr (show 0 + 1 ≤ 5 + 1 * _ by omega))).trans ?_
  unfold sl.HS0_2
  refine (Pieces.outside _ _ _ _ (0 : Fin 3) (Or.inr (show 0 + 1 ≤ 5 + 1 * _ by omega))).trans ?_
  unfold sl.HS0_1
  exact Pieces.inside _ _ _ _ _ fun a => (by fin_cases a <;> exact (Nat.zero_add _).symm)

/-- The maximum of head 6 is read as it was filled. -/
theorem A_old0_6 : sl.v1258 i arg5 arg6 arg7 arg8 x0 x1 x2 x3 = (row 6 (k0_pay1 (F := Ideal))) := by
  unfold sl.v1258
  rw [View.readCov_eq_canon']
  funext j
  unfold sl.HS0_13
  refine (Pieces.outside _ _ _ _ (0 : Fin 3) (Or.inr (show 5 + 1 ≤ 6 + 1 * _ by omega))).trans ?_
  unfold sl.HS0_12
  refine (Pieces.outside _ _ _ _ (0 : Fin 3) (Or.inr (show 5 + 1 ≤ 6 + 1 * _ by omega))).trans ?_
  unfold sl.HS0_11
  refine (Pieces.outside _ _ _ _ (0 : Fin 3) (Or.inr (show 4 + 1 ≤ 6 + 1 * _ by omega))).trans ?_
  unfold sl.HS0_10
  refine (Pieces.outside _ _ _ _ (0 : Fin 3) (Or.inr (show 4 + 1 ≤ 6 + 1 * _ by omega))).trans ?_
  unfold sl.HS0_9
  refine (Pieces.outside _ _ _ _ (0 : Fin 3) (Or.inr (show 3 + 1 ≤ 6 + 1 * _ by omega))).trans ?_
  unfold sl.HS0_8
  refine (Pieces.outside _ _ _ _ (0 : Fin 3) (Or.inr (show 3 + 1 ≤ 6 + 1 * _ by omega))).trans ?_
  unfold sl.HS0_7
  refine (Pieces.outside _ _ _ _ (0 : Fin 3) (Or.inr (show 2 + 1 ≤ 6 + 1 * _ by omega))).trans ?_
  unfold sl.HS0_6
  refine (Pieces.outside _ _ _ _ (0 : Fin 3) (Or.inr (show 2 + 1 ≤ 6 + 1 * _ by omega))).trans ?_
  unfold sl.HS0_5
  refine (Pieces.outside _ _ _ _ (0 : Fin 3) (Or.inr (show 1 + 1 ≤ 6 + 1 * _ by omega))).trans ?_
  unfold sl.HS0_4
  refine (Pieces.outside _ _ _ _ (0 : Fin 3) (Or.inr (show 1 + 1 ≤ 6 + 1 * _ by omega))).trans ?_
  unfold sl.HS0_3
  refine (Pieces.outside _ _ _ _ (0 : Fin 3) (Or.inr (show 0 + 1 ≤ 6 + 1 * _ by omega))).trans ?_
  unfold sl.HS0_2
  refine (Pieces.outside _ _ _ _ (0 : Fin 3) (Or.inr (show 0 + 1 ≤ 6 + 1 * _ by omega))).trans ?_
  unfold sl.HS0_1
  exact Pieces.inside _ _ _ _ _ fun a => (by fin_cases a <;> exact (Nat.zero_add _).symm)

/-- The maximum of head 7 is read as it was filled. -/
theorem A_old0_7 : sl.v1448 i arg5 arg6 arg7 arg8 x0 x1 x2 x3 = (row 7 (k0_pay1 (F := Ideal))) := by
  unfold sl.v1448
  rw [View.readCov_eq_canon']
  funext j
  unfold sl.HS0_15
  refine (Pieces.outside _ _ _ _ (0 : Fin 3) (Or.inr (show 6 + 1 ≤ 7 + 1 * _ by omega))).trans ?_
  unfold sl.HS0_14
  refine (Pieces.outside _ _ _ _ (0 : Fin 3) (Or.inr (show 6 + 1 ≤ 7 + 1 * _ by omega))).trans ?_
  unfold sl.HS0_13
  refine (Pieces.outside _ _ _ _ (0 : Fin 3) (Or.inr (show 5 + 1 ≤ 7 + 1 * _ by omega))).trans ?_
  unfold sl.HS0_12
  refine (Pieces.outside _ _ _ _ (0 : Fin 3) (Or.inr (show 5 + 1 ≤ 7 + 1 * _ by omega))).trans ?_
  unfold sl.HS0_11
  refine (Pieces.outside _ _ _ _ (0 : Fin 3) (Or.inr (show 4 + 1 ≤ 7 + 1 * _ by omega))).trans ?_
  unfold sl.HS0_10
  refine (Pieces.outside _ _ _ _ (0 : Fin 3) (Or.inr (show 4 + 1 ≤ 7 + 1 * _ by omega))).trans ?_
  unfold sl.HS0_9
  refine (Pieces.outside _ _ _ _ (0 : Fin 3) (Or.inr (show 3 + 1 ≤ 7 + 1 * _ by omega))).trans ?_
  unfold sl.HS0_8
  refine (Pieces.outside _ _ _ _ (0 : Fin 3) (Or.inr (show 3 + 1 ≤ 7 + 1 * _ by omega))).trans ?_
  unfold sl.HS0_7
  refine (Pieces.outside _ _ _ _ (0 : Fin 3) (Or.inr (show 2 + 1 ≤ 7 + 1 * _ by omega))).trans ?_
  unfold sl.HS0_6
  refine (Pieces.outside _ _ _ _ (0 : Fin 3) (Or.inr (show 2 + 1 ≤ 7 + 1 * _ by omega))).trans ?_
  unfold sl.HS0_5
  refine (Pieces.outside _ _ _ _ (0 : Fin 3) (Or.inr (show 1 + 1 ≤ 7 + 1 * _ by omega))).trans ?_
  unfold sl.HS0_4
  refine (Pieces.outside _ _ _ _ (0 : Fin 3) (Or.inr (show 1 + 1 ≤ 7 + 1 * _ by omega))).trans ?_
  unfold sl.HS0_3
  refine (Pieces.outside _ _ _ _ (0 : Fin 3) (Or.inr (show 0 + 1 ≤ 7 + 1 * _ by omega))).trans ?_
  unfold sl.HS0_2
  refine (Pieces.outside _ _ _ _ (0 : Fin 3) (Or.inr (show 0 + 1 ≤ 7 + 1 * _ by omega))).trans ?_
  unfold sl.HS0_1
  exact Pieces.inside _ _ _ _ _ fun a => (by fin_cases a <;> exact (Nat.zero_add _).symm)

/-- The sum of head 0 is read as it was filled. -/
theorem A_old1_0 : sl.v128  = (row 0 (k0_pay2 (F := Ideal))) := by
  unfold sl.v128
  rw [View.readCov_eq_canon']
  funext j
  unfold sl.HS1_1
  exact Pieces.inside _ _ _ _ _ fun a => (by fin_cases a <;> exact (Nat.zero_add _).symm)

/-- The sum of head 1 is read as it was filled. -/
theorem A_old1_1 : sl.v318 i arg5 arg6 arg7 arg8 x0 x1 x2 x3 = (row 1 (k0_pay2 (F := Ideal))) := by
  unfold sl.v318
  rw [View.readCov_eq_canon']
  funext j
  unfold sl.HS1_3
  refine (Pieces.outside _ _ _ _ (0 : Fin 3) (Or.inr (show 0 + 1 ≤ 1 + 1 * _ by omega))).trans ?_
  unfold sl.HS1_2
  refine (Pieces.outside _ _ _ _ (0 : Fin 3) (Or.inr (show 0 + 1 ≤ 1 + 1 * _ by omega))).trans ?_
  unfold sl.HS1_1
  exact Pieces.inside _ _ _ _ _ fun a => (by fin_cases a <;> exact (Nat.zero_add _).symm)

/-- The sum of head 2 is read as it was filled. -/
theorem A_old1_2 : sl.v508 i arg5 arg6 arg7 arg8 x0 x1 x2 x3 = (row 2 (k0_pay2 (F := Ideal))) := by
  unfold sl.v508
  rw [View.readCov_eq_canon']
  funext j
  unfold sl.HS1_5
  refine (Pieces.outside _ _ _ _ (0 : Fin 3) (Or.inr (show 1 + 1 ≤ 2 + 1 * _ by omega))).trans ?_
  unfold sl.HS1_4
  refine (Pieces.outside _ _ _ _ (0 : Fin 3) (Or.inr (show 1 + 1 ≤ 2 + 1 * _ by omega))).trans ?_
  unfold sl.HS1_3
  refine (Pieces.outside _ _ _ _ (0 : Fin 3) (Or.inr (show 0 + 1 ≤ 2 + 1 * _ by omega))).trans ?_
  unfold sl.HS1_2
  refine (Pieces.outside _ _ _ _ (0 : Fin 3) (Or.inr (show 0 + 1 ≤ 2 + 1 * _ by omega))).trans ?_
  unfold sl.HS1_1
  exact Pieces.inside _ _ _ _ _ fun a => (by fin_cases a <;> exact (Nat.zero_add _).symm)

/-- The sum of head 3 is read as it was filled. -/
theorem A_old1_3 : sl.v698 i arg5 arg6 arg7 arg8 x0 x1 x2 x3 = (row 3 (k0_pay2 (F := Ideal))) := by
  unfold sl.v698
  rw [View.readCov_eq_canon']
  funext j
  unfold sl.HS1_7
  refine (Pieces.outside _ _ _ _ (0 : Fin 3) (Or.inr (show 2 + 1 ≤ 3 + 1 * _ by omega))).trans ?_
  unfold sl.HS1_6
  refine (Pieces.outside _ _ _ _ (0 : Fin 3) (Or.inr (show 2 + 1 ≤ 3 + 1 * _ by omega))).trans ?_
  unfold sl.HS1_5
  refine (Pieces.outside _ _ _ _ (0 : Fin 3) (Or.inr (show 1 + 1 ≤ 3 + 1 * _ by omega))).trans ?_
  unfold sl.HS1_4
  refine (Pieces.outside _ _ _ _ (0 : Fin 3) (Or.inr (show 1 + 1 ≤ 3 + 1 * _ by omega))).trans ?_
  unfold sl.HS1_3
  refine (Pieces.outside _ _ _ _ (0 : Fin 3) (Or.inr (show 0 + 1 ≤ 3 + 1 * _ by omega))).trans ?_
  unfold sl.HS1_2
  refine (Pieces.outside _ _ _ _ (0 : Fin 3) (Or.inr (show 0 + 1 ≤ 3 + 1 * _ by omega))).trans ?_
  unfold sl.HS1_1
  exact Pieces.inside _ _ _ _ _ fun a => (by fin_cases a <;> exact (Nat.zero_add _).symm)

/-- The sum of head 4 is read as it was filled. -/
theorem A_old1_4 : sl.v888 i arg5 arg6 arg7 arg8 x0 x1 x2 x3 = (row 4 (k0_pay2 (F := Ideal))) := by
  unfold sl.v888
  rw [View.readCov_eq_canon']
  funext j
  unfold sl.HS1_9
  refine (Pieces.outside _ _ _ _ (0 : Fin 3) (Or.inr (show 3 + 1 ≤ 4 + 1 * _ by omega))).trans ?_
  unfold sl.HS1_8
  refine (Pieces.outside _ _ _ _ (0 : Fin 3) (Or.inr (show 3 + 1 ≤ 4 + 1 * _ by omega))).trans ?_
  unfold sl.HS1_7
  refine (Pieces.outside _ _ _ _ (0 : Fin 3) (Or.inr (show 2 + 1 ≤ 4 + 1 * _ by omega))).trans ?_
  unfold sl.HS1_6
  refine (Pieces.outside _ _ _ _ (0 : Fin 3) (Or.inr (show 2 + 1 ≤ 4 + 1 * _ by omega))).trans ?_
  unfold sl.HS1_5
  refine (Pieces.outside _ _ _ _ (0 : Fin 3) (Or.inr (show 1 + 1 ≤ 4 + 1 * _ by omega))).trans ?_
  unfold sl.HS1_4
  refine (Pieces.outside _ _ _ _ (0 : Fin 3) (Or.inr (show 1 + 1 ≤ 4 + 1 * _ by omega))).trans ?_
  unfold sl.HS1_3
  refine (Pieces.outside _ _ _ _ (0 : Fin 3) (Or.inr (show 0 + 1 ≤ 4 + 1 * _ by omega))).trans ?_
  unfold sl.HS1_2
  refine (Pieces.outside _ _ _ _ (0 : Fin 3) (Or.inr (show 0 + 1 ≤ 4 + 1 * _ by omega))).trans ?_
  unfold sl.HS1_1
  exact Pieces.inside _ _ _ _ _ fun a => (by fin_cases a <;> exact (Nat.zero_add _).symm)

/-- The sum of head 5 is read as it was filled. -/
theorem A_old1_5 : sl.v1078 i arg5 arg6 arg7 arg8 x0 x1 x2 x3 = (row 5 (k0_pay2 (F := Ideal))) := by
  unfold sl.v1078
  rw [View.readCov_eq_canon']
  funext j
  unfold sl.HS1_11
  refine (Pieces.outside _ _ _ _ (0 : Fin 3) (Or.inr (show 4 + 1 ≤ 5 + 1 * _ by omega))).trans ?_
  unfold sl.HS1_10
  refine (Pieces.outside _ _ _ _ (0 : Fin 3) (Or.inr (show 4 + 1 ≤ 5 + 1 * _ by omega))).trans ?_
  unfold sl.HS1_9
  refine (Pieces.outside _ _ _ _ (0 : Fin 3) (Or.inr (show 3 + 1 ≤ 5 + 1 * _ by omega))).trans ?_
  unfold sl.HS1_8
  refine (Pieces.outside _ _ _ _ (0 : Fin 3) (Or.inr (show 3 + 1 ≤ 5 + 1 * _ by omega))).trans ?_
  unfold sl.HS1_7
  refine (Pieces.outside _ _ _ _ (0 : Fin 3) (Or.inr (show 2 + 1 ≤ 5 + 1 * _ by omega))).trans ?_
  unfold sl.HS1_6
  refine (Pieces.outside _ _ _ _ (0 : Fin 3) (Or.inr (show 2 + 1 ≤ 5 + 1 * _ by omega))).trans ?_
  unfold sl.HS1_5
  refine (Pieces.outside _ _ _ _ (0 : Fin 3) (Or.inr (show 1 + 1 ≤ 5 + 1 * _ by omega))).trans ?_
  unfold sl.HS1_4
  refine (Pieces.outside _ _ _ _ (0 : Fin 3) (Or.inr (show 1 + 1 ≤ 5 + 1 * _ by omega))).trans ?_
  unfold sl.HS1_3
  refine (Pieces.outside _ _ _ _ (0 : Fin 3) (Or.inr (show 0 + 1 ≤ 5 + 1 * _ by omega))).trans ?_
  unfold sl.HS1_2
  refine (Pieces.outside _ _ _ _ (0 : Fin 3) (Or.inr (show 0 + 1 ≤ 5 + 1 * _ by omega))).trans ?_
  unfold sl.HS1_1
  exact Pieces.inside _ _ _ _ _ fun a => (by fin_cases a <;> exact (Nat.zero_add _).symm)

/-- The sum of head 6 is read as it was filled. -/
theorem A_old1_6 : sl.v1268 i arg5 arg6 arg7 arg8 x0 x1 x2 x3 = (row 6 (k0_pay2 (F := Ideal))) := by
  unfold sl.v1268
  rw [View.readCov_eq_canon']
  funext j
  unfold sl.HS1_13
  refine (Pieces.outside _ _ _ _ (0 : Fin 3) (Or.inr (show 5 + 1 ≤ 6 + 1 * _ by omega))).trans ?_
  unfold sl.HS1_12
  refine (Pieces.outside _ _ _ _ (0 : Fin 3) (Or.inr (show 5 + 1 ≤ 6 + 1 * _ by omega))).trans ?_
  unfold sl.HS1_11
  refine (Pieces.outside _ _ _ _ (0 : Fin 3) (Or.inr (show 4 + 1 ≤ 6 + 1 * _ by omega))).trans ?_
  unfold sl.HS1_10
  refine (Pieces.outside _ _ _ _ (0 : Fin 3) (Or.inr (show 4 + 1 ≤ 6 + 1 * _ by omega))).trans ?_
  unfold sl.HS1_9
  refine (Pieces.outside _ _ _ _ (0 : Fin 3) (Or.inr (show 3 + 1 ≤ 6 + 1 * _ by omega))).trans ?_
  unfold sl.HS1_8
  refine (Pieces.outside _ _ _ _ (0 : Fin 3) (Or.inr (show 3 + 1 ≤ 6 + 1 * _ by omega))).trans ?_
  unfold sl.HS1_7
  refine (Pieces.outside _ _ _ _ (0 : Fin 3) (Or.inr (show 2 + 1 ≤ 6 + 1 * _ by omega))).trans ?_
  unfold sl.HS1_6
  refine (Pieces.outside _ _ _ _ (0 : Fin 3) (Or.inr (show 2 + 1 ≤ 6 + 1 * _ by omega))).trans ?_
  unfold sl.HS1_5
  refine (Pieces.outside _ _ _ _ (0 : Fin 3) (Or.inr (show 1 + 1 ≤ 6 + 1 * _ by omega))).trans ?_
  unfold sl.HS1_4
  refine (Pieces.outside _ _ _ _ (0 : Fin 3) (Or.inr (show 1 + 1 ≤ 6 + 1 * _ by omega))).trans ?_
  unfold sl.HS1_3
  refine (Pieces.outside _ _ _ _ (0 : Fin 3) (Or.inr (show 0 + 1 ≤ 6 + 1 * _ by omega))).trans ?_
  unfold sl.HS1_2
  refine (Pieces.outside _ _ _ _ (0 : Fin 3) (Or.inr (show 0 + 1 ≤ 6 + 1 * _ by omega))).trans ?_
  unfold sl.HS1_1
  exact Pieces.inside _ _ _ _ _ fun a => (by fin_cases a <;> exact (Nat.zero_add _).symm)

/-- The sum of head 7 is read as it was filled. -/
theorem A_old1_7 : sl.v1458 i arg5 arg6 arg7 arg8 x0 x1 x2 x3 = (row 7 (k0_pay2 (F := Ideal))) := by
  unfold sl.v1458
  rw [View.readCov_eq_canon']
  funext j
  unfold sl.HS1_15
  refine (Pieces.outside _ _ _ _ (0 : Fin 3) (Or.inr (show 6 + 1 ≤ 7 + 1 * _ by omega))).trans ?_
  unfold sl.HS1_14
  refine (Pieces.outside _ _ _ _ (0 : Fin 3) (Or.inr (show 6 + 1 ≤ 7 + 1 * _ by omega))).trans ?_
  unfold sl.HS1_13
  refine (Pieces.outside _ _ _ _ (0 : Fin 3) (Or.inr (show 5 + 1 ≤ 7 + 1 * _ by omega))).trans ?_
  unfold sl.HS1_12
  refine (Pieces.outside _ _ _ _ (0 : Fin 3) (Or.inr (show 5 + 1 ≤ 7 + 1 * _ by omega))).trans ?_
  unfold sl.HS1_11
  refine (Pieces.outside _ _ _ _ (0 : Fin 3) (Or.inr (show 4 + 1 ≤ 7 + 1 * _ by omega))).trans ?_
  unfold sl.HS1_10
  refine (Pieces.outside _ _ _ _ (0 : Fin 3) (Or.inr (show 4 + 1 ≤ 7 + 1 * _ by omega))).trans ?_
  unfold sl.HS1_9
  refine (Pieces.outside _ _ _ _ (0 : Fin 3) (Or.inr (show 3 + 1 ≤ 7 + 1 * _ by omega))).trans ?_
  unfold sl.HS1_8
  refine (Pieces.outside _ _ _ _ (0 : Fin 3) (Or.inr (show 3 + 1 ≤ 7 + 1 * _ by omega))).trans ?_
  unfold sl.HS1_7
  refine (Pieces.outside _ _ _ _ (0 : Fin 3) (Or.inr (show 2 + 1 ≤ 7 + 1 * _ by omega))).trans ?_
  unfold sl.HS1_6
  refine (Pieces.outside _ _ _ _ (0 : Fin 3) (Or.inr (show 2 + 1 ≤ 7 + 1 * _ by omega))).trans ?_
  unfold sl.HS1_5
  refine (Pieces.outside _ _ _ _ (0 : Fin 3) (Or.inr (show 1 + 1 ≤ 7 + 1 * _ by omega))).trans ?_
  unfold sl.HS1_4
  refine (Pieces.outside _ _ _ _ (0 : Fin 3) (Or.inr (show 1 + 1 ≤ 7 + 1 * _ by omega))).trans ?_
  unfold sl.HS1_3
  refine (Pieces.outside _ _ _ _ (0 : Fin 3) (Or.inr (show 0 + 1 ≤ 7 + 1 * _ by omega))).trans ?_
  unfold sl.HS1_2
  refine (Pieces.outside _ _ _ _ (0 : Fin 3) (Or.inr (show 0 + 1 ≤ 7 + 1 * _ by omega))).trans ?_
  unfold sl.HS1_1
  exact Pieces.inside _ _ _ _ _ fun a => (by fin_cases a <;> exact (Nat.zero_add _).symm)

/-- The accumulator of head 0 is read as it was filled. -/
theorem A_old2_0 : sl.v137  = (rows 0 (k0_pay3 (F := Ideal))) := by
  unfold sl.v137
  rw [View.readCov_eq_canon']
  funext j
  unfold sl.HS2_1
  exact Pieces.inside _ _ _ _ _ fun a => (by fin_cases a <;> exact (Nat.zero_add _).symm)

/-- The accumulator of head 1 is read as it was filled. -/
theorem A_old2_1 : sl.v327 i arg5 arg6 arg7 arg8 arg9 x0 x1 x2 x3 x4 = (rows 1 (k0_pay3 (F := Ideal))) := by
  unfold sl.v327
  rw [View.readCov_eq_canon']
  funext j
  unfold sl.HS2_3
  refine (Pieces.outside _ _ _ _ (0 : Fin 3) (Or.inr (show 0 + 1 ≤ 1 + 1 * _ by omega))).trans ?_
  unfold sl.HS2_2
  refine (Pieces.outside _ _ _ _ (0 : Fin 3) (Or.inr (show 0 + 1 ≤ 1 + 1 * _ by omega))).trans ?_
  unfold sl.HS2_1
  exact Pieces.inside _ _ _ _ _ fun a => (by fin_cases a <;> exact (Nat.zero_add _).symm)

/-- The accumulator of head 2 is read as it was filled. -/
theorem A_old2_2 : sl.v517 i arg5 arg6 arg7 arg8 arg9 x0 x1 x2 x3 x4 = (rows 2 (k0_pay3 (F := Ideal))) := by
  unfold sl.v517
  rw [View.readCov_eq_canon']
  funext j
  unfold sl.HS2_5
  refine (Pieces.outside _ _ _ _ (0 : Fin 3) (Or.inr (show 1 + 1 ≤ 2 + 1 * _ by omega))).trans ?_
  unfold sl.HS2_4
  refine (Pieces.outside _ _ _ _ (0 : Fin 3) (Or.inr (show 1 + 1 ≤ 2 + 1 * _ by omega))).trans ?_
  unfold sl.HS2_3
  refine (Pieces.outside _ _ _ _ (0 : Fin 3) (Or.inr (show 0 + 1 ≤ 2 + 1 * _ by omega))).trans ?_
  unfold sl.HS2_2
  refine (Pieces.outside _ _ _ _ (0 : Fin 3) (Or.inr (show 0 + 1 ≤ 2 + 1 * _ by omega))).trans ?_
  unfold sl.HS2_1
  exact Pieces.inside _ _ _ _ _ fun a => (by fin_cases a <;> exact (Nat.zero_add _).symm)

/-- The accumulator of head 3 is read as it was filled. -/
theorem A_old2_3 : sl.v707 i arg5 arg6 arg7 arg8 arg9 x0 x1 x2 x3 x4 = (rows 3 (k0_pay3 (F := Ideal))) := by
  unfold sl.v707
  rw [View.readCov_eq_canon']
  funext j
  unfold sl.HS2_7
  refine (Pieces.outside _ _ _ _ (0 : Fin 3) (Or.inr (show 2 + 1 ≤ 3 + 1 * _ by omega))).trans ?_
  unfold sl.HS2_6
  refine (Pieces.outside _ _ _ _ (0 : Fin 3) (Or.inr (show 2 + 1 ≤ 3 + 1 * _ by omega))).trans ?_
  unfold sl.HS2_5
  refine (Pieces.outside _ _ _ _ (0 : Fin 3) (Or.inr (show 1 + 1 ≤ 3 + 1 * _ by omega))).trans ?_
  unfold sl.HS2_4
  refine (Pieces.outside _ _ _ _ (0 : Fin 3) (Or.inr (show 1 + 1 ≤ 3 + 1 * _ by omega))).trans ?_
  unfold sl.HS2_3
  refine (Pieces.outside _ _ _ _ (0 : Fin 3) (Or.inr (show 0 + 1 ≤ 3 + 1 * _ by omega))).trans ?_
  unfold sl.HS2_2
  refine (Pieces.outside _ _ _ _ (0 : Fin 3) (Or.inr (show 0 + 1 ≤ 3 + 1 * _ by omega))).trans ?_
  unfold sl.HS2_1
  exact Pieces.inside _ _ _ _ _ fun a => (by fin_cases a <;> exact (Nat.zero_add _).symm)

/-- The accumulator of head 4 is read as it was filled. -/
theorem A_old2_4 : sl.v897 i arg5 arg6 arg7 arg8 arg9 x0 x1 x2 x3 x4 = (rows 4 (k0_pay3 (F := Ideal))) := by
  unfold sl.v897
  rw [View.readCov_eq_canon']
  funext j
  unfold sl.HS2_9
  refine (Pieces.outside _ _ _ _ (0 : Fin 3) (Or.inr (show 3 + 1 ≤ 4 + 1 * _ by omega))).trans ?_
  unfold sl.HS2_8
  refine (Pieces.outside _ _ _ _ (0 : Fin 3) (Or.inr (show 3 + 1 ≤ 4 + 1 * _ by omega))).trans ?_
  unfold sl.HS2_7
  refine (Pieces.outside _ _ _ _ (0 : Fin 3) (Or.inr (show 2 + 1 ≤ 4 + 1 * _ by omega))).trans ?_
  unfold sl.HS2_6
  refine (Pieces.outside _ _ _ _ (0 : Fin 3) (Or.inr (show 2 + 1 ≤ 4 + 1 * _ by omega))).trans ?_
  unfold sl.HS2_5
  refine (Pieces.outside _ _ _ _ (0 : Fin 3) (Or.inr (show 1 + 1 ≤ 4 + 1 * _ by omega))).trans ?_
  unfold sl.HS2_4
  refine (Pieces.outside _ _ _ _ (0 : Fin 3) (Or.inr (show 1 + 1 ≤ 4 + 1 * _ by omega))).trans ?_
  unfold sl.HS2_3
  refine (Pieces.outside _ _ _ _ (0 : Fin 3) (Or.inr (show 0 + 1 ≤ 4 + 1 * _ by omega))).trans ?_
  unfold sl.HS2_2
  refine (Pieces.outside _ _ _ _ (0 : Fin 3) (Or.inr (show 0 + 1 ≤ 4 + 1 * _ by omega))).trans ?_
  unfold sl.HS2_1
  exact Pieces.inside _ _ _ _ _ fun a => (by fin_cases a <;> exact (Nat.zero_add _).symm)

/-- The accumulator of head 5 is read as it was filled. -/
theorem A_old2_5 : sl.v1087 i arg5 arg6 arg7 arg8 arg9 x0 x1 x2 x3 x4 = (rows 5 (k0_pay3 (F := Ideal))) := by
  unfold sl.v1087
  rw [View.readCov_eq_canon']
  funext j
  unfold sl.HS2_11
  refine (Pieces.outside _ _ _ _ (0 : Fin 3) (Or.inr (show 4 + 1 ≤ 5 + 1 * _ by omega))).trans ?_
  unfold sl.HS2_10
  refine (Pieces.outside _ _ _ _ (0 : Fin 3) (Or.inr (show 4 + 1 ≤ 5 + 1 * _ by omega))).trans ?_
  unfold sl.HS2_9
  refine (Pieces.outside _ _ _ _ (0 : Fin 3) (Or.inr (show 3 + 1 ≤ 5 + 1 * _ by omega))).trans ?_
  unfold sl.HS2_8
  refine (Pieces.outside _ _ _ _ (0 : Fin 3) (Or.inr (show 3 + 1 ≤ 5 + 1 * _ by omega))).trans ?_
  unfold sl.HS2_7
  refine (Pieces.outside _ _ _ _ (0 : Fin 3) (Or.inr (show 2 + 1 ≤ 5 + 1 * _ by omega))).trans ?_
  unfold sl.HS2_6
  refine (Pieces.outside _ _ _ _ (0 : Fin 3) (Or.inr (show 2 + 1 ≤ 5 + 1 * _ by omega))).trans ?_
  unfold sl.HS2_5
  refine (Pieces.outside _ _ _ _ (0 : Fin 3) (Or.inr (show 1 + 1 ≤ 5 + 1 * _ by omega))).trans ?_
  unfold sl.HS2_4
  refine (Pieces.outside _ _ _ _ (0 : Fin 3) (Or.inr (show 1 + 1 ≤ 5 + 1 * _ by omega))).trans ?_
  unfold sl.HS2_3
  refine (Pieces.outside _ _ _ _ (0 : Fin 3) (Or.inr (show 0 + 1 ≤ 5 + 1 * _ by omega))).trans ?_
  unfold sl.HS2_2
  refine (Pieces.outside _ _ _ _ (0 : Fin 3) (Or.inr (show 0 + 1 ≤ 5 + 1 * _ by omega))).trans ?_
  unfold sl.HS2_1
  exact Pieces.inside _ _ _ _ _ fun a => (by fin_cases a <;> exact (Nat.zero_add _).symm)

/-- The accumulator of head 6 is read as it was filled. -/
theorem A_old2_6 : sl.v1277 i arg5 arg6 arg7 arg8 arg9 x0 x1 x2 x3 x4 = (rows 6 (k0_pay3 (F := Ideal))) := by
  unfold sl.v1277
  rw [View.readCov_eq_canon']
  funext j
  unfold sl.HS2_13
  refine (Pieces.outside _ _ _ _ (0 : Fin 3) (Or.inr (show 5 + 1 ≤ 6 + 1 * _ by omega))).trans ?_
  unfold sl.HS2_12
  refine (Pieces.outside _ _ _ _ (0 : Fin 3) (Or.inr (show 5 + 1 ≤ 6 + 1 * _ by omega))).trans ?_
  unfold sl.HS2_11
  refine (Pieces.outside _ _ _ _ (0 : Fin 3) (Or.inr (show 4 + 1 ≤ 6 + 1 * _ by omega))).trans ?_
  unfold sl.HS2_10
  refine (Pieces.outside _ _ _ _ (0 : Fin 3) (Or.inr (show 4 + 1 ≤ 6 + 1 * _ by omega))).trans ?_
  unfold sl.HS2_9
  refine (Pieces.outside _ _ _ _ (0 : Fin 3) (Or.inr (show 3 + 1 ≤ 6 + 1 * _ by omega))).trans ?_
  unfold sl.HS2_8
  refine (Pieces.outside _ _ _ _ (0 : Fin 3) (Or.inr (show 3 + 1 ≤ 6 + 1 * _ by omega))).trans ?_
  unfold sl.HS2_7
  refine (Pieces.outside _ _ _ _ (0 : Fin 3) (Or.inr (show 2 + 1 ≤ 6 + 1 * _ by omega))).trans ?_
  unfold sl.HS2_6
  refine (Pieces.outside _ _ _ _ (0 : Fin 3) (Or.inr (show 2 + 1 ≤ 6 + 1 * _ by omega))).trans ?_
  unfold sl.HS2_5
  refine (Pieces.outside _ _ _ _ (0 : Fin 3) (Or.inr (show 1 + 1 ≤ 6 + 1 * _ by omega))).trans ?_
  unfold sl.HS2_4
  refine (Pieces.outside _ _ _ _ (0 : Fin 3) (Or.inr (show 1 + 1 ≤ 6 + 1 * _ by omega))).trans ?_
  unfold sl.HS2_3
  refine (Pieces.outside _ _ _ _ (0 : Fin 3) (Or.inr (show 0 + 1 ≤ 6 + 1 * _ by omega))).trans ?_
  unfold sl.HS2_2
  refine (Pieces.outside _ _ _ _ (0 : Fin 3) (Or.inr (show 0 + 1 ≤ 6 + 1 * _ by omega))).trans ?_
  unfold sl.HS2_1
  exact Pieces.inside _ _ _ _ _ fun a => (by fin_cases a <;> exact (Nat.zero_add _).symm)

/-- The accumulator of head 7 is read as it was filled. -/
theorem A_old2_7 : sl.v1467 i arg5 arg6 arg7 arg8 arg9 x0 x1 x2 x3 x4 = (rows 7 (k0_pay3 (F := Ideal))) := by
  unfold sl.v1467
  rw [View.readCov_eq_canon']
  funext j
  unfold sl.HS2_15
  refine (Pieces.outside _ _ _ _ (0 : Fin 3) (Or.inr (show 6 + 1 ≤ 7 + 1 * _ by omega))).trans ?_
  unfold sl.HS2_14
  refine (Pieces.outside _ _ _ _ (0 : Fin 3) (Or.inr (show 6 + 1 ≤ 7 + 1 * _ by omega))).trans ?_
  unfold sl.HS2_13
  refine (Pieces.outside _ _ _ _ (0 : Fin 3) (Or.inr (show 5 + 1 ≤ 7 + 1 * _ by omega))).trans ?_
  unfold sl.HS2_12
  refine (Pieces.outside _ _ _ _ (0 : Fin 3) (Or.inr (show 5 + 1 ≤ 7 + 1 * _ by omega))).trans ?_
  unfold sl.HS2_11
  refine (Pieces.outside _ _ _ _ (0 : Fin 3) (Or.inr (show 4 + 1 ≤ 7 + 1 * _ by omega))).trans ?_
  unfold sl.HS2_10
  refine (Pieces.outside _ _ _ _ (0 : Fin 3) (Or.inr (show 4 + 1 ≤ 7 + 1 * _ by omega))).trans ?_
  unfold sl.HS2_9
  refine (Pieces.outside _ _ _ _ (0 : Fin 3) (Or.inr (show 3 + 1 ≤ 7 + 1 * _ by omega))).trans ?_
  unfold sl.HS2_8
  refine (Pieces.outside _ _ _ _ (0 : Fin 3) (Or.inr (show 3 + 1 ≤ 7 + 1 * _ by omega))).trans ?_
  unfold sl.HS2_7
  refine (Pieces.outside _ _ _ _ (0 : Fin 3) (Or.inr (show 2 + 1 ≤ 7 + 1 * _ by omega))).trans ?_
  unfold sl.HS2_6
  refine (Pieces.outside _ _ _ _ (0 : Fin 3) (Or.inr (show 2 + 1 ≤ 7 + 1 * _ by omega))).trans ?_
  unfold sl.HS2_5
  refine (Pieces.outside _ _ _ _ (0 : Fin 3) (Or.inr (show 1 + 1 ≤ 7 + 1 * _ by omega))).trans ?_
  unfold sl.HS2_4
  refine (Pieces.outside _ _ _ _ (0 : Fin 3) (Or.inr (show 1 + 1 ≤ 7 + 1 * _ by omega))).trans ?_
  unfold sl.HS2_3
  refine (Pieces.outside _ _ _ _ (0 : Fin 3) (Or.inr (show 0 + 1 ≤ 7 + 1 * _ by omega))).trans ?_
  unfold sl.HS2_2
  refine (Pieces.outside _ _ _ _ (0 : Fin 3) (Or.inr (show 0 + 1 ≤ 7 + 1 * _ by omega))).trans ?_
  unfold sl.HS2_1
  exact Pieces.inside _ _ _ _ _ fun a => (by fin_cases a <;> exact (Nat.zero_add _).symm)

/-- The maximum of head 0 is read again for the last queries. -/
theorem A_tail0_0 : sl.v203 i arg5 arg6 arg7 arg8 x0 x1 x2 x3 = tailRow (earlyMax (BitVec.ofNat 32 (i 1).val) 0 x0 x1 x2 x3 (row 0 (k0_pay1 (F := Ideal)))) := by
  unfold sl.v203
  rw [View.readCov_eq_canon']
  funext j
  unfold sl.HS0_2
  refine (Pieces.inside _ _ _ (ix3 0 0 (⟨512 + (j 2).val, by have : (j 2).val < 512 := (j 2).isLt; omega⟩ : Fin 1024)) _ ?_).trans ?_
  · intro a
    fin_cases a
    · exact congrArg (0 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_0, sl.r_11, sl.r_2, sl.r_3, sl.r_4, sl.r_5, sl.v7]
  rfl

/-- The maximum of head 1 is read again for the last queries. -/
theorem A_tail0_1 : sl.v393 i arg5 arg6 arg7 arg8 x0 x1 x2 x3 = tailRow (earlyMax (BitVec.ofNat 32 (i 1).val) 1 x0 x1 x2 x3 (row 1 (k0_pay1 (F := Ideal)))) := by
  unfold sl.v393
  rw [View.readCov_eq_canon']
  funext j
  unfold sl.HS0_4
  refine (Pieces.inside _ _ _ (ix3 0 0 (⟨512 + (j 2).val, by have : (j 2).val < 512 := (j 2).isLt; omega⟩ : Fin 1024)) _ ?_).trans ?_
  · intro a
    fin_cases a
    · exact congrArg (1 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_1, sl.r_15, sl.r_24, sl.v7]
  rfl

/-- The maximum of head 2 is read again for the last queries. -/
theorem A_tail0_2 : sl.v583 i arg5 arg6 arg7 arg8 x0 x1 x2 x3 = tailRow (earlyMax (BitVec.ofNat 32 (i 1).val) 2 x0 x1 x2 x3 (row 2 (k0_pay1 (F := Ideal)))) := by
  unfold sl.v583
  rw [View.readCov_eq_canon']
  funext j
  unfold sl.HS0_6
  refine (Pieces.inside _ _ _ (ix3 0 0 (⟨512 + (j 2).val, by have : (j 2).val < 512 := (j 2).isLt; omega⟩ : Fin 1024)) _ ?_).trans ?_
  · intro a
    fin_cases a
    · exact congrArg (2 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_2, sl.r_28, sl.r_36, sl.v7]
  rfl

/-- The maximum of head 3 is read again for the last queries. -/
theorem A_tail0_3 : sl.v773 i arg5 arg6 arg7 arg8 x0 x1 x2 x3 = tailRow (earlyMax (BitVec.ofNat 32 (i 1).val) 3 x0 x1 x2 x3 (row 3 (k0_pay1 (F := Ideal)))) := by
  unfold sl.v773
  rw [View.readCov_eq_canon']
  funext j
  unfold sl.HS0_8
  refine (Pieces.inside _ _ _ (ix3 0 0 (⟨512 + (j 2).val, by have : (j 2).val < 512 := (j 2).isLt; omega⟩ : Fin 1024)) _ ?_).trans ?_
  · intro a
    fin_cases a
    · exact congrArg (3 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_3, sl.r_40, sl.r_47, sl.v7]
  rfl

/-- The maximum of head 4 is read again for the last queries. -/
theorem A_tail0_4 : sl.v963 i arg5 arg6 arg7 arg8 x0 x1 x2 x3 = tailRow (earlyMax (BitVec.ofNat 32 (i 1).val) 4 x0 x1 x2 x3 (row 4 (k0_pay1 (F := Ideal)))) := by
  unfold sl.v963
  rw [View.readCov_eq_canon']
  funext j
  unfold sl.HS0_10
  refine (Pieces.inside _ _ _ (ix3 0 0 (⟨512 + (j 2).val, by have : (j 2).val < 512 := (j 2).isLt; omega⟩ : Fin 1024)) _ ?_).trans ?_
  · intro a
    fin_cases a
    · exact congrArg (4 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_4, sl.r_51, sl.r_58, sl.v7]
  rfl

/-- The maximum of head 5 is read again for the last queries. -/
theorem A_tail0_5 : sl.v1153 i arg5 arg6 arg7 arg8 x0 x1 x2 x3 = tailRow (earlyMax (BitVec.ofNat 32 (i 1).val) 5 x0 x1 x2 x3 (row 5 (k0_pay1 (F := Ideal)))) := by
  unfold sl.v1153
  rw [View.readCov_eq_canon']
  funext j
  unfold sl.HS0_12
  refine (Pieces.inside _ _ _ (ix3 0 0 (⟨512 + (j 2).val, by have : (j 2).val < 512 := (j 2).isLt; omega⟩ : Fin 1024)) _ ?_).trans ?_
  · intro a
    fin_cases a
    · exact congrArg (5 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_5, sl.r_63, sl.r_68, sl.v7]
  rfl

/-- The maximum of head 6 is read again for the last queries. -/
theorem A_tail0_6 : sl.v1343 i arg5 arg6 arg7 arg8 x0 x1 x2 x3 = tailRow (earlyMax (BitVec.ofNat 32 (i 1).val) 6 x0 x1 x2 x3 (row 6 (k0_pay1 (F := Ideal)))) := by
  unfold sl.v1343
  rw [View.readCov_eq_canon']
  funext j
  unfold sl.HS0_14
  refine (Pieces.inside _ _ _ (ix3 0 0 (⟨512 + (j 2).val, by have : (j 2).val < 512 := (j 2).isLt; omega⟩ : Fin 1024)) _ ?_).trans ?_
  · intro a
    fin_cases a
    · exact congrArg (6 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_6, sl.r_72, sl.r_76, sl.v7]
  rfl

/-- The maximum of head 7 is read again for the last queries. -/
theorem A_tail0_7 : sl.v1481 i arg5 arg6 arg7 arg8 x0 x1 x2 x3 = tailRow (earlyMax (BitVec.ofNat 32 (i 1).val) 7 x0 x1 x2 x3 (row 7 (k0_pay1 (F := Ideal)))) := by
  unfold sl.v1481
  rw [View.readCov_eq_canon']
  funext j
  unfold sl.HS0_16
  refine (Pieces.inside _ _ _ (ix3 0 0 (⟨512 + (j 2).val, by have : (j 2).val < 512 := (j 2).isLt; omega⟩ : Fin 1024)) _ ?_).trans ?_
  · intro a
    fin_cases a
    · exact congrArg (7 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_7, sl.r_79, sl.r_82, sl.v7]
  rfl

/-- The sum of head 0 is read again for the last queries. -/
theorem A_tail1_0 : sl.v213 i arg5 arg6 arg7 arg8 x0 x1 x2 x3 = tailRow (earlySum (BitVec.ofNat 32 (i 1).val) 0 x0 x1 x2 x3 (row 0 (k0_pay1 (F := Ideal))) (row 0 (k0_pay2 (F := Ideal)))) := by
  unfold sl.v213
  rw [View.readCov_eq_canon']
  funext j
  unfold sl.HS1_2
  refine (Pieces.inside _ _ _ (ix3 0 0 (⟨512 + (j 2).val, by have : (j 2).val < 512 := (j 2).isLt; omega⟩ : Fin 1024)) _ ?_).trans ?_
  · intro a
    fin_cases a
    · exact congrArg (0 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_0, A_old1_0, sl.r_14, sl.r_2, sl.r_3, sl.r_4, sl.r_5, sl.v7]
  rfl

/-- The sum of head 1 is read again for the last queries. -/
theorem A_tail1_1 : sl.v403 i arg5 arg6 arg7 arg8 x0 x1 x2 x3 = tailRow (earlySum (BitVec.ofNat 32 (i 1).val) 1 x0 x1 x2 x3 (row 1 (k0_pay1 (F := Ideal))) (row 1 (k0_pay2 (F := Ideal)))) := by
  unfold sl.v403
  rw [View.readCov_eq_canon']
  funext j
  unfold sl.HS1_4
  refine (Pieces.inside _ _ _ (ix3 0 0 (⟨512 + (j 2).val, by have : (j 2).val < 512 := (j 2).isLt; omega⟩ : Fin 1024)) _ ?_).trans ?_
  · intro a
    fin_cases a
    · exact congrArg (1 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_1, A_old1_1, sl.r_15, sl.r_27, sl.v7]
  rfl

/-- The sum of head 2 is read again for the last queries. -/
theorem A_tail1_2 : sl.v593 i arg5 arg6 arg7 arg8 x0 x1 x2 x3 = tailRow (earlySum (BitVec.ofNat 32 (i 1).val) 2 x0 x1 x2 x3 (row 2 (k0_pay1 (F := Ideal))) (row 2 (k0_pay2 (F := Ideal)))) := by
  unfold sl.v593
  rw [View.readCov_eq_canon']
  funext j
  unfold sl.HS1_6
  refine (Pieces.inside _ _ _ (ix3 0 0 (⟨512 + (j 2).val, by have : (j 2).val < 512 := (j 2).isLt; omega⟩ : Fin 1024)) _ ?_).trans ?_
  · intro a
    fin_cases a
    · exact congrArg (2 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_2, A_old1_2, sl.r_28, sl.r_39, sl.v7]
  rfl

/-- The sum of head 3 is read again for the last queries. -/
theorem A_tail1_3 : sl.v783 i arg5 arg6 arg7 arg8 x0 x1 x2 x3 = tailRow (earlySum (BitVec.ofNat 32 (i 1).val) 3 x0 x1 x2 x3 (row 3 (k0_pay1 (F := Ideal))) (row 3 (k0_pay2 (F := Ideal)))) := by
  unfold sl.v783
  rw [View.readCov_eq_canon']
  funext j
  unfold sl.HS1_8
  refine (Pieces.inside _ _ _ (ix3 0 0 (⟨512 + (j 2).val, by have : (j 2).val < 512 := (j 2).isLt; omega⟩ : Fin 1024)) _ ?_).trans ?_
  · intro a
    fin_cases a
    · exact congrArg (3 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_3, A_old1_3, sl.r_40, sl.r_50, sl.v7]
  rfl

/-- The sum of head 4 is read again for the last queries. -/
theorem A_tail1_4 : sl.v973 i arg5 arg6 arg7 arg8 x0 x1 x2 x3 = tailRow (earlySum (BitVec.ofNat 32 (i 1).val) 4 x0 x1 x2 x3 (row 4 (k0_pay1 (F := Ideal))) (row 4 (k0_pay2 (F := Ideal)))) := by
  unfold sl.v973
  rw [View.readCov_eq_canon']
  funext j
  unfold sl.HS1_10
  refine (Pieces.inside _ _ _ (ix3 0 0 (⟨512 + (j 2).val, by have : (j 2).val < 512 := (j 2).isLt; omega⟩ : Fin 1024)) _ ?_).trans ?_
  · intro a
    fin_cases a
    · exact congrArg (4 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_4, A_old1_4, sl.r_51, sl.r_61, sl.r_62, sl.v7]
  rfl

/-- The sum of head 5 is read again for the last queries. -/
theorem A_tail1_5 : sl.v1163 i arg5 arg6 arg7 arg8 x0 x1 x2 x3 = tailRow (earlySum (BitVec.ofNat 32 (i 1).val) 5 x0 x1 x2 x3 (row 5 (k0_pay1 (F := Ideal))) (row 5 (k0_pay2 (F := Ideal)))) := by
  unfold sl.v1163
  rw [View.readCov_eq_canon']
  funext j
  unfold sl.HS1_12
  refine (Pieces.inside _ _ _ (ix3 0 0 (⟨512 + (j 2).val, by have : (j 2).val < 512 := (j 2).isLt; omega⟩ : Fin 1024)) _ ?_).trans ?_
  · intro a
    fin_cases a
    · exact congrArg (5 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_5, A_old1_5, sl.r_63, sl.r_70, sl.r_71, sl.v7]
  rfl

/-- The sum of head 6 is read again for the last queries. -/
theorem A_tail1_6 : sl.v1353 i arg5 arg6 arg7 arg8 x0 x1 x2 x3 = tailRow (earlySum (BitVec.ofNat 32 (i 1).val) 6 x0 x1 x2 x3 (row 6 (k0_pay1 (F := Ideal))) (row 6 (k0_pay2 (F := Ideal)))) := by
  unfold sl.v1353
  rw [View.readCov_eq_canon']
  funext j
  unfold sl.HS1_14
  refine (Pieces.inside _ _ _ (ix3 0 0 (⟨512 + (j 2).val, by have : (j 2).val < 512 := (j 2).isLt; omega⟩ : Fin 1024)) _ ?_).trans ?_
  · intro a
    fin_cases a
    · exact congrArg (6 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_6, A_old1_6, sl.r_72, sl.r_77, sl.r_78, sl.v7]
  rfl

/-- The sum of head 7 is read again for the last queries. -/
theorem A_tail1_7 : sl.v1491 i arg5 arg6 arg7 arg8 x0 x1 x2 x3 = tailRow (earlySum (BitVec.ofNat 32 (i 1).val) 7 x0 x1 x2 x3 (row 7 (k0_pay1 (F := Ideal))) (row 7 (k0_pay2 (F := Ideal)))) := by
  unfold sl.v1491
  rw [View.readCov_eq_canon']
  funext j
  unfold sl.HS1_16
  refine (Pieces.inside _ _ _ (ix3 0 0 (⟨512 + (j 2).val, by have : (j 2).val < 512 := (j 2).isLt; omega⟩ : Fin 1024)) _ ?_).trans ?_
  · intro a
    fin_cases a
    · exact congrArg (7 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, A_old0_7, A_old1_7, sl.r_79, sl.r_83, sl.r_84, sl.v7]
  rfl

/-- The accumulator of head 0 is read again for the last queries. -/
theorem A_tail2_0 : sl.v222 i arg5 arg6 arg7 arg8 arg9 x0 x1 x2 x3 x4 = tailRows (earlyAcc (BitVec.ofNat 32 (i 1).val) 0 x0 x1 x2 x3 x4 (row 0 (k0_pay1 (F := Ideal))) (rows 0 (k0_pay3 (F := Ideal)))) := by
  unfold sl.v222
  rw [View.readCov_eq_canon']
  funext j
  unfold sl.HS2_2
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (0 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_0, A_old2_0, sl.r_12, sl.r_13, sl.r_2, sl.r_3, sl.r_4, sl.r_5, sl.v7]
  rfl

/-- The accumulator of head 1 is read again for the last queries. -/
theorem A_tail2_1 : sl.v412 i arg5 arg6 arg7 arg8 arg9 x0 x1 x2 x3 x4 = tailRows (earlyAcc (BitVec.ofNat 32 (i 1).val) 1 x0 x1 x2 x3 x4 (row 1 (k0_pay1 (F := Ideal))) (rows 1 (k0_pay3 (F := Ideal)))) := by
  unfold sl.v412
  rw [View.readCov_eq_canon']
  funext j
  unfold sl.HS2_4
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (1 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_1, A_old2_1, sl.r_15, sl.r_25, sl.r_26, sl.v7]
  rfl

/-- The accumulator of head 2 is read again for the last queries. -/
theorem A_tail2_2 : sl.v602 i arg5 arg6 arg7 arg8 arg9 x0 x1 x2 x3 x4 = tailRows (earlyAcc (BitVec.ofNat 32 (i 1).val) 2 x0 x1 x2 x3 x4 (row 2 (k0_pay1 (F := Ideal))) (rows 2 (k0_pay3 (F := Ideal)))) := by
  unfold sl.v602
  rw [View.readCov_eq_canon']
  funext j
  unfold sl.HS2_6
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (2 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_2, A_old2_2, sl.r_28, sl.r_37, sl.r_38, sl.v7]
  rfl

/-- The accumulator of head 3 is read again for the last queries. -/
theorem A_tail2_3 : sl.v792 i arg5 arg6 arg7 arg8 arg9 x0 x1 x2 x3 x4 = tailRows (earlyAcc (BitVec.ofNat 32 (i 1).val) 3 x0 x1 x2 x3 x4 (row 3 (k0_pay1 (F := Ideal))) (rows 3 (k0_pay3 (F := Ideal)))) := by
  unfold sl.v792
  rw [View.readCov_eq_canon']
  funext j
  unfold sl.HS2_8
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (3 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_3, A_old2_3, sl.r_40, sl.r_48, sl.r_49, sl.v7]
  rfl

/-- The accumulator of head 4 is read again for the last queries. -/
theorem A_tail2_4 : sl.v982 i arg5 arg6 arg7 arg8 arg9 x0 x1 x2 x3 x4 = tailRows (earlyAcc (BitVec.ofNat 32 (i 1).val) 4 x0 x1 x2 x3 x4 (row 4 (k0_pay1 (F := Ideal))) (rows 4 (k0_pay3 (F := Ideal)))) := by
  unfold sl.v982
  rw [View.readCov_eq_canon']
  funext j
  unfold sl.HS2_10
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (4 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_4, A_old2_4, sl.r_51, sl.r_59, sl.r_60, sl.v7]
  rfl

/-- The accumulator of head 5 is read again for the last queries. -/
theorem A_tail2_5 : sl.v1172 i arg5 arg6 arg7 arg8 arg9 x0 x1 x2 x3 x4 = tailRows (earlyAcc (BitVec.ofNat 32 (i 1).val) 5 x0 x1 x2 x3 x4 (row 5 (k0_pay1 (F := Ideal))) (rows 5 (k0_pay3 (F := Ideal)))) := by
  unfold sl.v1172
  rw [View.readCov_eq_canon']
  funext j
  unfold sl.HS2_12
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (5 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_5, A_old2_5, sl.r_63, sl.r_69, sl.r_70, sl.v7]
  rfl

/-- The accumulator of head 6 is read again for the last queries. -/
theorem A_tail2_6 : sl.v1362 i arg5 arg6 arg7 arg8 arg9 x0 x1 x2 x3 x4 = tailRows (earlyAcc (BitVec.ofNat 32 (i 1).val) 6 x0 x1 x2 x3 x4 (row 6 (k0_pay1 (F := Ideal))) (rows 6 (k0_pay3 (F := Ideal)))) := by
  unfold sl.v1362
  rw [View.readCov_eq_canon']
  funext j
  unfold sl.HS2_14
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (6 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_6, A_old2_6, sl.r_72, sl.r_77, sl.r_78, sl.v7]
  rfl

/-- The accumulator of head 7 is read again for the last queries. -/
theorem A_tail2_7 : sl.v1500 i arg5 arg6 arg7 arg8 arg9 x0 x1 x2 x3 x4 = tailRows (earlyAcc (BitVec.ofNat 32 (i 1).val) 7 x0 x1 x2 x3 x4 (row 7 (k0_pay1 (F := Ideal))) (rows 7 (k0_pay3 (F := Ideal)))) := by
  unfold sl.v1500
  rw [View.readCov_eq_canon']
  funext j
  unfold sl.HS2_16
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (7 + ·) (show 1 * (j 0).val = 0 by have : (j 0).val < 1 := (j 0).isLt; omega)
    · exact congrArg (0 + ·) (one_mul _)
    · show 512 + 1 * (j 2).val = 0 + (512 + (j 2).val)
      omega
  simp only [View.readAt_rep, A_old0_7, A_old2_7, sl.r_79, sl.r_83, sl.r_84, sl.v7]
  rfl

/-- The sum of head 0 after the block. -/
theorem A_last1_0 : sl.v238 i arg5 arg6 arg7 arg8 x0 x1 x2 x3 = lastSum (BitVec.ofNat 32 (i 1).val) 0 x0 x1 x2 x3 (row 0 (k0_pay1 (F := Ideal))) (row 0 (k0_pay2 (F := Ideal))) := by
  unfold sl.v238
  rw [View.readCov_eq_canon']
  funext j
  unfold sl.HS1_3
  by_cases hj : (j 2).val < 512
  · refine (Pieces.outside _ _ _ _ (2 : Fin 3) (Or.inl (show 0 + 1 * (j 2).val < 512 by omega))).trans ?_
    unfold sl.HS1_2
    refine (Pieces.inside _ _ _ j _ ?_).trans ?_
    · intro a
      fin_cases a <;> exact congrArg (_ + ·) (one_mul _)
    refine Eq.trans ?_ (if_pos hj).symm
    simp only [View.readAt_rep, A_old0_0, A_old1_0, sl.cst_34, sl.r_10, sl.r_14, sl.r_17, sl.r_18, sl.r_2, sl.r_3, sl.r_4, sl.r_5, sl.r_6, sl.r_7, sl.r_8, sl.r_9, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (0 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_0, A_tail1_0, sl.cst_34, sl.r_10, sl.r_14, sl.r_17, sl.r_18, sl.r_2, sl.r_3, sl.r_4, sl.r_5, sl.r_6, sl.r_7, sl.r_8, sl.r_9, sl.v7]
    rfl

/-- The sum of head 1 after the block. -/
theorem A_last1_1 : sl.v428 i arg5 arg6 arg7 arg8 x0 x1 x2 x3 = lastSum (BitVec.ofNat 32 (i 1).val) 1 x0 x1 x2 x3 (row 1 (k0_pay1 (F := Ideal))) (row 1 (k0_pay2 (F := Ideal))) := by
  unfold sl.v428
  rw [View.readCov_eq_canon']
  funext j
  unfold sl.HS1_5
  by_cases hj : (j 2).val < 512
  · refine (Pieces.outside _ _ _ _ (2 : Fin 3) (Or.inl (show 0 + 1 * (j 2).val < 512 by omega))).trans ?_
    unfold sl.HS1_4
    refine (Pieces.inside _ _ _ j _ ?_).trans ?_
    · intro a
      fin_cases a <;> exact congrArg (_ + ·) (one_mul _)
    refine Eq.trans ?_ (if_pos hj).symm
    simp only [View.readAt_rep, A_old0_1, A_old1_1, sl.r_15, sl.r_21, sl.r_22, sl.r_23, sl.r_27, sl.r_30, sl.r_31, sl.r_8, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (1 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_1, A_tail1_1, sl.r_15, sl.r_21, sl.r_22, sl.r_23, sl.r_27, sl.r_30, sl.r_31, sl.r_8, sl.v7]
    rfl

/-- The sum of head 2 after the block. -/
theorem A_last1_2 : sl.v618 i arg5 arg6 arg7 arg8 x0 x1 x2 x3 = lastSum (BitVec.ofNat 32 (i 1).val) 2 x0 x1 x2 x3 (row 2 (k0_pay1 (F := Ideal))) (row 2 (k0_pay2 (F := Ideal))) := by
  unfold sl.v618
  rw [View.readCov_eq_canon']
  funext j
  unfold sl.HS1_7
  by_cases hj : (j 2).val < 512
  · refine (Pieces.outside _ _ _ _ (2 : Fin 3) (Or.inl (show 0 + 1 * (j 2).val < 512 by omega))).trans ?_
    unfold sl.HS1_6
    refine (Pieces.inside _ _ _ j _ ?_).trans ?_
    · intro a
      fin_cases a <;> exact congrArg (_ + ·) (one_mul _)
    refine Eq.trans ?_ (if_pos hj).symm
    simp only [View.readAt_rep, A_old0_2, A_old1_2, sl.r_28, sl.r_33, sl.r_34, sl.r_35, sl.r_39, sl.r_42, sl.r_43, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (2 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_2, A_tail1_2, sl.r_28, sl.r_33, sl.r_34, sl.r_35, sl.r_39, sl.r_42, sl.r_43, sl.v7]
    rfl

/-- The sum of head 3 after the block. -/
theorem A_last1_3 : sl.v808 i arg5 arg6 arg7 arg8 x0 x1 x2 x3 = lastSum (BitVec.ofNat 32 (i 1).val) 3 x0 x1 x2 x3 (row 3 (k0_pay1 (F := Ideal))) (row 3 (k0_pay2 (F := Ideal))) := by
  unfold sl.v808
  rw [View.readCov_eq_canon']
  funext j
  unfold sl.HS1_9
  by_cases hj : (j 2).val < 512
  · refine (Pieces.outside _ _ _ _ (2 : Fin 3) (Or.inl (show 0 + 1 * (j 2).val < 512 by omega))).trans ?_
    unfold sl.HS1_8
    refine (Pieces.inside _ _ _ j _ ?_).trans ?_
    · intro a
      fin_cases a <;> exact congrArg (_ + ·) (one_mul _)
    refine Eq.trans ?_ (if_pos hj).symm
    simp only [View.readAt_rep, A_old0_3, A_old1_3, sl.r_40, sl.r_45, sl.r_46, sl.r_50, sl.r_52, sl.r_53, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (3 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_3, A_tail1_3, sl.r_40, sl.r_45, sl.r_46, sl.r_50, sl.r_52, sl.r_53, sl.v7]
    rfl

/-- The sum of head 4 after the block. -/
theorem A_last1_4 : sl.v998 i arg5 arg6 arg7 arg8 x0 x1 x2 x3 = lastSum (BitVec.ofNat 32 (i 1).val) 4 x0 x1 x2 x3 (row 4 (k0_pay1 (F := Ideal))) (row 4 (k0_pay2 (F := Ideal))) := by
  unfold sl.v998
  rw [View.readCov_eq_canon']
  funext j
  unfold sl.HS1_11
  by_cases hj : (j 2).val < 512
  · refine (Pieces.outside _ _ _ _ (2 : Fin 3) (Or.inl (show 0 + 1 * (j 2).val < 512 by omega))).trans ?_
    unfold sl.HS1_10
    refine (Pieces.inside _ _ _ j _ ?_).trans ?_
    · intro a
      fin_cases a <;> exact congrArg (_ + ·) (one_mul _)
    refine Eq.trans ?_ (if_pos hj).symm
    simp only [View.readAt_rep, A_old0_4, A_old1_4, sl.r_51, sl.r_56, sl.r_57, sl.r_61, sl.r_62, sl.r_64, sl.r_65, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (4 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_4, A_tail1_4, sl.r_51, sl.r_56, sl.r_57, sl.r_61, sl.r_62, sl.r_64, sl.r_65, sl.v7]
    rfl

/-- The sum of head 5 after the block. -/
theorem A_last1_5 : sl.v1188 i arg5 arg6 arg7 arg8 x0 x1 x2 x3 = lastSum (BitVec.ofNat 32 (i 1).val) 5 x0 x1 x2 x3 (row 5 (k0_pay1 (F := Ideal))) (row 5 (k0_pay2 (F := Ideal))) := by
  unfold sl.v1188
  rw [View.readCov_eq_canon']
  funext j
  unfold sl.HS1_13
  by_cases hj : (j 2).val < 512
  · refine (Pieces.outside _ _ _ _ (2 : Fin 3) (Or.inl (show 0 + 1 * (j 2).val < 512 by omega))).trans ?_
    unfold sl.HS1_12
    refine (Pieces.inside _ _ _ j _ ?_).trans ?_
    · intro a
      fin_cases a <;> exact congrArg (_ + ·) (one_mul _)
    refine Eq.trans ?_ (if_pos hj).symm
    simp only [View.readAt_rep, A_old0_5, A_old1_5, sl.r_63, sl.r_67, sl.r_70, sl.r_71, sl.r_73, sl.v1040, sl.v1041, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (5 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_5, A_tail1_5, sl.r_63, sl.r_67, sl.r_70, sl.r_71, sl.r_73, sl.v1040, sl.v1041, sl.v7]
    rfl

/-- The sum of head 6 after the block. -/
theorem A_last1_6 : sl.v1378 i arg5 arg6 arg7 arg8 x0 x1 x2 x3 = lastSum (BitVec.ofNat 32 (i 1).val) 6 x0 x1 x2 x3 (row 6 (k0_pay1 (F := Ideal))) (row 6 (k0_pay2 (F := Ideal))) := by
  unfold sl.v1378
  rw [View.readCov_eq_canon']
  funext j
  unfold sl.HS1_15
  by_cases hj : (j 2).val < 512
  · refine (Pieces.outside _ _ _ _ (2 : Fin 3) (Or.inl (show 0 + 1 * (j 2).val < 512 by omega))).trans ?_
    unfold sl.HS1_14
    refine (Pieces.inside _ _ _ j _ ?_).trans ?_
    · intro a
      fin_cases a <;> exact congrArg (_ + ·) (one_mul _)
    refine Eq.trans ?_ (if_pos hj).symm
    simp only [View.readAt_rep, A_old0_6, A_old1_6, sl.r_72, sl.r_75, sl.r_77, sl.r_78, sl.v1040, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (6 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_6, A_tail1_6, sl.r_72, sl.r_75, sl.r_77, sl.r_78, sl.v1040, sl.v7]
    rfl

/-- The sum of head 7 after the block. -/
theorem A_last1_7 : sl.v1516 i arg5 arg6 arg7 arg8 x0 x1 x2 x3 = lastSum (BitVec.ofNat 32 (i 1).val) 7 x0 x1 x2 x3 (row 7 (k0_pay1 (F := Ideal))) (row 7 (k0_pay2 (F := Ideal))) := by
  unfold sl.v1516
  rw [View.readCov_eq_canon']
  funext j
  unfold sl.HS1_17
  by_cases hj : (j 2).val < 512
  · refine (Pieces.outside _ _ _ _ (2 : Fin 3) (Or.inl (show 0 + 1 * (j 2).val < 512 by omega))).trans ?_
    unfold sl.HS1_16
    refine (Pieces.inside _ _ _ j _ ?_).trans ?_
    · intro a
      fin_cases a <;> exact congrArg (_ + ·) (one_mul _)
    refine Eq.trans ?_ (if_pos hj).symm
    simp only [View.readAt_rep, A_old0_7, A_old1_7, sl.r_79, sl.r_81, sl.r_83, sl.r_84, sl.r_86, sl.r_87, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (7 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, A_tail0_7, A_tail1_7, sl.r_79, sl.r_81, sl.r_83, sl.r_84, sl.r_86, sl.r_87, sl.v7]
    rfl

/-- The accumulator of head 0 after the block. -/
theorem A_last2_0 : sl.v236 i arg5 arg6 arg7 arg8 arg9 x0 x1 x2 x3 x4 = lastAcc (BitVec.ofNat 32 (i 1).val) 0 x0 x1 x2 x3 x4 (row 0 (k0_pay1 (F := Ideal))) (rows 0 (k0_pay3 (F := Ideal))) := by
  unfold sl.v236
  rw [View.readCov_eq_canon']
  funext j
  unfold sl.HS2_3
  by_cases hj : (j 2).val < 512
  · refine (Pieces.outside _ _ _ _ (2 : Fin 3) (Or.inl (show 0 + 1 * (j 2).val < 512 by omega))).trans ?_
    unfold sl.HS2_2
    refine (Pieces.inside _ _ _ j _ ?_).trans ?_
    · intro a
      fin_cases a <;> exact congrArg (_ + ·) (one_mul _)
    refine Eq.trans ?_ (if_pos hj).symm
    simp only [View.readAt_rep, A_old0_0, A_old2_0, sl.cst_34, sl.r_10, sl.r_12, sl.r_13, sl.r_17, sl.r_18, sl.r_2, sl.r_3, sl.r_4, sl.r_5, sl.r_6, sl.r_7, sl.r_8, sl.r_9, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (0 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_0, A_tail2_0, sl.cst_34, sl.r_10, sl.r_12, sl.r_13, sl.r_17, sl.r_18, sl.r_2, sl.r_3, sl.r_4, sl.r_5, sl.r_6, sl.r_7, sl.r_8, sl.r_9, sl.v7]
    rfl

/-- The accumulator of head 1 after the block. -/
theorem A_last2_1 : sl.v426 i arg5 arg6 arg7 arg8 arg9 x0 x1 x2 x3 x4 = lastAcc (BitVec.ofNat 32 (i 1).val) 1 x0 x1 x2 x3 x4 (row 1 (k0_pay1 (F := Ideal))) (rows 1 (k0_pay3 (F := Ideal))) := by
  unfold sl.v426
  rw [View.readCov_eq_canon']
  funext j
  unfold sl.HS2_5
  by_cases hj : (j 2).val < 512
  · refine (Pieces.outside _ _ _ _ (2 : Fin 3) (Or.inl (show 0 + 1 * (j 2).val < 512 by omega))).trans ?_
    unfold sl.HS2_4
    refine (Pieces.inside _ _ _ j _ ?_).trans ?_
    · intro a
      fin_cases a <;> exact congrArg (_ + ·) (one_mul _)
    refine Eq.trans ?_ (if_pos hj).symm
    simp only [View.readAt_rep, A_old0_1, A_old2_1, sl.r_15, sl.r_21, sl.r_22, sl.r_23, sl.r_25, sl.r_26, sl.r_30, sl.r_31, sl.r_8, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (1 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_1, A_tail2_1, sl.r_15, sl.r_21, sl.r_22, sl.r_23, sl.r_25, sl.r_26, sl.r_30, sl.r_31, sl.r_8, sl.v7]
    rfl

/-- The accumulator of head 2 after the block. -/
theorem A_last2_2 : sl.v616 i arg5 arg6 arg7 arg8 arg9 x0 x1 x2 x3 x4 = lastAcc (BitVec.ofNat 32 (i 1).val) 2 x0 x1 x2 x3 x4 (row 2 (k0_pay1 (F := Ideal))) (rows 2 (k0_pay3 (F := Ideal))) := by
  unfold sl.v616
  rw [View.readCov_eq_canon']
  funext j
  unfold sl.HS2_7
  by_cases hj : (j 2).val < 512
  · refine (Pieces.outside _ _ _ _ (2 : Fin 3) (Or.inl (show 0 + 1 * (j 2).val < 512 by omega))).trans ?_
    unfold sl.HS2_6
    refine (Pieces.inside _ _ _ j _ ?_).trans ?_
    · intro a
      fin_cases a <;> exact congrArg (_ + ·) (one_mul _)
    refine Eq.trans ?_ (if_pos hj).symm
    simp only [View.readAt_rep, A_old0_2, A_old2_2, sl.r_28, sl.r_33, sl.r_34, sl.r_35, sl.r_37, sl.r_38, sl.r_42, sl.r_43, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (2 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_2, A_tail2_2, sl.r_28, sl.r_33, sl.r_34, sl.r_35, sl.r_37, sl.r_38, sl.r_42, sl.r_43, sl.v7]
    rfl

/-- The accumulator of head 3 after the block. -/
theorem A_last2_3 : sl.v806 i arg5 arg6 arg7 arg8 arg9 x0 x1 x2 x3 x4 = lastAcc (BitVec.ofNat 32 (i 1).val) 3 x0 x1 x2 x3 x4 (row 3 (k0_pay1 (F := Ideal))) (rows 3 (k0_pay3 (F := Ideal))) := by
  unfold sl.v806
  rw [View.readCov_eq_canon']
  funext j
  unfold sl.HS2_9
  by_cases hj : (j 2).val < 512
  · refine (Pieces.outside _ _ _ _ (2 : Fin 3) (Or.inl (show 0 + 1 * (j 2).val < 512 by omega))).trans ?_
    unfold sl.HS2_8
    refine (Pieces.inside _ _ _ j _ ?_).trans ?_
    · intro a
      fin_cases a <;> exact congrArg (_ + ·) (one_mul _)
    refine Eq.trans ?_ (if_pos hj).symm
    simp only [View.readAt_rep, A_old0_3, A_old2_3, sl.r_40, sl.r_45, sl.r_46, sl.r_48, sl.r_49, sl.r_52, sl.r_53, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (3 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_3, A_tail2_3, sl.r_40, sl.r_45, sl.r_46, sl.r_48, sl.r_49, sl.r_52, sl.r_53, sl.v7]
    rfl

/-- The accumulator of head 4 after the block. -/
theorem A_last2_4 : sl.v996 i arg5 arg6 arg7 arg8 arg9 x0 x1 x2 x3 x4 = lastAcc (BitVec.ofNat 32 (i 1).val) 4 x0 x1 x2 x3 x4 (row 4 (k0_pay1 (F := Ideal))) (rows 4 (k0_pay3 (F := Ideal))) := by
  unfold sl.v996
  rw [View.readCov_eq_canon']
  funext j
  unfold sl.HS2_11
  by_cases hj : (j 2).val < 512
  · refine (Pieces.outside _ _ _ _ (2 : Fin 3) (Or.inl (show 0 + 1 * (j 2).val < 512 by omega))).trans ?_
    unfold sl.HS2_10
    refine (Pieces.inside _ _ _ j _ ?_).trans ?_
    · intro a
      fin_cases a <;> exact congrArg (_ + ·) (one_mul _)
    refine Eq.trans ?_ (if_pos hj).symm
    simp only [View.readAt_rep, A_old0_4, A_old2_4, sl.r_51, sl.r_56, sl.r_57, sl.r_59, sl.r_60, sl.r_64, sl.r_65, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (4 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_4, A_tail2_4, sl.r_51, sl.r_56, sl.r_57, sl.r_59, sl.r_60, sl.r_64, sl.r_65, sl.v7]
    rfl

/-- The accumulator of head 5 after the block. -/
theorem A_last2_5 : sl.v1186 i arg5 arg6 arg7 arg8 arg9 x0 x1 x2 x3 x4 = lastAcc (BitVec.ofNat 32 (i 1).val) 5 x0 x1 x2 x3 x4 (row 5 (k0_pay1 (F := Ideal))) (rows 5 (k0_pay3 (F := Ideal))) := by
  unfold sl.v1186
  rw [View.readCov_eq_canon']
  funext j
  unfold sl.HS2_13
  by_cases hj : (j 2).val < 512
  · refine (Pieces.outside _ _ _ _ (2 : Fin 3) (Or.inl (show 0 + 1 * (j 2).val < 512 by omega))).trans ?_
    unfold sl.HS2_12
    refine (Pieces.inside _ _ _ j _ ?_).trans ?_
    · intro a
      fin_cases a <;> exact congrArg (_ + ·) (one_mul _)
    refine Eq.trans ?_ (if_pos hj).symm
    simp only [View.readAt_rep, A_old0_5, A_old2_5, sl.r_63, sl.r_67, sl.r_69, sl.r_70, sl.r_73, sl.v1040, sl.v1041, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (5 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_5, A_tail2_5, sl.r_63, sl.r_67, sl.r_69, sl.r_70, sl.r_73, sl.v1040, sl.v1041, sl.v7]
    rfl

/-- The accumulator of head 6 after the block. -/
theorem A_last2_6 : sl.v1376 i arg5 arg6 arg7 arg8 arg9 x0 x1 x2 x3 x4 = lastAcc (BitVec.ofNat 32 (i 1).val) 6 x0 x1 x2 x3 x4 (row 6 (k0_pay1 (F := Ideal))) (rows 6 (k0_pay3 (F := Ideal))) := by
  unfold sl.v1376
  rw [View.readCov_eq_canon']
  funext j
  unfold sl.HS2_15
  by_cases hj : (j 2).val < 512
  · refine (Pieces.outside _ _ _ _ (2 : Fin 3) (Or.inl (show 0 + 1 * (j 2).val < 512 by omega))).trans ?_
    unfold sl.HS2_14
    refine (Pieces.inside _ _ _ j _ ?_).trans ?_
    · intro a
      fin_cases a <;> exact congrArg (_ + ·) (one_mul _)
    refine Eq.trans ?_ (if_pos hj).symm
    simp only [View.readAt_rep, A_old0_6, A_old2_6, sl.r_72, sl.r_75, sl.r_77, sl.r_78, sl.v1040, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (6 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_6, A_tail2_6, sl.r_72, sl.r_75, sl.r_77, sl.r_78, sl.v1040, sl.v7]
    rfl

/-- The accumulator of head 7 after the block. -/
theorem A_last2_7 : sl.v1514 i arg5 arg6 arg7 arg8 arg9 x0 x1 x2 x3 x4 = lastAcc (BitVec.ofNat 32 (i 1).val) 7 x0 x1 x2 x3 x4 (row 7 (k0_pay1 (F := Ideal))) (rows 7 (k0_pay3 (F := Ideal))) := by
  unfold sl.v1514
  rw [View.readCov_eq_canon']
  funext j
  unfold sl.HS2_17
  by_cases hj : (j 2).val < 512
  · refine (Pieces.outside _ _ _ _ (2 : Fin 3) (Or.inl (show 0 + 1 * (j 2).val < 512 by omega))).trans ?_
    unfold sl.HS2_16
    refine (Pieces.inside _ _ _ j _ ?_).trans ?_
    · intro a
      fin_cases a <;> exact congrArg (_ + ·) (one_mul _)
    refine Eq.trans ?_ (if_pos hj).symm
    simp only [View.readAt_rep, A_old0_7, A_old2_7, sl.r_79, sl.r_81, sl.r_83, sl.r_84, sl.r_86, sl.r_87, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (7 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, A_tail0_7, A_tail2_7, sl.r_79, sl.r_81, sl.r_83, sl.r_84, sl.r_86, sl.r_87, sl.v7]
    rfl

theorem A_out_0 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨0 + d.val, by omega⟩ : Fin 1024))
    = k0_pay6 (k0_pay279 (lastAcc (BitVec.ofNat 32 (i 1).val) 0 x0 x1 x2 x3 x4 (row 0 (k0_pay1 (F := Ideal))) (rows 0 (k0_pay3 (F := Ideal)))) (lastSum (BitVec.ofNat 32 (i 1).val) 0 x0 x1 x2 x3 (row 0 (k0_pay1 (F := Ideal))) (row 0 (k0_pay2 (F := Ideal))))) (k0_pay280 (cols 0 x5)) (Scalar.ofBits .f32 0x3F000000#32 : Ideal .f32) (ix2 p d) := by
  unfold out0_A_6
  rw [leftOut]
  unfold kernelRun0_A
  dsimp only
  unfold sl.HO6_8
  refine (Pieces.outside _ _ _ _ (1 : Fin 2) (Or.inl (show 0 + d.val < 896 by omega))).trans ?_
  refine (Pieces.outside _ _ _ _ (1 : Fin 2) (Or.inl (show 0 + d.val < 768 by omega))).trans ?_
  refine (Pieces.outside _ _ _ _ (1 : Fin 2) (Or.inl (show 0 + d.val < 640 by omega))).trans ?_
  refine (Pieces.outside _ _ _ _ (1 : Fin 2) (Or.inl (show 0 + d.val < 512 by omega))).trans ?_
  refine (Pieces.outside _ _ _ _ (1 : Fin 2) (Or.inl (show 0 + d.val < 384 by omega))).trans ?_
  refine (Pieces.outside _ _ _ _ (1 : Fin 2) (Or.inl (show 0 + d.val < 256 by omega))).trans ?_
  refine (Pieces.outside _ _ _ _ (1 : Fin 2) (Or.inl (show 0 + d.val < 128 by omega))).trans ?_
  refine (Pieces.inside _ _ _ (ix2 p d) _ ?_).trans ?_
  · intro a
    fin_cases a
    · exact (Nat.zero_add _).symm
    · rfl
  simp only [View.readAt_rep, A_last1_0, A_last2_0, sl.cst_813, sl.r_19, sl.r_20, sl.r_32, sl.r_44, sl.r_54, sl.r_55, sl.r_66, sl.r_74, sl.r_80, sl.r_88, sl.r_89]
  rfl

theorem A_out_1 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨128 + d.val, by omega⟩ : Fin 1024))
    = k0_pay6 (k0_pay279 (lastAcc (BitVec.ofNat 32 (i 1).val) 1 x0 x1 x2 x3 x4 (row 1 (k0_pay1 (F := Ideal))) (rows 1 (k0_pay3 (F := Ideal)))) (lastSum (BitVec.ofNat 32 (i 1).val) 1 x0 x1 x2 x3 (row 1 (k0_pay1 (F := Ideal))) (row 1 (k0_pay2 (F := Ideal))))) (k0_pay280 (cols 1 x5)) (Scalar.ofBits .f32 0x3F000000#32 : Ideal .f32) (ix2 p d) := by
  unfold out0_A_6
  rw [leftOut]
  unfold kernelRun0_A
  dsimp only
  unfold sl.HO6_8
  refine (Pieces.outside _ _ _ _ (1 : Fin 2) (Or.inl (show 128 + d.val < 896 by omega))).trans ?_
  refine (Pieces.outside _ _ _ _ (1 : Fin 2) (Or.inl (show 128 + d.val < 768 by omega))).trans ?_
  refine (Pieces.outside _ _ _ _ (1 : Fin 2) (Or.inl (show 128 + d.val < 640 by omega))).trans ?_
  refine (Pieces.outside _ _ _ _ (1 : Fin 2) (Or.inl (show 128 + d.val < 512 by omega))).trans ?_
  refine (Pieces.outside _ _ _ _ (1 : Fin 2) (Or.inl (show 128 + d.val < 384 by omega))).trans ?_
  refine (Pieces.outside _ _ _ _ (1 : Fin 2) (Or.inl (show 128 + d.val < 256 by omega))).trans ?_
  refine (Pieces.inside _ _ _ (ix2 p d) _ ?_).trans ?_
  · intro a
    fin_cases a
    · exact (Nat.zero_add _).symm
    · rfl
  simp only [View.readAt_rep, A_last1_1, A_last2_1, sl.cst_813, sl.r_19, sl.r_20, sl.r_32, sl.r_44, sl.r_54, sl.r_55, sl.r_66, sl.r_74, sl.r_80, sl.r_88, sl.r_89]
  rfl

theorem A_out_2 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨256 + d.val, by omega⟩ : Fin 1024))
    = k0_pay6 (k0_pay279 (lastAcc (BitVec.ofNat 32 (i 1).val) 2 x0 x1 x2 x3 x4 (row 2 (k0_pay1 (F := Ideal))) (rows 2 (k0_pay3 (F := Ideal)))) (lastSum (BitVec.ofNat 32 (i 1).val) 2 x0 x1 x2 x3 (row 2 (k0_pay1 (F := Ideal))) (row 2 (k0_pay2 (F := Ideal))))) (k0_pay280 (cols 2 x5)) (Scalar.ofBits .f32 0x3F000000#32 : Ideal .f32) (ix2 p d) := by
  unfold out0_A_6
  rw [leftOut]
  unfold kernelRun0_A
  dsimp only
  unfold sl.HO6_8
  refine (Pieces.outside _ _ _ _ (1 : Fin 2) (Or.inl (show 256 + d.val < 896 by omega))).trans ?_
  refine (Pieces.outside _ _ _ _ (1 : Fin 2) (Or.inl (show 256 + d.val < 768 by omega))).trans ?_
  refine (Pieces.outside _ _ _ _ (1 : Fin 2) (Or.inl (show 256 + d.val < 640 by omega))).trans ?_
  refine (Pieces.outside _ _ _ _ (1 : Fin 2) (Or.inl (show 256 + d.val < 512 by omega))).trans ?_
  refine (Pieces.outside _ _ _ _ (1 : Fin 2) (Or.inl (show 256 + d.val < 384 by omega))).trans ?_
  refine (Pieces.inside _ _ _ (ix2 p d) _ ?_).trans ?_
  · intro a
    fin_cases a
    · exact (Nat.zero_add _).symm
    · rfl
  simp only [View.readAt_rep, A_last1_2, A_last2_2, sl.cst_813, sl.r_19, sl.r_20, sl.r_32, sl.r_44, sl.r_54, sl.r_55, sl.r_66, sl.r_74, sl.r_80, sl.r_88, sl.r_89]
  rfl

theorem A_out_3 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨384 + d.val, by omega⟩ : Fin 1024))
    = k0_pay6 (k0_pay279 (lastAcc (BitVec.ofNat 32 (i 1).val) 3 x0 x1 x2 x3 x4 (row 3 (k0_pay1 (F := Ideal))) (rows 3 (k0_pay3 (F := Ideal)))) (lastSum (BitVec.ofNat 32 (i 1).val) 3 x0 x1 x2 x3 (row 3 (k0_pay1 (F := Ideal))) (row 3 (k0_pay2 (F := Ideal))))) (k0_pay280 (cols 3 x5)) (Scalar.ofBits .f32 0x3F000000#32 : Ideal .f32) (ix2 p d) := by
  unfold out0_A_6
  rw [leftOut]
  unfold kernelRun0_A
  dsimp only
  unfold sl.HO6_8
  refine (Pieces.outside _ _ _ _ (1 : Fin 2) (Or.inl (show 384 + d.val < 896 by omega))).trans ?_
  refine (Pieces.outside _ _ _ _ (1 : Fin 2) (Or.inl (show 384 + d.val < 768 by omega))).trans ?_
  refine (Pieces.outside _ _ _ _ (1 : Fin 2) (Or.inl (show 384 + d.val < 640 by omega))).trans ?_
  refine (Pieces.outside _ _ _ _ (1 : Fin 2) (Or.inl (show 384 + d.val < 512 by omega))).trans ?_
  refine (Pieces.inside _ _ _ (ix2 p d) _ ?_).trans ?_
  · intro a
    fin_cases a
    · exact (Nat.zero_add _).symm
    · rfl
  simp only [View.readAt_rep, A_last1_3, A_last2_3, sl.cst_813, sl.r_19, sl.r_20, sl.r_32, sl.r_44, sl.r_54, sl.r_55, sl.r_66, sl.r_74, sl.r_80, sl.r_88, sl.r_89]
  rfl

theorem A_out_4 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨512 + d.val, by omega⟩ : Fin 1024))
    = k0_pay6 (k0_pay279 (lastAcc (BitVec.ofNat 32 (i 1).val) 4 x0 x1 x2 x3 x4 (row 4 (k0_pay1 (F := Ideal))) (rows 4 (k0_pay3 (F := Ideal)))) (lastSum (BitVec.ofNat 32 (i 1).val) 4 x0 x1 x2 x3 (row 4 (k0_pay1 (F := Ideal))) (row 4 (k0_pay2 (F := Ideal))))) (k0_pay280 (cols 4 x5)) (Scalar.ofBits .f32 0x3F000000#32 : Ideal .f32) (ix2 p d) := by
  unfold out0_A_6
  rw [leftOut]
  unfold kernelRun0_A
  dsimp only
  unfold sl.HO6_8
  refine (Pieces.outside _ _ _ _ (1 : Fin 2) (Or.inl (show 512 + d.val < 896 by omega))).trans ?_
  refine (Pieces.outside _ _ _ _ (1 : Fin 2) (Or.inl (show 512 + d.val < 768 by omega))).trans ?_
  refine (Pieces.outside _ _ _ _ (1 : Fin 2) (Or.inl (show 512 + d.val < 640 by omega))).trans ?_
  refine (Pieces.inside _ _ _ (ix2 p d) _ ?_).trans ?_
  · intro a
    fin_cases a
    · exact (Nat.zero_add _).symm
    · rfl
  simp only [View.readAt_rep, A_last1_4, A_last2_4, sl.cst_813, sl.r_19, sl.r_20, sl.r_32, sl.r_44, sl.r_54, sl.r_55, sl.r_66, sl.r_74, sl.r_80, sl.r_88, sl.r_89]
  rfl

theorem A_out_5 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨640 + d.val, by omega⟩ : Fin 1024))
    = k0_pay6 (k0_pay279 (lastAcc (BitVec.ofNat 32 (i 1).val) 5 x0 x1 x2 x3 x4 (row 5 (k0_pay1 (F := Ideal))) (rows 5 (k0_pay3 (F := Ideal)))) (lastSum (BitVec.ofNat 32 (i 1).val) 5 x0 x1 x2 x3 (row 5 (k0_pay1 (F := Ideal))) (row 5 (k0_pay2 (F := Ideal))))) (k0_pay280 (cols 5 x5)) (Scalar.ofBits .f32 0x3F000000#32 : Ideal .f32) (ix2 p d) := by
  unfold out0_A_6
  rw [leftOut]
  unfold kernelRun0_A
  dsimp only
  unfold sl.HO6_8
  refine (Pieces.outside _ _ _ _ (1 : Fin 2) (Or.inl (show 640 + d.val < 896 by omega))).trans ?_
  refine (Pieces.outside _ _ _ _ (1 : Fin 2) (Or.inl (show 640 + d.val < 768 by omega))).trans ?_
  refine (Pieces.inside _ _ _ (ix2 p d) _ ?_).trans ?_
  · intro a
    fin_cases a
    · exact (Nat.zero_add _).symm
    · rfl
  simp only [View.readAt_rep, A_last1_5, A_last2_5, sl.cst_813, sl.r_19, sl.r_20, sl.r_32, sl.r_44, sl.r_54, sl.r_55, sl.r_66, sl.r_74, sl.r_80, sl.r_88, sl.r_89]
  rfl

theorem A_out_6 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨768 + d.val, by omega⟩ : Fin 1024))
    = k0_pay6 (k0_pay279 (lastAcc (BitVec.ofNat 32 (i 1).val) 6 x0 x1 x2 x3 x4 (row 6 (k0_pay1 (F := Ideal))) (rows 6 (k0_pay3 (F := Ideal)))) (lastSum (BitVec.ofNat 32 (i 1).val) 6 x0 x1 x2 x3 (row 6 (k0_pay1 (F := Ideal))) (row 6 (k0_pay2 (F := Ideal))))) (k0_pay280 (cols 6 x5)) (Scalar.ofBits .f32 0x3F000000#32 : Ideal .f32) (ix2 p d) := by
  unfold out0_A_6
  rw [leftOut]
  unfold kernelRun0_A
  dsimp only
  unfold sl.HO6_8
  refine (Pieces.outside _ _ _ _ (1 : Fin 2) (Or.inl (show 768 + d.val < 896 by omega))).trans ?_
  refine (Pieces.inside _ _ _ (ix2 p d) _ ?_).trans ?_
  · intro a
    fin_cases a
    · exact (Nat.zero_add _).symm
    · rfl
  simp only [View.readAt_rep, A_last1_6, A_last2_6, sl.cst_813, sl.r_19, sl.r_20, sl.r_32, sl.r_44, sl.r_54, sl.r_55, sl.r_66, sl.r_74, sl.r_80, sl.r_88, sl.r_89]
  rfl

theorem A_out_7 (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨896 + d.val, by omega⟩ : Fin 1024))
    = k0_pay6 (k0_pay279 (lastAcc (BitVec.ofNat 32 (i 1).val) 7 x0 x1 x2 x3 x4 (row 7 (k0_pay1 (F := Ideal))) (rows 7 (k0_pay3 (F := Ideal)))) (lastSum (BitVec.ofNat 32 (i 1).val) 7 x0 x1 x2 x3 (row 7 (k0_pay1 (F := Ideal))) (row 7 (k0_pay2 (F := Ideal))))) (k0_pay280 (cols 7 x5)) (Scalar.ofBits .f32 0x3F000000#32 : Ideal .f32) (ix2 p d) := by
  unfold out0_A_6
  rw [leftOut]
  unfold kernelRun0_A
  dsimp only
  unfold sl.HO6_8
  refine (Pieces.inside _ _ _ (ix2 p d) _ ?_).trans ?_
  · intro a
    fin_cases a
    · exact (Nat.zero_add _).symm
    · rfl
  simp only [View.readAt_rep, A_last1_7, A_last2_7, sl.cst_813, sl.r_19, sl.r_20, sl.r_32, sl.r_44, sl.r_54, sl.r_55, sl.r_66, sl.r_74, sl.r_80, sl.r_88, sl.r_89]
  rfl

/-- The columns of head `h` in the block the point writes. -/
theorem A_out (h : Fin 8) (p : Fin 1024) (d : Fin 128) : out0_A_6 c i arg5 harg5 arg6 harg6 arg7 harg7 arg8 harg8 arg9 harg9 arg10 harg10 arg11 harg11 T0 T1 x0 x1 x2 x3 x4 x5 hc0 hc1 k0_h3 (ix2 p (⟨128 * h.val + d.val, by omega⟩ : Fin 1024))
    = k0_pay6 (k0_pay279 (lastAcc (BitVec.ofNat 32 (i 1).val) h x0 x1 x2 x3 x4 (row h (k0_pay1 (F := Ideal))) (rows h (k0_pay3 (F := Ideal)))) (lastSum (BitVec.ofNat 32 (i 1).val) h x0 x1 x2 x3 (row h (k0_pay1 (F := Ideal))) (row h (k0_pay2 (F := Ideal))))) (k0_pay280 (cols h x5)) (Scalar.ofBits .f32 0x3F000000#32 : Ideal .f32) (ix2 p d) :=
  match h with
  | ⟨0, _⟩ => A_out_0 c i arg5 harg5 arg6 harg6 arg7 harg7 arg8 harg8 arg9 harg9 arg10 harg10 arg11 harg11 T0 T1 x0 x1 x2 x3 x4 x5 hc0 hc1 k0_h3 p d
  | ⟨1, _⟩ => A_out_1 c i arg5 harg5 arg6 harg6 arg7 harg7 arg8 harg8 arg9 harg9 arg10 harg10 arg11 harg11 T0 T1 x0 x1 x2 x3 x4 x5 hc0 hc1 k0_h3 p d
  | ⟨2, _⟩ => A_out_2 c i arg5 harg5 arg6 harg6 arg7 harg7 arg8 harg8 arg9 harg9 arg10 harg10 arg11 harg11 T0 T1 x0 x1 x2 x3 x4 x5 hc0 hc1 k0_h3 p d
  | ⟨3, _⟩ => A_out_3 c i arg5 harg5 arg6 harg6 arg7 harg7 arg8 harg8 arg9 harg9 arg10 harg10 arg11 harg11 T0 T1 x0 x1 x2 x3 x4 x5 hc0 hc1 k0_h3 p d
  | ⟨4, _⟩ => A_out_4 c i arg5 harg5 arg6 harg6 arg7 harg7 arg8 harg8 arg9 harg9 arg10 harg10 arg11 harg11 T0 T1 x0 x1 x2 x3 x4 x5 hc0 hc1 k0_h3 p d
  | ⟨5, _⟩ => A_out_5 c i arg5 harg5 arg6 harg6 arg7 harg7 arg8 harg8 arg9 harg9 arg10 harg10 arg11 harg11 T0 T1 x0 x1 x2 x3 x4 x5 hc0 hc1 k0_h3 p d
  | ⟨6, _⟩ => A_out_6 c i arg5 harg5 arg6 harg6 arg7 harg7 arg8 harg8 arg9 harg9 arg10 harg10 arg11 harg11 T0 T1 x0 x1 x2 x3 x4 x5 hc0 hc1 k0_h3 p d
  | ⟨7, _⟩ => A_out_7 c i arg5 harg5 arg6 harg6 arg7 harg7 arg8 harg8 arg9 harg9 arg10 harg10 arg11 harg11 T0 T1 x0 x1 x2 x3 x4 x5 hc0 hc1 k0_h3 p d
  | ⟨n + 8, h⟩ => absurd h (by omega)

end Cert.KernelAttIdeal.Att

end
-- ==== Proof.PathB.lean ====
/- The path of a row's first grid point, below the diagonal: the buffers are filled, then updated. -/
module

public import proofs.«01_k».proof.Proof.Heads
public import proofs.«01_k».proof.Proof.Pieces
public import proofs.«01_k».proof.Proof.Inputs
public import proofs.«01_k».proof.Proof.Gen.KernelAttIdeal.Flash.Runs

@[expose] public section

set_option maxRecDepth 16384

noncomputable section

open Idealize.ShloMosaic Idealize.ShloMosaic.TcCoe Idealize.SL.Sem

namespace Cert.KernelAttIdeal.Att

open Cert.KernelAttIdeal Cert.KernelAttIdeal.Gen Cert.KernelAttIdeal.Gen.kernelRun0_B

variable (c : Dev nD) (i : grid0.Coords) (arg5 : Memref sig .tc .vmem S1024x1024 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (T0 : (S10.Idx → Elt Ideal .i32)) (T1 : (S10.Idx → Elt Ideal .i32))
     (x0 : (S1024x1024.Idx → Elt Ideal .bf16)) (x1 : (S1024x128.Idx → Elt Ideal .bf16)) (x2 : (S1024x1024.Idx → Elt Ideal .bf16)) (x3 : (S1024x128.Idx → Elt Ideal .bf16)) (x4 : (S1024x1024.Idx → Elt Ideal .bf16)) (x5 : (S1024x1024.Idx → Elt Ideal .bf16)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1))

/-- The maximum of head 0 is read as it was filled. -/
theorem B_old0_0 : sl.v100  = row 0 (k0_pay1 (F := Ideal)) := by
  unfold sl.v100
  rw [View.readCov_eq_canon']
  funext j
  unfold sl.HS0_1
  exact Pieces.inside _ _ _ _ _ fun a => (by fin_cases a <;> exact (Nat.zero_add _).symm)

/-- The maximum of head 1 is read as it was filled. -/
theorem B_old0_1 : sl.v176 i arg5 arg6 arg7 arg8 x0 x1 x2 x3 = row 1 (k0_pay1 (F := Ideal)) := by
  unfold sl.v176
  rw [View.readCov_eq_canon']
  funext j
  unfold sl.HS0_2
  refine (Pieces.outside _ _ _ _ (0 : Fin 3) (Or.inr (show 0 + 1 ≤ 1 + 1 * _ by omega))).trans ?_
  unfold sl.HS0_1
  exact Pieces.inside _ _ _ _ _ fun a => (by fin_cases a <;> exact (Nat.zero_add _).symm)

/-- The maximum of head 2 is read as it was filled. -/
theorem B_old0_2 : sl.v252 i arg5 arg6 arg7 arg8 x0 x1 x2 x3 = row 2 (k0_pay1 (F := Ideal)) := by
  unfold sl.v252
  rw [View.readCov_eq_canon']
  funext j
  unfold sl.HS0_3
  refine (Pieces.outside _ _ _ _ (0 : Fin 3) (Or.inr (show 1 + 1 ≤ 2 + 1 * _ by omega))).trans ?_
  unfold sl.HS0_2
  refine (Pieces.outside _ _ _ _ (0 : Fin 3) (Or.inr (show 0 + 1 ≤ 2 + 1 * _ by omega))).trans ?_
  unfold sl.HS0_1
  exact Pieces.inside _ _ _ _ _ fun a => (by fin_cases a <;> exact (Nat.zero_add _).symm)

/-- The maximum of head 3 is read as it was filled. -/
theorem B_old0_3 : sl.v328 i arg5 arg6 arg7 arg8 x0 x1 x2 x3 = row 3 (k0_pay1 (F := Ideal)) := by
  unfold sl.v328
  rw [View.readCov_eq_canon']
  funext j
  unfold sl.HS0_4
  refine (Pieces.outside _ _ _ _ (0 : Fin 3) (Or.inr (show 2 + 1 ≤ 3 + 1 * _ by omega))).trans ?_
  unfold sl.HS0_3
  refine (Pieces.outside _ _ _ _ (0 : Fin 3) (Or.inr (show 1 + 1 ≤ 3 + 1 * _ by omega))).trans ?_
  unfold sl.HS0_2
  refine (Pieces.outside _ _ _ _ (0 : Fin 3) (Or.inr (show 0 + 1 ≤ 3 + 1 * _ by omega))).trans ?_
  unfold sl.HS0_1
  exact Pieces.inside _ _ _ _ _ fun a => (by fin_cases a <;> exact (Nat.zero_add _).symm)

/-- The maximum of head 4 is read as it was filled. -/
theorem B_old0_4 : sl.v404 i arg5 arg6 arg7 arg8 x0 x1 x2 x3 = row 4 (k0_pay1 (F := Ideal)) := by
  unfold sl.v404
  rw [View.readCov_eq_canon']
  funext j
  unfold sl.HS0_5
  refine (Pieces.outside _ _ _ _ (0 : Fin 3) (Or.inr (show 3 + 1 ≤ 4 + 1 * _ by omega))).trans ?_
  unfold sl.HS0_4
  refine (Pieces.outside _ _ _ _ (0 : Fin 3) (Or.inr (show 2 + 1 ≤ 4 + 1 * _ by omega))).trans ?_
  unfold sl.HS0_3
  refine (Pieces.outside _ _ _ _ (0 : Fin 3) (Or.inr (show 1 + 1 ≤ 4 + 1 * _ by omega))).trans ?_
  unfold sl.HS0_2
  refine (Pieces.outside _ _ _ _ (0 : Fin 3) (Or.inr (show 0 + 1 ≤ 4 + 1 * _ by omega))).trans ?_
  unfold sl.HS0_1
  exact Pieces.inside _ _ _ _ _ fun a => (by fin_cases a <;> exact (Nat.zero_add _).symm)

/-- The maximum of head 5 is read as it was filled. -/
theorem B_old0_5 : sl.v480 i arg5 arg6 arg7 arg8 x0 x1 x2 x3 = row 5 (k0_pay1 (F := Ideal)) := by
  unfold sl.v480
  rw [View.readCov_eq_canon']
  funext j
  unfold sl.HS0_6
  refine (Pieces.outside _ _ _ _ (0 : Fin 3) (Or.inr (show 4 + 1 ≤ 5 + 1 * _ by omega))).trans ?_
  unfold sl.HS0_5
  refine (Pieces.outside _ _ _ _ (0 : Fin 3) (Or.inr (show 3 + 1 ≤ 5 + 1 * _ by omega))).trans ?_
  unfold sl.HS0_4
  refine (Pieces.outside _ _ _ _ (0 : Fin 3) (Or.inr (show 2 + 1 ≤ 5 + 1 * _ by omega))).trans ?_
  unfold sl.HS0_3
  refine (Pieces.outside _ _ _ _ (0 : Fin 3) (Or.inr (show 1 + 1 ≤ 5 + 1 * _ by omega))).trans ?_
  unfold sl.HS0_2
  refine (Pieces.outside _ _ _ _ (0 : Fin 3) (Or.inr (show 0 + 1 ≤ 5 + 1 * _ by omega))).trans ?_
  unfold sl.HS0_1
  exact Pieces.inside _ _ _ _ _ fun a => (by fin_cases a <;> exact (Nat.zero_add _).symm)

/-- The maximum of head 6 is read as it was filled. -/
theorem B_old0_6 : sl.v556 i arg5 arg6 arg7 arg8 x0 x1 x2 x3 = row 6 (k0_pay1 (F := Ideal)) := by
  unfold sl.v556
  rw [View.readCov_eq_canon']
  funext j
  unfold sl.HS0_7
  refine (Pieces.outside _ _ _ _ (0 : Fin 3) (Or.inr (show 5 + 1 ≤ 6 + 1 * _ by omega))).trans ?_
  unfold sl.HS0_6
  refine (Pieces.outside _ _ _ _ (0 : Fin 3) (Or.inr (show 4 + 1 ≤ 6 + 1 * _ by omega))).trans ?_
  unfold sl.HS0_5
  refine (Pieces.outside _ _ _ _ (0 : Fin 3) (Or.inr (show 3 + 1 ≤ 6 + 1 * _ by omega))).trans ?_
  unfold sl.HS0_4
  refine (Pieces.outside _ _ _ _ (0 : Fin 3) (Or.inr (show 2 + 1 ≤ 6 + 1 * _ by omega))).trans ?_
  unfold sl.HS0_3
  refine (Pieces.outside _ _ _ _ (0 : Fin 3) (Or.inr (show 1 + 1 ≤ 6 + 1 * _ by omega))).trans ?_
  unfold sl.HS0_2
  refine (Pieces.outside _ _ _ _ (0 : Fin 3) (Or.inr (show 0 + 1 ≤ 6 + 1 * _ by omega))).trans ?_
  unfold sl.HS0_1
  exact Pieces.inside _ _ _ _ _ fun a => (by fin_cases a <;> exact (Nat.zero_add _).symm)

/-- The maximum of head 7 is read as it was filled. -/
theorem B_old0_7 : sl.v589 i arg5 arg6 arg7 arg8 x0 x1 x2 x3 = row 7 (k0_pay1 (F := Ideal)) := by
  unfold sl.v589
  rw [View.readCov_eq_canon']
  funext j
  unfold sl.HS0_8
  refine (Pieces.outside _ _ _ _ (0 : Fin 3) (Or.inr (show 6 + 1 ≤ 7 + 1 * _ by omega))).trans ?_
  unfold sl.HS0_7
  refine (Pieces.outside _ _ _ _ (0 : Fin 3) (Or.inr (show 5 + 1 ≤ 7 + 1 * _ by omega))).trans ?_
  unfold sl.HS0_6
  refine (Pieces.outside _ _ _ _ (0 : Fin 3) (Or.inr (show 4 + 1 ≤ 7 + 1 * _ by omega))).trans ?_
  unfold sl.HS0_5
  refine (Pieces.outside _ _ _ _ (0 : Fin 3) (Or.inr (show 3 + 1 ≤ 7 + 1 * _ by omega))).trans ?_
  unfold sl.HS0_4
  refine (Pieces.outside _ _ _ _ (0 : Fin 3) (Or.inr (show 2 + 1 ≤ 7 + 1 * _ by omega))).trans ?_
  unfold sl.HS0_3
  refine (Pieces.outside _ _ _ _ (0 : Fin 3) (Or.inr (show 1 + 1 ≤ 7 + 1 * _ by omega))).trans ?_
  unfold sl.HS0_2
  refine (Pieces.outside _ _ _ _ (0 : Fin 3) (Or.inr (show 0 + 1 ≤ 7 + 1 * _ by omega))).trans ?_
  unfold sl.HS0_1
  exact Pieces.inside _ _ _ _ _ fun a => (by fin_cases a <;> exact (Nat.zero_add _).symm)

/-- The sum of head 0 is read as it was filled. -/
theorem B_old1_0 : sl.v110  = row 0 (k0_pay2 (F := Ideal)) := by
  unfold sl.v110
  rw [View.readCov_eq_canon']
  funext j
  unfold sl.HS1_1
  exact Pieces.inside _ _ _ _ _ fun a => (by fin_cases a <;> exact (Nat.zero_add _).symm)

/-- The sum of head 1 is read as it was filled. -/
theorem B_old1_1 : sl.v186 i arg5 arg6 arg7 arg8 x0 x1 x2 x3 = row 1 (k0_pay2 (F := Ideal)) := by
  unfold sl.v186
  rw [View.readCov_eq_canon']
  funext j
  unfold sl.HS1_2
  refine (Pieces.outside _ _ _ _ (0 : Fin 3) (Or.inr (show 0 + 1 ≤ 1 + 1 * _ by omega))).trans ?_
  unfold sl.HS1_1
  exact Pieces.inside _ _ _ _ _ fun a => (by fin_cases a <;> exact (Nat.zero_add _).symm)

/-- The sum of head 2 is read as it was filled. -/
theorem B_old1_2 : sl.v262 i arg5 arg6 arg7 arg8 x0 x1 x2 x3 = row 2 (k0_pay2 (F := Ideal)) := by
  unfold sl.v262
  rw [View.readCov_eq_canon']
  funext j
  unfold sl.HS1_3
  refine (Pieces.outside _ _ _ _ (0 : Fin 3) (Or.inr (show 1 + 1 ≤ 2 + 1 * _ by omega))).trans ?_
  unfold sl.HS1_2
  refine (Pieces.outside _ _ _ _ (0 : Fin 3) (Or.inr (show 0 + 1 ≤ 2 + 1 * _ by omega))).trans ?_
  unfold sl.HS1_1
  exact Pieces.inside _ _ _ _ _ fun a => (by fin_cases a <;> exact (Nat.zero_add _).symm)

/-- The sum of head 3 is read as it was filled. -/
theorem B_old1_3 : sl.v338 i arg5 arg6 arg7 arg8 x0 x1 x2 x3 = row 3 (k0_pay2 (F := Ideal)) := by
  unfold sl.v338
  rw [View.readCov_eq_canon']
  funext j
  unfold sl.HS1_4
  refine (Pieces.outside _ _ _ _ (0 : Fin 3) (Or.inr (show 2 + 1 ≤ 3 + 1 * _ by omega))).trans ?_
  unfold sl.HS1_3
  refine (Pieces.outside _ _ _ _ (0 : Fin 3) (Or.inr (show 1 + 1 ≤ 3 + 1 * _ by omega))).trans ?_
  unfold sl.HS1_2
  refine (Pieces.outside _ _ _ _ (0 : Fin 3) (Or.inr (show 0 + 1 ≤ 3 + 1 * _ by omega))).trans ?_
  unfold sl.HS1_1
  exact Pieces.inside _ _ _ _ _ fun a => (by fin_cases a <;> exact (Nat.zero_add _).symm)

/-- The sum of head 4 is read as it was filled. -/
theorem B_old1_4 : sl.v414 i arg5 arg6 arg7 arg8 x0 x1 x2 x3 = row 4 (k0_pay2 (F := Ideal)) := by
  unfold sl.v414
  rw [View.readCov_eq_canon']
  funext j
  unfold sl.HS1_5
  refine (Pieces.outside _ _ _ _ (0 : Fin 3) (Or.inr (show 3 + 1 ≤ 4 + 1 * _ by omega))).trans ?_
  unfold sl.HS1_4
  refine (Pieces.outside _ _ _ _ (0 : Fin 3) (Or.inr (show 2 + 1 ≤ 4 + 1 * _ by omega))).trans ?_
  unfold sl.HS1_3
  refine (Pieces.outside _ _ _ _ (0 : Fin 3) (Or.inr (show 1 + 1 ≤ 4 + 1 * _ by omega))).trans ?_
  unfold sl.HS1_2
  refine (Pieces.outside _ _ _ _ (0 : Fin 3) (Or.inr (show 0 + 1 ≤ 4 + 1 * _ by omega))).trans ?_
  unfold sl.HS1_1
  exact Pieces.inside _ _ _ _ _ fun a => (by fin_cases a <;> exact (Nat.zero_add _).symm)

/-- The sum of head 5 is read as it was filled. -/
theorem B_old1_5 : sl.v490 i arg5 arg6 arg7 arg8 x0 x1 x2 x3 = row 5 (k0_pay2 (F := Ideal)) := by
  unfold sl.v490
  rw [View.readCov_eq_canon']
  funext j
  unfold sl.HS1_6
  refine (Pieces.outside _ _ _ _ (0 : Fin 3) (Or.inr (show 4 + 1 ≤ 5 + 1 * _ by omega))).trans ?_
  unfold sl.HS1_5
  refine (Pieces.outside _ _ _ _ (0 : Fin 3) (Or.inr (show 3 + 1 ≤ 5 + 1 * _ by omega))).trans ?_
  unfold sl.HS1_4
  refine (Pieces.outside _ _ _ _ (0 : Fin 3) (Or.inr (show 2 + 1 ≤ 5 + 1 * _ by omega))).trans ?_
  unfold sl.HS1_3
  refine (Pieces.outside _ _ _ _ (0 : Fin 3) (Or.inr (show 1 + 1 ≤ 5 + 1 * _ by omega))).trans ?_
  unfold sl.HS1_2
  refine (Pieces.outside _ _ _ _ (0 : Fin 3) (Or.inr (show 0 + 1 ≤ 5 + 1 * _ by omega))).trans ?_
  unfold sl.HS1_1
  exact Pieces.inside _ _ _ _ _ fun a => (by fin_cases a <;> exact (Nat.zero_add _).symm)

/-- The sum of head 6 is read as it was filled. -/
theorem B_old1_6 : sl.v566 i arg5 arg6 arg7 arg8 x0 x1 x2 x3 = row 6 (k0_pay2 (F := Ideal)) := by
  unfold sl.v566
  rw [View.readCov_eq_canon']
  funext j
  unfold sl.HS1_7
  refine (Pieces.outside _ _ _ _ (0 : Fin 3) (Or.inr (show 5 + 1 ≤ 6 + 1 * _ by omega))).trans ?_
  unfold sl.HS1_6
  refine (Pieces.outside _ _ _ _ (0 : Fin 3) (Or.inr (show 4 + 1 ≤ 6 + 1 * _ by omega))).trans ?_
  unfold sl.HS1_5
  refine (Pieces.outside _ _ _ _ (0 : Fin 3) (Or.inr (show 3 + 1 ≤ 6 + 1 * _ by omega))).trans ?_
  unfold sl.HS1_4
  refine (Pieces.outside _ _ _ _ (0 : Fin 3) (Or.inr (show 2 + 1 ≤ 6 + 1 * _ by omega))).trans ?_
  unfold sl.HS1_3
  refine (Pieces.outside _ _ _ _ (0 : Fin 3) (Or.inr (show 1 + 1 ≤ 6 + 1 * _ by omega))).trans ?_
  unfold sl.HS1_2
  refine (Pieces.outside _ _ _ _ (0 : Fin 3) (Or.inr (show 0 + 1 ≤ 6 + 1 * _ by omega))).trans ?_
  unfold sl.HS1_1
  exact Pieces.inside _ _ _ _ _ fun a => (by fin_cases a <;> exact (Nat.zero_add _).symm)

/-- The sum of head 7 is read as it was filled. -/
theorem B_old1_7 : sl.v599 i arg5 arg6 arg7 arg8 x0 x1 x2 x3 = row 7 (k0_pay2 (F := Ideal)) := by
  unfold sl.v599
  rw [View.readCov_eq_canon']
  funext j
  unfold sl.HS1_8
  refine (Pieces.outside _ _ _ _ (0 : Fin 3) (Or.inr (show 6 + 1 ≤ 7 + 1 * _ by omega))).trans ?_
  unfold sl.HS1_7
  refine (Pieces.outside _ _ _ _ (0 : Fin 3) (Or.inr (show 5 + 1 ≤ 7 + 1 * _ by omega))).trans ?_
  unfold sl.HS1_6
  refine (Pieces.outside _ _ _ _ (0 : Fin 3) (Or.inr (show 4 + 1 ≤ 7 + 1 * _ by omega))).trans ?_
  unfold sl.HS1_5
  refine (Pieces.outside _ _ _ _ (0 : Fin 3) (Or.inr (show 3 + 1 ≤ 7 + 1 * _ by omega))).trans ?_
  unfold sl.HS1_4
  refine (Pieces.outside _ _ _ _ (0 : Fin 3) (Or.inr (show 2 + 1 ≤ 7 + 1 * _ by omega))).trans ?_
  unfold sl.HS1_3
  refine (Pieces.outside _ _ _ _ (0 : Fin 3) (Or.inr (show 1 + 1 ≤ 7 + 1 * _ by omega))).trans ?_
  unfold sl.HS1_2
  refine (Pieces.outside _ _ _ _ (0 : Fin 3) (Or.inr (show 0 + 1 ≤ 7 + 1 * _ by omega))).trans ?_
  unfold sl.HS1_1
  exact Pieces.inside _ _ _ _ _ fun a => (by fin_cases a <;> exact (Nat.zero_add _).symm)

/-- The accumulator of head 0 is read as it was filled. -/
theorem B_old2_0 : sl.v119  = rows 0 (k0_pay3 (F := Ideal)) := by
  unfold sl.v119
  rw [View.readCov_eq_canon']
  funext j
  unfold sl.HS2_1
  exact Pieces.inside _ _ _ _ _ fun a => (by fin_cases a <;> exact (Nat.zero_add _).symm)

/-- The accumulator of head 1 is read as it was filled. -/
theorem B_old2_1 : sl.v195 i arg5 arg6 arg7 arg8 arg9 x0 x1 x2 x3 x4 = rows 1 (k0_pay3 (F := Ideal)) := by
  unfold sl.v195
  rw [View.readCov_eq_canon']
  funext j
  unfold sl.HS2_2
  refine (Pieces.outside _ _ _ _ (0 : Fin 3) (Or.inr (show 0 + 1 ≤ 1 + 1 * _ by omega))).trans ?_
  unfold sl.HS2_1
  exact Pieces.inside _ _ _ _ _ fun a => (by fin_cases a <;> exact (Nat.zero_add _).symm)

/-- The accumulator of head 2 is read as it was filled. -/
theorem B_old2_2 : sl.v271 i arg5 arg6 arg7 arg8 arg9 x0 x1 x2 x3 x4 = rows 2 (k0_pay3 (F := Ideal)) := by
  unfold sl.v271
  rw [View.readCov_eq_canon']
  funext j
  unfold sl.HS2_3
  refine (Pieces.outside _ _ _ _ (0 : Fin 3) (Or.inr (show 1 + 1 ≤ 2 + 1 * _ by omega))).trans ?_
  unfold sl.HS2_2
  refine (Pieces.outside _ _ _ _ (0 : Fin 3) (Or.inr (show 0 + 1 ≤ 2 + 1 * _ by omega))).trans ?_
  unfold sl.HS2_1
  exact Pieces.inside _ _ _ _ _ fun a => (by fin_cases a <;> exact (Nat.zero_add _).symm)

/-- The accumulator of head 3 is read as it was filled. -/
theorem B_old2_3 : sl.v347 i arg5 arg6 arg7 arg8 arg9 x0 x1 x2 x3 x4 = rows 3 (k0_pay3 (F := Ideal)) := by
  unfold sl.v347
  rw [View.readCov_eq_canon']
  funext j
  unfold sl.HS2_4
  refine (Pieces.outside _ _ _ _ (0 : Fin 3) (Or.inr (show 2 + 1 ≤ 3 + 1 * _ by omega))).trans ?_
  unfold sl.HS2_3
  refine (Pieces.outside _ _ _ _ (0 : Fin 3) (Or.inr (show 1 + 1 ≤ 3 + 1 * _ by omega))).trans ?_
  unfold sl.HS2_2
  refine (Pieces.outside _ _ _ _ (0 : Fin 3) (Or.inr (show 0 + 1 ≤ 3 + 1 * _ by omega))).trans ?_
  unfold sl.HS2_1
  exact Pieces.inside _ _ _ _ _ fun a => (by fin_cases a <;> exact (Nat.zero_add _).symm)

/-- The accumulator of head 4 is read as it was filled. -/
theorem B_old2_4 : sl.v423 i arg5 arg6 arg7 arg8 arg9 x0 x1 x2 x3 x4 = rows 4 (k0_pay3 (F := Ideal)) := by
  unfold sl.v423
  rw [View.readCov_eq_canon']
  funext j
  unfold sl.HS2_5
  refine (Pieces.outside _ _ _ _ (0 : Fin 3) (Or.inr (show 3 + 1 ≤ 4 + 1 * _ by omega))).trans ?_
  unfold sl.HS2_4
  refine (Pieces.outside _ _ _ _ (0 : Fin 3) (Or.inr (show 2 + 1 ≤ 4 + 1 * _ by omega))).trans ?_
  unfold sl.HS2_3
  refine (Pieces.outside _ _ _ _ (0 : Fin 3) (Or.inr (show 1 + 1 ≤ 4 + 1 * _ by omega))).trans ?_
  unfold sl.HS2_2
  refine (Pieces.outside _ _ _ _ (0 : Fin 3) (Or.inr (show 0 + 1 ≤ 4 + 1 * _ by omega))).trans ?_
  unfold sl.HS2_1
  exact Pieces.inside _ _ _ _ _ fun a => (by fin_cases a <;> exact (Nat.zero_add _).symm)

/-- The accumulator of head 5 is read as it was filled. -/
theorem B_old2_5 : sl.v499 i arg5 arg6 arg7 arg8 arg9 x0 x1 x2 x3 x4 = rows 5 (k0_pay3 (F := Ideal)) := by
  unfold sl.v499
  rw [View.readCov_eq_canon']
  funext j
  unfold sl.HS2_6
  refine (Pieces.outside _ _ _ _ (0 : Fin 3) (Or.inr (show 4 + 1 ≤ 5 + 1 * _ by omega))).trans ?_
  unfold sl.HS2_5
  refine (Pieces.outside _ _ _ _ (0 : Fin 3) (Or.inr (show 3 + 1 ≤ 5 + 1 * _ by omega))).trans ?_
  unfold sl.HS2_4
  refine (Pieces.outside _ _ _ _ (0 : Fin 3) (Or.inr (show 2 + 1 ≤ 5 + 1 * _ by omega))).trans ?_
  unfold sl.HS2_3
  refine (Pieces.outside _ _ _ _ (0 : Fin 3) (Or.inr (show 1 + 1 ≤ 5 + 1 * _ by omega))).trans ?_
  unfold sl.HS2_2
  refine (Pieces.outside _ _ _ _ (0 : Fin 3) (Or.inr (show 0 + 1 ≤ 5 + 1 * _ by omega))).trans ?_
  unfold sl.HS2_1
  exact Pieces.inside _ _ _ _ _ fun a => (by fin_cases a <;> exact (Nat.zero_add _).symm)

/-- The accumulator of head 6 is read as it was filled. -/
theorem B_old2_6 : sl.v575 i arg5 arg6 arg7 arg8 arg9 x0 x1 x2 x3 x4 = rows 6 (k0_pay3 (F := Ideal)) := by
  unfold sl.v575
  rw [View.readCov_eq_canon']
  funext j
  unfold sl.HS2_7
  refine (Pieces.outside _ _ _ _ (0 : Fin 3) (Or.inr (show 5 + 1 ≤ 6 + 1 * _ by omega))).trans ?_
  unfold sl.HS2_6
  refine (Pieces.outside _ _ _ _ (0 : Fin 3) (Or.inr (show 4 + 1 ≤ 6 + 1 * _ by omega))).trans ?_
  unfold sl.HS2_5
  refine (Pieces.outside _ _ _ _ (0 : Fin 3) (Or.inr (show 3 + 1 ≤ 6 + 1 * _ by omega))).trans ?_
  unfold sl.HS2_4
  refine (Pieces.outside _ _ _ _ (0 : Fin 3) (Or.inr (show 2 + 1 ≤ 6 + 1 * _ by omega))).trans ?_
  unfold sl.HS2_3
  refine (Pieces.outside _ _ _ _ (0 : Fin 3) (Or.inr (show 1 + 1 ≤ 6 + 1 * _ by omega))).trans ?_
  unfold sl.HS2_2
  refine (Pieces.outside _ _ _ _ (0 : Fin 3) (Or.inr (show 0 + 1 ≤ 6 + 1 * _ by omega))).trans ?_
  unfold sl.HS2_1
  exact Pieces.inside _ _ _ _ _ fun a => (by fin_cases a <;> exact (Nat.zero_add _).symm)

/-- The accumulator of head 7 is read as it was filled. -/
theorem B_old2_7 : sl.v608 i arg5 arg6 arg7 arg8 arg9 x0 x1 x2 x3 x4 = rows 7 (k0_pay3 (F := Ideal)) := by
  unfold sl.v608
  rw [View.readCov_eq_canon']
  funext j
  unfold sl.HS2_8
  refine (Pieces.outside _ _ _ _ (0 : Fin 3) (Or.inr (show 6 + 1 ≤ 7 + 1 * _ by omega))).trans ?_
  unfold sl.HS2_7
  refine (Pieces.outside _ _ _ _ (0 : Fin 3) (Or.inr (show 5 + 1 ≤ 7 + 1 * _ by omega))).trans ?_
  unfold sl.HS2_6
  refine (Pieces.outside _ _ _ _ (0 : Fin 3) (Or.inr (show 4 + 1 ≤ 7 + 1 * _ by omega))).trans ?_
  unfold sl.HS2_5
  refine (Pieces.outside _ _ _ _ (0 : Fin 3) (Or.inr (show 3 + 1 ≤ 7 + 1 * _ by omega))).trans ?_
  unfold sl.HS2_4
  refine (Pieces.outside _ _ _ _ (0 : Fin 3) (Or.inr (show 2 + 1 ≤ 7 + 1 * _ by omega))).trans ?_
  unfold sl.HS2_3
  refine (Pieces.outside _ _ _ _ (0 : Fin 3) (Or.inr (show 1 + 1 ≤ 7 + 1 * _ by omega))).trans ?_
  unfold sl.HS2_2
  refine (Pieces.outside _ _ _ _ (0 : Fin 3) (Or.inr (show 0 + 1 ≤ 7 + 1 * _ by omega))).trans ?_
  unfold sl.HS2_1
  exact Pieces.inside _ _ _ _ _ fun a => (by fin_cases a <;> exact (Nat.zero_add _).symm)

theorem B_maximum_0 (p : Fin 1024) : (kernelRun0_B c i arg5 harg5 arg6 harg6 arg7 harg7 arg8 harg8 arg9 harg9 arg10 harg10 arg11 harg11 T0 T1 x0 x1 x2 x3 x4 x5 hc0 hc1 k0_h3).1 (ix3 0 0 p)
    = k0_pay21 (k0_pay16 (full (own (BitVec.ofNat 32 (i 1).val) 0) (cols 0 x0) (all x1) (cols 0 x2) (all x3)) (row 0 (k0_pay1 (F := Ideal)))) (ix3 0 0 p) := by
  unfold kernelRun0_B
  dsimp only
  rw [left0]
  unfold sl.HS0_9
  refine (Pieces.outside _ _ _ _ (0 : Fin 3) (Or.inl (by decide : 0 < 7))).trans ?_
  unfold sl.HS0_8
  refine (Pieces.outside _ _ _ _ (0 : Fin 3) (Or.inl (by decide : 0 < 6))).trans ?_
  unfold sl.HS0_7
  refine (Pieces.outside _ _ _ _ (0 : Fin 3) (Or.inl (by decide : 0 < 5))).trans ?_
  unfold sl.HS0_6
  refine (Pieces.outside _ _ _ _ (0 : Fin 3) (Or.inl (by decide : 0 < 4))).trans ?_
  unfold sl.HS0_5
  refine (Pieces.outside _ _ _ _ (0 : Fin 3) (Or.inl (by decide : 0 < 3))).trans ?_
  unfold sl.HS0_4
  refine (Pieces.outside _ _ _ _ (0 : Fin 3) (Or.inl (by decide : 0 < 2))).trans ?_
  unfold sl.HS0_3
  refine (Pieces.outside _ _ _ _ (0 : Fin 3) (Or.inl (by decide : 0 < 1))).trans ?_
  unfold sl.HS0_2
  refine (Pieces.inside _ _ _ (ix3 0 0 p) _ ?_).trans ?_
  · intro a; fin_cases a <;> simp [ix3]
  simp only [View.readAt_rep, B_old0_0, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v7]
  rfl

theorem B_maximum_1 (p : Fin 1024) : (kernelRun0_B c i arg5 harg5 arg6 harg6 arg7 harg7 arg8 harg8 arg9 harg9 arg10 harg10 arg11 harg11 T0 T1 x0 x1 x2 x3 x4 x5 hc0 hc1 k0_h3).1 (ix3 1 0 p)
    = k0_pay21 (k0_pay16 (full (own (BitVec.ofNat 32 (i 1).val) 1) (cols 1 x0) (all x1) (cols 1 x2) (all x3)) (row 1 (k0_pay1 (F := Ideal)))) (ix3 0 0 p) := by
  unfold kernelRun0_B
  dsimp only
  rw [left0]
  unfold sl.HS0_9
  refine (Pieces.outside _ _ _ _ (0 : Fin 3) (Or.inl (by decide : 1 < 7))).trans ?_
  unfold sl.HS0_8
  refine (Pieces.outside _ _ _ _ (0 : Fin 3) (Or.inl (by decide : 1 < 6))).trans ?_
  unfold sl.HS0_7
  refine (Pieces.outside _ _ _ _ (0 : Fin 3) (Or.inl (by decide : 1 < 5))).trans ?_
  unfold sl.HS0_6
  refine (Pieces.outside _ _ _ _ (0 : Fin 3) (Or.inl (by decide : 1 < 4))).trans ?_
  unfold sl.HS0_5
  refine (Pieces.outside _ _ _ _ (0 : Fin 3) (Or.inl (by decide : 1 < 3))).trans ?_
  unfold sl.HS0_4
  refine (Pieces.outside _ _ _ _ (0 : Fin 3) (Or.inl (by decide : 1 < 2))).trans ?_
  unfold sl.HS0_3
  refine (Pieces.inside _ _ _ (ix3 0 0 p) _ ?_).trans ?_
  · intro a; fin_cases a <;> simp [ix3]
  simp only [View.readAt_rep, B_old0_1, sl.cst_36, sl.r_10, sl.r_12, sl.r_13, sl.r_14, sl.r_15, sl.r_16, sl.r_17, sl.r_18, sl.r_19, sl.r_20, sl.r_21, sl.r_23, sl.r_24, sl.r_25, sl.r_26, sl.r_28, sl.r_29, sl.r_30, sl.r_31, sl.r_33, sl.r_34, sl.r_35, sl.r_36, sl.r_37, sl.r_38, sl.r_41, sl.r_42, sl.r_43, sl.r_44, sl.r_45, sl.r_49, sl.r_6, sl.r_7, sl.r_8, sl.r_9, sl.v7]
  rfl

theorem B_maximum_2 (p : Fin 1024) : (kernelRun0_B c i arg5 harg5 arg6 harg6 arg7 harg7 arg8 harg8 arg9 harg9 arg10 harg10 arg11 harg11 T0 T1 x0 x1 x2 x3 x4 x5 hc0 hc1 k0_h3).1 (ix3 2 0 p)
    = k0_pay21 (k0_pay16 (full (own (BitVec.ofNat 32 (i 1).val) 2) (cols 2 x0) (all x1) (cols 2 x2) (all x3)) (row 2 (k0_pay1 (F := Ideal)))) (ix3 0 0 p) := by
  unfold kernelRun0_B
  dsimp only
  rw [left0]
  unfold sl.HS0_9
  refine (Pieces.outside _ _ _ _ (0 : Fin 3) (Or.inl (by decide : 2 < 7))).trans ?_
  unfold sl.HS0_8
  refine (Pieces.outside _ _ _ _ (0 : Fin 3) (Or.inl (by decide : 2 < 6))).trans ?_
  unfold sl.HS0_7
  refine (Pieces.outside _ _ _ _ (0 : Fin 3) (Or.inl (by decide : 2 < 5))).trans ?_
  unfold sl.HS0_6
  refine (Pieces.outside _ _ _ _ (0 : Fin 3) (Or.inl (by decide : 2 < 4))).trans ?_
  unfold sl.HS0_5
  refine (Pieces.outside _ _ _ _ (0 : Fin 3) (Or.inl (by decide : 2 < 3))).trans ?_
  unfold sl.HS0_4
  refine (Pieces.inside _ _ _ (ix3 0 0 p) _ ?_).trans ?_
  · intro a; fin_cases a <;> simp [ix3]
  simp only [View.readAt_rep, B_old0_2, sl.cst_36, sl.r_12, sl.r_13, sl.r_14, sl.r_15, sl.r_17, sl.r_18, sl.r_19, sl.r_20, sl.r_21, sl.r_23, sl.r_24, sl.r_25, sl.r_26, sl.r_28, sl.r_29, sl.r_30, sl.r_31, sl.r_33, sl.r_34, sl.r_35, sl.r_36, sl.r_37, sl.r_38, sl.r_41, sl.r_42, sl.r_43, sl.r_44, sl.r_45, sl.r_49, sl.r_8, sl.v7]
  rfl

theorem B_maximum_3 (p : Fin 1024) : (kernelRun0_B c i arg5 harg5 arg6 harg6 arg7 harg7 arg8 harg8 arg9 harg9 arg10 harg10 arg11 harg11 T0 T1 x0 x1 x2 x3 x4 x5 hc0 hc1 k0_h3).1 (ix3 3 0 p)
    = k0_pay21 (k0_pay16 (full (own (BitVec.ofNat 32 (i 1).val) 3) (cols 3 x0) (all x1) (cols 3 x2) (all x3)) (row 3 (k0_pay1 (F := Ideal)))) (ix3 0 0 p) := by
  unfold kernelRun0_B
  dsimp only
  rw [left0]
  unfold sl.HS0_9
  refine (Pieces.outside _ _ _ _ (0 : Fin 3) (Or.inl (by decide : 3 < 7))).trans ?_
  unfold sl.HS0_8
  refine (Pieces.outside _ _ _ _ (0 : Fin 3) (Or.inl (by decide : 3 < 6))).trans ?_
  unfold sl.HS0_7
  refine (Pieces.outside _ _ _ _ (0 : Fin 3) (Or.inl (by decide : 3 < 5))).trans ?_
  unfold sl.HS0_6
  refine (Pieces.outside _ _ _ _ (0 : Fin 3) (Or.inl (by decide : 3 < 4))).trans ?_
  unfold sl.HS0_5
  refine (Pieces.inside _ _ _ (ix3 0 0 p) _ ?_).trans ?_
  · intro a; fin_cases a <;> simp [ix3]
  simp only [View.readAt_rep, B_old0_3, sl.cst_36, sl.r_17, sl.r_18, sl.r_19, sl.r_20, sl.r_23, sl.r_24, sl.r_25, sl.r_26, sl.r_28, sl.r_29, sl.r_30, sl.r_31, sl.r_33, sl.r_34, sl.r_35, sl.r_36, sl.r_37, sl.r_38, sl.r_41, sl.r_42, sl.r_43, sl.r_44, sl.r_45, sl.r_49, sl.v7]
  rfl

theorem B_maximum_4 (p : Fin 1024) : (kernelRun0_B c i arg5 harg5 arg6 harg6 arg7 harg7 arg8 harg8 arg9 harg9 arg10 harg10 arg11 harg11 T0 T1 x0 x1 x2 x3 x4 x5 hc0 hc1 k0_h3).1 (ix3 4 0 p)
    = k0_pay21 (k0_pay16 (full (own (BitVec.ofNat 32 (i 1).val) 4) (cols 4 x0) (all x1) (cols 4 x2) (all x3)) (row 4 (k0_pay1 (F := Ideal)))) (ix3 0 0 p) := by
  unfold kernelRun0_B
  dsimp only
  rw [left0]
  unfold sl.HS0_9
  refine (Pieces.outside _ _ _ _ (0 : Fin 3) (Or.inl (by decide : 4 < 7))).trans ?_
  unfold sl.HS0_8
  refine (Pieces.outside _ _ _ _ (0 : Fin 3) (Or.inl (by decide : 4 < 6))).trans ?_
  unfold sl.HS0_7
  refine (Pieces.outside _ _ _ _ (0 : Fin 3) (Or.inl (by decide : 4 < 5))).trans ?_
  unfold sl.HS0_6
  refine (Pieces.inside _ _ _ (ix3 0 0 p) _ ?_).trans ?_
  · intro a; fin_cases a <;> simp [ix3]
  simp only [View.readAt_rep, B_old0_4, sl.cst_36, sl.r_23, sl.r_24, sl.r_25, sl.r_28, sl.r_29, sl.r_30, sl.r_31, sl.r_33, sl.r_34, sl.r_35, sl.r_36, sl.r_37, sl.r_38, sl.r_41, sl.r_42, sl.r_43, sl.r_44, sl.r_45, sl.r_49, sl.v7]
  rfl

theorem B_maximum_5 (p : Fin 1024) : (kernelRun0_B c i arg5 harg5 arg6 harg6 arg7 harg7 arg8 harg8 arg9 harg9 arg10 harg10 arg11 harg11 T0 T1 x0 x1 x2 x3 x4 x5 hc0 hc1 k0_h3).1 (ix3 5 0 p)
    = k0_pay21 (k0_pay16 (full (own (BitVec.ofNat 32 (i 1).val) 5) (cols 5 x0) (all x1) (cols 5 x2) (all x3)) (row 5 (k0_pay1 (F := Ideal)))) (ix3 0 0 p) := by
  unfold kernelRun0_B
  dsimp only
  rw [left0]
  unfold sl.HS0_9
  refine (Pieces.outside _ _ _ _ (0 : Fin 3) (Or.inl (by decide : 5 < 7))).trans ?_
  unfold sl.HS0_8
  refine (Pieces.outside _ _ _ _ (0 : Fin 3) (Or.inl (by decide : 5 < 6))).trans ?_
  unfold sl.HS0_7
  refine (Pieces.inside _ _ _ (ix3 0 0 p) _ ?_).trans ?_
  · intro a; fin_cases a <;> simp [ix3]
  simp only [View.readAt_rep, B_old0_5, sl.cst_36, sl.r_28, sl.r_29, sl.r_30, sl.r_33, sl.r_34, sl.r_35, sl.r_36, sl.r_37, sl.r_38, sl.r_41, sl.r_42, sl.r_43, sl.r_44, sl.r_45, sl.r_49, sl.v7]
  rfl

theorem B_maximum_6 (p : Fin 1024) : (kernelRun0_B c i arg5 harg5 arg6 harg6 arg7 harg7 arg8 harg8 arg9 harg9 arg10 harg10 arg11 harg11 T0 T1 x0 x1 x2 x3 x4 x5 hc0 hc1 k0_h3).1 (ix3 6 0 p)
    = k0_pay21 (k0_pay16 (full (own (BitVec.ofNat 32 (i 1).val) 6) (cols 6 x0) (all x1) (cols 6 x2) (all x3)) (row 6 (k0_pay1 (F := Ideal)))) (ix3 0 0 p) := by
  unfold kernelRun0_B
  dsimp only
  rw [left0]
  unfold sl.HS0_9
  refine (Pieces.outside _ _ _ _ (0 : Fin 3) (Or.inl (by decide : 6 < 7))).trans ?_
  unfold sl.HS0_8
  refine (Pieces.inside _ _ _ (ix3 0 0 p) _ ?_).trans ?_
  · intro a; fin_cases a <;> simp [ix3]
  simp only [View.readAt_rep, B_old0_6, sl.cst_36, sl.r_33, sl.r_34, sl.r_35, sl.r_36, sl.r_37, sl.r_41, sl.r_42, sl.r_43, sl.r_44, sl.r_45, sl.r_49, sl.v7]
  rfl

theorem B_maximum_7 (p : Fin 1024) : (kernelRun0_B c i arg5 harg5 arg6 harg6 arg7 harg7 arg8 harg8 arg9 harg9 arg10 harg10 arg11 harg11 T0 T1 x0 x1 x2 x3 x4 x5 hc0 hc1 k0_h3).1 (ix3 7 0 p)
    = k0_pay21 (k0_pay16 (full (own (BitVec.ofNat 32 (i 1).val) 7) (cols 7 x0) (all x1) (cols 7 x2) (all x3)) (row 7 (k0_pay1 (F := Ideal)))) (ix3 0 0 p) := by
  unfold kernelRun0_B
  dsimp only
  rw [left0]
  unfold sl.HS0_9
  refine (Pieces.inside _ _ _ (ix3 0 0 p) _ ?_).trans ?_
  · intro a; fin_cases a <;> simp [ix3]
  simp only [View.readAt_rep, B_old0_7, sl.cst_36, sl.r_35, sl.r_41, sl.r_42, sl.r_43, sl.r_44, sl.r_49, sl.v7]
  rfl

/-- The maximum of head `h` after the point. -/
theorem B_maximum (h : Fin 8) (p : Fin 1024) : (kernelRun0_B c i arg5 harg5 arg6 harg6 arg7 harg7 arg8 harg8 arg9 harg9 arg10 harg10 arg11 harg11 T0 T1 x0 x1 x2 x3 x4 x5 hc0 hc1 k0_h3).1 (ix3 h 0 p)
    = k0_pay21 (k0_pay16 (full (own (BitVec.ofNat 32 (i 1).val) h) (cols h x0) (all x1) (cols h x2) (all x3)) (row h (k0_pay1 (F := Ideal)))) (ix3 0 0 p) :=
  match h with
  | ⟨0, _⟩ => B_maximum_0 c i arg5 harg5 arg6 harg6 arg7 harg7 arg8 harg8 arg9 harg9 arg10 harg10 arg11 harg11 T0 T1 x0 x1 x2 x3 x4 x5 hc0 hc1 k0_h3 p
  | ⟨1, _⟩ => B_maximum_1 c i arg5 harg5 arg6 harg6 arg7 harg7 arg8 harg8 arg9 harg9 arg10 harg10 arg11 harg11 T0 T1 x0 x1 x2 x3 x4 x5 hc0 hc1 k0_h3 p
  | ⟨2, _⟩ => B_maximum_2 c i arg5 harg5 arg6 harg6 arg7 harg7 arg8 harg8 arg9 harg9 arg10 harg10 arg11 harg11 T0 T1 x0 x1 x2 x3 x4 x5 hc0 hc1 k0_h3 p
  | ⟨3, _⟩ => B_maximum_3 c i arg5 harg5 arg6 harg6 arg7 harg7 arg8 harg8 arg9 harg9 arg10 harg10 arg11 harg11 T0 T1 x0 x1 x2 x3 x4 x5 hc0 hc1 k0_h3 p
  | ⟨4, _⟩ => B_maximum_4 c i arg5 harg5 arg6 harg6 arg7 harg7 arg8 harg8 arg9 harg9 arg10 harg10 arg11 harg11 T0 T1 x0 x1 x2 x3 x4 x5 hc0 hc1 k0_h3 p
  | ⟨5, _⟩ => B_maximum_5 c i arg5 harg5 arg6 harg6 arg7 harg7 arg8 harg8 arg9 harg9 arg10 harg10 arg11 harg11 T0 T1 x0 x1 x2 x3 x4 x5 hc0 hc1 k0_h3 p
  | ⟨6, _⟩ => B_maximum_6 c i arg5 harg5 arg6 harg6 arg7 harg7 arg8 harg8 arg9 harg9 arg10 harg10 arg11 harg11 T0 T1 x0 x1 x2 x3 x4 x5 hc0 hc1 k0_h3 p
  | ⟨7, _⟩ => B_maximum_7 c i arg5 harg5 arg6 harg6 arg7 harg7 arg8 harg8 arg9 harg9 arg10 harg10 arg11 harg11 T0 T1 x0 x1 x2 x3 x4 x5 hc0 hc1 k0_h3 p
  | ⟨n + 8, h⟩ => absurd h (by omega)

theorem B_sum_0 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 0 0 p)
    = k0_pay19 (full (own (BitVec.ofNat 32 (i 1).val) 0) (cols 0 x0) (all x1) (cols 0 x2) (all x3)) (row 0 (k0_pay1 (F := Ideal))) (row 0 (k0_pay2 (F := Ideal))) (ix3 0 0 p) := by
  unfold kernelRun0_B
  dsimp only
  rw [left1]
  unfold sl.HS1_9
  refine (Pieces.outside _ _ _ _ (0 : Fin 3) (Or.inl (by decide : 0 < 7))).trans ?_
  unfold sl.HS1_8
  refine (Pieces.outside _ _ _ _ (0 : Fin 3) (Or.inl (by decide : 0 < 6))).trans ?_
  unfold sl.HS1_7
  refine (Pieces.outside _ _ _ _ (0 : Fin 3) (Or.inl (by decide : 0 < 5))).trans ?_
  unfold sl.HS1_6
  refine (Pieces.outside _ _ _ _ (0 : Fin 3) (Or.inl (by decide : 0 < 4))).trans ?_
  unfold sl.HS1_5
  refine (Pieces.outside _ _ _ _ (0 : Fin 3) (Or.inl (by decide : 0 < 3))).trans ?_
  unfold sl.HS1_4
  refine (Pieces.outside _ _ _ _ (0 : Fin 3) (Or.inl (by decide : 0 < 2))).trans ?_
  unfold sl.HS1_3
  refine (Pieces.outside _ _ _ _ (0 : Fin 3) (Or.inl (by decide : 0 < 1))).trans ?_
  unfold sl.HS1_2
  refine (Pieces.inside _ _ _ (ix3 0 0 p) _ ?_).trans ?_
  · intro a; fin_cases a <;> simp [ix3]
  simp only [View.readAt_rep, B_old0_0, B_old1_0, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v7]
  rfl

theorem B_sum_1 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 1 0 p)
    = k0_pay19 (full (own (BitVec.ofNat 32 (i 1).val) 1) (cols 1 x0) (all x1) (cols 1 x2) (all x3)) (row 1 (k0_pay1 (F := Ideal))) (row 1 (k0_pay2 (F := Ideal))) (ix3 0 0 p) := by
  unfold kernelRun0_B
  dsimp only
  rw [left1]
  unfold sl.HS1_9
  refine (Pieces.outside _ _ _ _ (0 : Fin 3) (Or.inl (by decide : 1 < 7))).trans ?_
  unfold sl.HS1_8
  refine (Pieces.outside _ _ _ _ (0 : Fin 3) (Or.inl (by decide : 1 < 6))).trans ?_
  unfold sl.HS1_7
  refine (Pieces.outside _ _ _ _ (0 : Fin 3) (Or.inl (by decide : 1 < 5))).trans ?_
  unfold sl.HS1_6
  refine (Pieces.outside _ _ _ _ (0 : Fin 3) (Or.inl (by decide : 1 < 4))).trans ?_
  unfold sl.HS1_5
  refine (Pieces.outside _ _ _ _ (0 : Fin 3) (Or.inl (by decide : 1 < 3))).trans ?_
  unfold sl.HS1_4
  refine (Pieces.outside _ _ _ _ (0 : Fin 3) (Or.inl (by decide : 1 < 2))).trans ?_
  unfold sl.HS1_3
  refine (Pieces.inside _ _ _ (ix3 0 0 p) _ ?_).trans ?_
  · intro a; fin_cases a <;> simp [ix3]
  simp only [View.readAt_rep, B_old0_1, B_old1_1, sl.cst_36, sl.r_10, sl.r_12, sl.r_13, sl.r_14, sl.r_15, sl.r_17, sl.r_18, sl.r_19, sl.r_20, sl.r_23, sl.r_24, sl.r_25, sl.r_28, sl.r_29, sl.r_30, sl.r_33, sl.r_34, sl.r_35, sl.r_36, sl.r_37, sl.r_41, sl.r_42, sl.r_43, sl.r_44, sl.r_6, sl.r_7, sl.r_8, sl.r_9, sl.v7]
  rfl

theorem B_sum_2 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 2 0 p)
    = k0_pay19 (full (own (BitVec.ofNat 32 (i 1).val) 2) (cols 2 x0) (all x1) (cols 2 x2) (all x3)) (row 2 (k0_pay1 (F := Ideal))) (row 2 (k0_pay2 (F := Ideal))) (ix3 0 0 p) := by
  unfold kernelRun0_B
  dsimp only
  rw [left1]
  unfold sl.HS1_9
  refine (Pieces.outside _ _ _ _ (0 : Fin 3) (Or.inl (by decide : 2 < 7))).trans ?_
  unfold sl.HS1_8
  refine (Pieces.outside _ _ _ _ (0 : Fin 3) (Or.inl (by decide : 2 < 6))).trans ?_
  unfold sl.HS1_7
  refine (Pieces.outside _ _ _ _ (0 : Fin 3) (Or.inl (by decide : 2 < 5))).trans ?_
  unfold sl.HS1_6
  refine (Pieces.outside _ _ _ _ (0 : Fin 3) (Or.inl (by decide : 2 < 4))).trans ?_
  unfold sl.HS1_5
  refine (Pieces.outside _ _ _ _ (0 : Fin 3) (Or.inl (by decide : 2 < 3))).trans ?_
  unfold sl.HS1_4
  refine (Pieces.inside _ _ _ (ix3 0 0 p) _ ?_).trans ?_
  · intro a; fin_cases a <;> simp [ix3]
  simp only [View.readAt_rep, B_old0_2, B_old1_2, sl.cst_36, sl.r_12, sl.r_13, sl.r_14, sl.r_15, sl.r_17, sl.r_18, sl.r_19, sl.r_20, sl.r_23, sl.r_24, sl.r_25, sl.r_28, sl.r_29, sl.r_30, sl.r_33, sl.r_34, sl.r_35, sl.r_36, sl.r_37, sl.r_41, sl.r_42, sl.r_43, sl.r_44, sl.r_8, sl.v7]
  rfl

theorem B_sum_3 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 3 0 p)
    = k0_pay19 (full (own (BitVec.ofNat 32 (i 1).val) 3) (cols 3 x0) (all x1) (cols 3 x2) (all x3)) (row 3 (k0_pay1 (F := Ideal))) (row 3 (k0_pay2 (F := Ideal))) (ix3 0 0 p) := by
  unfold kernelRun0_B
  dsimp only
  rw [left1]
  unfold sl.HS1_9
  refine (Pieces.outside _ _ _ _ (0 : Fin 3) (Or.inl (by decide : 3 < 7))).trans ?_
  unfold sl.HS1_8
  refine (Pieces.outside _ _ _ _ (0 : Fin 3) (Or.inl (by decide : 3 < 6))).trans ?_
  unfold sl.HS1_7
  refine (Pieces.outside _ _ _ _ (0 : Fin 3) (Or.inl (by decide : 3 < 5))).trans ?_
  unfold sl.HS1_6
  refine (Pieces.outside _ _ _ _ (0 : Fin 3) (Or.inl (by decide : 3 < 4))).trans ?_
  unfold sl.HS1_5
  refine (Pieces.inside _ _ _ (ix3 0 0 p) _ ?_).trans ?_
  · intro a; fin_cases a <;> simp [ix3]
  simp only [View.readAt_rep, B_old0_3, B_old1_3, sl.cst_36, sl.r_17, sl.r_18, sl.r_19, sl.r_20, sl.r_23, sl.r_24, sl.r_25, sl.r_28, sl.r_29, sl.r_30, sl.r_33, sl.r_34, sl.r_35, sl.r_36, sl.r_37, sl.r_41, sl.r_42, sl.r_43, sl.r_44, sl.v7]
  rfl

theorem B_sum_4 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 4 0 p)
    = k0_pay19 (full (own (BitVec.ofNat 32 (i 1).val) 4) (cols 4 x0) (all x1) (cols 4 x2) (all x3)) (row 4 (k0_pay1 (F := Ideal))) (row 4 (k0_pay2 (F := Ideal))) (ix3 0 0 p) := by
  unfold kernelRun0_B
  dsimp only
  rw [left1]
  unfold sl.HS1_9
  refine (Pieces.outside _ _ _ _ (0 : Fin 3) (Or.inl (by decide : 4 < 7))).trans ?_
  unfold sl.HS1_8
  refine (Pieces.outside _ _ _ _ (0 : Fin 3) (Or.inl (by decide : 4 < 6))).trans ?_
  unfold sl.HS1_7
  refine (Pieces.outside _ _ _ _ (0 : Fin 3) (Or.inl (by decide : 4 < 5))).trans ?_
  unfold sl.HS1_6
  refine (Pieces.inside _ _ _ (ix3 0 0 p) _ ?_).trans ?_
  · intro a; fin_cases a <;> simp [ix3]
  simp only [View.readAt_rep, B_old0_4, B_old1_4, sl.cst_36, sl.r_23, sl.r_24, sl.r_25, sl.r_28, sl.r_29, sl.r_30, sl.r_33, sl.r_34, sl.r_35, sl.r_36, sl.r_37, sl.r_41, sl.r_42, sl.r_43, sl.r_44, sl.v7]
  rfl

theorem B_sum_5 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 5 0 p)
    = k0_pay19 (full (own (BitVec.ofNat 32 (i 1).val) 5) (cols 5 x0) (all x1) (cols 5 x2) (all x3)) (row 5 (k0_pay1 (F := Ideal))) (row 5 (k0_pay2 (F := Ideal))) (ix3 0 0 p) := by
  unfold kernelRun0_B
  dsimp only
  rw [left1]
  unfold sl.HS1_9
  refine (Pieces.outside _ _ _ _ (0 : Fin 3) (Or.inl (by decide : 5 < 7))).trans ?_
  unfold sl.HS1_8
  refine (Pieces.outside _ _ _ _ (0 : Fin 3) (Or.inl (by decide : 5 < 6))).trans ?_
  unfold sl.HS1_7
  refine (Pieces.inside _ _ _ (ix3 0 0 p) _ ?_).trans ?_
  · intro a; fin_cases a <;> simp [ix3]
  simp only [View.readAt_rep, B_old0_5, B_old1_5, sl.cst_36, sl.r_28, sl.r_29, sl.r_30, sl.r_33, sl.r_34, sl.r_35, sl.r_36, sl.r_37, sl.r_41, sl.r_42, sl.r_43, sl.r_44, sl.v7]
  rfl

theorem B_sum_6 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 6 0 p)
    = k0_pay19 (full (own (BitVec.ofNat 32 (i 1).val) 6) (cols 6 x0) (all x1) (cols 6 x2) (all x3)) (row 6 (k0_pay1 (F := Ideal))) (row 6 (k0_pay2 (F := Ideal))) (ix3 0 0 p) := by
  unfold kernelRun0_B
  dsimp only
  rw [left1]
  unfold sl.HS1_9
  refine (Pieces.outside _ _ _ _ (0 : Fin 3) (Or.inl (by decide : 6 < 7))).trans ?_
  unfold sl.HS1_8
  refine (Pieces.inside _ _ _ (ix3 0 0 p) _ ?_).trans ?_
  · intro a; fin_cases a <;> simp [ix3]
  simp only [View.readAt_rep, B_old0_6, B_old1_6, sl.cst_36, sl.r_33, sl.r_34, sl.r_35, sl.r_36, sl.r_37, sl.r_41, sl.r_42, sl.r_43, sl.r_44, sl.v7]
  rfl

theorem B_sum_7 (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 7 0 p)
    = k0_pay19 (full (own (BitVec.ofNat 32 (i 1).val) 7) (cols 7 x0) (all x1) (cols 7 x2) (all x3)) (row 7 (k0_pay1 (F := Ideal))) (row 7 (k0_pay2 (F := Ideal))) (ix3 0 0 p) := by
  unfold kernelRun0_B
  dsimp only
  rw [left1]
  unfold sl.HS1_9
  refine (Pieces.inside _ _ _ (ix3 0 0 p) _ ?_).trans ?_
  · intro a; fin_cases a <;> simp [ix3]
  simp only [View.readAt_rep, B_old0_7, B_old1_7, sl.cst_36, sl.r_35, sl.r_41, sl.r_42, sl.r_43, sl.r_44, sl.v7]
  rfl

/-- The sum of head `h` after the point. -/
theorem B_sum (h : Fin 8) (p : Fin 1024) : (kernelRun0_B c i arg5 harg5 arg6 harg6 arg7 harg7 arg8 harg8 arg9 harg9 arg10 harg10 arg11 harg11 T0 T1 x0 x1 x2 x3 x4 x5 hc0 hc1 k0_h3).2.1 (ix3 h 0 p)
    = k0_pay19 (full (own (BitVec.ofNat 32 (i 1).val) h) (cols h x0) (all x1) (cols h x2) (all x3)) (row h (k0_pay1 (F := Ideal))) (row h (k0_pay2 (F := Ideal))) (ix3 0 0 p) :=
  match h with
  | ⟨0, _⟩ => B_sum_0 c i arg5 harg5 arg6 harg6 arg7 harg7 arg8 harg8 arg9 harg9 arg10 harg10 arg11 harg11 T0 T1 x0 x1 x2 x3 x4 x5 hc0 hc1 k0_h3 p
  | ⟨1, _⟩ => B_sum_1 c i arg5 harg5 arg6 harg6 arg7 harg7 arg8 harg8 arg9 harg9 arg10 harg10 arg11 harg11 T0 T1 x0 x1 x2 x3 x4 x5 hc0 hc1 k0_h3 p
  | ⟨2, _⟩ => B_sum_2 c i arg5 harg5 arg6 harg6 arg7 harg7 arg8 harg8 arg9 harg9 arg10 harg10 arg11 harg11 T0 T1 x0 x1 x2 x3 x4 x5 hc0 hc1 k0_h3 p
  | ⟨3, _⟩ => B_sum_3 c i arg5 harg5 arg6 harg6 arg7 harg7 arg8 harg8 arg9 harg9 arg10 harg10 arg11 harg11 T0 T1 x0 x1 x2 x3 x4 x5 hc0 hc1 k0_h3 p
  | ⟨4, _⟩ => B_sum_4 c i arg5 harg5 arg6 harg6 arg7 harg7 arg8 harg8 arg9 harg9 arg10 harg10 arg11 harg11 T0 T1 x0 x1 x2 x3 x4 x5 hc0 hc1 k0_h3 p
  | ⟨5, _⟩ => B_sum_5 c i arg5 harg5 arg6 harg6 arg7 harg7 arg8 harg8 arg9 harg9 arg10 harg10 arg11 harg11 T0 T1 x0 x1 x2 x3 x4 x5 hc0 hc1 k0_h3 p
  | ⟨6, _⟩ => B_sum_6 c i arg5 harg5 arg6 harg6 arg7 harg7 arg8 harg8 arg9 harg9 arg10 harg10 arg11 harg11 T0 T1 x0 x1 x2 x3 x4 x5 hc0 hc1 k0_h3 p
  | ⟨7, _⟩ => B_sum_7 c i arg5 harg5 arg6 harg6 arg7 harg7 arg8 harg8 arg9 harg9 arg10 harg10 arg11 harg11 T0 T1 x0 x1 x2 x3 x4 x5 hc0 hc1 k0_h3 p
  | ⟨n + 8, h⟩ => absurd h (by omega)

theorem B_accumulator_0 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 0 d p)
    = k0_pay20 (full (own (BitVec.ofNat 32 (i 1).val) 0) (cols 0 x0) (all x1) (cols 0 x2) (all x3)) (row 0 (k0_pay1 (F := Ideal))) (rows 0 (k0_pay3 (F := Ideal))) (cols 0 x4) (ix3 0 d p) := by
  unfold kernelRun0_B
  dsimp only
  rw [left2]
  unfold sl.HS2_9
  refine (Pieces.outside _ _ _ _ (0 : Fin 3) (Or.inl (by decide : 0 < 7))).trans ?_
  unfold sl.HS2_8
  refine (Pieces.outside _ _ _ _ (0 : Fin 3) (Or.inl (by decide : 0 < 6))).trans ?_
  unfold sl.HS2_7
  refine (Pieces.outside _ _ _ _ (0 : Fin 3) (Or.inl (by decide : 0 < 5))).trans ?_
  unfold sl.HS2_6
  refine (Pieces.outside _ _ _ _ (0 : Fin 3) (Or.inl (by decide : 0 < 4))).trans ?_
  unfold sl.HS2_5
  refine (Pieces.outside _ _ _ _ (0 : Fin 3) (Or.inl (by decide : 0 < 3))).trans ?_
  unfold sl.HS2_4
  refine (Pieces.outside _ _ _ _ (0 : Fin 3) (Or.inl (by decide : 0 < 2))).trans ?_
  unfold sl.HS2_3
  refine (Pieces.outside _ _ _ _ (0 : Fin 3) (Or.inl (by decide : 0 < 1))).trans ?_
  unfold sl.HS2_2
  refine (Pieces.inside _ _ _ (ix3 0 d p) _ ?_).trans ?_
  · intro a; fin_cases a <;> simp [ix3]
  simp only [View.readAt_rep, B_old0_0, B_old2_0, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v7]
  rfl

theorem B_accumulator_1 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 1 d p)
    = k0_pay20 (full (own (BitVec.ofNat 32 (i 1).val) 1) (cols 1 x0) (all x1) (cols 1 x2) (all x3)) (row 1 (k0_pay1 (F := Ideal))) (rows 1 (k0_pay3 (F := Ideal))) (cols 1 x4) (ix3 0 d p) := by
  unfold kernelRun0_B
  dsimp only
  rw [left2]
  unfold sl.HS2_9
  refine (Pieces.outside _ _ _ _ (0 : Fin 3) (Or.inl (by decide : 1 < 7))).trans ?_
  unfold sl.HS2_8
  refine (Pieces.outside _ _ _ _ (0 : Fin 3) (Or.inl (by decide : 1 < 6))).trans ?_
  unfold sl.HS2_7
  refine (Pieces.outside _ _ _ _ (0 : Fin 3) (Or.inl (by decide : 1 < 5))).trans ?_
  unfold sl.HS2_6
  refine (Pieces.outside _ _ _ _ (0 : Fin 3) (Or.inl (by decide : 1 < 4))).trans ?_
  unfold sl.HS2_5
  refine (Pieces.outside _ _ _ _ (0 : Fin 3) (Or.inl (by decide : 1 < 3))).trans ?_
  unfold sl.HS2_4
  refine (Pieces.outside _ _ _ _ (0 : Fin 3) (Or.inl (by decide : 1 < 2))).trans ?_
  unfold sl.HS2_3
  refine (Pieces.inside _ _ _ (ix3 0 d p) _ ?_).trans ?_
  · intro a; fin_cases a <;> simp [ix3]
  simp only [View.readAt_rep, B_old0_1, B_old2_1, sl.cst_316, sl.cst_36, sl.r_10, sl.r_12, sl.r_13, sl.r_14, sl.r_15, sl.r_17, sl.r_18, sl.r_19, sl.r_20, sl.r_22, sl.r_23, sl.r_24, sl.r_25, sl.r_27, sl.r_28, sl.r_29, sl.r_30, sl.r_32, sl.r_33, sl.r_34, sl.r_35, sl.r_36, sl.r_37, sl.r_39, sl.r_40, sl.r_41, sl.r_42, sl.r_43, sl.r_44, sl.r_46, sl.r_47, sl.r_48, sl.r_50, sl.r_51, sl.r_52, sl.r_6, sl.r_7, sl.r_8, sl.r_9, sl.v7]
  rfl

theorem B_accumulator_2 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 2 d p)
    = k0_pay20 (full (own (BitVec.ofNat 32 (i 1).val) 2) (cols 2 x0) (all x1) (cols 2 x2) (all x3)) (row 2 (k0_pay1 (F := Ideal))) (rows 2 (k0_pay3 (F := Ideal))) (cols 2 x4) (ix3 0 d p) := by
  unfold kernelRun0_B
  dsimp only
  rw [left2]
  unfold sl.HS2_9
  refine (Pieces.outside _ _ _ _ (0 : Fin 3) (Or.inl (by decide : 2 < 7))).trans ?_
  unfold sl.HS2_8
  refine (Pieces.outside _ _ _ _ (0 : Fin 3) (Or.inl (by decide : 2 < 6))).trans ?_
  unfold sl.HS2_7
  refine (Pieces.outside _ _ _ _ (0 : Fin 3) (Or.inl (by decide : 2 < 5))).trans ?_
  unfold sl.HS2_6
  refine (Pieces.outside _ _ _ _ (0 : Fin 3) (Or.inl (by decide : 2 < 4))).trans ?_
  unfold sl.HS2_5
  refine (Pieces.outside _ _ _ _ (0 : Fin 3) (Or.inl (by decide : 2 < 3))).trans ?_
  unfold sl.HS2_4
  refine (Pieces.inside _ _ _ (ix3 0 d p) _ ?_).trans ?_
  · intro a; fin_cases a <;> simp [ix3]
  simp only [View.readAt_rep, B_old0_2, B_old2_2, sl.cst_316, sl.cst_36, sl.r_12, sl.r_13, sl.r_14, sl.r_15, sl.r_17, sl.r_18, sl.r_19, sl.r_20, sl.r_22, sl.r_23, sl.r_24, sl.r_25, sl.r_27, sl.r_28, sl.r_29, sl.r_30, sl.r_32, sl.r_33, sl.r_34, sl.r_35, sl.r_36, sl.r_37, sl.r_39, sl.r_40, sl.r_41, sl.r_42, sl.r_43, sl.r_44, sl.r_46, sl.r_47, sl.r_48, sl.r_50, sl.r_51, sl.r_52, sl.r_8, sl.v7]
  rfl

theorem B_accumulator_3 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 3 d p)
    = k0_pay20 (full (own (BitVec.ofNat 32 (i 1).val) 3) (cols 3 x0) (all x1) (cols 3 x2) (all x3)) (row 3 (k0_pay1 (F := Ideal))) (rows 3 (k0_pay3 (F := Ideal))) (cols 3 x4) (ix3 0 d p) := by
  unfold kernelRun0_B
  dsimp only
  rw [left2]
  unfold sl.HS2_9
  refine (Pieces.outside _ _ _ _ (0 : Fin 3) (Or.inl (by decide : 3 < 7))).trans ?_
  unfold sl.HS2_8
  refine (Pieces.outside _ _ _ _ (0 : Fin 3) (Or.inl (by decide : 3 < 6))).trans ?_
  unfold sl.HS2_7
  refine (Pieces.outside _ _ _ _ (0 : Fin 3) (Or.inl (by decide : 3 < 5))).trans ?_
  unfold sl.HS2_6
  refine (Pieces.outside _ _ _ _ (0 : Fin 3) (Or.inl (by decide : 3 < 4))).trans ?_
  unfold sl.HS2_5
  refine (Pieces.inside _ _ _ (ix3 0 d p) _ ?_).trans ?_
  · intro a; fin_cases a <;> simp [ix3]
  simp only [View.readAt_rep, B_old0_3, B_old2_3, sl.cst_316, sl.cst_36, sl.r_17, sl.r_18, sl.r_19, sl.r_20, sl.r_23, sl.r_24, sl.r_25, sl.r_27, sl.r_28, sl.r_29, sl.r_30, sl.r_32, sl.r_33, sl.r_34, sl.r_35, sl.r_36, sl.r_37, sl.r_39, sl.r_40, sl.r_41, sl.r_42, sl.r_43, sl.r_44, sl.r_46, sl.r_47, sl.r_48, sl.r_50, sl.r_51, sl.r_52, sl.v7]
  rfl

theorem B_accumulator_4 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 4 d p)
    = k0_pay20 (full (own (BitVec.ofNat 32 (i 1).val) 4) (cols 4 x0) (all x1) (cols 4 x2) (all x3)) (row 4 (k0_pay1 (F := Ideal))) (rows 4 (k0_pay3 (F := Ideal))) (cols 4 x4) (ix3 0 d p) := by
  unfold kernelRun0_B
  dsimp only
  rw [left2]
  unfold sl.HS2_9
  refine (Pieces.outside _ _ _ _ (0 : Fin 3) (Or.inl (by decide : 4 < 7))).trans ?_
  unfold sl.HS2_8
  refine (Pieces.outside _ _ _ _ (0 : Fin 3) (Or.inl (by decide : 4 < 6))).trans ?_
  unfold sl.HS2_7
  refine (Pieces.outside _ _ _ _ (0 : Fin 3) (Or.inl (by decide : 4 < 5))).trans ?_
  unfold sl.HS2_6
  refine (Pieces.inside _ _ _ (ix3 0 d p) _ ?_).trans ?_
  · intro a; fin_cases a <;> simp [ix3]
  simp only [View.readAt_rep, B_old0_4, B_old2_4, sl.cst_316, sl.cst_36, sl.r_23, sl.r_24, sl.r_25, sl.r_28, sl.r_29, sl.r_30, sl.r_32, sl.r_33, sl.r_34, sl.r_35, sl.r_36, sl.r_37, sl.r_39, sl.r_40, sl.r_41, sl.r_42, sl.r_43, sl.r_44, sl.r_46, sl.r_47, sl.r_48, sl.r_50, sl.r_51, sl.r_52, sl.v7]
  rfl

theorem B_accumulator_5 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 5 d p)
    = k0_pay20 (full (own (BitVec.ofNat 32 (i 1).val) 5) (cols 5 x0) (all x1) (cols 5 x2) (all x3)) (row 5 (k0_pay1 (F := Ideal))) (rows 5 (k0_pay3 (F := Ideal))) (cols 5 x4) (ix3 0 d p) := by
  unfold kernelRun0_B
  dsimp only
  rw [left2]
  unfold sl.HS2_9
  refine (Pieces.outside _ _ _ _ (0 : Fin 3) (Or.inl (by decide : 5 < 7))).trans ?_
  unfold sl.HS2_8
  refine (Pieces.outside _ _ _ _ (0 : Fin 3) (Or.inl (by decide : 5 < 6))).trans ?_
  unfold sl.HS2_7
  refine (Pieces.inside _ _ _ (ix3 0 d p) _ ?_).trans ?_
  · intro a; fin_cases a <;> simp [ix3]
  simp only [View.readAt_rep, B_old0_5, B_old2_5, sl.cst_316, sl.cst_36, sl.r_28, sl.r_29, sl.r_30, sl.r_33, sl.r_34, sl.r_35, sl.r_36, sl.r_37, sl.r_39, sl.r_40, sl.r_41, sl.r_42, sl.r_43, sl.r_44, sl.r_46, sl.r_47, sl.r_48, sl.r_50, sl.r_51, sl.r_52, sl.v7]
  rfl

theorem B_accumulator_6 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 6 d p)
    = k0_pay20 (full (own (BitVec.ofNat 32 (i 1).val) 6) (cols 6 x0) (all x1) (cols 6 x2) (all x3)) (row 6 (k0_pay1 (F := Ideal))) (rows 6 (k0_pay3 (F := Ideal))) (cols 6 x4) (ix3 0 d p) := by
  unfold kernelRun0_B
  dsimp only
  rw [left2]
  unfold sl.HS2_9
  refine (Pieces.outside _ _ _ _ (0 : Fin 3) (Or.inl (by decide : 6 < 7))).trans ?_
  unfold sl.HS2_8
  refine (Pieces.inside _ _ _ (ix3 0 d p) _ ?_).trans ?_
  · intro a; fin_cases a <;> simp [ix3]
  simp only [View.readAt_rep, B_old0_6, B_old2_6, sl.cst_316, sl.cst_36, sl.r_33, sl.r_34, sl.r_35, sl.r_36, sl.r_37, sl.r_41, sl.r_42, sl.r_43, sl.r_44, sl.r_46, sl.r_47, sl.r_48, sl.r_50, sl.r_51, sl.r_52, sl.v7]
  rfl

theorem B_accumulator_7 (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 7 d p)
    = k0_pay20 (full (own (BitVec.ofNat 32 (i 1).val) 7) (cols 7 x0) (all x1) (cols 7 x2) (all x3)) (row 7 (k0_pay1 (F := Ideal))) (rows 7 (k0_pay3 (F := Ideal))) (cols 7 x4) (ix3 0 d p) := by
  unfold kernelRun0_B
  dsimp only
  rw [left2]
  unfold sl.HS2_9
  refine (Pieces.inside _ _ _ (ix3 0 d p) _ ?_).trans ?_
  · intro a; fin_cases a <;> simp [ix3]
  simp only [View.readAt_rep, B_old0_7, B_old2_7, sl.cst_316, sl.cst_36, sl.r_35, sl.r_41, sl.r_42, sl.r_43, sl.r_44, sl.r_50, sl.r_51, sl.r_52, sl.v7]
  rfl

/-- The accumulator of head `h` after the point. -/
theorem B_accumulator (h : Fin 8) (d : Fin 128) (p : Fin 1024) : (kernelRun0_B c i arg5 harg5 arg6 harg6 arg7 harg7 arg8 harg8 arg9 harg9 arg10 harg10 arg11 harg11 T0 T1 x0 x1 x2 x3 x4 x5 hc0 hc1 k0_h3).2.2.1 (ix3 h d p)
    = k0_pay20 (full (own (BitVec.ofNat 32 (i 1).val) h) (cols h x0) (all x1) (cols h x2) (all x3)) (row h (k0_pay1 (F := Ideal))) (rows h (k0_pay3 (F := Ideal))) (cols h x4) (ix3 0 d p) :=
  match h with
  | ⟨0, _⟩ => B_accumulator_0 c i arg5 harg5 arg6 harg6 arg7 harg7 arg8 harg8 arg9 harg9 arg10 harg10 arg11 harg11 T0 T1 x0 x1 x2 x3 x4 x5 hc0 hc1 k0_h3 d p
  | ⟨1, _⟩ => B_accumulator_1 c i arg5 harg5 arg6 harg6 arg7 harg7 arg8 harg8 arg9 harg9 arg10 harg10 arg11 harg11 T0 T1 x0 x1 x2 x3 x4 x5 hc0 hc1 k0_h3 d p
  | ⟨2, _⟩ => B_accumulator_2 c i arg5 harg5 arg6 harg6 arg7 harg7 arg8 harg8 arg9 harg9 arg10 harg10 arg11 harg11 T0 T1 x0 x1 x2 x3 x4 x5 hc0 hc1 k0_h3 d p
  | ⟨3, _⟩ => B_accumulator_3 c i arg5 harg5 arg6 harg6 arg7 harg7 arg8 harg8 arg9 harg9 arg10 harg10 arg11 harg11 T0 T1 x0 x1 x2 x3 x4 x5 hc0 hc1 k0_h3 d p
  | ⟨4, _⟩ => B_accumulator_4 c i arg5 harg5 arg6 harg6 arg7 harg7 arg8 harg8 arg9 harg9 arg10 harg10 arg11 harg11 T0 T1 x0 x1 x2 x3 x4 x5 hc0 hc1 k0_h3 d p
  | ⟨5, _⟩ => B_accumulator_5 c i arg5 harg5 arg6 harg6 arg7 harg7 arg8 harg8 arg9 harg9 arg10 harg10 arg11 harg11 T0 T1 x0 x1 x2 x3 x4 x5 hc0 hc1 k0_h3 d p
  | ⟨6, _⟩ => B_accumulator_6 c i arg5 harg5 arg6 harg6 arg7 harg7 arg8 harg8 arg9 harg9 arg10 harg10 arg11 harg11 T0 T1 x0 x1 x2 x3 x4 x5 hc0 hc1 k0_h3 d p
  | ⟨7, _⟩ => B_accumulator_7 c i arg5 harg5 arg6 harg6 arg7 harg7 arg8 harg8 arg9 harg9 arg10 harg10 arg11 harg11 T0 T1 x0 x1 x2 x3 x4 x5 hc0 hc1 k0_h3 d p
  | ⟨n + 8, h⟩ => absurd h (by omega)

end Cert.KernelAttIdeal.Att

end
-- ==== Proof.PathC.lean ====
/- The path of a grid point on the diagonal, not its row's first. -/
module

public import proofs.«01_k».proof.Proof.Heads
public import proofs.«01_k».proof.Proof.Pieces
public import proofs.«01_k».proof.Proof.Diagonal
public import proofs.«01_k».proof.Proof.Gen.KernelAttIdeal.Flash.Runs

@[expose] public section

set_option maxRecDepth 16384

noncomputable section

open Idealize.ShloMosaic Idealize.ShloMosaic.TcCoe Idealize.SL.Sem

namespace Cert.KernelAttIdeal.Att

open Cert.KernelAttIdeal Cert.KernelAttIdeal.Gen Cert.KernelAttIdeal.Gen.kernelRun0_C

variable (c : Dev nD) (i : grid0.Coords) (arg5 : Memref sig .tc .vmem S1024x1024 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (T0 : (S10.Idx → Elt Ideal .i32)) (T1 : (S10.Idx → Elt Ideal .i32))
     (x0 : (S1024x1024.Idx → Elt Ideal .bf16)) (x1 : (S1024x128.Idx → Elt Ideal .bf16)) (x2 : (S1024x1024.Idx → Elt Ideal .bf16)) (x3 : (S1024x128.Idx → Elt Ideal .bf16)) (x4 : (S1024x1024.Idx → Elt Ideal .bf16)) (x5 : (S1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1)

/-- The maximum of head 0 is read again for the last queries. -/
theorem C_tail0_0 : sl.v203 c i arg5 arg6 arg7 arg8 x0 x1 x2 x3 xa0 = tailRow (earlyMax (BitVec.ofNat 32 (i 1).val) 0 x0 x1 x2 x3 (row 0 xa0)) := by
  unfold sl.v203
  rw [View.readCov_eq_canon']
  funext j
  unfold sl.HS0_1
  refine (Pieces.inside _ _ _ (ix3 0 0 (⟨512 + (j 2).val, by have : (j 2).val < 512 := (j 2).isLt; omega⟩ : Fin 1024)) _ ?_).trans ?_
  · intro a
    fin_cases a
    · exact congrArg (0 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_11, sl.r_2, sl.r_3, sl.r_4, sl.r_5, sl.v7]
  rfl

/-- The maximum of head 1 is read again for the last queries. -/
theorem C_tail0_1 : sl.v393 c i arg5 arg6 arg7 arg8 x0 x1 x2 x3 xa0 = tailRow (earlyMax (BitVec.ofNat 32 (i 1).val) 1 x0 x1 x2 x3 (row 1 xa0)) := by
  unfold sl.v393
  rw [View.readCov_eq_canon']
  funext j
  unfold sl.HS0_3
  refine (Pieces.inside _ _ _ (ix3 0 0 (⟨512 + (j 2).val, by have : (j 2).val < 512 := (j 2).isLt; omega⟩ : Fin 1024)) _ ?_).trans ?_
  · intro a
    fin_cases a
    · exact congrArg (1 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.cst_34, sl.r_10, sl.r_15, sl.r_16, sl.r_24, sl.r_6, sl.r_7, sl.r_8, sl.r_9, sl.v308, sl.v7]
  rfl

/-- The maximum of head 2 is read again for the last queries. -/
theorem C_tail0_2 : sl.v583 c i arg5 arg6 arg7 arg8 x0 x1 x2 x3 xa0 = tailRow (earlyMax (BitVec.ofNat 32 (i 1).val) 2 x0 x1 x2 x3 (row 2 xa0)) := by
  unfold sl.v583
  rw [View.readCov_eq_canon']
  funext j
  unfold sl.HS0_5
  refine (Pieces.inside _ _ _ (ix3 0 0 (⟨512 + (j 2).val, by have : (j 2).val < 512 := (j 2).isLt; omega⟩ : Fin 1024)) _ ?_).trans ?_
  · intro a
    fin_cases a
    · exact congrArg (2 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_21, sl.r_22, sl.r_23, sl.r_28, sl.r_29, sl.r_36, sl.r_8, sl.v498, sl.v7]
  rfl

/-- The maximum of head 3 is read again for the last queries. -/
theorem C_tail0_3 : sl.v773 c i arg5 arg6 arg7 arg8 x0 x1 x2 x3 xa0 = tailRow (earlyMax (BitVec.ofNat 32 (i 1).val) 3 x0 x1 x2 x3 (row 3 xa0)) := by
  unfold sl.v773
  rw [View.readCov_eq_canon']
  funext j
  unfold sl.HS0_7
  refine (Pieces.inside _ _ _ (ix3 0 0 (⟨512 + (j 2).val, by have : (j 2).val < 512 := (j 2).isLt; omega⟩ : Fin 1024)) _ ?_).trans ?_
  · intro a
    fin_cases a
    · exact congrArg (3 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_33, sl.r_34, sl.r_35, sl.r_40, sl.r_41, sl.r_47, sl.v688, sl.v7]
  rfl

/-- The maximum of head 4 is read again for the last queries. -/
theorem C_tail0_4 : sl.v963 c i arg5 arg6 arg7 arg8 x0 x1 x2 x3 xa0 = tailRow (earlyMax (BitVec.ofNat 32 (i 1).val) 4 x0 x1 x2 x3 (row 4 xa0)) := by
  unfold sl.v963
  rw [View.readCov_eq_canon']
  funext j
  unfold sl.HS0_9
  refine (Pieces.inside _ _ _ (ix3 0 0 (⟨512 + (j 2).val, by have : (j 2).val < 512 := (j 2).isLt; omega⟩ : Fin 1024)) _ ?_).trans ?_
  · intro a
    fin_cases a
    · exact congrArg (4 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_45, sl.r_46, sl.r_51, sl.r_52, sl.r_58, sl.v7, sl.v878]
  rfl

/-- The maximum of head 5 is read again for the last queries. -/
theorem C_tail0_5 : sl.v1153 c i arg5 arg6 arg7 arg8 x0 x1 x2 x3 xa0 = tailRow (earlyMax (BitVec.ofNat 32 (i 1).val) 5 x0 x1 x2 x3 (row 5 xa0)) := by
  unfold sl.v1153
  rw [View.readCov_eq_canon']
  funext j
  unfold sl.HS0_11
  refine (Pieces.inside _ _ _ (ix3 0 0 (⟨512 + (j 2).val, by have : (j 2).val < 512 := (j 2).isLt; omega⟩ : Fin 1024)) _ ?_).trans ?_
  · intro a
    fin_cases a
    · exact congrArg (5 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_56, sl.r_57, sl.r_63, sl.r_64, sl.r_65, sl.r_68, sl.v1068, sl.v7]
  rfl

/-- The maximum of head 6 is read again for the last queries. -/
theorem C_tail0_6 : sl.v1343 c i arg5 arg6 arg7 arg8 x0 x1 x2 x3 xa0 = tailRow (earlyMax (BitVec.ofNat 32 (i 1).val) 6 x0 x1 x2 x3 (row 6 xa0)) := by
  unfold sl.v1343
  rw [View.readCov_eq_canon']
  funext j
  unfold sl.HS0_13
  refine (Pieces.inside _ _ _ (ix3 0 0 (⟨512 + (j 2).val, by have : (j 2).val < 512 := (j 2).isLt; omega⟩ : Fin 1024)) _ ?_).trans ?_
  · intro a
    fin_cases a
    · exact congrArg (6 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_67, sl.r_72, sl.r_73, sl.r_76, sl.v1040, sl.v1041, sl.v1258, sl.v7]
  rfl

/-- The maximum of head 7 is read again for the last queries. -/
theorem C_tail0_7 : sl.v1481 c i arg5 arg6 arg7 arg8 x0 x1 x2 x3 xa0 = tailRow (earlyMax (BitVec.ofNat 32 (i 1).val) 7 x0 x1 x2 x3 (row 7 xa0)) := by
  unfold sl.v1481
  rw [View.readCov_eq_canon']
  funext j
  unfold sl.HS0_15
  refine (Pieces.inside _ _ _ (ix3 0 0 (⟨512 + (j 2).val, by have : (j 2).val < 512 := (j 2).isLt; omega⟩ : Fin 1024)) _ ?_).trans ?_
  · intro a
    fin_cases a
    · exact congrArg (7 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_75, sl.r_79, sl.r_82, sl.v1040, sl.v1448, sl.v7]
  rfl

/-- The sum of head 0 is read again for the last queries. -/
theorem C_tail1_0 : sl.v213 c i arg5 arg6 arg7 arg8 x0 x1 x2 x3 xa0 xa1 = tailRow (earlySum (BitVec.ofNat 32 (i 1).val) 0 x0 x1 x2 x3 (row 0 xa0) (row 0 xa1)) := by
  unfold sl.v213
  rw [View.readCov_eq_canon']
  funext j
  unfold sl.HS1_1
  refine (Pieces.inside _ _ _ (ix3 0 0 (⟨512 + (j 2).val, by have : (j 2).val < 512 := (j 2).isLt; omega⟩ : Fin 1024)) _ ?_).trans ?_
  · intro a
    fin_cases a
    · exact congrArg (0 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_14, sl.r_2, sl.r_3, sl.r_4, sl.r_5, sl.v7]
  rfl

/-- The sum of head 1 is read again for the last queries. -/
theorem C_tail1_1 : sl.v403 c i arg5 arg6 arg7 arg8 x0 x1 x2 x3 xa0 xa1 = tailRow (earlySum (BitVec.ofNat 32 (i 1).val) 1 x0 x1 x2 x3 (row 1 xa0) (row 1 xa1)) := by
  unfold sl.v403
  rw [View.readCov_eq_canon']
  funext j
  unfold sl.HS1_3
  refine (Pieces.inside _ _ _ (ix3 0 0 (⟨512 + (j 2).val, by have : (j 2).val < 512 := (j 2).isLt; omega⟩ : Fin 1024)) _ ?_).trans ?_
  · intro a
    fin_cases a
    · exact congrArg (1 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_15, sl.r_27, sl.v308, sl.v318, sl.v7]
  rfl

/-- The sum of head 2 is read again for the last queries. -/
theorem C_tail1_2 : sl.v593 c i arg5 arg6 arg7 arg8 x0 x1 x2 x3 xa0 xa1 = tailRow (earlySum (BitVec.ofNat 32 (i 1).val) 2 x0 x1 x2 x3 (row 2 xa0) (row 2 xa1)) := by
  unfold sl.v593
  rw [View.readCov_eq_canon']
  funext j
  unfold sl.HS1_5
  refine (Pieces.inside _ _ _ (ix3 0 0 (⟨512 + (j 2).val, by have : (j 2).val < 512 := (j 2).isLt; omega⟩ : Fin 1024)) _ ?_).trans ?_
  · intro a
    fin_cases a
    · exact congrArg (2 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_28, sl.r_39, sl.v498, sl.v508, sl.v7]
  rfl

/-- The sum of head 3 is read again for the last queries. -/
theorem C_tail1_3 : sl.v783 c i arg5 arg6 arg7 arg8 x0 x1 x2 x3 xa0 xa1 = tailRow (earlySum (BitVec.ofNat 32 (i 1).val) 3 x0 x1 x2 x3 (row 3 xa0) (row 3 xa1)) := by
  unfold sl.v783
  rw [View.readCov_eq_canon']
  funext j
  unfold sl.HS1_7
  refine (Pieces.inside _ _ _ (ix3 0 0 (⟨512 + (j 2).val, by have : (j 2).val < 512 := (j 2).isLt; omega⟩ : Fin 1024)) _ ?_).trans ?_
  · intro a
    fin_cases a
    · exact congrArg (3 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_40, sl.r_50, sl.v688, sl.v698, sl.v7]
  rfl

/-- The sum of head 4 is read again for the last queries. -/
theorem C_tail1_4 : sl.v973 c i arg5 arg6 arg7 arg8 x0 x1 x2 x3 xa0 xa1 = tailRow (earlySum (BitVec.ofNat 32 (i 1).val) 4 x0 x1 x2 x3 (row 4 xa0) (row 4 xa1)) := by
  unfold sl.v973
  rw [View.readCov_eq_canon']
  funext j
  unfold sl.HS1_9
  refine (Pieces.inside _ _ _ (ix3 0 0 (⟨512 + (j 2).val, by have : (j 2).val < 512 := (j 2).isLt; omega⟩ : Fin 1024)) _ ?_).trans ?_
  · intro a
    fin_cases a
    · exact congrArg (4 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_51, sl.r_61, sl.r_62, sl.v7, sl.v878, sl.v888]
  rfl

/-- The sum of head 5 is read again for the last queries. -/
theorem C_tail1_5 : sl.v1163 c i arg5 arg6 arg7 arg8 x0 x1 x2 x3 xa0 xa1 = tailRow (earlySum (BitVec.ofNat 32 (i 1).val) 5 x0 x1 x2 x3 (row 5 xa0) (row 5 xa1)) := by
  unfold sl.v1163
  rw [View.readCov_eq_canon']
  funext j
  unfold sl.HS1_11
  refine (Pieces.inside _ _ _ (ix3 0 0 (⟨512 + (j 2).val, by have : (j 2).val < 512 := (j 2).isLt; omega⟩ : Fin 1024)) _ ?_).trans ?_
  · intro a
    fin_cases a
    · exact congrArg (5 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_63, sl.r_70, sl.r_71, sl.v1068, sl.v1078, sl.v7]
  rfl

/-- The sum of head 6 is read again for the last queries. -/
theorem C_tail1_6 : sl.v1353 c i arg5 arg6 arg7 arg8 x0 x1 x2 x3 xa0 xa1 = tailRow (earlySum (BitVec.ofNat 32 (i 1).val) 6 x0 x1 x2 x3 (row 6 xa0) (row 6 xa1)) := by
  unfold sl.v1353
  rw [View.readCov_eq_canon']
  funext j
  unfold sl.HS1_13
  refine (Pieces.inside _ _ _ (ix3 0 0 (⟨512 + (j 2).val, by have : (j 2).val < 512 := (j 2).isLt; omega⟩ : Fin 1024)) _ ?_).trans ?_
  · intro a
    fin_cases a
    · exact congrArg (6 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_72, sl.r_77, sl.r_78, sl.v1258, sl.v1268, sl.v7]
  rfl

/-- The sum of head 7 is read again for the last queries. -/
theorem C_tail1_7 : sl.v1491 c i arg5 arg6 arg7 arg8 x0 x1 x2 x3 xa0 xa1 = tailRow (earlySum (BitVec.ofNat 32 (i 1).val) 7 x0 x1 x2 x3 (row 7 xa0) (row 7 xa1)) := by
  unfold sl.v1491
  rw [View.readCov_eq_canon']
  funext j
  unfold sl.HS1_15
  refine (Pieces.inside _ _ _ (ix3 0 0 (⟨512 + (j 2).val, by have : (j 2).val < 512 := (j 2).isLt; omega⟩ : Fin 1024)) _ ?_).trans ?_
  · intro a
    fin_cases a
    · exact congrArg (7 + ·) (show 1 * (j 0).val = 0 by have : (j 0).val < 1 := (j 0).isLt; omega)
    · exact congrArg (0 + ·) (show 1 * (j 1).val = 0 by have : (j 1).val < 1 := (j 1).isLt; omega)
    · show 512 + 1 * (j 2).val = 0 + (512 + (j 2).val)
      omega
  simp only [View.readAt_rep, sl.r_79, sl.r_83, sl.r_84, sl.v1448, sl.v1458, sl.v7]
  rfl

/-- The accumulator of head 0 is read again for the last queries. -/
theorem C_tail2_0 : sl.v222 c i arg5 arg6 arg7 arg8 arg9 x0 x1 x2 x3 x4 xa0 xa2 = tailRows (earlyAcc (BitVec.ofNat 32 (i 1).val) 0 x0 x1 x2 x3 x4 (row 0 xa0) (rows 0 xa2)) := by
  unfold sl.v222
  rw [View.readCov_eq_canon']
  funext j
  unfold sl.HS2_1
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (0 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_12, sl.r_13, sl.r_2, sl.r_3, sl.r_4, sl.r_5, sl.v7]
  rfl

/-- The accumulator of head 1 is read again for the last queries. -/
theorem C_tail2_1 : sl.v412 c i arg5 arg6 arg7 arg8 arg9 x0 x1 x2 x3 x4 xa0 xa2 = tailRows (earlyAcc (BitVec.ofNat 32 (i 1).val) 1 x0 x1 x2 x3 x4 (row 1 xa0) (rows 1 xa2)) := by
  unfold sl.v412
  rw [View.readCov_eq_canon']
  funext j
  unfold sl.HS2_3
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (1 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_15, sl.r_25, sl.r_26, sl.v308, sl.v327, sl.v7]
  rfl

/-- The accumulator of head 2 is read again for the last queries. -/
theorem C_tail2_2 : sl.v602 c i arg5 arg6 arg7 arg8 arg9 x0 x1 x2 x3 x4 xa0 xa2 = tailRows (earlyAcc (BitVec.ofNat 32 (i 1).val) 2 x0 x1 x2 x3 x4 (row 2 xa0) (rows 2 xa2)) := by
  unfold sl.v602
  rw [View.readCov_eq_canon']
  funext j
  unfold sl.HS2_5
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (2 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_28, sl.r_37, sl.r_38, sl.v498, sl.v517, sl.v7]
  rfl

/-- The accumulator of head 3 is read again for the last queries. -/
theorem C_tail2_3 : sl.v792 c i arg5 arg6 arg7 arg8 arg9 x0 x1 x2 x3 x4 xa0 xa2 = tailRows (earlyAcc (BitVec.ofNat 32 (i 1).val) 3 x0 x1 x2 x3 x4 (row 3 xa0) (rows 3 xa2)) := by
  unfold sl.v792
  rw [View.readCov_eq_canon']
  funext j
  unfold sl.HS2_7
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (3 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_40, sl.r_48, sl.r_49, sl.v688, sl.v7, sl.v707]
  rfl

/-- The accumulator of head 4 is read again for the last queries. -/
theorem C_tail2_4 : sl.v982 c i arg5 arg6 arg7 arg8 arg9 x0 x1 x2 x3 x4 xa0 xa2 = tailRows (earlyAcc (BitVec.ofNat 32 (i 1).val) 4 x0 x1 x2 x3 x4 (row 4 xa0) (rows 4 xa2)) := by
  unfold sl.v982
  rw [View.readCov_eq_canon']
  funext j
  unfold sl.HS2_9
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (4 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_51, sl.r_59, sl.r_60, sl.v7, sl.v878, sl.v897]
  rfl

/-- The accumulator of head 5 is read again for the last queries. -/
theorem C_tail2_5 : sl.v1172 c i arg5 arg6 arg7 arg8 arg9 x0 x1 x2 x3 x4 xa0 xa2 = tailRows (earlyAcc (BitVec.ofNat 32 (i 1).val) 5 x0 x1 x2 x3 x4 (row 5 xa0) (rows 5 xa2)) := by
  unfold sl.v1172
  rw [View.readCov_eq_canon']
  funext j
  unfold sl.HS2_11
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (5 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_63, sl.r_69, sl.r_70, sl.v1068, sl.v1087, sl.v7]
  rfl

/-- The accumulator of head 6 is read again for the last queries. -/
theorem C_tail2_6 : sl.v1362 c i arg5 arg6 arg7 arg8 arg9 x0 x1 x2 x3 x4 xa0 xa2 = tailRows (earlyAcc (BitVec.ofNat 32 (i 1).val) 6 x0 x1 x2 x3 x4 (row 6 xa0) (rows 6 xa2)) := by
  unfold sl.v1362
  rw [View.readCov_eq_canon']
  funext j
  unfold sl.HS2_13
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (6 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_72, sl.r_77, sl.r_78, sl.v1258, sl.v1277, sl.v7]
  rfl

/-- The accumulator of head 7 is read again for the last queries. -/
theorem C_tail2_7 : sl.v1500 c i arg5 arg6 arg7 arg8 arg9 x0 x1 x2 x3 x4 xa0 xa2 = tailRows (earlyAcc (BitVec.ofNat 32 (i 1).val) 7 x0 x1 x2 x3 x4 (row 7 xa0) (rows 7 xa2)) := by
  unfold sl.v1500
  rw [View.readCov_eq_canon']
  funext j
  unfold sl.HS2_15
  refine (Pieces.inside _ _ _ (ix3 0 (⟨(j 1).val, (j 1).isLt⟩ : Fin 128) (⟨512 + (j 2).val, by have : (j 2).val < 512 := (j 2).isLt; omega⟩ : Fin 1024)) _ ?_).trans ?_
  · intro a
    fin_cases a
    · exact congrArg (7 + ·) (show 1 * (j 0).val = 0 by have : (j 0).val < 1 := (j 0).isLt; omega)
    · exact congrArg (0 + ·) (one_mul _)
    · show 512 + 1 * (j 2).val = 0 + (512 + (j 2).val)
      omega
  simp only [View.readAt_rep, sl.r_79, sl.r_83, sl.r_84, sl.v1448, sl.v1467, sl.v7]
  rfl

/-- The sum of head 0 after the block. -/
theorem C_last1_0 : sl.v238 c i arg5 arg6 arg7 arg8 x0 x1 x2 x3 xa0 xa1 = lastSum (BitVec.ofNat 32 (i 1).val) 0 x0 x1 x2 x3 (row 0 xa0) (row 0 xa1) := by
  unfold sl.v238
  rw [View.readCov_eq_canon']
  funext j
  unfold sl.HS1_2
  by_cases hj : (j 2).val < 512
  · refine (Pieces.outside _ _ _ _ (2 : Fin 3) (Or.inl (show 0 + 1 * (j 2).val < 512 by omega))).trans ?_
    unfold sl.HS1_1
    refine (Pieces.inside _ _ _ j _ ?_).trans ?_
    · intro a
      fin_cases a <;> exact congrArg (_ + ·) (one_mul _)
    refine Eq.trans ?_ (if_pos hj).symm
    simp only [View.readAt_rep, sl.cst_34, sl.r_10, sl.r_14, sl.r_17, sl.r_18, sl.r_2, sl.r_3, sl.r_4, sl.r_5, sl.r_6, sl.r_7, sl.r_8, sl.r_9, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (0 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_0, C_tail1_0, sl.cst_34, sl.r_10, sl.r_14, sl.r_17, sl.r_18, sl.r_2, sl.r_3, sl.r_4, sl.r_5, sl.r_6, sl.r_7, sl.r_8, sl.r_9, sl.v7]
    rfl

/-- The sum of head 1 after the block. -/
theorem C_last1_1 : sl.v428 c i arg5 arg6 arg7 arg8 x0 x1 x2 x3 xa0 xa1 = lastSum (BitVec.ofNat 32 (i 1).val) 1 x0 x1 x2 x3 (row 1 xa0) (row 1 xa1) := by
  unfold sl.v428
  rw [View.readCov_eq_canon']
  funext j
  unfold sl.HS1_4
  by_cases hj : (j 2).val < 512
  · refine (Pieces.outside _ _ _ _ (2 : Fin 3) (Or.inl (show 0 + 1 * (j 2).val < 512 by omega))).trans ?_
    unfold sl.HS1_3
    refine (Pieces.inside _ _ _ j _ ?_).trans ?_
    · intro a
      fin_cases a <;> exact congrArg (_ + ·) (one_mul _)
    refine Eq.trans ?_ (if_pos hj).symm
    simp only [View.readAt_rep, sl.r_15, sl.r_21, sl.r_22, sl.r_23, sl.r_27, sl.r_30, sl.r_31, sl.r_8, sl.v308, sl.v318, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (1 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_1, C_tail1_1, sl.r_15, sl.r_21, sl.r_22, sl.r_23, sl.r_27, sl.r_30, sl.r_31, sl.r_8, sl.v308, sl.v318, sl.v7]
    rfl

/-- The sum of head 2 after the block. -/
theorem C_last1_2 : sl.v618 c i arg5 arg6 arg7 arg8 x0 x1 x2 x3 xa0 xa1 = lastSum (BitVec.ofNat 32 (i 1).val) 2 x0 x1 x2 x3 (row 2 xa0) (row 2 xa1) := by
  unfold sl.v618
  rw [View.readCov_eq_canon']
  funext j
  unfold sl.HS1_6
  by_cases hj : (j 2).val < 512
  · refine (Pieces.outside _ _ _ _ (2 : Fin 3) (Or.inl (show 0 + 1 * (j 2).val < 512 by omega))).trans ?_
    unfold sl.HS1_5
    refine (Pieces.inside _ _ _ j _ ?_).trans ?_
    · intro a
      fin_cases a <;> exact congrArg (_ + ·) (one_mul _)
    refine Eq.trans ?_ (if_pos hj).symm
    simp only [View.readAt_rep, sl.r_28, sl.r_33, sl.r_34, sl.r_35, sl.r_39, sl.r_42, sl.r_43, sl.v498, sl.v508, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (2 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_2, C_tail1_2, sl.r_28, sl.r_33, sl.r_34, sl.r_35, sl.r_39, sl.r_42, sl.r_43, sl.v498, sl.v508, sl.v7]
    rfl

/-- The sum of head 3 after the block. -/
theorem C_last1_3 : sl.v808 c i arg5 arg6 arg7 arg8 x0 x1 x2 x3 xa0 xa1 = lastSum (BitVec.ofNat 32 (i 1).val) 3 x0 x1 x2 x3 (row 3 xa0) (row 3 xa1) := by
  unfold sl.v808
  rw [View.readCov_eq_canon']
  funext j
  unfold sl.HS1_8
  by_cases hj : (j 2).val < 512
  · refine (Pieces.outside _ _ _ _ (2 : Fin 3) (Or.inl (show 0 + 1 * (j 2).val < 512 by omega))).trans ?_
    unfold sl.HS1_7
    refine (Pieces.inside _ _ _ j _ ?_).trans ?_
    · intro a
      fin_cases a <;> exact congrArg (_ + ·) (one_mul _)
    refine Eq.trans ?_ (if_pos hj).symm
    simp only [View.readAt_rep, sl.r_40, sl.r_45, sl.r_46, sl.r_50, sl.r_52, sl.r_53, sl.v688, sl.v698, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (3 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_3, C_tail1_3, sl.r_40, sl.r_45, sl.r_46, sl.r_50, sl.r_52, sl.r_53, sl.v688, sl.v698, sl.v7]
    rfl

/-- The sum of head 4 after the block. -/
theorem C_last1_4 : sl.v998 c i arg5 arg6 arg7 arg8 x0 x1 x2 x3 xa0 xa1 = lastSum (BitVec.ofNat 32 (i 1).val) 4 x0 x1 x2 x3 (row 4 xa0) (row 4 xa1) := by
  unfold sl.v998
  rw [View.readCov_eq_canon']
  funext j
  unfold sl.HS1_10
  by_cases hj : (j 2).val < 512
  · refine (Pieces.outside _ _ _ _ (2 : Fin 3) (Or.inl (show 0 + 1 * (j 2).val < 512 by omega))).trans ?_
    unfold sl.HS1_9
    refine (Pieces.inside _ _ _ j _ ?_).trans ?_
    · intro a
      fin_cases a <;> exact congrArg (_ + ·) (one_mul _)
    refine Eq.trans ?_ (if_pos hj).symm
    simp only [View.readAt_rep, sl.r_51, sl.r_56, sl.r_57, sl.r_61, sl.r_62, sl.r_64, sl.r_65, sl.v7, sl.v878, sl.v888]
    rfl
  · refine (Pieces.inside _ _ _ (ix3 0 0 (⟨(j 2).val - 512, by have : (j 2).val < 1024 := (j 2).isLt; omega⟩ : Fin 512)) _ ?_).trans ?_
    · intro a
      fin_cases a
      · exact congrArg (4 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_4, C_tail1_4, sl.r_51, sl.r_56, sl.r_57, sl.r_61, sl.r_62, sl.r_64, sl.r_65, sl.v7, sl.v878, sl.v888]
    rfl

/-- The sum of head 5 after the block. -/
theorem C_last1_5 : sl.v1188 c i arg5 arg6 arg7 arg8 x0 x1 x2 x3 xa0 xa1 = lastSum (BitVec.ofNat 32 (i 1).val) 5 x0 x1 x2 x3 (row 5 xa0) (row 5 xa1) := by
  unfold sl.v1188
  rw [View.readCov_eq_canon']
  funext j
  unfold sl.HS1_12
  by_cases hj : (j 2).val < 512
  · refine (Pieces.outside _ _ _ _ (2 : Fin 3) (Or.inl (show 0 + 1 * (j 2).val < 512 by omega))).trans ?_
    unfold sl.HS1_11
    refine (Pieces.inside _ _ _ j _ ?_).trans ?_
    · intro a
      fin_cases a <;> exact congrArg (_ + ·) (one_mul _)
    refine Eq.trans ?_ (if_pos hj).symm
    simp only [View.readAt_rep, sl.r_63, sl.r_67, sl.r_70, sl.r_71, sl.r_73, sl.v1040, sl.v1041, sl.v1068, sl.v1078, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (5 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_5, C_tail1_5, sl.r_63, sl.r_67, sl.r_70, sl.r_71, sl.r_73, sl.v1040, sl.v1041, sl.v1068, sl.v1078, sl.v7]
    rfl

/-- The sum of head 6 after the block. -/
theorem C_last1_6 : sl.v1378 c i arg5 arg6 arg7 arg8 x0 x1 x2 x3 xa0 xa1 = lastSum (BitVec.ofNat 32 (i 1).val) 6 x0 x1 x2 x3 (row 6 xa0) (row 6 xa1) := by
  unfold sl.v1378
  rw [View.readCov_eq_canon']
  funext j
  unfold sl.HS1_14
  by_cases hj : (j 2).val < 512
  · refine (Pieces.outside _ _ _ _ (2 : Fin 3) (Or.inl (show 0 + 1 * (j 2).val < 512 by omega))).trans ?_
    unfold sl.HS1_13
    refine (Pieces.inside _ _ _ j _ ?_).trans ?_
    · intro a
      fin_cases a <;> exact congrArg (_ + ·) (one_mul _)
    refine Eq.trans ?_ (if_pos hj).symm
    simp only [View.readAt_rep, sl.r_72, sl.r_75, sl.r_77, sl.r_78, sl.v1040, sl.v1258, sl.v1268, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (6 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_6, C_tail1_6, sl.r_72, sl.r_75, sl.r_77, sl.r_78, sl.v1040, sl.v1258, sl.v1268, sl.v7]
    rfl

/-- The sum of head 7 after the block. -/
theorem C_last1_7 : sl.v1516 c i arg5 arg6 arg7 arg8 x0 x1 x2 x3 xa0 xa1 = lastSum (BitVec.ofNat 32 (i 1).val) 7 x0 x1 x2 x3 (row 7 xa0) (row 7 xa1) := by
  unfold sl.v1516
  rw [View.readCov_eq_canon']
  funext j
  unfold sl.HS1_16
  by_cases hj : (j 2).val < 512
  · refine (Pieces.outside _ _ _ _ (2 : Fin 3) (Or.inl (show 0 + 1 * (j 2).val < 512 by omega))).trans ?_
    unfold sl.HS1_15
    refine (Pieces.inside _ _ _ j _ ?_).trans ?_
    · intro a
      fin_cases a <;> exact congrArg (_ + ·) (one_mul _)
    refine Eq.trans ?_ (if_pos hj).symm
    simp only [View.readAt_rep, sl.r_79, sl.r_81, sl.r_83, sl.r_84, sl.r_86, sl.r_87, sl.v1448, sl.v1458, sl.v7]
    rfl
  · refine (Pieces.inside _ _ _ (ix3 0 0 (⟨(j 2).val - 512, by have : (j 2).val < 1024 := (j 2).isLt; omega⟩ : Fin 512)) _ ?_).trans ?_
    · intro a
      fin_cases a
      · exact congrArg (7 + ·) (show 1 * (j 0).val = 0 by have : (j 0).val < 1 := (j 0).isLt; omega)
      · exact congrArg (0 + ·) (show 1 * (j 1).val = 0 by have : (j 1).val < 1 := (j 1).isLt; omega)
      · show 0 + 1 * (j 2).val = 512 + ((j 2).val - 512)
        omega
    refine Eq.trans ?_ (if_neg hj).symm
    simp only [View.readAt_rep, C_tail0_7, C_tail1_7, sl.r_79, sl.r_81, sl.r_83, sl.r_84, sl.r_86, sl.r_87, sl.v1448, sl.v1458, sl.v7]
    rfl

/-- The accumulator of head 0 after the block. -/
theorem C_last2_0 : sl.v236 c i arg5 arg6 arg7 arg8 arg9 x0 x1 x2 x3 x4 xa0 xa2 = lastAcc (BitVec.ofNat 32 (i 1).val) 0 x0 x1 x2 x3 x4 (row 0 xa0) (rows 0 xa2) := by
  unfold sl.v236
  rw [View.readCov_eq_canon']
  funext j
  unfold sl.HS2_2
  by_cases hj : (j 2).val < 512
  · refine (Pieces.outside _ _ _ _ (2 : Fin 3) (Or.inl (show 0 + 1 * (j 2).val < 512 by omega))).trans ?_
    unfold sl.HS2_1
    refine (Pieces.inside _ _ _ j _ ?_).trans ?_
    · intro a
      fin_cases a <;> exact congrArg (_ + ·) (one_mul _)
    refine Eq.trans ?_ (if_pos hj).symm
    simp only [View.readAt_rep, sl.cst_34, sl.r_10, sl.r_12, sl.r_13, sl.r_17, sl.r_18, sl.r_2, sl.r_3, sl.r_4, sl.r_5, sl.r_6, sl.r_7, sl.r_8, sl.r_9, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (0 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_0, C_tail2_0, sl.cst_34, sl.r_10, sl.r_12, sl.r_13, sl.r_17, sl.r_18, sl.r_2, sl.r_3, sl.r_4, sl.r_5, sl.r_6, sl.r_7, sl.r_8, sl.r_9, sl.v7]
    rfl

/-- The accumulator of head 1 after the block. -/
theorem C_last2_1 : sl.v426 c i arg5 arg6 arg7 arg8 arg9 x0 x1 x2 x3 x4 xa0 xa2 = lastAcc (BitVec.ofNat 32 (i 1).val) 1 x0 x1 x2 x3 x4 (row 1 xa0) (rows 1 xa2) := by
  unfold sl.v426
  rw [View.readCov_eq_canon']
  funext j
  unfold sl.HS2_4
  by_cases hj : (j 2).val < 512
  · refine (Pieces.outside _ _ _ _ (2 : Fin 3) (Or.inl (show 0 + 1 * (j 2).val < 512 by omega))).trans ?_
    unfold sl.HS2_3
    refine (Pieces.inside _ _ _ j _ ?_).trans ?_
    · intro a
      fin_cases a <;> exact congrArg (_ + ·) (one_mul _)
    refine Eq.trans ?_ (if_pos hj).symm
    simp only [View.readAt_rep, sl.r_15, sl.r_21, sl.r_22, sl.r_23, sl.r_25, sl.r_26, sl.r_30, sl.r_31, sl.r_8, sl.v308, sl.v327, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (1 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_1, C_tail2_1, sl.r_15, sl.r_21, sl.r_22, sl.r_23, sl.r_25, sl.r_26, sl.r_30, sl.r_31, sl.r_8, sl.v308, sl.v327, sl.v7]
    rfl

/-- The accumulator of head 2 after the block. -/
theorem C_last2_2 : sl.v616 c i arg5 arg6 arg7 arg8 arg9 x0 x1 x2 x3 x4 xa0 xa2 = lastAcc (BitVec.ofNat 32 (i 1).val) 2 x0 x1 x2 x3 x4 (row 2 xa0) (rows 2 xa2) := by
  unfold sl.v616
  rw [View.readCov_eq_canon']
  funext j
  unfold sl.HS2_6
  by_cases hj : (j 2).val < 512
  · refine (Pieces.outside _ _ _ _ (2 : Fin 3) (Or.inl (show 0 + 1 * (j 2).val < 512 by omega))).trans ?_
    unfold sl.HS2_5
    refine (Pieces.inside _ _ _ j _ ?_).trans ?_
    · intro a
      fin_cases a <;> exact congrArg (_ + ·) (one_mul _)
    refine Eq.trans ?_ (if_pos hj).symm
    simp only [View.readAt_rep, sl.r_28, sl.r_33, sl.r_34, sl.r_35, sl.r_37, sl.r_38, sl.r_42, sl.r_43, sl.v498, sl.v517, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (2 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_2, C_tail2_2, sl.r_28, sl.r_33, sl.r_34, sl.r_35, sl.r_37, sl.r_38, sl.r_42, sl.r_43, sl.v498, sl.v517, sl.v7]
    rfl

/-- The accumulator of head 3 after the block. -/
theorem C_last2_3 : sl.v806 c i arg5 arg6 arg7 arg8 arg9 x0 x1 x2 x3 x4 xa0 xa2 = lastAcc (BitVec.ofNat 32 (i 1).val) 3 x0 x1 x2 x3 x4 (row 3 xa0) (rows 3 xa2) := by
  unfold sl.v806
  rw [View.readCov_eq_canon']
  funext j
  unfold sl.HS2_8
  by_cases hj : (j 2).val < 512
  · refine (Pieces.outside _ _ _ _ (2 : Fin 3) (Or.inl (show 0 + 1 * (j 2).val < 512 by omega))).trans ?_
    unfold sl.HS2_7
    refine (Pieces.inside _ _ _ j _ ?_).trans ?_
    · intro a
      fin_cases a <;> exact congrArg (_ + ·) (one_mul _)
    refine Eq.trans ?_ (if_pos hj).symm
    simp only [View.readAt_rep, sl.r_40, sl.r_45, sl.r_46, sl.r_48, sl.r_49, sl.r_52, sl.r_53, sl.v688, sl.v7, sl.v707]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (3 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_3, C_tail2_3, sl.r_40, sl.r_45, sl.r_46, sl.r_48, sl.r_49, sl.r_52, sl.r_53, sl.v688, sl.v7, sl.v707]
    rfl

/-- The accumulator of head 4 after the block. -/
theorem C_last2_4 : sl.v996 c i arg5 arg6 arg7 arg8 arg9 x0 x1 x2 x3 x4 xa0 xa2 = lastAcc (BitVec.ofNat 32 (i 1).val) 4 x0 x1 x2 x3 x4 (row 4 xa0) (rows 4 xa2) := by
  unfold sl.v996
  rw [View.readCov_eq_canon']
  funext j
  unfold sl.HS2_10
  by_cases hj : (j 2).val < 512
  · refine (Pieces.outside _ _ _ _ (2 : Fin 3) (Or.inl (show 0 + 1 * (j 2).val < 512 by omega))).trans ?_
    unfold sl.HS2_9
    refine (Pieces.inside _ _ _ j _ ?_).trans ?_
    · intro a
      fin_cases a <;> exact congrArg (_ + ·) (one_mul _)
    refine Eq.trans ?_ (if_pos hj).symm
    simp only [View.readAt_rep, sl.r_51, sl.r_56, sl.r_57, sl.r_59, sl.r_60, sl.r_64, sl.r_65, sl.v7, sl.v878, sl.v897]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (4 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_4, C_tail2_4, sl.r_51, sl.r_56, sl.r_57, sl.r_59, sl.r_60, sl.r_64, sl.r_65, sl.v7, sl.v878, sl.v897]
    rfl

/-- The accumulator of head 5 after the block. -/
theorem C_last2_5 : sl.v1186 c i arg5 arg6 arg7 arg8 arg9 x0 x1 x2 x3 x4 xa0 xa2 = lastAcc (BitVec.ofNat 32 (i 1).val) 5 x0 x1 x2 x3 x4 (row 5 xa0) (rows 5 xa2) := by
  unfold sl.v1186
  rw [View.readCov_eq_canon']
  funext j
  unfold sl.HS2_12
  by_cases hj : (j 2).val < 512
  · refine (Pieces.outside _ _ _ _ (2 : Fin 3) (Or.inl (show 0 + 1 * (j 2).val < 512 by omega))).trans ?_
    unfold sl.HS2_11
    refine (Pieces.inside _ _ _ j _ ?_).trans ?_
    · intro a
      fin_cases a <;> exact congrArg (_ + ·) (one_mul _)
    refine Eq.trans ?_ (if_pos hj).symm
    simp only [View.readAt_rep, sl.r_63, sl.r_67, sl.r_69, sl.r_70, sl.r_73, sl.v1040, sl.v1041, sl.v1068, sl.v1087, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (5 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_5, C_tail2_5, sl.r_63, sl.r_67, sl.r_69, sl.r_70, sl.r_73, sl.v1040, sl.v1041, sl.v1068, sl.v1087, sl.v7]
    rfl

/-- The accumulator of head 6 after the block. -/
theorem C_last2_6 : sl.v1376 c i arg5 arg6 arg7 arg8 arg9 x0 x1 x2 x3 x4 xa0 xa2 = lastAcc (BitVec.ofNat 32 (i 1).val) 6 x0 x1 x2 x3 x4 (row 6 xa0) (rows 6 xa2) := by
  unfold sl.v1376
  rw [View.readCov_eq_canon']
  funext j
  unfold sl.HS2_14
  by_cases hj : (j 2).val < 512
  · refine (Pieces.outside _ _ _ _ (2 : Fin 3) (Or.inl (show 0 + 1 * (j 2).val < 512 by omega))).trans ?_
    unfold sl.HS2_13
    refine (Pieces.inside _ _ _ j _ ?_).trans ?_
    · intro a
      fin_cases a <;> exact congrArg (_ + ·) (one_mul _)
    refine Eq.trans ?_ (if_pos hj).symm
    simp only [View.readAt_rep, sl.r_72, sl.r_75, sl.r_77, sl.r_78, sl.v1040, sl.v1258, sl.v1277, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (6 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_6, C_tail2_6, sl.r_72, sl.r_75, sl.r_77, sl.r_78, sl.v1040, sl.v1258, sl.v1277, sl.v7]
    rfl

/-- The accumulator of head 7 after the block. -/
theorem C_last2_7 : sl.v1514 c i arg5 arg6 arg7 arg8 arg9 x0 x1 x2 x3 x4 xa0 xa2 = lastAcc (BitVec.ofNat 32 (i 1).val) 7 x0 x1 x2 x3 x4 (row 7 xa0) (rows 7 xa2) := by
  unfold sl.v1514
  rw [View.readCov_eq_canon']
  funext j
  unfold sl.HS2_16
  by_cases hj : (j 2).val < 512
  · refine (Pieces.outside _ _ _ _ (2 : Fin 3) (Or.inl (show 0 + 1 * (j 2).val < 512 by omega))).trans ?_
    unfold sl.HS2_15
    refine (Pieces.inside _ _ _ j _ ?_).trans ?_
    · intro a
      fin_cases a <;> exact congrArg (_ + ·) (one_mul _)
    refine Eq.trans ?_ (if_pos hj).symm
    simp only [View.readAt_rep, sl.r_79, sl.r_81, sl.r_83, sl.r_84, sl.r_86, sl.r_87, sl.v1448, sl.v1467, sl.v7]
    rfl
  · refine (Pieces.inside _ _ _ (ix3 0 (⟨(j 1).val, (j 1).isLt⟩ : Fin 128) (⟨(j 2).val - 512, by have : (j 2).val < 1024 := (j 2).isLt; omega⟩ : Fin 512)) _ ?_).trans ?_
    · intro a
      fin_cases a
      · exact congrArg (7 + ·) (show 1 * (j 0).val = 0 by have : (j 0).val < 1 := (j 0).isLt; omega)
      · exact congrArg (0 + ·) (one_mul _)
      · show 0 + 1 * (j 2).val = 512 + ((j 2).val - 512)
        omega
    refine Eq.trans ?_ (if_neg hj).symm
    simp only [View.readAt_rep, C_tail0_7, C_tail2_7, sl.r_79, sl.r_81, sl.r_83, sl.r_84, sl.r_86, sl.r_87, sl.v1448, sl.v1467, sl.v7]
    rfl

theorem C_out_0 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨0 + d.val, by omega⟩ : Fin 1024))
    = k0_pay6 (k0_pay279 (lastAcc (BitVec.ofNat 32 (i 1).val) 0 x0 x1 x2 x3 x4 (row 0 xa0) (rows 0 xa2)) (lastSum (BitVec.ofNat 32 (i 1).val) 0 x0 x1 x2 x3 (row 0 xa0) (row 0 xa1))) (k0_pay280 (cols 0 x5)) (Scalar.ofBits .f32 0x3F000000#32 : Ideal .f32) (ix2 p d) := by
  unfold out0_C_6
  rw [leftOut]
  unfold kernelRun0_C
  dsimp only
  unfold sl.HO6_8
  refine (Pieces.outside _ _ _ _ (1 : Fin 2) (Or.inl (show 0 + d.val < 896 by omega))).trans ?_
  refine (Pieces.outside _ _ _ _ (1 : Fin 2) (Or.inl (show 0 + d.val < 768 by omega))).trans ?_
  refine (Pieces.outside _ _ _ _ (1 : Fin 2) (Or.inl (show 0 + d.val < 640 by omega))).trans ?_
  refine (Pieces.outside _ _ _ _ (1 : Fin 2) (Or.inl (show 0 + d.val < 512 by omega))).trans ?_
  refine (Pieces.outside _ _ _ _ (1 : Fin 2) (Or.inl (show 0 + d.val < 384 by omega))).trans ?_
  refine (Pieces.outside _ _ _ _ (1 : Fin 2) (Or.inl (show 0 + d.val < 256 by omega))).trans ?_
  refine (Pieces.outside _ _ _ _ (1 : Fin 2) (Or.inl (show 0 + d.val < 128 by omega))).trans ?_
  refine (Pieces.inside _ _ _ (ix2 p d) _ ?_).trans ?_
  · intro a
    fin_cases a
    · exact (Nat.zero_add _).symm
    · rfl
  simp only [View.readAt_rep, C_last1_0, C_last2_0, sl.cst_813, sl.r_19, sl.r_20, sl.r_32, sl.r_44, sl.r_54, sl.r_55, sl.r_66, sl.r_74, sl.r_80, sl.r_88, sl.r_89]
  rfl

theorem C_out_1 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨128 + d.val, by omega⟩ : Fin 1024))
    = k0_pay6 (k0_pay279 (lastAcc (BitVec.ofNat 32 (i 1).val) 1 x0 x1 x2 x3 x4 (row 1 xa0) (rows 1 xa2)) (lastSum (BitVec.ofNat 32 (i 1).val) 1 x0 x1 x2 x3 (row 1 xa0) (row 1 xa1))) (k0_pay280 (cols 1 x5)) (Scalar.ofBits .f32 0x3F000000#32 : Ideal .f32) (ix2 p d) := by
  unfold out0_C_6
  rw [leftOut]
  unfold kernelRun0_C
  dsimp only
  unfold sl.HO6_8
  refine (Pieces.outside _ _ _ _ (1 : Fin 2) (Or.inl (show 128 + d.val < 896 by omega))).trans ?_
  refine (Pieces.outside _ _ _ _ (1 : Fin 2) (Or.inl (show 128 + d.val < 768 by omega))).trans ?_
  refine (Pieces.outside _ _ _ _ (1 : Fin 2) (Or.inl (show 128 + d.val < 640 by omega))).trans ?_
  refine (Pieces.outside _ _ _ _ (1 : Fin 2) (Or.inl (show 128 + d.val < 512 by omega))).trans ?_
  refine (Pieces.outside _ _ _ _ (1 : Fin 2) (Or.inl (show 128 + d.val < 384 by omega))).trans ?_
  refine (Pieces.outside _ _ _ _ (1 : Fin 2) (Or.inl (show 128 + d.val < 256 by omega))).trans ?_
  refine (Pieces.inside _ _ _ (ix2 p d) _ ?_).trans ?_
  · intro a
    fin_cases a
    · exact (Nat.zero_add _).symm
    · rfl
  simp only [View.readAt_rep, C_last1_1, C_last2_1, sl.cst_813, sl.r_19, sl.r_20, sl.r_32, sl.r_44, sl.r_54, sl.r_55, sl.r_66, sl.r_74, sl.r_80, sl.r_88, sl.r_89]
  rfl

theorem C_out_2 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨256 + d.val, by omega⟩ : Fin 1024))
    = k0_pay6 (k0_pay279 (lastAcc (BitVec.ofNat 32 (i 1).val) 2 x0 x1 x2 x3 x4 (row 2 xa0) (rows 2 xa2)) (lastSum (BitVec.ofNat 32 (i 1).val) 2 x0 x1 x2 x3 (row 2 xa0) (row 2 xa1))) (k0_pay280 (cols 2 x5)) (Scalar.ofBits .f32 0x3F000000#32 : Ideal .f32) (ix2 p d) := by
  unfold out0_C_6
  rw [leftOut]
  unfold kernelRun0_C
  dsimp only
  unfold sl.HO6_8
  refine (Pieces.outside _ _ _ _ (1 : Fin 2) (Or.inl (show 256 + d.val < 896 by omega))).trans ?_
  refine (Pieces.outside _ _ _ _ (1 : Fin 2) (Or.inl (show 256 + d.val < 768 by omega))).trans ?_
  refine (Pieces.outside _ _ _ _ (1 : Fin 2) (Or.inl (show 256 + d.val < 640 by omega))).trans ?_
  refine (Pieces.outside _ _ _ _ (1 : Fin 2) (Or.inl (show 256 + d.val < 512 by omega))).trans ?_
  refine (Pieces.outside _ _ _ _ (1 : Fin 2) (Or.inl (show 256 + d.val < 384 by omega))).trans ?_
  refine (Pieces.inside _ _ _ (ix2 p d) _ ?_).trans ?_
  · intro a
    fin_cases a
    · exact (Nat.zero_add _).symm
    · rfl
  simp only [View.readAt_rep, C_last1_2, C_last2_2, sl.cst_813, sl.r_19, sl.r_20, sl.r_32, sl.r_44, sl.r_54, sl.r_55, sl.r_66, sl.r_74, sl.r_80, sl.r_88, sl.r_89]
  rfl

theorem C_out_3 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨384 + d.val, by omega⟩ : Fin 1024))
    = k0_pay6 (k0_pay279 (lastAcc (BitVec.ofNat 32 (i 1).val) 3 x0 x1 x2 x3 x4 (row 3 xa0) (rows 3 xa2)) (lastSum (BitVec.ofNat 32 (i 1).val) 3 x0 x1 x2 x3 (row 3 xa0) (row 3 xa1))) (k0_pay280 (cols 3 x5)) (Scalar.ofBits .f32 0x3F000000#32 : Ideal .f32) (ix2 p d) := by
  unfold out0_C_6
  rw [leftOut]
  unfold kernelRun0_C
  dsimp only
  unfold sl.HO6_8
  refine (Pieces.outside _ _ _ _ (1 : Fin 2) (Or.inl (show 384 + d.val < 896 by omega))).trans ?_
  refine (Pieces.outside _ _ _ _ (1 : Fin 2) (Or.inl (show 384 + d.val < 768 by omega))).trans ?_
  refine (Pieces.outside _ _ _ _ (1 : Fin 2) (Or.inl (show 384 + d.val < 640 by omega))).trans ?_
  refine (Pieces.outside _ _ _ _ (1 : Fin 2) (Or.inl (show 384 + d.val < 512 by omega))).trans ?_
  refine (Pieces.inside _ _ _ (ix2 p d) _ ?_).trans ?_
  · intro a
    fin_cases a
    · exact (Nat.zero_add _).symm
    · rfl
  simp only [View.readAt_rep, C_last1_3, C_last2_3, sl.cst_813, sl.r_19, sl.r_20, sl.r_32, sl.r_44, sl.r_54, sl.r_55, sl.r_66, sl.r_74, sl.r_80, sl.r_88, sl.r_89]
  rfl

theorem C_out_4 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨512 + d.val, by omega⟩ : Fin 1024))
    = k0_pay6 (k0_pay279 (lastAcc (BitVec.ofNat 32 (i 1).val) 4 x0 x1 x2 x3 x4 (row 4 xa0) (rows 4 xa2)) (lastSum (BitVec.ofNat 32 (i 1).val) 4 x0 x1 x2 x3 (row 4 xa0) (row 4 xa1))) (k0_pay280 (cols 4 x5)) (Scalar.ofBits .f32 0x3F000000#32 : Ideal .f32) (ix2 p d) := by
  unfold out0_C_6
  rw [leftOut]
  unfold kernelRun0_C
  dsimp only
  unfold sl.HO6_8
  refine (Pieces.outside _ _ _ _ (1 : Fin 2) (Or.inl (show 512 + d.val < 896 by omega))).trans ?_
  refine (Pieces.outside _ _ _ _ (1 : Fin 2) (Or.inl (show 512 + d.val < 768 by omega))).trans ?_
  refine (Pieces.outside _ _ _ _ (1 : Fin 2) (Or.inl (show 512 + d.val < 640 by omega))).trans ?_
  refine (Pieces.inside _ _ _ (ix2 p d) _ ?_).trans ?_
  · intro a
    fin_cases a
    · exact (Nat.zero_add _).symm
    · rfl
  simp only [View.readAt_rep, C_last1_4, C_last2_4, sl.cst_813, sl.r_19, sl.r_20, sl.r_32, sl.r_44, sl.r_54, sl.r_55, sl.r_66, sl.r_74, sl.r_80, sl.r_88, sl.r_89]
  rfl

theorem C_out_5 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨640 + d.val, by omega⟩ : Fin 1024))
    = k0_pay6 (k0_pay279 (lastAcc (BitVec.ofNat 32 (i 1).val) 5 x0 x1 x2 x3 x4 (row 5 xa0) (rows 5 xa2)) (lastSum (BitVec.ofNat 32 (i 1).val) 5 x0 x1 x2 x3 (row 5 xa0) (row 5 xa1))) (k0_pay280 (cols 5 x5)) (Scalar.ofBits .f32 0x3F000000#32 : Ideal .f32) (ix2 p d) := by
  unfold out0_C_6
  rw [leftOut]
  unfold kernelRun0_C
  dsimp only
  unfold sl.HO6_8
  refine (Pieces.outside _ _ _ _ (1 : Fin 2) (Or.inl (show 640 + d.val < 896 by omega))).trans ?_
  refine (Pieces.outside _ _ _ _ (1 : Fin 2) (Or.inl (show 640 + d.val < 768 by omega))).trans ?_
  refine (Pieces.inside _ _ _ (ix2 p d) _ ?_).trans ?_
  · intro a
    fin_cases a
    · exact (Nat.zero_add _).symm
    · rfl
  simp only [View.readAt_rep, C_last1_5, C_last2_5, sl.cst_813, sl.r_19, sl.r_20, sl.r_32, sl.r_44, sl.r_54, sl.r_55, sl.r_66, sl.r_74, sl.r_80, sl.r_88, sl.r_89]
  rfl

theorem C_out_6 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨768 + d.val, by omega⟩ : Fin 1024))
    = k0_pay6 (k0_pay279 (lastAcc (BitVec.ofNat 32 (i 1).val) 6 x0 x1 x2 x3 x4 (row 6 xa0) (rows 6 xa2)) (lastSum (BitVec.ofNat 32 (i 1).val) 6 x0 x1 x2 x3 (row 6 xa0) (row 6 xa1))) (k0_pay280 (cols 6 x5)) (Scalar.ofBits .f32 0x3F000000#32 : Ideal .f32) (ix2 p d) := by
  unfold out0_C_6
  rw [leftOut]
  unfold kernelRun0_C
  dsimp only
  unfold sl.HO6_8
  refine (Pieces.outside _ _ _ _ (1 : Fin 2) (Or.inl (show 768 + d.val < 896 by omega))).trans ?_
  refine (Pieces.inside _ _ _ (ix2 p d) _ ?_).trans ?_
  · intro a
    fin_cases a
    · exact (Nat.zero_add _).symm
    · rfl
  simp only [View.readAt_rep, C_last1_6, C_last2_6, sl.cst_813, sl.r_19, sl.r_20, sl.r_32, sl.r_44, sl.r_54, sl.r_55, sl.r_66, sl.r_74, sl.r_80, sl.r_88, sl.r_89]
  rfl

theorem C_out_7 (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨896 + d.val, by omega⟩ : Fin 1024))
    = k0_pay6 (k0_pay279 (lastAcc (BitVec.ofNat 32 (i 1).val) 7 x0 x1 x2 x3 x4 (row 7 xa0) (rows 7 xa2)) (lastSum (BitVec.ofNat 32 (i 1).val) 7 x0 x1 x2 x3 (row 7 xa0) (row 7 xa1))) (k0_pay280 (cols 7 x5)) (Scalar.ofBits .f32 0x3F000000#32 : Ideal .f32) (ix2 p d) := by
  unfold out0_C_6
  rw [leftOut]
  unfold kernelRun0_C
  dsimp only
  unfold sl.HO6_8
  refine (Pieces.inside _ _ _ (ix2 p d) _ ?_).trans ?_
  · intro a
    fin_cases a
    · exact (Nat.zero_add _).symm
    · rfl
  simp only [View.readAt_rep, C_last1_7, C_last2_7, sl.cst_813, sl.r_19, sl.r_20, sl.r_32, sl.r_44, sl.r_54, sl.r_55, sl.r_66, sl.r_74, sl.r_80, sl.r_88, sl.r_89]
  rfl

/-- The columns of head `h` in the block the point writes. -/
theorem C_out (h : Fin 8) (p : Fin 1024) (d : Fin 128) : out0_C_6 c i arg5 harg5 arg6 harg6 arg7 harg7 arg8 harg8 arg9 harg9 arg10 harg10 arg11 harg11 T0 T1 x0 x1 x2 x3 x4 x5 xa0 xa1 xa2 hc0 hc1 k0_h3 (ix2 p (⟨128 * h.val + d.val, by omega⟩ : Fin 1024))
    = k0_pay6 (k0_pay279 (lastAcc (BitVec.ofNat 32 (i 1).val) h x0 x1 x2 x3 x4 (row h xa0) (rows h xa2)) (lastSum (BitVec.ofNat 32 (i 1).val) h x0 x1 x2 x3 (row h xa0) (row h xa1))) (k0_pay280 (cols h x5)) (Scalar.ofBits .f32 0x3F000000#32 : Ideal .f32) (ix2 p d) :=
  match h with
  | ⟨0, _⟩ => C_out_0 c i arg5 harg5 arg6 harg6 arg7 harg7 arg8 harg8 arg9 harg9 arg10 harg10 arg11 harg11 T0 T1 x0 x1 x2 x3 x4 x5 xa0 xa1 xa2 hc0 hc1 k0_h3 p d
  | ⟨1, _⟩ => C_out_1 c i arg5 harg5 arg6 harg6 arg7 harg7 arg8 harg8 arg9 harg9 arg10 harg10 arg11 harg11 T0 T1 x0 x1 x2 x3 x4 x5 xa0 xa1 xa2 hc0 hc1 k0_h3 p d
  | ⟨2, _⟩ => C_out_2 c i arg5 harg5 arg6 harg6 arg7 harg7 arg8 harg8 arg9 harg9 arg10 harg10 arg11 harg11 T0 T1 x0 x1 x2 x3 x4 x5 xa0 xa1 xa2 hc0 hc1 k0_h3 p d
  | ⟨3, _⟩ => C_out_3 c i arg5 harg5 arg6 harg6 arg7 harg7 arg8 harg8 arg9 harg9 arg10 harg10 arg11 harg11 T0 T1 x0 x1 x2 x3 x4 x5 xa0 xa1 xa2 hc0 hc1 k0_h3 p d
  | ⟨4, _⟩ => C_out_4 c i arg5 harg5 arg6 harg6 arg7 harg7 arg8 harg8 arg9 harg9 arg10 harg10 arg11 harg11 T0 T1 x0 x1 x2 x3 x4 x5 xa0 xa1 xa2 hc0 hc1 k0_h3 p d
  | ⟨5, _⟩ => C_out_5 c i arg5 harg5 arg6 harg6 arg7 harg7 arg8 harg8 arg9 harg9 arg10 harg10 arg11 harg11 T0 T1 x0 x1 x2 x3 x4 x5 xa0 xa1 xa2 hc0 hc1 k0_h3 p d
  | ⟨6, _⟩ => C_out_6 c i arg5 harg5 arg6 harg6 arg7 harg7 arg8 harg8 arg9 harg9 arg10 harg10 arg11 harg11 T0 T1 x0 x1 x2 x3 x4 x5 xa0 xa1 xa2 hc0 hc1 k0_h3 p d
  | ⟨7, _⟩ => C_out_7 c i arg5 harg5 arg6 harg6 arg7 harg7 arg8 harg8 arg9 harg9 arg10 harg10 arg11 harg11 T0 T1 x0 x1 x2 x3 x4 x5 xa0 xa1 xa2 hc0 hc1 k0_h3 p d
  | ⟨n + 8, h⟩ => absurd h (by omega)

end Cert.KernelAttIdeal.Att

end
-- ==== Proof.PathD.lean ====
/- The path of a grid point below the diagonal that is not its row's first. -/
module

public import proofs.«01_k».proof.Proof.Heads
public import proofs.«01_k».proof.Proof.Pieces
public import proofs.«01_k».proof.Proof.Inputs
public import proofs.«01_k».proof.Proof.Gen.KernelAttIdeal.Flash.Runs

@[expose] public section

set_option maxRecDepth 16384

noncomputable section

open Idealize.ShloMosaic Idealize.ShloMosaic.TcCoe Idealize.SL.Sem

namespace Cert.KernelAttIdeal.Att

open Cert.KernelAttIdeal Cert.KernelAttIdeal.Gen Cert.KernelAttIdeal.Gen.kernelRun0_D

variable (c : Dev nD) (i : grid0.Coords) (arg5 : Memref sig .tc .vmem S1024x1024 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (T0 : (S10.Idx → Elt Ideal .i32)) (T1 : (S10.Idx → Elt Ideal .i32))
     (x0 : (S1024x1024.Idx → Elt Ideal .bf16)) (x1 : (S1024x128.Idx → Elt Ideal .bf16)) (x2 : (S1024x1024.Idx → Elt Ideal .bf16)) (x3 : (S1024x128.Idx → Elt Ideal .bf16)) (x4 : (S1024x1024.Idx → Elt Ideal .bf16)) (x5 : (S1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1))

theorem D_maximum_0 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 0 0 p)
    = k0_pay21 (k0_pay16 (full (own (BitVec.ofNat 32 (i 1).val) 0) (cols 0 x0) (all x1) (cols 0 x2) (all x3)) (row 0 xa0)) (ix3 0 0 p) := by
  unfold kernelRun0_D
  dsimp only
  rw [left0]
  unfold sl.HS0_8
  refine (Pieces.outside _ _ _ _ (0 : Fin 3) (Or.inl (by decide : 0 < 7))).trans ?_
  refine (Pieces.outside _ _ _ _ (0 : Fin 3) (Or.inl (by decide : 0 < 6))).trans ?_
  refine (Pieces.outside _ _ _ _ (0 : Fin 3) (Or.inl (by decide : 0 < 5))).trans ?_
  refine (Pieces.outside _ _ _ _ (0 : Fin 3) (Or.inl (by decide : 0 < 4))).trans ?_
  refine (Pieces.outside _ _ _ _ (0 : Fin 3) (Or.inl (by decide : 0 < 3))).trans ?_
  refine (Pieces.outside _ _ _ _ (0 : Fin 3) (Or.inl (by decide : 0 < 2))).trans ?_
  refine (Pieces.outside _ _ _ _ (0 : Fin 3) (Or.inl (by decide : 0 < 1))).trans ?_
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

theorem D_maximum_1 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 1 0 p)
    = k0_pay21 (k0_pay16 (full (own (BitVec.ofNat 32 (i 1).val) 1) (cols 1 x0) (all x1) (cols 1 x2) (all x3)) (row 1 xa0)) (ix3 0 0 p) := by
  unfold kernelRun0_D
  dsimp only
  rw [left0]
  unfold sl.HS0_8
  refine (Pieces.outside _ _ _ _ (0 : Fin 3) (Or.inl (by decide : 1 < 7))).trans ?_
  refine (Pieces.outside _ _ _ _ (0 : Fin 3) (Or.inl (by decide : 1 < 6))).trans ?_
  refine (Pieces.outside _ _ _ _ (0 : Fin 3) (Or.inl (by decide : 1 < 5))).trans ?_
  refine (Pieces.outside _ _ _ _ (0 : Fin 3) (Or.inl (by decide : 1 < 4))).trans ?_
  refine (Pieces.outside _ _ _ _ (0 : Fin 3) (Or.inl (by decide : 1 < 3))).trans ?_
  refine (Pieces.outside _ _ _ _ (0 : Fin 3) (Or.inl (by decide : 1 < 2))).trans ?_
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

theorem D_maximum_2 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 2 0 p)
    = k0_pay21 (k0_pay16 (full (own (BitVec.ofNat 32 (i 1).val) 2) (cols 2 x0) (all x1) (cols 2 x2) (all x3)) (row 2 xa0)) (ix3 0 0 p) := by
  unfold kernelRun0_D
  dsimp only
  rw [left0]
  unfold sl.HS0_8
  refine (Pieces.outside _ _ _ _ (0 : Fin 3) (Or.inl (by decide : 2 < 7))).trans ?_
  refine (Pieces.outside _ _ _ _ (0 : Fin 3) (Or.inl (by decide : 2 < 6))).trans ?_
  refine (Pieces.outside _ _ _ _ (0 : Fin 3) (Or.inl (by decide : 2 < 5))).trans ?_
  refine (Pieces.outside _ _ _ _ (0 : Fin 3) (Or.inl (by decide : 2 < 4))).trans ?_
  refine (Pieces.outside _ _ _ _ (0 : Fin 3) (Or.inl (by decide : 2 < 3))).trans ?_
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

theorem D_maximum_3 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 3 0 p)
    = k0_pay21 (k0_pay16 (full (own (BitVec.ofNat 32 (i 1).val) 3) (cols 3 x0) (all x1) (cols 3 x2) (all x3)) (row 3 xa0)) (ix3 0 0 p) := by
  unfold kernelRun0_D
  dsimp only
  rw [left0]
  unfold sl.HS0_8
  refine (Pieces.outside _ _ _ _ (0 : Fin 3) (Or.inl (by decide : 3 < 7))).trans ?_
  refine (Pieces.outside _ _ _ _ (0 : Fin 3) (Or.inl (by decide : 3 < 6))).trans ?_
  refine (Pieces.outside _ _ _ _ (0 : Fin 3) (Or.inl (by decide : 3 < 5))).trans ?_
  refine (Pieces.outside _ _ _ _ (0 : Fin 3) (Or.inl (by decide : 3 < 4))).trans ?_
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

theorem D_maximum_4 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 4 0 p)
    = k0_pay21 (k0_pay16 (full (own (BitVec.ofNat 32 (i 1).val) 4) (cols 4 x0) (all x1) (cols 4 x2) (all x3)) (row 4 xa0)) (ix3 0 0 p) := by
  unfold kernelRun0_D
  dsimp only
  rw [left0]
  unfold sl.HS0_8
  refine (Pieces.outside _ _ _ _ (0 : Fin 3) (Or.inl (by decide : 4 < 7))).trans ?_
  refine (Pieces.outside _ _ _ _ (0 : Fin 3) (Or.inl (by decide : 4 < 6))).trans ?_
  refine (Pieces.outside _ _ _ _ (0 : Fin 3) (Or.inl (by decide : 4 < 5))).trans ?_
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

theorem D_maximum_5 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 5 0 p)
    = k0_pay21 (k0_pay16 (full (own (BitVec.ofNat 32 (i 1).val) 5) (cols 5 x0) (all x1) (cols 5 x2) (all x3)) (row 5 xa0)) (ix3 0 0 p) := by
  unfold kernelRun0_D
  dsimp only
  rw [left0]
  unfold sl.HS0_8
  refine (Pieces.outside _ _ _ _ (0 : Fin 3) (Or.inl (by decide : 5 < 7))).trans ?_
  refine (Pieces.outside _ _ _ _ (0 : Fin 3) (Or.inl (by decide : 5 < 6))).trans ?_
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

theorem D_maximum_6 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 6 0 p)
    = k0_pay21 (k0_pay16 (full (own (BitVec.ofNat 32 (i 1).val) 6) (cols 6 x0) (all x1) (cols 6 x2) (all x3)) (row 6 xa0)) (ix3 0 0 p) := by
  unfold kernelRun0_D
  dsimp only
  rw [left0]
  unfold sl.HS0_8
  refine (Pieces.outside _ _ _ _ (0 : Fin 3) (Or.inl (by decide : 6 < 7))).trans ?_
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

theorem D_maximum_7 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 7 0 p)
    = k0_pay21 (k0_pay16 (full (own (BitVec.ofNat 32 (i 1).val) 7) (cols 7 x0) (all x1) (cols 7 x2) (all x3)) (row 7 xa0)) (ix3 0 0 p) := by
  unfold kernelRun0_D
  dsimp only
  rw [left0]
  unfold sl.HS0_8
  refine (Pieces.inside _ _ _ (ix3 0 0 p) _ ?_).trans ?_
  · intro a; fin_cases a <;> simp [ix3]
  simp only [View.readAt_rep, sl.cst_36, sl.r_10, sl.r_11, sl.r_12, sl.r_13, sl.r_14, sl.r_15, sl.r_16, sl.r_17, sl.r_18, sl.r_19, sl.r_2, sl.r_20, sl.r_21, sl.r_23, sl.r_24, sl.r_25, sl.r_26, sl.r_28, sl.r_29, sl.r_3, sl.r_30, sl.r_31, sl.r_33, sl.r_34, sl.r_35, sl.r_36, sl.r_37, sl.r_38, sl.r_4, sl.r_41, sl.r_42, sl.r_43, sl.r_44, sl.r_45, sl.r_49, sl.r_5, sl.r_6, sl.r_7, sl.r_8, sl.r_9, sl.v176, sl.v252, sl.v328, sl.v404, sl.v480, sl.v556, sl.v589, sl.v7]
  rfl

/-- The maximum of head `h` after the point. -/
theorem D_maximum (h : Fin 8) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).1 (ix3 h 0 p)
    = k0_pay21 (k0_pay16 (full (own (BitVec.ofNat 32 (i 1).val) h) (cols h x0) (all x1) (cols h x2) (all x3)) (row h xa0)) (ix3 0 0 p) :=
  match h with
  | ⟨0, _⟩ => D_maximum_0 c i arg5 harg5 arg6 harg6 arg7 harg7 arg8 harg8 arg9 harg9 arg10 harg10 arg11 harg11 T0 T1 x0 x1 x2 x3 x4 x5 xa0 xa1 xa2 hc0 hc1 k0_h3 p
  | ⟨1, _⟩ => D_maximum_1 c i arg5 harg5 arg6 harg6 arg7 harg7 arg8 harg8 arg9 harg9 arg10 harg10 arg11 harg11 T0 T1 x0 x1 x2 x3 x4 x5 xa0 xa1 xa2 hc0 hc1 k0_h3 p
  | ⟨2, _⟩ => D_maximum_2 c i arg5 harg5 arg6 harg6 arg7 harg7 arg8 harg8 arg9 harg9 arg10 harg10 arg11 harg11 T0 T1 x0 x1 x2 x3 x4 x5 xa0 xa1 xa2 hc0 hc1 k0_h3 p
  | ⟨3, _⟩ => D_maximum_3 c i arg5 harg5 arg6 harg6 arg7 harg7 arg8 harg8 arg9 harg9 arg10 harg10 arg11 harg11 T0 T1 x0 x1 x2 x3 x4 x5 xa0 xa1 xa2 hc0 hc1 k0_h3 p
  | ⟨4, _⟩ => D_maximum_4 c i arg5 harg5 arg6 harg6 arg7 harg7 arg8 harg8 arg9 harg9 arg10 harg10 arg11 harg11 T0 T1 x0 x1 x2 x3 x4 x5 xa0 xa1 xa2 hc0 hc1 k0_h3 p
  | ⟨5, _⟩ => D_maximum_5 c i arg5 harg5 arg6 harg6 arg7 harg7 arg8 harg8 arg9 harg9 arg10 harg10 arg11 harg11 T0 T1 x0 x1 x2 x3 x4 x5 xa0 xa1 xa2 hc0 hc1 k0_h3 p
  | ⟨6, _⟩ => D_maximum_6 c i arg5 harg5 arg6 harg6 arg7 harg7 arg8 harg8 arg9 harg9 arg10 harg10 arg11 harg11 T0 T1 x0 x1 x2 x3 x4 x5 xa0 xa1 xa2 hc0 hc1 k0_h3 p
  | ⟨7, _⟩ => D_maximum_7 c i arg5 harg5 arg6 harg6 arg7 harg7 arg8 harg8 arg9 harg9 arg10 harg10 arg11 harg11 T0 T1 x0 x1 x2 x3 x4 x5 xa0 xa1 xa2 hc0 hc1 k0_h3 p
  | ⟨n + 8, h⟩ => absurd h (by omega)

theorem D_sum_0 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 0 0 p)
    = k0_pay19 (full (own (BitVec.ofNat 32 (i 1).val) 0) (cols 0 x0) (all x1) (cols 0 x2) (all x3)) (row 0 xa0) (row 0 xa1) (ix3 0 0 p) := by
  unfold kernelRun0_D
  dsimp only
  rw [left1]
  unfold sl.HS1_8
  refine (Pieces.outside _ _ _ _ (0 : Fin 3) (Or.inl (by decide : 0 < 7))).trans ?_
  refine (Pieces.outside _ _ _ _ (0 : Fin 3) (Or.inl (by decide : 0 < 6))).trans ?_
  refine (Pieces.outside _ _ _ _ (0 : Fin 3) (Or.inl (by decide : 0 < 5))).trans ?_
  refine (Pieces.outside _ _ _ _ (0 : Fin 3) (Or.inl (by decide : 0 < 4))).trans ?_
  refine (Pieces.outside _ _ _ _ (0 : Fin 3) (Or.inl (by decide : 0 < 3))).trans ?_
  refine (Pieces.outside _ _ _ _ (0 : Fin 3) (Or.inl (by decide : 0 < 2))).trans ?_
  refine (Pieces.outside _ _ _ _ (0 : Fin 3) (Or.inl (by decide : 0 < 1))).trans ?_
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

theorem D_sum_1 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 1 0 p)
    = k0_pay19 (full (own (BitVec.ofNat 32 (i 1).val) 1) (cols 1 x0) (all x1) (cols 1 x2) (all x3)) (row 1 xa0) (row 1 xa1) (ix3 0 0 p) := by
  unfold kernelRun0_D
  dsimp only
  rw [left1]
  unfold sl.HS1_8
  refine (Pieces.outside _ _ _ _ (0 : Fin 3) (Or.inl (by decide : 1 < 7))).trans ?_
  refine (Pieces.outside _ _ _ _ (0 : Fin 3) (Or.inl (by decide : 1 < 6))).trans ?_
  refine (Pieces.outside _ _ _ _ (0 : Fin 3) (Or.inl (by decide : 1 < 5))).trans ?_
  refine (Pieces.outside _ _ _ _ (0 : Fin 3) (Or.inl (by decide : 1 < 4))).trans ?_
  refine (Pieces.outside _ _ _ _ (0 : Fin 3) (Or.inl (by decide : 1 < 3))).trans ?_
  refine (Pieces.outside _ _ _ _ (0 : Fin 3) (Or.inl (by decide : 1 < 2))).trans ?_
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

theorem D_sum_2 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 2 0 p)
    = k0_pay19 (full (own (BitVec.ofNat 32 (i 1).val) 2) (cols 2 x0) (all x1) (cols 2 x2) (all x3)) (row 2 xa0) (row 2 xa1) (ix3 0 0 p) := by
  unfold kernelRun0_D
  dsimp only
  rw [left1]
  unfold sl.HS1_8
  refine (Pieces.outside _ _ _ _ (0 : Fin 3) (Or.inl (by decide : 2 < 7))).trans ?_
  refine (Pieces.outside _ _ _ _ (0 : Fin 3) (Or.inl (by decide : 2 < 6))).trans ?_
  refine (Pieces.outside _ _ _ _ (0 : Fin 3) (Or.inl (by decide : 2 < 5))).trans ?_
  refine (Pieces.outside _ _ _ _ (0 : Fin 3) (Or.inl (by decide : 2 < 4))).trans ?_
  refine (Pieces.outside _ _ _ _ (0 : Fin 3) (Or.inl (by decide : 2 < 3))).trans ?_
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

theorem D_sum_3 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 3 0 p)
    = k0_pay19 (full (own (BitVec.ofNat 32 (i 1).val) 3) (cols 3 x0) (all x1) (cols 3 x2) (all x3)) (row 3 xa0) (row 3 xa1) (ix3 0 0 p) := by
  unfold kernelRun0_D
  dsimp only
  rw [left1]
  unfold sl.HS1_8
  refine (Pieces.outside _ _ _ _ (0 : Fin 3) (Or.inl (by decide : 3 < 7))).trans ?_
  refine (Pieces.outside _ _ _ _ (0 : Fin 3) (Or.inl (by decide : 3 < 6))).trans ?_
  refine (Pieces.outside _ _ _ _ (0 : Fin 3) (Or.inl (by decide : 3 < 5))).trans ?_
  refine (Pieces.outside _ _ _ _ (0 : Fin 3) (Or.inl (by decide : 3 < 4))).trans ?_
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

theorem D_sum_4 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 4 0 p)
    = k0_pay19 (full (own (BitVec.ofNat 32 (i 1).val) 4) (cols 4 x0) (all x1) (cols 4 x2) (all x3)) (row 4 xa0) (row 4 xa1) (ix3 0 0 p) := by
  unfold kernelRun0_D
  dsimp only
  rw [left1]
  unfold sl.HS1_8
  refine (Pieces.outside _ _ _ _ (0 : Fin 3) (Or.inl (by decide : 4 < 7))).trans ?_
  refine (Pieces.outside _ _ _ _ (0 : Fin 3) (Or.inl (by decide : 4 < 6))).trans ?_
  refine (Pieces.outside _ _ _ _ (0 : Fin 3) (Or.inl (by decide : 4 < 5))).trans ?_
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

theorem D_sum_5 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 5 0 p)
    = k0_pay19 (full (own (BitVec.ofNat 32 (i 1).val) 5) (cols 5 x0) (all x1) (cols 5 x2) (all x3)) (row 5 xa0) (row 5 xa1) (ix3 0 0 p) := by
  unfold kernelRun0_D
  dsimp only
  rw [left1]
  unfold sl.HS1_8
  refine (Pieces.outside _ _ _ _ (0 : Fin 3) (Or.inl (by decide : 5 < 7))).trans ?_
  refine (Pieces.outside _ _ _ _ (0 : Fin 3) (Or.inl (by decide : 5 < 6))).trans ?_
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

theorem D_sum_6 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 6 0 p)
    = k0_pay19 (full (own (BitVec.ofNat 32 (i 1).val) 6) (cols 6 x0) (all x1) (cols 6 x2) (all x3)) (row 6 xa0) (row 6 xa1) (ix3 0 0 p) := by
  unfold kernelRun0_D
  dsimp only
  rw [left1]
  unfold sl.HS1_8
  refine (Pieces.outside _ _ _ _ (0 : Fin 3) (Or.inl (by decide : 6 < 7))).trans ?_
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

theorem D_sum_7 (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 7 0 p)
    = k0_pay19 (full (own (BitVec.ofNat 32 (i 1).val) 7) (cols 7 x0) (all x1) (cols 7 x2) (all x3)) (row 7 xa0) (row 7 xa1) (ix3 0 0 p) := by
  unfold kernelRun0_D
  dsimp only
  rw [left1]
  unfold sl.HS1_8
  refine (Pieces.inside _ _ _ (ix3 0 0 p) _ ?_).trans ?_
  · intro a; fin_cases a <;> simp [ix3]
  simp only [View.readAt_rep, sl.cst_36, sl.r_10, sl.r_12, sl.r_13, sl.r_14, sl.r_15, sl.r_17, sl.r_18, sl.r_19, sl.r_2, sl.r_20, sl.r_23, sl.r_24, sl.r_25, sl.r_28, sl.r_29, sl.r_3, sl.r_30, sl.r_33, sl.r_34, sl.r_35, sl.r_36, sl.r_37, sl.r_4, sl.r_41, sl.r_42, sl.r_43, sl.r_44, sl.r_5, sl.r_6, sl.r_7, sl.r_8, sl.r_9, sl.v176, sl.v186, sl.v252, sl.v262, sl.v328, sl.v338, sl.v404, sl.v414, sl.v480, sl.v490, sl.v556, sl.v566, sl.v589, sl.v599, sl.v7]
  rfl

/-- The sum of head `h` after the point. -/
theorem D_sum (h : Fin 8) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.1 (ix3 h 0 p)
    = k0_pay19 (full (own (BitVec.ofNat 32 (i 1).val) h) (cols h x0) (all x1) (cols h x2) (all x3)) (row h xa0) (row h xa1) (ix3 0 0 p) :=
  match h with
  | ⟨0, _⟩ => D_sum_0 c i arg5 harg5 arg6 harg6 arg7 harg7 arg8 harg8 arg9 harg9 arg10 harg10 arg11 harg11 T0 T1 x0 x1 x2 x3 x4 x5 xa0 xa1 xa2 hc0 hc1 k0_h3 p
  | ⟨1, _⟩ => D_sum_1 c i arg5 harg5 arg6 harg6 arg7 harg7 arg8 harg8 arg9 harg9 arg10 harg10 arg11 harg11 T0 T1 x0 x1 x2 x3 x4 x5 xa0 xa1 xa2 hc0 hc1 k0_h3 p
  | ⟨2, _⟩ => D_sum_2 c i arg5 harg5 arg6 harg6 arg7 harg7 arg8 harg8 arg9 harg9 arg10 harg10 arg11 harg11 T0 T1 x0 x1 x2 x3 x4 x5 xa0 xa1 xa2 hc0 hc1 k0_h3 p
  | ⟨3, _⟩ => D_sum_3 c i arg5 harg5 arg6 harg6 arg7 harg7 arg8 harg8 arg9 harg9 arg10 harg10 arg11 harg11 T0 T1 x0 x1 x2 x3 x4 x5 xa0 xa1 xa2 hc0 hc1 k0_h3 p
  | ⟨4, _⟩ => D_sum_4 c i arg5 harg5 arg6 harg6 arg7 harg7 arg8 harg8 arg9 harg9 arg10 harg10 arg11 harg11 T0 T1 x0 x1 x2 x3 x4 x5 xa0 xa1 xa2 hc0 hc1 k0_h3 p
  | ⟨5, _⟩ => D_sum_5 c i arg5 harg5 arg6 harg6 arg7 harg7 arg8 harg8 arg9 harg9 arg10 harg10 arg11 harg11 T0 T1 x0 x1 x2 x3 x4 x5 xa0 xa1 xa2 hc0 hc1 k0_h3 p
  | ⟨6, _⟩ => D_sum_6 c i arg5 harg5 arg6 harg6 arg7 harg7 arg8 harg8 arg9 harg9 arg10 harg10 arg11 harg11 T0 T1 x0 x1 x2 x3 x4 x5 xa0 xa1 xa2 hc0 hc1 k0_h3 p
  | ⟨7, _⟩ => D_sum_7 c i arg5 harg5 arg6 harg6 arg7 harg7 arg8 harg8 arg9 harg9 arg10 harg10 arg11 harg11 T0 T1 x0 x1 x2 x3 x4 x5 xa0 xa1 xa2 hc0 hc1 k0_h3 p
  | ⟨n + 8, h⟩ => absurd h (by omega)

theorem D_accumulator_0 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 0 d p)
    = k0_pay20 (full (own (BitVec.ofNat 32 (i 1).val) 0) (cols 0 x0) (all x1) (cols 0 x2) (all x3)) (row 0 xa0) (rows 0 xa2) (cols 0 x4) (ix3 0 d p) := by
  unfold kernelRun0_D
  dsimp only
  rw [left2]
  unfold sl.HS2_8
  refine (Pieces.outside _ _ _ _ (0 : Fin 3) (Or.inl (by decide : 0 < 7))).trans ?_
  refine (Pieces.outside _ _ _ _ (0 : Fin 3) (Or.inl (by decide : 0 < 6))).trans ?_
  refine (Pieces.outside _ _ _ _ (0 : Fin 3) (Or.inl (by decide : 0 < 5))).trans ?_
  refine (Pieces.outside _ _ _ _ (0 : Fin 3) (Or.inl (by decide : 0 < 4))).trans ?_
  refine (Pieces.outside _ _ _ _ (0 : Fin 3) (Or.inl (by decide : 0 < 3))).trans ?_
  refine (Pieces.outside _ _ _ _ (0 : Fin 3) (Or.inl (by decide : 0 < 2))).trans ?_
  refine (Pieces.outside _ _ _ _ (0 : Fin 3) (Or.inl (by decide : 0 < 1))).trans ?_
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

theorem D_accumulator_1 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 1 d p)
    = k0_pay20 (full (own (BitVec.ofNat 32 (i 1).val) 1) (cols 1 x0) (all x1) (cols 1 x2) (all x3)) (row 1 xa0) (rows 1 xa2) (cols 1 x4) (ix3 0 d p) := by
  unfold kernelRun0_D
  dsimp only
  rw [left2]
  unfold sl.HS2_8
  refine (Pieces.outside _ _ _ _ (0 : Fin 3) (Or.inl (by decide : 1 < 7))).trans ?_
  refine (Pieces.outside _ _ _ _ (0 : Fin 3) (Or.inl (by decide : 1 < 6))).trans ?_
  refine (Pieces.outside _ _ _ _ (0 : Fin 3) (Or.inl (by decide : 1 < 5))).trans ?_
  refine (Pieces.outside _ _ _ _ (0 : Fin 3) (Or.inl (by decide : 1 < 4))).trans ?_
  refine (Pieces.outside _ _ _ _ (0 : Fin 3) (Or.inl (by decide : 1 < 3))).trans ?_
  refine (Pieces.outside _ _ _ _ (0 : Fin 3) (Or.inl (by decide : 1 < 2))).trans ?_
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

theorem D_accumulator_2 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 2 d p)
    = k0_pay20 (full (own (BitVec.ofNat 32 (i 1).val) 2) (cols 2 x0) (all x1) (cols 2 x2) (all x3)) (row 2 xa0) (rows 2 xa2) (cols 2 x4) (ix3 0 d p) := by
  unfold kernelRun0_D
  dsimp only
  rw [left2]
  unfold sl.HS2_8
  refine (Pieces.outside _ _ _ _ (0 : Fin 3) (Or.inl (by decide : 2 < 7))).trans ?_
  refine (Pieces.outside _ _ _ _ (0 : Fin 3) (Or.inl (by decide : 2 < 6))).trans ?_
  refine (Pieces.outside _ _ _ _ (0 : Fin 3) (Or.inl (by decide : 2 < 5))).trans ?_
  refine (Pieces.outside _ _ _ _ (0 : Fin 3) (Or.inl (by decide : 2 < 4))).trans ?_
  refine (Pieces.outside _ _ _ _ (0 : Fin 3) (Or.inl (by decide : 2 < 3))).trans ?_
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

theorem D_accumulator_3 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 3 d p)
    = k0_pay20 (full (own (BitVec.ofNat 32 (i 1).val) 3) (cols 3 x0) (all x1) (cols 3 x2) (all x3)) (row 3 xa0) (rows 3 xa2) (cols 3 x4) (ix3 0 d p) := by
  unfold kernelRun0_D
  dsimp only
  rw [left2]
  unfold sl.HS2_8
  refine (Pieces.outside _ _ _ _ (0 : Fin 3) (Or.inl (by decide : 3 < 7))).trans ?_
  refine (Pieces.outside _ _ _ _ (0 : Fin 3) (Or.inl (by decide : 3 < 6))).trans ?_
  refine (Pieces.outside _ _ _ _ (0 : Fin 3) (Or.inl (by decide : 3 < 5))).trans ?_
  refine (Pieces.outside _ _ _ _ (0 : Fin 3) (Or.inl (by decide : 3 < 4))).trans ?_
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

theorem D_accumulator_4 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 4 d p)
    = k0_pay20 (full (own (BitVec.ofNat 32 (i 1).val) 4) (cols 4 x0) (all x1) (cols 4 x2) (all x3)) (row 4 xa0) (rows 4 xa2) (cols 4 x4) (ix3 0 d p) := by
  unfold kernelRun0_D
  dsimp only
  rw [left2]
  unfold sl.HS2_8
  refine (Pieces.outside _ _ _ _ (0 : Fin 3) (Or.inl (by decide : 4 < 7))).trans ?_
  refine (Pieces.outside _ _ _ _ (0 : Fin 3) (Or.inl (by decide : 4 < 6))).trans ?_
  refine (Pieces.outside _ _ _ _ (0 : Fin 3) (Or.inl (by decide : 4 < 5))).trans ?_
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

theorem D_accumulator_5 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 5 d p)
    = k0_pay20 (full (own (BitVec.ofNat 32 (i 1).val) 5) (cols 5 x0) (all x1) (cols 5 x2) (all x3)) (row 5 xa0) (rows 5 xa2) (cols 5 x4) (ix3 0 d p) := by
  unfold kernelRun0_D
  dsimp only
  rw [left2]
  unfold sl.HS2_8
  refine (Pieces.outside _ _ _ _ (0 : Fin 3) (Or.inl (by decide : 5 < 7))).trans ?_
  refine (Pieces.outside _ _ _ _ (0 : Fin 3) (Or.inl (by decide : 5 < 6))).trans ?_
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

theorem D_accumulator_6 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 6 d p)
    = k0_pay20 (full (own (BitVec.ofNat 32 (i 1).val) 6) (cols 6 x0) (all x1) (cols 6 x2) (all x3)) (row 6 xa0) (rows 6 xa2) (cols 6 x4) (ix3 0 d p) := by
  unfold kernelRun0_D
  dsimp only
  rw [left2]
  unfold sl.HS2_8
  refine (Pieces.outside _ _ _ _ (0 : Fin 3) (Or.inl (by decide : 6 < 7))).trans ?_
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

theorem D_accumulator_7 (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 7 d p)
    = k0_pay20 (full (own (BitVec.ofNat 32 (i 1).val) 7) (cols 7 x0) (all x1) (cols 7 x2) (all x3)) (row 7 xa0) (rows 7 xa2) (cols 7 x4) (ix3 0 d p) := by
  unfold kernelRun0_D
  dsimp only
  rw [left2]
  unfold sl.HS2_8
  refine (Pieces.inside _ _ _ (ix3 0 d p) _ ?_).trans ?_
  · intro a; fin_cases a <;> simp [ix3]
  simp only [View.readAt_rep, sl.cst_316, sl.cst_36, sl.r_10, sl.r_12, sl.r_13, sl.r_14, sl.r_15, sl.r_17, sl.r_18, sl.r_19, sl.r_2, sl.r_20, sl.r_22, sl.r_23, sl.r_24, sl.r_25, sl.r_27, sl.r_28, sl.r_29, sl.r_3, sl.r_30, sl.r_32, sl.r_33, sl.r_34, sl.r_35, sl.r_36, sl.r_37, sl.r_39, sl.r_4, sl.r_40, sl.r_41, sl.r_42, sl.r_43, sl.r_44, sl.r_46, sl.r_47, sl.r_48, sl.r_5, sl.r_50, sl.r_51, sl.r_52, sl.r_6, sl.r_7, sl.r_8, sl.r_9, sl.v176, sl.v195, sl.v252, sl.v271, sl.v328, sl.v347, sl.v404, sl.v423, sl.v480, sl.v499, sl.v556, sl.v575, sl.v589, sl.v608, sl.v7]
  rfl

/-- The accumulator of head `h` after the point. -/
theorem D_accumulator (h : Fin 8) (d : Fin 128) (p : Fin 1024) : (kernelRun0_D c i arg5 harg5 arg6 harg6 arg7 harg7 arg8 harg8 arg9 harg9 arg10 harg10 arg11 harg11 T0 T1 x0 x1 x2 x3 x4 x5 xa0 xa1 xa2 hc0 hc1 k0_h3).2.2.1 (ix3 h d p)
    = k0_pay20 (full (own (BitVec.ofNat 32 (i 1).val) h) (cols h x0) (all x1) (cols h x2) (all x3)) (row h xa0) (rows h xa2) (cols h x4) (ix3 0 d p) :=
  match h with
  | ⟨0, _⟩ => D_accumulator_0 c i arg5 harg5 arg6 harg6 arg7 harg7 arg8 harg8 arg9 harg9 arg10 harg10 arg11 harg11 T0 T1 x0 x1 x2 x3 x4 x5 xa0 xa1 xa2 hc0 hc1 k0_h3 d p
  | ⟨1, _⟩ => D_accumulator_1 c i arg5 harg5 arg6 harg6 arg7 harg7 arg8 harg8 arg9 harg9 arg10 harg10 arg11 harg11 T0 T1 x0 x1 x2 x3 x4 x5 xa0 xa1 xa2 hc0 hc1 k0_h3 d p
  | ⟨2, _⟩ => D_accumulator_2 c i arg5 harg5 arg6 harg6 arg7 harg7 arg8 harg8 arg9 harg9 arg10 harg10 arg11 harg11 T0 T1 x0 x1 x2 x3 x4 x5 xa0 xa1 xa2 hc0 hc1 k0_h3 d p
  | ⟨3, _⟩ => D_accumulator_3 c i arg5 harg5 arg6 harg6 arg7 harg7 arg8 harg8 arg9 harg9 arg10 harg10 arg11 harg11 T0 T1 x0 x1 x2 x3 x4 x5 xa0 xa1 xa2 hc0 hc1 k0_h3 d p
  | ⟨4, _⟩ => D_accumulator_4 c i arg5 harg5 arg6 harg6 arg7 harg7 arg8 harg8 arg9 harg9 arg10 harg10 arg11 harg11 T0 T1 x0 x1 x2 x3 x4 x5 xa0 xa1 xa2 hc0 hc1 k0_h3 d p
  | ⟨5, _⟩ => D_accumulator_5 c i arg5 harg5 arg6 harg6 arg7 harg7 arg8 harg8 arg9 harg9 arg10 harg10 arg11 harg11 T0 T1 x0 x1 x2 x3 x4 x5 xa0 xa1 xa2 hc0 hc1 k0_h3 d p
  | ⟨6, _⟩ => D_accumulator_6 c i arg5 harg5 arg6 harg6 arg7 harg7 arg8 harg8 arg9 harg9 arg10 harg10 arg11 harg11 T0 T1 x0 x1 x2 x3 x4 x5 xa0 xa1 xa2 hc0 hc1 k0_h3 d p
  | ⟨7, _⟩ => D_accumulator_7 c i arg5 harg5 arg6 harg6 arg7 harg7 arg8 harg8 arg9 harg9 arg10 harg10 arg11 harg11 T0 T1 x0 x1 x2 x3 x4 x5 xa0 xa1 xa2 hc0 hc1 k0_h3 d p
  | ⟨n + 8, h⟩ => absurd h (by omega)

end Cert.KernelAttIdeal.Att

end
-- ==== Proof.Running.lean ====
/- The attention's scores and values over whole sequences, and what the running sums hold at every grid point. -/
module

public import proofs.«01_k».proof.Proof.Places
public import proofs.«01_k».proof.Proof.Absorb
public import proofs.«01_k».proof.Proof.PathA
public import proofs.«01_k».proof.Proof.PathB
public import proofs.«01_k».proof.Proof.PathC
public import proofs.«01_k».proof.Proof.PathD

@[expose] public section

set_option maxRecDepth 16384

noncomputable section

open Idealize.ShloMosaic Idealize.ShloMosaic.TcCoe Idealize.SL.Sem
open Cert.Softmax

namespace Cert.KernelAttIdeal.Att

open Cert.KernelAttIdeal Cert.KernelAttIdeal.Gen

/-- Position `k` of sequence `b`, as a row. -/
def at' (b k : ℕ) : Fin 8192 := ⟨(4096 * b + k) % 8192, Nat.mod_lt _ (by decide)⟩

section Spec

variable (Q : S8192x1024.Idx → EReal) (QA : S8192x128.Idx → EReal) (K : S8192x1024.Idx → EReal) (KA : S8192x128.Idx → EReal)
  (V : S8192x1024.Idx → EReal) (h : Fin 8) (b : ℕ)

/-- The product of the query at `t` and the key at `k`, with their corrections. -/
def match' (t k : ℕ) : EReal :=
  dots (own 0#32 h) (fun d => K (ix2 (at' b k) (col h d))) (fun d => Q (ix2 (at' b t) (col h d))) (fun a => KA (ix2 (at' b k) a)) (fun a => QA (ix2 (at' b t) a))

/-- The score: minus infinity at the keys after the query. -/
def score (t k : ℕ) : EReal := if k ≤ t then match' Q QA K KA h b t k else ⊥

/-- The value at `k`. -/
def value (d : Fin 128) (k : ℕ) : EReal := V (ix2 (at' b k) (col h d))

end Spec

variable (m : (ℓ : Loc nD τ sig) → Buf (Elt Ideal) ℓ) (ρ : Dev nD → PrngReg) (c : Dev nD)

/-- The scores of the launch's arrays. -/
def S (h : Fin 8) (b t : ℕ) : ℕ → EReal :=
  score (m ((c : Thread nD τ).loc main_arg2)) (m ((c : Thread nD τ).loc main_arg3)) (m ((c : Thread nD τ).loc main_arg4)) (m ((c : Thread nD τ).loc main_arg5)) h b t

/-- The values of the launch's arrays. -/
def U (h : Fin 8) (b : ℕ) (d : Fin 128) : ℕ → EReal := value (m ((c : Thread nD τ).loc main_arg6)) h b d

theorem I_lt : ∀ p < 10, I p < 4 := by decide
theorem J_lt : ∀ p < 10, J p < 4 := by decide
theorem J_le : ∀ p < 10, J p ≤ I p := by decide

attribute [local irreducible] kernelRun0_A kernelRun0_B kernelRun0_C kernelRun0_D out0_A_6 out0_C_6

variable (t : Fin (cfgA 0).N)

theorem row_of (f : ℕ) (hf : f < 4) (r : Fin 1024) : (at' (t.val / 10) (1024 * f + r.val)).val = 1024 * (4 * (t.val / 10) + f) + r.val := by
  have := lt_of_lt_of_eq t.isLt points
  show (4096 * (t.val / 10) + (1024 * f + r.val)) % 8192 = _
  omega

/-- The products of the point's blocks. -/
theorem pair_of (h : Fin 8) (r p : Fin 1024) :
    pair 0#32 h (iblk 0 m ρ c 0 t) (iblk 0 m ρ c 1 t) (iblk 0 m ρ c 2 t) (iblk 0 m ρ c 3 t) r p
      = match' (m ((c : Thread nD τ).loc main_arg2)) (m ((c : Thread nD τ).loc main_arg3)) (m ((c : Thread nD τ).loc main_arg4)) (m ((c : Thread nD τ).loc main_arg5)) h
          (t.val / 10) (1024 * I (t.val % 10) + p.val) (1024 * J (t.val % 10) + r.val) := by
  have hi := row_of t (I (t.val % 10)) (I_lt _ (Nat.mod_lt _ (by decide))) p
  have hj := row_of t (J (t.val % 10)) (J_lt _ (Nat.mod_lt _ (by decide))) r
  unfold pair match'
  congr 1
  · funext d; exact block2 m ρ c t r _ _ hj
  · funext d; exact block0 m ρ c t p _ _ hi
  · funext d; exact block3 m ρ c t r _ _ hj
  · funext d; exact block1 m ρ c t p _ _ hi

theorem value_of (h : Fin 8) (d : Fin 128) (r : Fin 1024) :
    iblk 0 m ρ c 4 t (ix2 r (col h d)) = U m c h (t.val / 10) d (1024 * J (t.val % 10) + r.val) :=
  block4 m ρ c t r _ _ (row_of t (J (t.val % 10)) (J_lt _ (Nat.mod_lt _ (by decide))) r)

/-- Before the diagonal every key counts. -/
theorem below_of (h : Fin 8) (r p : Fin 1024) (hb : J (t.val % 10) < I (t.val % 10)) :
    pair 0#32 h (iblk 0 m ρ c 0 t) (iblk 0 m ρ c 1 t) (iblk 0 m ρ c 2 t) (iblk 0 m ρ c 3 t) r p
      = S m c h (t.val / 10) (1024 * I (t.val % 10) + p.val) (1024 * J (t.val % 10) + r.val) := by
  rw [pair_of]
  exact (if_pos (by have := r.isLt; omega)).symm

/-- On the diagonal, those not after the query. -/
theorem diag_of (h : Fin 8) (r p : Fin 1024) (hb : J (t.val % 10) = I (t.val % 10)) :
    S m c h (t.val / 10) (1024 * I (t.val % 10) + p.val) (1024 * J (t.val % 10) + r.val)
      = if r.val ≤ p.val then pair 0#32 h (iblk 0 m ρ c 0 t) (iblk 0 m ρ c 1 t) (iblk 0 m ρ c 2 t) (iblk 0 m ρ c 3 t) r p else ⊥ := by
  rw [pair_of]
  unfold S score
  have e : (1024 * J (t.val % 10) + r.val ≤ 1024 * I (t.val % 10) + p.val) ↔ r.val ≤ p.val := by omega
  simp only [e]

/-- The running sums of a query block after the first `n` keys. -/
def Held (M : S8x1x1024.Idx → EReal) (L : S8x1x1024.Idx → EReal) (A : S8x128x1024.Idx → EReal) (b i n : ℕ) : Prop :=
  ∀ (h : Fin 8) (p : Fin 1024), M (ix3 h 0 p) = top (S m c h b (1024 * i + p.val)) n
    ∧ L (ix3 h 0 p) = total (S m c h b (1024 * i + p.val)) (fun _ => 1) (top (S m c h b (1024 * i + p.val)) n) n
    ∧ ∀ d : Fin 128, A (ix3 h d p) = total (S m c h b (1024 * i + p.val)) (U m c h b d) (top (S m c h b (1024 * i + p.val)) n) n

theorem start_max (h : Fin 8) (p : Fin 1024) : row h (k0_pay1 (F := Ideal)) (ix3 0 0 p) = ⊥ := by
  have hb : Ideal.ofBits .f32 4286578688#32 = ⊥ := by simp [Ideal.ofBits, Ideal.ieee]
  rw [row_at]
  exact hb

theorem start_sum (h : Fin 8) (p : Fin 1024) : row h (k0_pay2 (F := Ideal)) (ix3 0 0 p) = 0 := by
  have hb : Ideal.ofBits .f32 0#32 = 0 := by simp [Ideal.ofBits, Ideal.ieee]
  rw [row_at]
  exact hb

theorem start_acc (h : Fin 8) (d : Fin 128) (p : Fin 1024) : rows h (k0_pay3 (F := Ideal)) (ix3 0 d p) = 0 := by
  have hb : Ideal.ofBits .f32 0#32 = 0 := by simp [Ideal.ofBits, Ideal.ieee]
  rw [rows_at]
  exact hb

theorem step_D_maximum (prev) (q0 : ¬P0_0 0 t) (q1 : P0_1 0 t) (h : Fin 8) (p : Fin 1024) :
    (step0 0 m ρ c t prev).2.1 (ix3 h 0 p) = k0_pay21 (k0_pay16 (full (own 0#32 h) (cols h (iblk 0 m ρ c 0 t)) (all (iblk 0 m ρ c 1 t)) (cols h (iblk 0 m ρ c 2 t)) (all (iblk 0 m ρ c 3 t))) (row h prev.2.1)) (ix3 0 0 p) := by
  rw [← one_group t, step0_D 0 m ρ c t prev q0 q1]
  exact D_maximum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) prev.2.1 prev.2.2.1 prev.2.2.2 (hypsR0_D 0 t q0 q1).1 (hypsR0_D 0 t q0 q1).2.1 (hypsR0_D 0 t q0 q1).2.2.1 h p

theorem step_D_sum (prev) (q0 : ¬P0_0 0 t) (q1 : P0_1 0 t) (h : Fin 8) (p : Fin 1024) :
    (step0 0 m ρ c t prev).2.2.1 (ix3 h 0 p) = k0_pay19 (full (own 0#32 h) (cols h (iblk 0 m ρ c 0 t)) (all (iblk 0 m ρ c 1 t)) (cols h (iblk 0 m ρ c 2 t)) (all (iblk 0 m ρ c 3 t))) (row h prev.2.1) (row h prev.2.2.1) (ix3 0 0 p) := by
  rw [← one_group t, step0_D 0 m ρ c t prev q0 q1]
  exact D_sum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) prev.2.1 prev.2.2.1 prev.2.2.2 (hypsR0_D 0 t q0 q1).1 (hypsR0_D 0 t q0 q1).2.1 (hypsR0_D 0 t q0 q1).2.2.1 h p

theorem step_D_accumulator (prev) (q0 : ¬P0_0 0 t) (q1 : P0_1 0 t) (h : Fin 8) (p : Fin 1024) (d : Fin 128) :
    (step0 0 m ρ c t prev).2.2.2 (ix3 h d p) = k0_pay20 (full (own 0#32 h) (cols h (iblk 0 m ρ c 0 t)) (all (iblk 0 m ρ c 1 t)) (cols h (iblk 0 m ρ c 2 t)) (all (iblk 0 m ρ c 3 t))) (row h prev.2.1) (rows h prev.2.2.2) (cols h (iblk 0 m ρ c 4 t)) (ix3 0 d p) := by
  rw [← one_group t, step0_D 0 m ρ c t prev q0 q1]
  exact D_accumulator c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) prev.2.1 prev.2.2.1 prev.2.2.2 (hypsR0_D 0 t q0 q1).1 (hypsR0_D 0 t q0 q1).2.1 (hypsR0_D 0 t q0 q1).2.2.1 h d p

theorem step_B_maximum (prev) (q0 : P0_0 0 t) (q1 : P0_1 0 t) (h : Fin 8) (p : Fin 1024) :
    (step0 0 m ρ c t prev).2.1 (ix3 h 0 p) = k0_pay21 (k0_pay16 (full (own 0#32 h) (cols h (iblk 0 m ρ c 0 t)) (all (iblk 0 m ρ c 1 t)) (cols h (iblk 0 m ρ c 2 t)) (all (iblk 0 m ρ c 3 t))) (row h (k0_pay1 (F := Ideal)))) (ix3 0 0 p) := by
  rw [← one_group t, step0_B 0 m ρ c t prev q0 q1]
  exact B_maximum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) (hypsR0_B 0 t q0 q1).1 (hypsR0_B 0 t q0 q1).2.1 (hypsR0_B 0 t q0 q1).2.2.1 h p

theorem step_B_sum (prev) (q0 : P0_0 0 t) (q1 : P0_1 0 t) (h : Fin 8) (p : Fin 1024) :
    (step0 0 m ρ c t prev).2.2.1 (ix3 h 0 p) = k0_pay19 (full (own 0#32 h) (cols h (iblk 0 m ρ c 0 t)) (all (iblk 0 m ρ c 1 t)) (cols h (iblk 0 m ρ c 2 t)) (all (iblk 0 m ρ c 3 t))) (row h (k0_pay1 (F := Ideal))) (row h (k0_pay2 (F := Ideal))) (ix3 0 0 p) := by
  rw [← one_group t, step0_B 0 m ρ c t prev q0 q1]
  exact B_sum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) (hypsR0_B 0 t q0 q1).1 (hypsR0_B 0 t q0 q1).2.1 (hypsR0_B 0 t q0 q1).2.2.1 h p

theorem step_B_accumulator (prev) (q0 : P0_0 0 t) (q1 : P0_1 0 t) (h : Fin 8) (p : Fin 1024) (d : Fin 128) :
    (step0 0 m ρ c t prev).2.2.2 (ix3 h d p) = k0_pay20 (full (own 0#32 h) (cols h (iblk 0 m ρ c 0 t)) (all (iblk 0 m ρ c 1 t)) (cols h (iblk 0 m ρ c 2 t)) (all (iblk 0 m ρ c 3 t))) (row h (k0_pay1 (F := Ideal))) (rows h (k0_pay3 (F := Ideal))) (cols h (iblk 0 m ρ c 4 t)) (ix3 0 d p) := by
  rw [← one_group t, step0_B 0 m ρ c t prev q0 q1]
  exact B_accumulator c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) (hypsR0_B 0 t q0 q1).1 (hypsR0_B 0 t q0 q1).2.1 (hypsR0_B 0 t q0 q1).2.2.1 h d p

/-- A block before the diagonal, not the row's first. -/
theorem held_D (prev) (q0 : ¬P0_0 0 t) (q1 : P0_1 0 t)
    (hp : Held m c prev.2.1 prev.2.2.1 prev.2.2.2 (t.val / 10) (I (t.val % 10)) (1024 * J (t.val % 10))) :
    Held m c (step0 0 m ρ c t prev).2.1 (step0 0 m ρ c t prev).2.2.1 (step0 0 m ρ c t prev).2.2.2 (t.val / 10) (I (t.val % 10)) (1024 * J (t.val % 10) + 1024) := by
  have hb := (below t).mp q1
  intro h p
  obtain ⟨hM, hL, hA⟩ := hp h p
  have hM' := (row_at h prev.2.1 p).trans hM
  have hL' := (row_at h prev.2.2.1 p).trans hL
  have hS : ∀ r : Fin 1024, _ = _ := fun r => (full_pair 0#32 h _ _ _ _ r p).trans (below_of m ρ c t h r p hb)
  refine ⟨(step_D_maximum m ρ c t prev q0 q1 h p).trans ?_, (step_D_sum m ρ c t prev q0 q1 h p).trans ?_, fun d => (step_D_accumulator m ρ c t prev q0 q1 h p d).trans ?_⟩
  · exact full_max _ _ _ _ hM' hS
  · exact full_sum _ _ _ _ _ hM' hS hL'
  · exact full_acc _ _ _ _ _ _ _ d hM' hS ((rows_at h prev.2.2.2 d p).trans (hA d)) fun r => (cols_at h _ r d).trans (value_of m ρ c t h d r)

/-- A block before the diagonal, the row's first. -/
theorem held_B (prev) (q0 : P0_0 0 t) (q1 : P0_1 0 t) :
    Held m c (step0 0 m ρ c t prev).2.1 (step0 0 m ρ c t prev).2.2.1 (step0 0 m ρ c t prev).2.2.2 (t.val / 10) (I (t.val % 10)) (1024 * J (t.val % 10) + 1024) := by
  have hb := (below t).mp q1
  have hz := (fills t).mp q0
  intro h p
  have hM' : row h (k0_pay1 (F := Ideal)) (ix3 0 0 p) = top (S m c h (t.val / 10) (1024 * I (t.val % 10) + p.val)) (1024 * J (t.val % 10)) := by
    rw [start_max, hz]; simp [top]
  have hL' : row h (k0_pay2 (F := Ideal)) (ix3 0 0 p) = total (S m c h (t.val / 10) (1024 * I (t.val % 10) + p.val)) (fun _ => 1)
      (top (S m c h (t.val / 10) (1024 * I (t.val % 10) + p.val)) (1024 * J (t.val % 10))) (1024 * J (t.val % 10)) := by
    rw [start_sum, hz]; simp [total]
  have hA' : ∀ d : Fin 128, rows h (k0_pay3 (F := Ideal)) (ix3 0 d p) = total (S m c h (t.val / 10) (1024 * I (t.val % 10) + p.val)) (U m c h (t.val / 10) d)
      (top (S m c h (t.val / 10) (1024 * I (t.val % 10) + p.val)) (1024 * J (t.val % 10))) (1024 * J (t.val % 10)) := fun d => by
    rw [start_acc, hz]; simp [total]
  have hS : ∀ r : Fin 1024, _ = _ := fun r => (full_pair 0#32 h _ _ _ _ r p).trans (below_of m ρ c t h r p hb)
  refine ⟨(step_B_maximum m ρ c t prev q0 q1 h p).trans ?_, (step_B_sum m ρ c t prev q0 q1 h p).trans ?_, fun d => (step_B_accumulator m ρ c t prev q0 q1 h p d).trans ?_⟩
  · exact full_max _ _ _ _ hM' hS
  · exact full_sum _ _ _ _ _ hM' hS hL'
  · exact full_acc _ _ _ _ _ _ _ d hM' hS (hA' d) fun r => (cols_at h _ r d).trans (value_of m ρ c t h d r)

theorem before : ∀ n < 20, J (n % 10) ≠ 0 → n ≠ 0 ∧ (n - 1) / 10 = n / 10 ∧ I ((n - 1) % 10) = I (n % 10) ∧ J ((n - 1) % 10) + 1 = J (n % 10) := by decide

/-- After every point before the diagonal, the running sums are of the keys up to its block's end. -/
theorem held : ∀ (n : ℕ) (hn : n < (cfgA 0).N), P0_1 0 ⟨n, hn⟩ →
    Held m c (traj0 0 m ρ c n hn).2.1 (traj0 0 m ρ c n hn).2.2.1 (traj0 0 m ρ c n hn).2.2.2 (n / 10) (I (n % 10)) (1024 * J (n % 10) + 1024) := by
  intro n
  induction n with
  | zero =>
    intro hn q1
    rw [traj0_eq 0 m ρ c ⟨0, hn⟩]
    exact held_B m ρ c ⟨0, hn⟩ _ ((fills ⟨0, hn⟩).mpr (by show J (0 % 10) = 0; decide)) q1
  | succ n ih =>
    intro hn q1
    rw [traj0_eq 0 m ρ c ⟨n + 1, hn⟩]
    by_cases q0 : P0_0 0 ⟨n + 1, hn⟩
    · exact held_B m ρ c ⟨n + 1, hn⟩ _ q0 q1
    · refine held_D m ρ c ⟨n + 1, hn⟩ _ q0 q1 ?_
      obtain ⟨_, e1, e2, e3⟩ := before (n + 1) (by rw [points] at hn; exact hn) (fun h => q0 ((fills ⟨n + 1, hn⟩).mpr h))
      have hb : J ((n + 1) % 10) < I ((n + 1) % 10) := (below ⟨n + 1, hn⟩).mp q1
      simp only [Nat.add_sub_cancel] at e1 e2 e3
      have := ih (Nat.lt_of_succ_lt hn) ((below ⟨n, Nat.lt_of_succ_lt hn⟩).mpr (by show J (n % 10) < I (n % 10); omega))
      have e4 : 1024 * J (n % 10) + 1024 = 1024 * J ((n + 1) % 10) := by omega
      rw [e1, e2, e4] at this
      exact this

/-- Before every point but a row's first, the running sums are of the keys before its block. -/
theorem held_before (q0 : ¬P0_0 0 t) :
    Held m c (prev0 0 m ρ c t).2.1 (prev0 0 m ρ c t).2.2.1 (prev0 0 m ρ c t).2.2.2 (t.val / 10) (I (t.val % 10)) (1024 * J (t.val % 10)) := by
  have hn : t.val < 20 := lt_of_lt_of_eq t.isLt points
  obtain ⟨e0, e1, e2, e3⟩ := before t.val hn (fun h => q0 ((fills t).mpr h))
  have hb := J_le (t.val % 10) (Nat.mod_lt _ (by decide))
  have hl : t.val - 1 < (cfgA 0).N := by have := t.isLt; omega
  have := held m ρ c (t.val - 1) hl ((below ⟨t.val - 1, hl⟩).mpr (by show J ((t.val - 1) % 10) < I ((t.val - 1) % 10); omega))
  have e4 : 1024 * J ((t.val - 1) % 10) + 1024 = 1024 * J (t.val % 10) := by omega
  rw [e1, e2, e4] at this
  unfold prev0
  rw [dif_neg e0]
  exact this

end Cert.KernelAttIdeal.Att

end
-- ==== Proof.Gates.lean ====
/- The layer's activations on the extended reals, and the two spellings of the sigmoid. -/
module

public import Idealize.ShloMosaic.Lib.Pipeline.ValueKit
public import Idealize.ShloMosaic.Lib.IdealHost

@[expose] public section

noncomputable section

open Idealize.ShloMosaic

namespace Cert.Gates

/-- The sigmoid, one over one plus the exponential of the negated argument. -/
def sigmoid (x : EReal) : EReal :=
  Ideal.div (Ideal.ofBits FTy.f32 1065353216#32) (Ideal.ofBits FTy.f32 1065353216#32 + Ideal.exp (-x))

/-- The tangent form of GELU; the constants are the f32 words the programs spell. -/
def gelu (x : EReal) : EReal :=
  x * (Ideal.ofBits FTy.f32 1056964608#32
    * (Ideal.ofBits FTy.f32 1065353216#32
      + Ideal.tanh (Ideal.ofBits FTy.f32 1061962282#32 * (x + Ideal.ofBits FTy.f32 1027024659#32 * (x * x * x)))))

theorem half_word : Ideal.ofBits FTy.f32 1056964608#32 = (((1 : ℝ) / 2 : ℝ) : EReal) := by
  simp [Ideal.ofBits, Ideal.ieee, -EReal.coe_mul]; norm_num

theorem one_word : Ideal.ofBits FTy.f32 1065353216#32 = 1 := Ideal.ofBits_one_f32

theorem real_sigmoid (x : ℝ) : 1 / 2 * Real.tanh (1 / 2 * x) + 1 / 2 = (1 + Real.exp (-x))⁻¹ := by
  have hx : Real.exp (-x) = Real.exp (-(1 / 2 * x)) * Real.exp (-(1 / 2 * x)) := by
    rw [← Real.exp_add]; congr 1; ring
  have hp := Real.exp_pos (1 / 2 * x)
  have hn := Real.exp_pos (-(1 / 2 * x))
  have hm : Real.exp (1 / 2 * x) * Real.exp (-(1 / 2 * x)) = 1 := by
    rw [← Real.exp_add, add_neg_cancel, Real.exp_zero]
  rw [hx, Real.tanh_eq_sinh_div_cosh, Real.sinh_eq, Real.cosh_eq]
  generalize Real.exp (1 / 2 * x) = a at *
  generalize Real.exp (-(1 / 2 * x)) = b at *
  have h1 : a + b ≠ 0 := by positivity
  have h2 : 1 + b * b ≠ 0 := by positivity
  field_simp
  linear_combination (2 : ℝ) * b * hm

/-- The sigmoid by the hyperbolic tangent of half the argument, on every extended real. -/
theorem sigmoid_tanh (x : EReal) :
    Ideal.ofBits FTy.f32 1056964608#32 * Ideal.tanh (Ideal.ofBits FTy.f32 1056964608#32 * x) + Ideal.ofBits FTy.f32 1056964608#32
      = sigmoid x := by
  unfold sigmoid
  rw [half_word, one_word]
  induction x with
  | bot =>
    rw [EReal.coe_mul_bot_of_pos (by norm_num), EReal.neg_bot]
    show ((1 / 2 : ℝ) : EReal) * (-1) + _ = Ideal.div 1 (1 + ⊤)
    rw [EReal.add_top_of_ne_bot (by decide)]
    simp only [Ideal.div, EReal.top_ne_zero, if_false, EReal.inv_top, mul_zero]
    rw [mul_neg_one, ← EReal.coe_neg, ← EReal.coe_add]
    norm_num
  | top =>
    rw [EReal.coe_mul_top_of_pos (by norm_num), EReal.neg_top]
    show ((1 / 2 : ℝ) : EReal) * 1 + _ = Ideal.div 1 (1 + 0)
    have : ((1 / 2 : ℝ) : EReal) * 1 + ((1 / 2 : ℝ) : EReal) = ((1 / 2 * 1 + 1 / 2 : ℝ) : EReal) := by norm_cast
    rw [this, add_zero]
    norm_num [Ideal.div]
  | coe r =>
    have hz : (1 + Real.exp (-r)) ≠ 0 := by positivity
    rw [← EReal.coe_mul, ← EReal.coe_neg]
    show ((1 / 2 : ℝ) : EReal) * ((Real.tanh (1 / 2 * r) : ℝ) : EReal) + _ = Ideal.div 1 (1 + ((Real.exp (-r) : ℝ) : EReal))
    rw [← EReal.coe_mul, ← EReal.coe_add, real_sigmoid r, ← EReal.coe_one, ← EReal.coe_add]
    unfold Ideal.div
    rw [if_neg (by rw [← EReal.coe_zero]; exact_mod_cast hz), ← EReal.coe_inv, ← EReal.coe_mul, one_mul]

/-- GELU with the half multiplied first. -/
theorem gelu_first (x : EReal) :
    Ideal.ofBits FTy.f32 1056964608#32 * x
      * (Ideal.ofBits FTy.f32 1065353216#32
        + Ideal.tanh (Ideal.ofBits FTy.f32 1061962282#32 * (x + Ideal.ofBits FTy.f32 1027024659#32 * (x * x * x))))
      = gelu x := by
  unfold gelu
  rw [mul_comm (Ideal.ofBits FTy.f32 1056964608#32) x, mul_assoc]

end Cert.Gates

end
-- ==== Proof.Entries.lean ====
/- The attention's reference, entry by entry. -/
module

public import proofs.«01_k».proof.Proof.AttRun
public import proofs.«01_k».proof.Proof.Running
public import proofs.«01_k».proof.Proof.Gates
public import proofs.«01_k».proof.Proof.Division
public import proofs.«01_k».proof.Proof.Fold

@[expose] public section

set_option maxRecDepth 16384

noncomputable section

open Idealize.ShloMosaic Idealize.ShloMosaic.TcCoe Idealize.SL.Sem
open Cert.Softmax

namespace Cert.ReferenceAttIdeal.Att

open Cert.ReferenceAttIdeal Cert.ReferenceAttIdeal.Gen
open Cert.KernelAttIdeal.Att (at' col own mine mine_at dots score match' fold_sup bot_word value)

variable (b : Fin 2) (h : Fin 8) (t k : Fin 4096)

theorem place (n : ℕ) (hn : b.val * 4096 + t.val < n) (e : n = 8192) : (⟨b.val * 4096 + t.val, hn⟩ : Fin n) = e ▸ at' b t := by
  subst e
  refine Fin.ext ?_
  show b.val * 4096 + t.val = (4096 * b.val + t.val) % 8192
  omega

theorem column (d : Fin 128) (hn : h.val * 128 + d.val < 1024) : (⟨h.val * 128 + d.val, hn⟩ : Fin 1024) = col h d := by
  refine Fin.ext ?_
  show h.val * 128 + d.val = 128 * h.val + d.val
  omega

theorem heads_at (x : FVec Ideal S8192x1024 .bf16) (d : Fin 128) : heads x (ix4 b h t d) = x (ix2 (at' b t) (col h d)) := by
  pointwise [heads]
  refine congrArg x ?_
  exact congrArg₂ ix2 (place b t _ _ rfl) (column h d _)

/-- A head's correction lane. -/
def lane8 (a : Fin 8) : Fin 128 := ⟨8 * h.val + a.val, by omega⟩

theorem lanes_at (x : FVec Ideal S8192x128 .bf16) (a : Fin 8) : lanes x (ix4 b h t a) = x (ix2 (at' b t) (lane8 h a)) := by
  pointwise [lanes]
  refine congrArg x ?_
  refine congrArg₂ ix2 (place b t _ _ rfl) (Fin.ext ?_)
  show h.val * 8 + a.val = 8 * h.val + a.val
  omega

/-- Over all the lanes, those of other heads zero: the head's own eight. -/
theorem own_lanes (f g : Fin 128 → EReal) :
    (∑ a : Fin 128, (if own 0#32 h (ix2 0 a) = 1#1 then f a else 0) * (if own 0#32 h (ix2 0 a) = 1#1 then g a else 0))
      = ∑ e : Fin 8, g (lane8 h e) * f (lane8 h e) := by
  have e1 : ∀ a : Fin 128, (if own 0#32 h (ix2 0 a) = 1#1 then f a else 0) * (if own 0#32 h (ix2 0 a) = 1#1 then g a else 0)
      = if a.val / 8 = h.val then g a * f a else 0 := by
    intro a
    have hm : own 0#32 h (ix2 0 a) = if a.val / 8 = h.val then 1#1 else 0#1 := mine_at h a
    rw [hm]
    by_cases hc : a.val / 8 = h.val
    · rw [if_pos hc, if_pos rfl, if_pos rfl, if_pos hc, mul_comm]
    · rw [if_neg hc, if_neg (by decide), if_neg (by decide), if_neg hc, mul_zero]
  rw [Finset.sum_congr rfl fun a _ => e1 a, ← Finset.sum_filter]
  refine Finset.sum_nbij' (fun a => ⟨a.val % 8, Nat.mod_lt _ (by decide)⟩) (lane8 h) ?_ ?_ ?_ ?_ ?_
  · intro a _; exact Finset.mem_univ _
  · intro a _
    refine Finset.mem_filter.mpr ⟨Finset.mem_univ _, ?_⟩
    show (8 * h.val + a.val) / 8 = h.val
    omega
  · intro a ha
    have := (Finset.mem_filter.mp ha).2
    refine Fin.ext ?_
    show 8 * h.val + a.val % 8 = a.val
    omega
  · intro a _
    refine Fin.ext ?_
    show (8 * h.val + a.val) % 8 = a.val
    omega
  · intro a ha
    have := (Finset.mem_filter.mp ha).2
    have e : lane8 h ⟨a.val % 8, Nat.mod_lt _ (by decide)⟩ = a := by
      refine Fin.ext ?_
      show 8 * h.val + a.val % 8 = a.val
      omega
    rw [e]

theorem keep_iff : IntOp.cmpi .sge (BitVec.ofNat 32 t.val) (BitVec.ofNat 32 k.val) = 1#1 ↔ k.val ≤ t.val := by
  rw [IntOp.cmpi_sge, BitVec.toInt_ofNat', BitVec.toInt_ofNat']
  have := t.isLt
  have := k.isLt
  simp only [Int.bmod]
  omega

theorem products_at (x y : FVec Ideal S2x8x4096x128 .f32) :
    (Host.dotGeneral dot_S2x8x4096x128_S2x8x4096x128_S2x8x4096x4096_3_3_2_2_01_01 none x y : FVec Ideal S2x8x4096x4096 .f32) (ix4 b h t k)
      = ∑ d : Fin 128, x (ix4 b h t d) * y (ix4 b h k d) := by
  pointwise

theorem corrections_at (x y : FVec Ideal S2x8x4096x8 .f32) :
    (Host.dotGeneral dot_S2x8x4096x8_S2x8x4096x8_S2x8x4096x4096_3_3_2_2_01_01 none x y : FVec Ideal S2x8x4096x4096 .f32) (ix4 b h t k)
      = ∑ d : Fin 8, x (ix4 b h t d) * y (ix4 b h k d) := by
  pointwise

theorem values_at (x : FVec Ideal S2x8x4096x4096 .f32) (y : FVec Ideal S2x8x4096x128 .f32) (d : Fin 128) :
    (Host.dotGeneral dot_S2x8x4096x4096_S2x8x4096x128_S2x8x4096x128_3_2_2_3_01_01 none x y : FVec Ideal S2x8x4096x128 .f32) (ix4 b h t d)
      = ∑ k : Fin 4096, x (ix4 b h t k) * y (ix4 b h k d) := by
  pointwise

theorem maximum_at (s : FVec Ideal S2x8x4096x4096 .f32) :
    Host.reduce FloatOps.maximumf s (constant S_ .f32 0xFF800000#32) reducesTo_S2x8x4096x4096_S2x8x4096_d3 h_S_ (ix3 b h t)
      = Finset.univ.sup fun k : Fin 4096 => s (ix4 b h t k) := by
  pointwise
  exact fold_sup _

theorem powers_at (s : FVec Ideal S2x8x4096x4096 .f32) :
    powers s (ix4 b h t k) = Ideal.pow 2 (s (ix4 b h t k) - Finset.univ.sup fun k : Fin 4096 => s (ix4 b h t k)) := by
  rw [← maximum_at]
  have h2 : Ideal.ofBits FTy.f32 1073741824#32 = 2 := by
    simp [Ideal.ofBits, Ideal.ieee, -EReal.coe_mul]
    norm_num
    rfl
  pointwise [powers]
  rw [h2]

theorem shares_at (w : FVec Ideal S2x8x4096x4096 .f32) :
    shares w (ix4 b h t k) = Ideal.div (w (ix4 b h t k)) (∑ k : Fin 4096, w (ix4 b h t k)) := by
  pointwise [shares]

theorem scores_at (q : FVec Ideal S8192x1024 .bf16) (qa : FVec Ideal S8192x128 .bf16) (x : FVec Ideal S8192x1024 .bf16) (xa : FVec Ideal S8192x128 .bf16) :
    scores q qa x xa (ix4 b h t k) = score q qa x xa h b t k := by
  have e : scores q qa x xa (ix4 b h t k) = Scalar.select (IntOp.cmpi .sge (BitVec.ofNat 32 t.val) (BitVec.ofNat 32 k.val))
      (∑ d : Fin 128, heads q (ix4 b h t d) * heads x (ix4 b h k d) + ∑ a : Fin 8, lanes qa (ix4 b h t a) * lanes xa (ix4 b h k a))
      (Ideal.ofBits FTy.f32 4286578688#32) := by
    pointwise [scores, heads, lanes]
  rw [e, bot_word]
  unfold score match' dots
  rw [own_lanes]
  by_cases hk : k.val ≤ t.val
  · rw [Scalar.select_of_eq_one ((keep_iff t k).mpr hk), if_pos hk]
    refine congrArg₂ (· + ·) (Finset.sum_congr rfl fun d _ => ?_) (Finset.sum_congr rfl fun a _ => ?_)
    · rw [heads_at, heads_at, mul_comm]
    · rw [lanes_at, lanes_at]
  · rw [Scalar.select_of_ne_one (mt (keep_iff t k).mp hk), if_neg hk]

theorem mixed_entry (w : FVec Ideal S2x8x4096x4096 .f32) (v : FVec Ideal S8192x1024 .bf16) (r : Fin 8192) (e : Fin 1024) :
    mixed w v (ix2 r e) = ∑ k : Fin 4096, w (ix4 ⟨r.val / 4096, by omega⟩ ⟨e.val / 128, by omega⟩ ⟨r.val % 4096, Nat.mod_lt _ (by decide)⟩ k)
      * heads v (ix4 ⟨r.val / 4096, by omega⟩ ⟨e.val / 128, by omega⟩ k ⟨e.val % 128, Nat.mod_lt _ (by decide)⟩) := by
  pointwise [mixed, heads]

theorem mixed_at (w : FVec Ideal S2x8x4096x4096 .f32) (v : FVec Ideal S8192x1024 .bf16) (d : Fin 128) :
    mixed w v (ix2 (at' b t) (col h d)) = ∑ k : Fin 4096, w (ix4 b h t k) * v (ix2 (at' b k) (col h d)) := by
  have e0 : (⟨(at' b t).val / 4096, by omega⟩ : Fin 2) = b := by
    refine Fin.ext ?_
    show (4096 * b.val + t.val) % 8192 / 4096 = b.val
    omega
  have e1 : (⟨(at' b t).val % 4096, Nat.mod_lt _ (by decide)⟩ : Fin 4096) = t := by
    refine Fin.ext ?_
    show (4096 * b.val + t.val) % 8192 % 4096 = t.val
    omega
  have e2 : (⟨(col h d).val / 128, by omega⟩ : Fin 8) = h := by
    refine Fin.ext ?_
    show (128 * h.val + d.val) / 128 = h.val
    omega
  have e3 : (⟨(col h d).val % 128, Nat.mod_lt _ (by decide)⟩ : Fin 128) = d := by
    refine Fin.ext ?_
    show (128 * h.val + d.val) % 128 = d.val
    omega
  rw [mixed_entry, e0, e1, e2, e3]
  exact Finset.sum_congr rfl fun k _ => congrArg (w (ix4 b h t k) * ·) (heads_at b h k v d)

/-- With the arguments of the scores finite, a score is real at the keys up to the query, and minus infinity after. -/
theorem score_real (q : FVec Ideal S8192x1024 .bf16) (qa : FVec Ideal S8192x128 .bf16) (x : FVec Ideal S8192x1024 .bf16) (xa : FVec Ideal S8192x128 .bf16)
    (hq : ∀ i, IsReal (q i)) (hqa : ∀ i, IsReal (qa i)) (hx : ∀ i, IsReal (x i)) (hxa : ∀ i, IsReal (xa i)) (b t k : ℕ) (hk : k ≤ t) :
    IsReal (score q qa x xa h b t k) := by
  unfold score
  rw [if_pos hk]
  unfold match' dots
  rw [own_lanes]
  exact isReal_add (isReal_sum _ _ fun d _ => isReal_mul (hx _) (hq _)) (isReal_sum _ _ fun e _ => isReal_mul (hqa _) (hxa _))

theorem score_ne_top (q : FVec Ideal S8192x1024 .bf16) (qa : FVec Ideal S8192x128 .bf16) (x : FVec Ideal S8192x1024 .bf16) (xa : FVec Ideal S8192x128 .bf16)
    (hq : ∀ i, IsReal (q i)) (hqa : ∀ i, IsReal (qa i)) (hx : ∀ i, IsReal (x i)) (hxa : ∀ i, IsReal (xa i)) (b t k : ℕ) :
    score q qa x xa h b t k ≠ ⊤ := by
  by_cases hk : k ≤ t
  · exact (score_real h q qa x xa hq hqa hx hxa b t k hk).2
  · unfold score
    rw [if_neg hk]
    exact bot_ne_top

theorem powers_score (q : FVec Ideal S8192x1024 .bf16) (qa : FVec Ideal S8192x128 .bf16) (x : FVec Ideal S8192x1024 .bf16) (xa : FVec Ideal S8192x128 .bf16) :
    powers (scores q qa x xa) (ix4 b h t k) = weight (score q qa x xa h b t k) (top (score q qa x xa h b t) 4096) := by
  rw [powers_at, pow_two, scores_at]
  unfold weight
  have e : (Finset.univ.sup fun k : Fin 4096 => scores q qa x xa (ix4 b h t k)) = top (score q qa x xa h b t) 4096 := by
    rw [← sup_univ]
    exact congrArg (Finset.univ.sup ·) (funext fun k => scores_at b h t k q qa x xa)
  rw [e]

/-- A query's mixture: its weighted values over its weights' sum. -/
theorem mixture_at (q : FVec Ideal S8192x1024 .bf16) (qa : FVec Ideal S8192x128 .bf16) (x : FVec Ideal S8192x1024 .bf16) (xa : FVec Ideal S8192x128 .bf16)
    (v : FVec Ideal S8192x1024 .bf16)
    (hq : ∀ i, IsReal (q i)) (hqa : ∀ i, IsReal (qa i)) (hx : ∀ i, IsReal (x i)) (hxa : ∀ i, IsReal (xa i)) (d : Fin 128) :
    mixed (shares (powers (scores q qa x xa))) v (ix2 (at' b t) (col h d))
      = Ideal.div (total (score q qa x xa h b t) (value v h b d) (top (score q qa x xa h b t) 4096) 4096)
          (total (score q qa x xa h b t) (fun _ => 1) (top (score q qa x xa h b t) 4096) 4096) := by
  rw [div_total (fun k _ => score_ne_top h q qa x xa hq hqa hx hxa b t k) t.isLt (score_real h q qa x xa hq hqa hx hxa b t t le_rfl), mixed_at]
  refine Finset.sum_congr rfl fun k _ => ?_
  have e : (∑ k : Fin 4096, powers (scores q qa x xa) (ix4 b h t k)) = total (score q qa x xa h b t) (fun _ => 1) (top (score q qa x xa h b t) 4096) 4096 := by
    rw [← sum_univ]
    exact Finset.sum_congr rfl fun k _ => (powers_score b h t k q qa x xa).trans (one_mul _).symm
  rw [shares_at, e, powers_score]
  rfl

theorem gated_at (g : FVec Ideal S8192x1024 .bf16) (i : S8192x1024.Idx) : gated g i = g i * Cert.Gates.sigmoid (g i) := by
  unfold Cert.Gates.sigmoid
  pointwise [gated]

end Cert.ReferenceAttIdeal.Att

end
-- ==== Proof.Output.lean ====
/- What the attention call leaves: each query's weighted values over its weights' sum, gated. -/
module

public import proofs.«01_k».proof.Proof.Running
public import proofs.«01_k».proof.Proof.Gates

@[expose] public section

set_option maxRecDepth 16384

noncomputable section

open Idealize.ShloMosaic Idealize.ShloMosaic.TcCoe Idealize.SL.Sem
open Cert.Softmax

namespace Cert.KernelAttIdeal.Att

open Cert.KernelAttIdeal Cert.KernelAttIdeal.Gen

/-- The gate's factor. -/
def silu (g : EReal) : EReal := g * Cert.Gates.sigmoid g

/-- A head's quotient, gated. -/
def shown (a : Vec Ideal S1x128x1024 .f32) (l : Vec Ideal S1x1x1024 .f32) (g : Vec Ideal S1024x128 .bf16) (p : Fin 1024) (d : Fin 128) : EReal :=
  Ideal.div (a (ix3 0 d p)) (l (ix3 0 0 p)) * silu (g (ix2 p d))

theorem out_at (a : Vec Ideal S1x128x1024 .f32) (l : Vec Ideal S1x1x1024 .f32) (g : Vec Ideal S1024x128 .bf16) (p : Fin 1024) (d : Fin 128) :
    k0_pay6 (k0_pay279 a l) (k0_pay280 g) (Scalar.ofBits .f32 0x3F000000#32 : Ideal .f32) (ix2 p d) = shown a l g p d := by
  unfold shown silu
  rw [← Cert.Gates.sigmoid_tanh]
  pointwise [k0_pay6, k0_pay279, k0_pay280]

variable (m : (ℓ : Loc nD τ sig) → Buf (Elt Ideal) ℓ) (ρ : Dev nD → PrngReg) (c : Dev nD)

attribute [local irreducible] kernelRun0_A kernelRun0_B kernelRun0_C kernelRun0_D out0_A_6 out0_C_6

/-- The result of the query at `t`: over all the keys, those after it of weight zero. -/
def attended (h : Fin 8) (b t : ℕ) (d : Fin 128) : EReal :=
  Ideal.div (total (S m c h b t) (U m c h b d) (top (S m c h b t) 4096) 4096) (total (S m c h b t) (fun _ => 1) (top (S m c h b t) 4096) 4096)
    * silu (m ((c : Thread nD τ).loc main_arg7) (ix2 (at' b t) (col h d)))

variable (t : Fin (cfgA 0).N)

theorem step_C (prev) (q0 : ¬P0_0 0 t) (q1 : ¬P0_1 0 t) (h : Fin 8) (p : Fin 1024) (d : Fin 128) :
    (step0 0 m ρ c t prev).1 (ix2 p (col h d)) = shown (lastAcc 0#32 h (iblk 0 m ρ c 0 t) (iblk 0 m ρ c 1 t) (iblk 0 m ρ c 2 t) (iblk 0 m ρ c 3 t) (iblk 0 m ρ c 4 t) (row h prev.2.1) (rows h prev.2.2.2)) (lastSum 0#32 h (iblk 0 m ρ c 0 t) (iblk 0 m ρ c 1 t) (iblk 0 m ρ c 2 t) (iblk 0 m ρ c 3 t) (row h prev.2.1) (row h prev.2.2.1)) (cols h (iblk 0 m ρ c 5 t)) p d := by
  rw [← out_at, ← one_group t, step0_C 0 m ρ c t prev q0 q1]
  exact C_out c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) prev.2.1 prev.2.2.1 prev.2.2.2 (hypsR0_C 0 t q0 q1).1 (hypsR0_C 0 t q0 q1).2.1 (hypsR0_C 0 t q0 q1).2.2.1 h p d

theorem step_A (prev) (q0 : P0_0 0 t) (q1 : ¬P0_1 0 t) (h : Fin 8) (p : Fin 1024) (d : Fin 128) :
    (step0 0 m ρ c t prev).1 (ix2 p (col h d)) = shown (lastAcc 0#32 h (iblk 0 m ρ c 0 t) (iblk 0 m ρ c 1 t) (iblk 0 m ρ c 2 t) (iblk 0 m ρ c 3 t) (iblk 0 m ρ c 4 t) (row h (k0_pay1 (F := Ideal))) (rows h (k0_pay3 (F := Ideal)))) (lastSum 0#32 h (iblk 0 m ρ c 0 t) (iblk 0 m ρ c 1 t) (iblk 0 m ρ c 2 t) (iblk 0 m ρ c 3 t) (row h (k0_pay1 (F := Ideal))) (row h (k0_pay2 (F := Ideal)))) (cols h (iblk 0 m ρ c 5 t)) p d := by
  rw [← out_at, ← one_group t, step0_A 0 m ρ c t prev q0 q1]
  exact A_out c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (pinT_0 0) (pinT_1 0) (iblk 0 m ρ c (0 : Fin 7) t) (iblk 0 m ρ c (1 : Fin 7) t) (iblk 0 m ρ c (2 : Fin 7) t) (iblk 0 m ρ c (3 : Fin 7) t) (iblk 0 m ρ c (4 : Fin 7) t) (iblk 0 m ρ c (5 : Fin 7) t) (hypsR0_A 0 t q0 q1).1 (hypsR0_A 0 t q0 q1).2.1 (hypsR0_A 0 t q0 q1).2.2.1 h p d

theorem diagonal (q1 : ¬P0_1 0 t) : J (t.val % 10) = I (t.val % 10) :=
  le_antisymm (J_le _ (Nat.mod_lt _ (by decide))) (not_lt.mp fun h => q1 ((below t).mpr h))

/-- On the diagonal, from what the running sums held before. -/
theorem shown_of (q1 : ¬P0_1 0 t) (h : Fin 8) (p : Fin 1024) (d : Fin 128) (M L : Vec Ideal S1x1x1024 .f32) (A : Vec Ideal S1x128x1024 .f32)
    (hM : M (ix3 0 0 p) = top (S m c h (t.val / 10) (1024 * I (t.val % 10) + p.val)) (1024 * J (t.val % 10)))
    (hL : L (ix3 0 0 p) = total (S m c h (t.val / 10) (1024 * I (t.val % 10) + p.val)) (fun _ => 1)
      (top (S m c h (t.val / 10) (1024 * I (t.val % 10) + p.val)) (1024 * J (t.val % 10))) (1024 * J (t.val % 10)))
    (hA : A (ix3 0 d p) = total (S m c h (t.val / 10) (1024 * I (t.val % 10) + p.val)) (U m c h (t.val / 10) d)
      (top (S m c h (t.val / 10) (1024 * I (t.val % 10) + p.val)) (1024 * J (t.val % 10))) (1024 * J (t.val % 10))) :
    shown (lastAcc 0#32 h (iblk 0 m ρ c 0 t) (iblk 0 m ρ c 1 t) (iblk 0 m ρ c 2 t) (iblk 0 m ρ c 3 t) (iblk 0 m ρ c 4 t) M A)
        (lastSum 0#32 h (iblk 0 m ρ c 0 t) (iblk 0 m ρ c 1 t) (iblk 0 m ρ c 2 t) (iblk 0 m ρ c 3 t) M L) (cols h (iblk 0 m ρ c 5 t)) p d
      = attended m c h (t.val / 10) (1024 * I (t.val % 10) + p.val) d := by
  have hd := diagonal t q1
  have hI := I_lt (t.val % 10) (Nat.mod_lt _ (by decide))
  have hS := fun r : Fin 1024 => diag_of m ρ c t h r p hd
  have hg : cols h (iblk 0 m ρ c 5 t) (ix2 p d) = m ((c : Thread nD τ).loc main_arg7) (ix2 (at' (t.val / 10) (1024 * I (t.val % 10) + p.val)) (col h d)) :=
    (cols_at h _ p d).trans (block5 m ρ c t p _ _ (row_of t _ hI p))
  unfold shown attended
  rw [last_sum 0#32 h _ _ _ _ M L _ _ p hM hL hS, last_acc 0#32 h _ _ _ _ _ M A _ _ _ p d hM hA hS (value_of m ρ c t h d), hg]
  have hb : ∀ k, 1024 * J (t.val % 10) + 1024 ≤ k → k < 1024 * J (t.val % 10) + 1024 + (4096 - (1024 * J (t.val % 10) + 1024))
      → S m c h (t.val / 10) (1024 * I (t.val % 10) + p.val) k = ⊥ := fun k h1 _ => if_neg (by have := p.isLt; omega)
  have e : 1024 * J (t.val % 10) + 1024 + (4096 - (1024 * J (t.val % 10) + 1024)) = 4096 := by omega
  have e1 := top_pad _ _ _ hb
  have e2 := fun v x => total_pad _ v x _ _ hb
  rw [e] at e1
  simp only [e] at e2
  rw [e1, e2, e2]

/-- What a point on the diagonal stores. -/
theorem stored (q1 : ¬P0_1 0 t) (h : Fin 8) (p : Fin 1024) (d : Fin 128) :
    (traj0 0 m ρ c t.val t.isLt).1 (ix2 p (col h d)) = attended m c h (t.val / 10) (1024 * I (t.val % 10) + p.val) d := by
  rw [traj0_eq]
  by_cases q0 : P0_0 0 t
  · have hz := (fills t).mp q0
    rw [step_A m ρ c t _ q0 q1]
    refine shown_of m ρ c t q1 h p d _ _ _ ?_ ?_ ?_
    · rw [start_max, hz]; simp [top]
    · rw [start_sum, hz]; simp [total]
    · rw [start_acc, hz]; simp [total]
  · rw [step_C m ρ c t _ q0 q1]
    obtain ⟨hM, hL, hA⟩ := held_before m ρ c t q0 h p
    exact shown_of m ρ c t q1 h p d _ _ _ ((row_at h _ p).trans hM) ((row_at h _ p).trans hL) ((rows_at h _ d p).trans (hA d))

theorem attended_congr (h h' : Fin 8) (b b' t t' : ℕ) (d d' : Fin 128) (e1 : h.val = h'.val) (e2 : b = b') (e3 : t = t') (e4 : d.val = d'.val) :
    attended m c h b t d = attended m c h' b' t' d' := by
  rw [Fin.ext e1, e2, e3, Fin.ext e4]

/-- Only points on the diagonal write back. -/
theorem writes_back (ht : ((cfgA 0).win 6).flush t = true) : ¬P0_1 0 t := fun q1 => by
  by_cases q0 : P0_0 0 t
  · exact Bool.noConfusion (ht.symm.trans (sched0_B 0 t q0 q1).2.1)
  · exact Bool.noConfusion (ht.symm.trans (sched0_D 0 t q0 q1).2.1)

/-- The call's array. -/
theorem final : (dats 0 m ρ 0 c).arrAt 6 (cfgA 0).N
    = fun i : S8192x1024.Idx => attended m c ⟨(i 1).val / 128, by have : (i 1).val < 1024 := (i 1).isLt; omega⟩ ((i 0).val / 4096) ((i 0).val % 4096)
        ⟨(i 1).val % 128, Nat.mod_lt _ (by decide)⟩ := by
  refine (dats 0 m ρ 0 c).arrAt_eq_of_covers 6 _ (by decide +kernel) fun t ht y => ?_
  blk_simp
  rw [after0_6]
  have q1 := writes_back t ht
  have e0 : ((cfgA 0).win 6).index t 0 = 4 * (t.val / 10) + I (t.val % 10) := congrFun (places6 t) 0
  have e1 : ((cfgA 0).win 6).index t 1 = 0 := congrFun (places6 t) 1
  have hp : (y 0).val < 1024 := (y 0).isLt
  have he : (y 1).val < 1024 := (y 1).isLt
  have hI := I_lt (t.val % 10) (Nat.mod_lt _ (by decide))
  have hy : y = ix2 (⟨(y 0).val, hp⟩ : Fin 1024) (col ⟨(y 1).val / 128, by omega⟩ ⟨(y 1).val % 128, Nat.mod_lt _ (by decide)⟩) := by
    funext a
    refine Fin.ext ?_
    fin_cases a
    · rfl
    · show (y 1).val = 128 * ((y 1).val / 128) + (y 1).val % 128
      omega
  refine (congrArg (traj0 0 m ρ c t.val t.isLt).1 hy).trans ((stored m ρ c t q1 _ _ _).trans (attended_congr m c _ _ _ _ _ _ _ _ ?_ ?_ ?_ ?_))
  · show (y 1).val / 128 = (((cfgA 0).win 6).index t 1 * 1024 + (y 1).val) / 128
    rw [e1]; omega
  · rw [e0]; omega
  · rw [e0]
    show 1024 * I (t.val % 10) + (y 0).val = _
    omega
  · show (y 1).val % 128 = (((cfgA 0).win 6).index t 1 * 1024 + (y 1).val) % 128
    rw [e1]; omega

end Cert.KernelAttIdeal.Att

end
-- ==== Proof.AttAgree.lean ====
/- The attention call: its frames, and its result, which is the reference's. -/
module

public import proofs.«01_k».proof.Proof.Pins
public import proofs.«01_k».proof.Proof.Entries
public import proofs.«01_k».proof.Proof.Output

@[expose] public section

set_option maxRecDepth 16384

noncomputable section

open Idealize.ShloMosaic Idealize.ShloMosaic.TcCoe Idealize.SL.Sem
open Cert.Softmax

namespace Cert.Proof

theorem frame_KernelAtt : Cert.quiescent_KernelAtt := fun m g h => Cert.KernelAtt.Gen.frame 0 m g (Cert.Pins.pinned_bits m h)

theorem frame_KernelAttIdeal : Cert.quiescent_KernelAttIdeal := fun m g h => Cert.KernelAttIdeal.Gen.frame 0 m g (Cert.Pins.pinned m h)

theorem frame_KernelAttIdeal_finite : Cert.quiescent_KernelAttIdeal_pre_finite_pairs :=
  fun m g h => Cert.KernelAttIdeal.Gen.frame 0 m g (Cert.Pins.pinned_finite m h)

theorem frame_ReferenceAttIdeal : Cert.quiescent_ReferenceAttIdeal := by
  intro m g _
  exact Idealize.ShloMosaic.θ_run_mono (Cert.ReferenceAttIdeal.Att.run m g) fun r h => ⟨fun c => (h c).2, sem_eq_zero_of_no_sems (by decide) _⟩

theorem frame_ReferenceAttIdeal_finite : Cert.quiescent_ReferenceAttIdeal_pre_finite_pairs :=
  fun m g _ => frame_ReferenceAttIdeal m g trivial

open Cert.KernelAttIdeal Cert.KernelAttIdeal.Gen Cert.KernelAttIdeal.Att in
/-- The reference's result on the launch's arguments is what the launch leaves. -/
theorem agree_att (m : (ℓ : Loc nD τ sig) → Buf (Elt Ideal) ℓ) (g : Dev nD → PrngReg) (hpre : Cert.Pre_KernelAttIdeal_finite_pairs m) (c : Dev nD) :
    truncf .bf16 (mulf (Cert.ReferenceAttIdeal.Att.mixed (Cert.ReferenceAttIdeal.Att.shares (Cert.ReferenceAttIdeal.Att.powers
        (Cert.ReferenceAttIdeal.Att.scores (m ((c : Thread nD τ).loc main_arg2)) (m ((c : Thread nD τ).loc main_arg3)) (m ((c : Thread nD τ).loc main_arg4)) (m ((c : Thread nD τ).loc main_arg5)))))
          (m ((c : Thread nD τ).loc main_arg6))) (Cert.ReferenceAttIdeal.Att.gated (m ((c : Thread nD τ).loc main_arg7)))) Cert.ReferenceAttIdeal.Gen.facts.bitsLt_bf16_f32
      = (dats 0 m g 0 c).arrAt 6 (cfgA 0).N := by
  obtain ⟨_, hq, hqa, hk, hka⟩ := Cert.Pins.finite _ _ _ _ _ _ _ _ (hpre c)
  rw [final]
  funext i
  have h0 : (i 0).val < 8192 := (i 0).isLt
  have h1 : (i 1).val < 1024 := (i 1).isLt
  have e : i = ix2 (at' (⟨(i 0).val / 4096, by omega⟩ : Fin 2).val (⟨(i 0).val % 4096, by omega⟩ : Fin 4096).val)
      (col ⟨(i 1).val / 128, by omega⟩ ⟨(i 1).val % 128, by omega⟩) := by
    funext a
    refine Fin.ext ?_
    match a with
    | ⟨0, _⟩ =>
      show (i 0).val = (4096 * ((i 0).val / 4096) + (i 0).val % 4096) % 8192
      omega
    | ⟨1, _⟩ =>
      show (i 1).val = 128 * ((i 1).val / 128) + (i 1).val % 128
      omega
  have hl := Cert.ReferenceAttIdeal.Att.mixture_at (⟨(i 0).val / 4096, by omega⟩ : Fin 2) ⟨(i 1).val / 128, by omega⟩ (⟨(i 0).val % 4096, by omega⟩ : Fin 4096)
    (m ((c : Thread nD τ).loc main_arg2)) (m ((c : Thread nD τ).loc main_arg3)) (m ((c : Thread nD τ).loc main_arg4)) (m ((c : Thread nD τ).loc main_arg5))
    (m ((c : Thread nD τ).loc main_arg6)) hq hqa hk hka ⟨(i 1).val % 128, by omega⟩
  have hg := Cert.ReferenceAttIdeal.Att.gated_at (m ((c : Thread nD τ).loc main_arg7)) i
  rw [← e] at hl
  refine (congrArg₂ (· * ·) hl hg).trans ?_
  unfold attended silu S U
  have e7 : m ((c : Thread nD τ).loc main_arg7) i = m ((c : Thread nD τ).loc main_arg7) (ix2 (at' ((i 0).val / 4096) ((i 0).val % 4096))
      (col ⟨(i 1).val / 128, by omega⟩ ⟨(i 1).val % 128, by omega⟩)) := congrArg _ e
  rw [e7]

theorem algebraic_att : Cert.algebraic_KernelAttIdeal_ReferenceAttIdeal_pre_finite_pairs := by
  intro m g m' g' hpre hagree
  have hp := Cert.Pins.pinned_finite m hpre
  refine ⟨fun c => (Cert.KernelAttIdeal.Gen.dats 0 m g 0 c).arrAt 6 (Cert.KernelAttIdeal.Gen.cfgA 0).N, ?_, ?_⟩
  · exact θ_run_and ((θ_run _ _ _).mono (fun r h c => (h c).1 6) (Cert.KernelAttIdeal.Gen.run_main 0 m g hp)) (Cert.KernelAttIdeal.Gen.unchanged 0 m g hp) |>
      fun h => (θ_run _ _ _).mono (fun r h c => ⟨h.1 c, h.2 c⟩) h
  · refine Idealize.ShloMosaic.θ_run_mono (Cert.ReferenceAttIdeal.Att.run m' g') fun r h c => ⟨?_, (h c).2⟩
    obtain ⟨_, _, e2, e3, e4, e5, e6, e7⟩ := hagree c
    refine (h c).1.trans (Eq.trans ?_ (agree_att m g hpre c))
    rw [e2, e3, e4, e5, e6, e7]

end Cert.Proof

end
-- ==== Proof.ScanKept.lean ====
/- The scan reference leaves every buffer that none of its operations writes as it found it: its arguments in particular, through
   all 4096 steps of the recurrence. -/
module

public import proofs.«01_k».proof.Proof.Gen.ReferenceIdeal.Run
public import Idealize.ShloMosaic.Lib.Pipeline.ValueKit

@[expose] public section

set_option maxRecDepth 100000

noncomputable section

open Idealize.ShloMosaic Idealize.ShloMosaic.TcCoe Idealize.ShloMosaic.StableHlo

namespace Cert.ReferenceIdeal.Kept

open Cert.ReferenceIdeal Cert.ReferenceIdeal.Gen Cert.ReferenceIdeal.Value

/-- What the operations after the recurrence write. -/
abbrev tail_W : List (Ref sig .tc) :=
  [main_v63, main_v64, main_v65, main_v66, main_v67, main_v68, main_v69, main_v70, main_v71, main_v72, main_v73, main_v74, main_v75, main_v76]

theorem tail_writes : (hostOps0_1 : List (HloOp τ sig (Elt Ideal))).Forall fun op => op.writes ⊆ (tail_W.map (Proc.devRef (τ := τ) .tc)).toFinset :=
  StableHlo.forall_writes_sub_of_map rfl

/-- Everything the program writes. -/
abbrev all_W : List (Ref sig .tc) :=
  hostOps0_W ++ condOps_W ++ while0Ops0_W ++ while0Ops0_1_W ++ while0Ops0_2_W ++ while0Ops0_3_W ++ while0Ops0_4_W ++ while0Ops0_5_W ++ tail_W

variable (m : (ℓ : Loc nD τ sig) → Buf (Elt Ideal) ℓ)

theorem trip_keeps (X : Valuation τ sig (Elt Ideal)) (b : Ref sig .tc) (h : b ∉ all_W) :
    afterL bodyI (after condOps X) (Proc.devRef .tc b) = X (Proc.devRef .tc b) := by
  simp only [all_W, List.mem_append, not_or] at h
  obtain ⟨⟨⟨⟨⟨⟨⟨⟨_, hc⟩, h0⟩, h1⟩, h2⟩, h3⟩, h4⟩, h5⟩, _⟩ := h
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

theorem kept (c : Dev nD) (b : Ref sig .tc) (h : b ∉ all_W) :
    finalContents condOps preI bodyI postI 4096 m c (Proc.devRef .tc b) = m ((c.tc : Thread nD τ).loc b) := by
  have key : ∀ k, atTrip condOps bodyI (entryContents preI m) k c (Proc.devRef .tc b) = entryContents preI m c (Proc.devRef .tc b) := by
    intro k
    induction k with
    | zero => rfl
    | succ k ih => rw [atTrip_succ, trip_keeps _ b h, ih]
  have hall := h
  simp only [all_W, List.mem_append, not_or] at h
  obtain ⟨⟨⟨⟨⟨⟨⟨⟨hp, hc⟩, _⟩, _⟩, _⟩, _⟩, _⟩, _⟩, ht⟩ := h
  simp only [finalContents, afterL_cons, afterL_nil]
  rw [after_of_writes_sub hostOps0_1 _ tail_writes ht, after_of_writes_sub condOps _ condOps_writes hc, key]
  simp only [entryContents, afterL_cons, afterL_nil]
  rw [after_of_writes_sub hostOps0 _ hostOps0_writes hp]

end Cert.ReferenceIdeal.Kept

end
-- ==== Proof.Frames.lean ====
/- The frames: every program writes its results only, leaves its arguments as they were and ends with its semaphores at
   zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.KernelIn.Frame
public import proofs.«01_k».proof.Proof.Gen.KernelInIdeal.Frame
public import proofs.«01_k».proof.Proof.Gen.ReferenceInIdeal.Run
public import proofs.«01_k».proof.Proof.Gen.KernelFox.Frame
public import proofs.«01_k».proof.Proof.Gen.KernelFoxIdeal.Frame
public import proofs.«01_k».proof.Proof.Gen.ReferenceFoxIdeal.Run
public import proofs.«01_k».proof.Proof.Gen.KernelC.Frame
public import proofs.«01_k».proof.Proof.Gen.KernelCIdeal.Frame
public import proofs.«01_k».proof.Proof.Gen.ReferenceCIdeal.Run
public import proofs.«01_k».proof.Proof.Gen.KernelMid.Frame
public import proofs.«01_k».proof.Proof.Gen.KernelMidIdeal.Frame
public import proofs.«01_k».proof.Proof.Gen.ReferenceMidIdeal.Run
public import proofs.«01_k».proof.Proof.Gen.KernelOut.Frame
public import proofs.«01_k».proof.Proof.Gen.KernelOutIdeal.Frame
public import proofs.«01_k».proof.Proof.Gen.ReferenceOutIdeal.Run
public import proofs.«01_k».proof.Proof.Gen.KernelGlu.Frame
public import proofs.«01_k».proof.Proof.Gen.KernelGluIdeal.Frame
public import proofs.«01_k».proof.Proof.Gen.ReferenceGluIdeal.Run
public import proofs.«01_k».proof.Proof.ScanKept

@[expose] public section

set_option maxRecDepth 200000

noncomputable section

open Idealize.ShloMosaic Idealize.SL.Sem

namespace Cert.Proof

theorem frame_Kernel : Cert.quiescent_Kernel := fun m g _ => Cert.Kernel.Gen.frame m g

theorem frame_KernelIdeal : Cert.quiescent_KernelIdeal := fun m g _ => Cert.KernelIdeal.Gen.frame m g

theorem frame_ReferenceIdeal : Cert.quiescent_ReferenceIdeal := by
  intro m g _
  refine Idealize.ShloMosaic.θ_run_mono (Cert.ReferenceIdeal.Value.run_fold m g) fun r h => ⟨fun c => ?_, sem_eq_zero_of_no_sems (by decide) _⟩
  exact ⟨(h c Cert.ReferenceIdeal.main_arg0 rfl).trans (Cert.ReferenceIdeal.Kept.kept m c _ (by decide +kernel)), (h c Cert.ReferenceIdeal.main_arg1 rfl).trans (Cert.ReferenceIdeal.Kept.kept m c _ (by decide +kernel)), (h c Cert.ReferenceIdeal.main_arg2 rfl).trans (Cert.ReferenceIdeal.Kept.kept m c _ (by decide +kernel)), (h c Cert.ReferenceIdeal.main_arg3 rfl).trans (Cert.ReferenceIdeal.Kept.kept m c _ (by decide +kernel)), (h c Cert.ReferenceIdeal.main_arg4 rfl).trans (Cert.ReferenceIdeal.Kept.kept m c _ (by decide +kernel)), (h c Cert.ReferenceIdeal.main_arg5 rfl).trans (Cert.ReferenceIdeal.Kept.kept m c _ (by decide +kernel)), (h c Cert.ReferenceIdeal.main_arg6 rfl).trans (Cert.ReferenceIdeal.Kept.kept m c _ (by decide +kernel)), (h c Cert.ReferenceIdeal.main_arg7 rfl).trans (Cert.ReferenceIdeal.Kept.kept m c _ (by decide +kernel)), (h c Cert.ReferenceIdeal.main_arg8 rfl).trans (Cert.ReferenceIdeal.Kept.kept m c _ (by decide +kernel))⟩

theorem frame_KernelIn : Cert.quiescent_KernelIn := fun m g _ => Cert.KernelIn.Gen.frame m g

theorem frame_KernelInIdeal : Cert.quiescent_KernelInIdeal := fun m g _ => Cert.KernelInIdeal.Gen.frame m g

theorem frame_ReferenceInIdeal : Cert.quiescent_ReferenceInIdeal := by
  intro m g _
  refine Idealize.ShloMosaic.θ_run_mono (Cert.ReferenceInIdeal.Value.run m g) fun r h => ⟨fun c => ?_, sem_eq_zero_of_no_sems (by decide) _⟩
  first | exact (h c).2 | exact (h c).2.2 | exact (h c).2.2.2

theorem frame_KernelFox : Cert.quiescent_KernelFox := fun m g _ => Cert.KernelFox.Gen.frame m g

theorem frame_KernelFoxIdeal : Cert.quiescent_KernelFoxIdeal := fun m g _ => Cert.KernelFoxIdeal.Gen.frame m g

theorem frame_ReferenceFoxIdeal : Cert.quiescent_ReferenceFoxIdeal := by
  intro m g _
  refine Idealize.ShloMosaic.θ_run_mono (Cert.ReferenceFoxIdeal.Value.run m g) fun r h => ⟨fun c => ?_, sem_eq_zero_of_no_sems (by decide) _⟩
  first | exact (h c).2 | exact (h c).2.2 | exact (h c).2.2.2

theorem frame_KernelC : Cert.quiescent_KernelC := fun m g _ => Cert.KernelC.Gen.frame m g

theorem frame_KernelCIdeal : Cert.quiescent_KernelCIdeal := fun m g _ => Cert.KernelCIdeal.Gen.frame m g

theorem frame_ReferenceCIdeal : Cert.quiescent_ReferenceCIdeal := by
  intro m g _
  refine Idealize.ShloMosaic.θ_run_mono (Cert.ReferenceCIdeal.Value.run m g) fun r h => ⟨fun c => ?_, sem_eq_zero_of_no_sems (by decide) _⟩
  first | exact (h c).2 | exact (h c).2.2 | exact (h c).2.2.2

theorem frame_KernelMid : Cert.quiescent_KernelMid := fun m g _ => Cert.KernelMid.Gen.frame m g

theorem frame_KernelMidIdeal : Cert.quiescent_KernelMidIdeal := fun m g _ => Cert.KernelMidIdeal.Gen.frame m g

theorem frame_ReferenceMidIdeal : Cert.quiescent_ReferenceMidIdeal := by
  intro m g _
  refine Idealize.ShloMosaic.θ_run_mono (Cert.ReferenceMidIdeal.Value.run m g) fun r h => ⟨fun c => ?_, sem_eq_zero_of_no_sems (by decide) _⟩
  first | exact (h c).2 | exact (h c).2.2 | exact (h c).2.2.2

theorem frame_KernelOut : Cert.quiescent_KernelOut := fun m g _ => Cert.KernelOut.Gen.frame m g

theorem frame_KernelOutIdeal : Cert.quiescent_KernelOutIdeal := fun m g _ => Cert.KernelOutIdeal.Gen.frame m g

theorem frame_ReferenceOutIdeal : Cert.quiescent_ReferenceOutIdeal := by
  intro m g _
  refine Idealize.ShloMosaic.θ_run_mono (Cert.ReferenceOutIdeal.Value.run m g) fun r h => ⟨fun c => ?_, sem_eq_zero_of_no_sems (by decide) _⟩
  first | exact (h c).2 | exact (h c).2.2 | exact (h c).2.2.2

theorem frame_KernelGlu : Cert.quiescent_KernelGlu := fun m g _ => Cert.KernelGlu.Gen.frame m g

theorem frame_KernelGluIdeal : Cert.quiescent_KernelGluIdeal := fun m g _ => Cert.KernelGluIdeal.Gen.frame m g

theorem frame_ReferenceGluIdeal : Cert.quiescent_ReferenceGluIdeal := by
  intro m g _
  refine Idealize.ShloMosaic.θ_run_mono (Cert.ReferenceGluIdeal.Value.run m g) fun r h => ⟨fun c => ?_, sem_eq_zero_of_no_sems (by decide) _⟩
  first | exact (h c).2 | exact (h c).2.2 | exact (h c).2.2.2

end Cert.Proof

end
-- ==== Proof.Rows.lean ====
/- The rows of the layer's token arrays, and the root-mean-square scale of a row, as functions of coordinates. The value modules
   state what each kernel and each reference computes in these terms. -/
module

public import Idealize.ShloMosaic.Lib.Pipeline.ValueKit

@[expose] public section

noncomputable section

open Idealize.ShloMosaic

namespace Cert.Rows

/-- Row `r` of a token array of 2 sequences of 4096 tokens, the sequences one after the other. -/
def row {φ : FTy} (x : FVec Ideal ⟨3, ![2, 4096, 2048]⟩ φ) (r : Fin 8192) (k : Fin 2048) : EReal :=
  x (ix3 ⟨r.val / 4096, by omega⟩ ⟨r.val % 4096, by omega⟩ k)

/-- The reciprocal square root of the mean square of a row plus epsilon: both constants are the f32 words the programs spell. -/
def rmsScale (x : Fin 2048 → EReal) : EReal :=
  Ideal.rsqrt (Ideal.div (∑ k : Fin 2048, x k * x k) (Ideal.ofBits FTy.f32 1157627904#32) + Ideal.ofBits FTy.f32 897988541#32)

end Cert.Rows

end
-- ==== Proof.GluValue.lean ====
/- The gated linear unit: every token's activations, its gate's product with the weight, and the result by token group. -/
module

public import proofs.«01_k».proof.Proof.Gates
public import proofs.«01_k».proof.Proof.Rows
public import proofs.«01_k».proof.Proof.Gen.KernelGluIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelGluIdeal.Gated

open Cert.KernelGluIdeal Cert.KernelGluIdeal.Gen Cert.Rows Cert.Gates

variable (m : (ℓ : Loc nD τ sig) → Buf (Elt Ideal) ℓ)

theorem places : ∀ t : Fin cfg0.N, win0_0.index t = ![t.val, 0, 0] ∧ win0_1.index t = ![0, 0] ∧ win0_2.index t = ![0, 0] ∧ win0_3.index t = ![t.val, 1, 0] ∧ win0_4.index t = ![0, t.val] :=
  (by decide +kernel : ∀ t : Fin grid0.N, _)

/-- What the first point writes over the scratch buffer: the weight transposed, quarter by quarter. -/
def filled (c : Dev nD) (t : Fin cfg0.N) : Vec Ideal S2048x2048 .bf16 :=
  View.canon
    [⟨Rect.unit ![1536, 0] ![512, 2048] inb_S2048x2048_S512x2048_1536_0,
        k0_pay5 (View.ld (iblk m c 1 t) (Rect.unit ![0, 1536] ![2048, 512] inb_S2048x2048_S2048x512_0_1536))⟩,
      ⟨Rect.unit ![1024, 0] ![512, 2048] inb_S2048x2048_S512x2048_1024_0,
        k0_pay4 (View.ld (iblk m c 1 t) (Rect.unit ![0, 1024] ![2048, 512] inb_S2048x2048_S2048x512_0_1024))⟩,
      ⟨Rect.unit ![512, 0] ![512, 2048] inb_S2048x2048_S512x2048_512_0,
        k0_pay3 (View.ld (iblk m c 1 t) (Rect.unit ![0, 512] ![2048, 512] inb_S2048x2048_S2048x512_0_512))⟩,
      ⟨Rect.unit ![0, 0] ![512, 2048] inb_S2048x2048_S512x2048_0_0,
        k0_pay2 (View.ld (iblk m c 1 t) (Rect.unit ![0, 0] ![2048, 512] inb_S2048x2048_S2048x512_0_0))⟩]

/-- `X` is the weight transposed. -/
def Holds (c : Dev nD) (X : Vec Ideal S2048x2048 .bf16) : Prop :=
  ∀ (k e : Fin 2048), X (ix2 k e) = m ((c : Thread nD τ).loc main_arg2) (ix3 0 e k)

theorem filled_at (c : Dev nD) (t : Fin cfg0.N) (y : S2048x2048.Idx) (k e : Fin 2048) (hk : (k : ℕ) = y 0) (he : (e : ℕ) = y 1) :
    filled m c t y = m ((c : Thread nD τ).loc main_arg2) (ix3 0 e k) := by
  unfold filled
  canon_tiles x h
  all_goals (open_payloads; pointwise; blk_point [iblk, V, places t])

theorem filled_holds (c : Dev nD) (t : Fin cfg0.N) : Holds m c (filled m c t) :=
  fun k e => filled_at m c t _ k e rfl rfl

theorem left_first (c : Dev nD) (t : Fin cfg0.N) (h0 : t.val % 16 = 0) : (outsAt0 m c t.val t.isLt).2 = filled m c t := by
  funext y
  rw [outsAt0_A m c t h0]
  frame_out
  rfl

/-- The scratch buffer after any point: the weight transposed. -/
theorem held (c : Dev nD) : ∀ (n : ℕ) (hn : n < cfg0.N), Holds m c (outsAt0 m c n hn).2 := by
  intro n
  induction n with
  | zero =>
    intro hn
    rw [left_first m c ⟨0, hn⟩ (Nat.zero_mod _)]
    exact filled_holds m c ⟨0, hn⟩
  | succ n ih =>
    intro hn
    by_cases h0 : (n + 1) % 16 = 0
    · rw [left_first m c ⟨n + 1, hn⟩ h0]
      exact filled_holds m c ⟨n + 1, hn⟩
    · rw [outsAt0_B m c ⟨n + 1, hn⟩ h0]
      exact ih (Nat.lt_of_succ_lt hn)

/-- The activations of a block, part by part. -/
def active (A : Vec Ideal S1x2048x512 .bf16) : Vec Ideal S2048x512 .f32 :=
  View.canon
    [⟨Rect.unit ![0, 256] ![2048, 256] inb_S2048x512_S2048x256_0_256,
        k0_pay7 (View.ld A (Rect.unit ![0, 0, 256] ![1, 2048, 256] inb_S1x2048x512_S1x2048x256_0_0_256))⟩,
      ⟨Rect.unit ![0, 0] ![2048, 256] inb_S2048x512_S2048x256_0_0,
        k0_pay7 (View.ld A (Rect.unit ![0, 0, 0] ![1, 2048, 256] inb_S1x2048x512_S1x2048x256_0_0_0))⟩]

/-- The activations of a block in bf16, part by part. -/
def rounded (A : Vec Ideal S1x2048x512 .bf16) : Vec Ideal S2048x512 .bf16 :=
  View.canon
    [⟨Rect.unit ![0, 256] ![2048, 256] inb_S2048x512_S2048x256_0_256,
        k0_pay8 (View.ld A (Rect.unit ![0, 0, 256] ![1, 2048, 256] inb_S1x2048x512_S1x2048x256_0_0_256))⟩,
      ⟨Rect.unit ![0, 0] ![2048, 256] inb_S2048x512_S2048x256_0_0,
        k0_pay8 (View.ld A (Rect.unit ![0, 0, 0] ![1, 2048, 256] inb_S1x2048x512_S1x2048x256_0_0_0))⟩]

theorem part0 (A : Vec Ideal S1x2048x512 .bf16) (e : Fin 2048) (q : Fin 256) :
    k0_pay6 (F := Ideal) (View.ld A (Rect.unit ![0, 0, 0] ![1, 2048, 256] inb_S1x2048x512_S1x2048x256_0_0_0)) (ix2 e q) = gelu (A (ix3 0 e (⟨q.val, by omega⟩ : Fin 512))) := by
  rw [← gelu_first]
  pointwise [k0_pay6]

theorem part1 (A : Vec Ideal S1x2048x512 .bf16) (e : Fin 2048) (q : Fin 256) :
    k0_pay6 (F := Ideal) (View.ld A (Rect.unit ![0, 0, 256] ![1, 2048, 256] inb_S1x2048x512_S1x2048x256_0_0_256)) (ix2 e q) = gelu (A (ix3 0 e (⟨256 + q.val, by omega⟩ : Fin 512))) := by
  rw [← gelu_first]
  pointwise [k0_pay6]

theorem cast7 (v : Vec Ideal S1x2048x256 .bf16) (e : Fin 2048) (q : Fin 256) : k0_pay7 (F := Ideal) v (ix2 e q) = k0_pay6 (F := Ideal) v (ix2 e q) := by
  unfold k0_pay7
  generalize k0_pay6 (F := Ideal) v = X
  pointwise

theorem cast8 (v : Vec Ideal S1x2048x256 .bf16) (e : Fin 2048) (q : Fin 256) : k0_pay8 (F := Ideal) v (ix2 e q) = k0_pay6 (F := Ideal) v (ix2 e q) := by
  unfold k0_pay8
  generalize k0_pay6 (F := Ideal) v = X
  pointwise

theorem active_at (A : Vec Ideal S1x2048x512 .bf16) (y : S2048x512.Idx) (e : Fin 2048) (q : Fin 512) (he : (e : ℕ) = y 0) (hq : (q : ℕ) = y 1) :
    active A y = gelu (A (ix3 0 e q)) := by
  unfold active
  canon_tiles x h
  · rw [eq_ix2 x]
    refine (cast7 _ _ _).trans ((part1 A _ _).trans ?_)
    exact congrArg (fun i => gelu (A i)) (congrArg₂ (ix3 0) (Fin.ext (by dsimp only; omega)) (Fin.ext (by dsimp only; omega)))
  · rw [eq_ix2 x]
    refine (cast7 _ _ _).trans ((part0 A _ _).trans ?_)
    exact congrArg (fun i => gelu (A i)) (congrArg₂ (ix3 0) (Fin.ext (by dsimp only; omega)) (Fin.ext (by dsimp only; omega)))

theorem rounded_at (A : Vec Ideal S1x2048x512 .bf16) (y : S2048x512.Idx) (e : Fin 2048) (q : Fin 512) (he : (e : ℕ) = y 0) (hq : (q : ℕ) = y 1) :
    rounded A y = gelu (A (ix3 0 e q)) := by
  unfold rounded
  canon_tiles x h
  · rw [eq_ix2 x]
    refine (cast8 _ _ _).trans ((part1 A _ _).trans ?_)
    exact congrArg (fun i => gelu (A i)) (congrArg₂ (ix3 0) (Fin.ext (by dsimp only; omega)) (Fin.ext (by dsimp only; omega)))
  · rw [eq_ix2 x]
    refine (cast8 _ _ _).trans ((part0 A _ _).trans ?_)
    exact congrArg (fun i => gelu (A i)) (congrArg₂ (ix3 0) (Fin.ext (by dsimp only; omega)) (Fin.ext (by dsimp only; omega)))

/-- A gated activation: `z`, its gate's argument `l`, and the second input `g` with its own sigmoid. -/
def gated (z l g : EReal) : EReal := z * sigmoid l * (g * sigmoid g)

theorem gate_at (X : Vec Ideal S512x2048 .bf16) (Z : Vec Ideal S2048x256 .bf16) (B : Vec Ideal S512x1 .f32) (z : Vec Ideal S512x256 .f32) (g : Vec Ideal S1x512x256 .bf16)
    (p : Fin 512) (q : Fin 256) :
    k0_pay23 (F := Ideal) X Z B z g (ix2 q p) = gated (z (ix2 p q)) (∑ e : Fin 2048, X (ix2 p e) * Z (ix2 e q) + B (ix2 p 0)) (g (ix3 0 p q)) := by
  unfold gated
  rw [← sigmoid_tanh, ← sigmoid_tanh]
  pointwise [k0_pay23]

/-- The eight stores of a point. -/
def stores (A : Vec Ideal S1x2048x512 .bf16) (B : Vec Ideal S2048x1 .f32) (G : Vec Ideal S1x2048x512 .bf16) (X : Vec Ideal S2048x2048 .bf16) : Vec Ideal S512x2048 .bf16 :=
  View.canon
    [⟨Rect.unit ![256, 1536] ![256, 512] inb_S512x2048_S256x512_256_1536,
        k0_pay23 (View.ld X (Rect.unit ![1536, 0] ![512, 2048] inb_S2048x2048_S512x2048_1536_0))
          (View.ld (rounded A) (Rect.unit ![0, 256] ![2048, 256] inb_S2048x512_S2048x256_0_256))
          (View.ld B (Rect.unit ![1536, 0] ![512, 1] inb_S2048x1_S512x1_1536_0))
          (View.ld (active A) (Rect.unit ![1536, 256] ![512, 256] inb_S2048x512_S512x256_1536_256))
          (View.ld G (Rect.unit ![0, 1536, 256] ![1, 512, 256] inb_S1x2048x512_S1x512x256_0_1536_256))⟩,
      ⟨Rect.unit ![256, 1024] ![256, 512] inb_S512x2048_S256x512_256_1024,
        k0_pay23 (View.ld X (Rect.unit ![1024, 0] ![512, 2048] inb_S2048x2048_S512x2048_1024_0))
          (View.ld (rounded A) (Rect.unit ![0, 256] ![2048, 256] inb_S2048x512_S2048x256_0_256))
          (View.ld B (Rect.unit ![1024, 0] ![512, 1] inb_S2048x1_S512x1_1024_0))
          (View.ld (active A) (Rect.unit ![1024, 256] ![512, 256] inb_S2048x512_S512x256_1024_256))
          (View.ld G (Rect.unit ![0, 1024, 256] ![1, 512, 256] inb_S1x2048x512_S1x512x256_0_1024_256))⟩,
      ⟨Rect.unit ![256, 512] ![256, 512] inb_S512x2048_S256x512_256_512,
        k0_pay23 (View.ld X (Rect.unit ![512, 0] ![512, 2048] inb_S2048x2048_S512x2048_512_0))
          (View.ld (rounded A) (Rect.unit ![0, 256] ![2048, 256] inb_S2048x512_S2048x256_0_256))
          (View.ld B (Rect.unit ![512, 0] ![512, 1] inb_S2048x1_S512x1_512_0))
          (View.ld (active A) (Rect.unit ![512, 256] ![512, 256] inb_S2048x512_S512x256_512_256))
          (View.ld G (Rect.unit ![0, 512, 256] ![1, 512, 256] inb_S1x2048x512_S1x512x256_0_512_256))⟩,
      ⟨Rect.unit ![256, 0] ![256, 512] inb_S512x2048_S256x512_256_0,
        k0_pay23 (View.ld X (Rect.unit ![0, 0] ![512, 2048] inb_S2048x2048_S512x2048_0_0))
          (View.ld (rounded A) (Rect.unit ![0, 256] ![2048, 256] inb_S2048x512_S2048x256_0_256))
          (View.ld B (Rect.unit ![0, 0] ![512, 1] inb_S2048x1_S512x1_0_0))
          (View.ld (active A) (Rect.unit ![0, 256] ![512, 256] inb_S2048x512_S512x256_0_256))
          (View.ld G (Rect.unit ![0, 0, 256] ![1, 512, 256] inb_S1x2048x512_S1x512x256_0_0_256))⟩,
      ⟨Rect.unit ![0, 1536] ![256, 512] inb_S512x2048_S256x512_0_1536,
        k0_pay23 (View.ld X (Rect.unit ![1536, 0] ![512, 2048] inb_S2048x2048_S512x2048_1536_0))
          (View.ld (rounded A) (Rect.unit ![0, 0] ![2048, 256] inb_S2048x512_S2048x256_0_0))
          (View.ld B (Rect.unit ![1536, 0] ![512, 1] inb_S2048x1_S512x1_1536_0))
          (View.ld (active A) (Rect.unit ![1536, 0] ![512, 256] inb_S2048x512_S512x256_1536_0))
          (View.ld G (Rect.unit ![0, 1536, 0] ![1, 512, 256] inb_S1x2048x512_S1x512x256_0_1536_0))⟩,
      ⟨Rect.unit ![0, 1024] ![256, 512] inb_S512x2048_S256x512_0_1024,
        k0_pay23 (View.ld X (Rect.unit ![1024, 0] ![512, 2048] inb_S2048x2048_S512x2048_1024_0))
          (View.ld (rounded A) (Rect.unit ![0, 0] ![2048, 256] inb_S2048x512_S2048x256_0_0))
          (View.ld B (Rect.unit ![1024, 0] ![512, 1] inb_S2048x1_S512x1_1024_0))
          (View.ld (active A) (Rect.unit ![1024, 0] ![512, 256] inb_S2048x512_S512x256_1024_0))
          (View.ld G (Rect.unit ![0, 1024, 0] ![1, 512, 256] inb_S1x2048x512_S1x512x256_0_1024_0))⟩,
      ⟨Rect.unit ![0, 512] ![256, 512] inb_S512x2048_S256x512_0_512,
        k0_pay23 (View.ld X (Rect.unit ![512, 0] ![512, 2048] inb_S2048x2048_S512x2048_512_0))
          (View.ld (rounded A) (Rect.unit ![0, 0] ![2048, 256] inb_S2048x512_S2048x256_0_0))
          (View.ld B (Rect.unit ![512, 0] ![512, 1] inb_S2048x1_S512x1_512_0))
          (View.ld (active A) (Rect.unit ![512, 0] ![512, 256] inb_S2048x512_S512x256_512_0))
          (View.ld G (Rect.unit ![0, 512, 0] ![1, 512, 256] inb_S1x2048x512_S1x512x256_0_512_0))⟩,
      ⟨Rect.unit ![0, 0] ![256, 512] inb_S512x2048_S256x512_0_0,
        k0_pay23 (View.ld X (Rect.unit ![0, 0] ![512, 2048] inb_S2048x2048_S512x2048_0_0))
          (View.ld (rounded A) (Rect.unit ![0, 0] ![2048, 256] inb_S2048x512_S2048x256_0_0))
          (View.ld B (Rect.unit ![0, 0] ![512, 1] inb_S2048x1_S512x1_0_0))
          (View.ld (active A) (Rect.unit ![0, 0] ![512, 256] inb_S2048x512_S512x256_0_0))
          (View.ld G (Rect.unit ![0, 0, 0] ![1, 512, 256] inb_S1x2048x512_S1x512x256_0_0_0))⟩]

theorem readback {s : Shape} {φ : EltTy} (v : View sig Kind.tc Space.vmem s φ) (L : List (View.Piece (Elt Ideal) s φ)) (r : Rect s) :
    v.readCov L r.toLoadRect = View.ld (View.canon L) r :=
  View.readCov_eq_canon' v L _

theorem reread (h : (scM0_2).IsWhole) (X : Vec Ideal S2048x2048 .bf16) :
    View.read (Elt Ideal) (View.whole cc0_scratch2) (h.unread X) = X :=
  h.read_unread X

theorem stored_first (c : Dev nD) (t : Fin cfg0.N) (h0 : t.val % 16 = 0) :
    (outsAt0 m c t.val t.isLt).1 = stores (iblk m c 0 t) (iblk m c 2 t) (iblk m c 3 t) (filled m c t) := by
  funext y
  rw [outsAt0_A m c t h0]
  frame_out
  simp only [readback]
  rfl

theorem stored_later (c : Dev nD) (t : Fin cfg0.N) (h0 : ¬ t.val % 16 = 0) :
    (outsAt0 m c t.val t.isLt).1
      = stores (iblk m c 0 t) (iblk m c 2 t) (iblk m c 3 t) (outsAt0 m c (t.val - 1) (Nat.lt_of_le_of_lt (Nat.sub_le _ _) t.isLt)).2 := by
  funext y
  rw [outsAt0_B m c t h0]
  frame_out
  simp only [reread, readback]
  rfl

theorem y_at (c : Dev nD) (t : Fin cfg0.N) (e : Fin 2048) (q : Fin 512) (r : Fin 8192) (h : (r : ℕ) = q * 16 + t.val) :
    (show FVec Ideal S1x2048x512 .bf16 from iblk m c 0 t) (ix3 0 e q) = row (show FVec Ideal S2x4096x2048 .f32 from m ((c : Thread nD τ).loc main_arg0)) r e := by
  unfold row
  blk_point [iblk, V, places t]

theorem g_at (c : Dev nD) (t : Fin cfg0.N) (e : Fin 2048) (q : Fin 512) (r : Fin 8192) (h : (r : ℕ) = q * 16 + t.val) :
    (show FVec Ideal S1x2048x512 .bf16 from iblk m c 3 t) (ix3 0 e q) = row (show FVec Ideal S2x4096x2048 .f32 from m ((c : Thread nD τ).loc main_arg1)) r e := by
  unfold row
  blk_simp [iblk, V, places t]
  entry_read
  pointwise
  blk_simp [places t]
  rw [dif_neg (by omega)]
  blk_ext [places t]

theorem b_at (c : Dev nD) (t : Fin cfg0.N) (k : Fin 2048) :
    (show FVec Ideal S2048x1 .f32 from iblk m c 2 t) (ix2 k 0) = (show FVec Ideal S1x2048 .f32 from m ((c : Thread nD τ).loc main_arg3)) (ix2 0 k) := by
  blk_point [iblk, V, places t]

/-- Entry `k` of token `r` of the gated activations, from the layer's arrays. -/
def entry (y : FVec Ideal S2x4096x2048 .f32) (g : FVec Ideal S2x4096x2048 .f32) (W : FVec Ideal S1x2048x2048 .f32) (b : FVec Ideal S1x2048 .f32)
    (r : Fin 8192) (k : Fin 2048) : EReal :=
  gated (gelu (row y r k)) (∑ e : Fin 2048, gelu (row y r e) * W (ix3 0 e k) + b (ix2 0 k)) (row g r k)

/-- The result, entry by entry. -/
def result (c : Dev nD) (r : Fin 8192) (k : Fin 2048) : EReal :=
  entry (m ((c : Thread nD τ).loc main_arg0)) (m ((c : Thread nD τ).loc main_arg1)) (m ((c : Thread nD τ).loc main_arg2)) (m ((c : Thread nD τ).loc main_arg3)) r k

theorem gated_congr {z z' l l' g g' : EReal} (hz : z = z') (hl : l = l') (hg : g = g') : gated z l g = gated z' l' g' := by
  rw [hz, hl, hg]

theorem store_0_0 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 0 + x 0) (hk : (k : ℕ) = 0 + x 1) :
    k0_pay23 (F := Ideal) (View.ld X (Rect.unit ![0, 0] ![512, 2048] inb_S2048x2048_S512x2048_0_0))
      (View.ld (rounded A) (Rect.unit ![0, 0] ![2048, 256] inb_S2048x512_S2048x256_0_0))
      (View.ld B (Rect.unit ![0, 0] ![512, 1] inb_S2048x1_S512x1_0_0))
      (View.ld (active A) (Rect.unit ![0, 0] ![512, 256] inb_S2048x512_S512x256_0_0))
      (View.ld G (Rect.unit ![0, 0, 0] ![1, 512, 256] inb_S1x2048x512_S1x512x256_0_0_0)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 0 + 1 * (x 1 : ℕ); omega
    · show (q : ℕ) = 0 + 1 * (x 0 : ℕ); omega
  · refine congrArg X (funext fun a => Fin.ext ?_)
    match a with
    | ⟨0, _⟩ => show 0 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 0 + 1 * (x 0 : ℕ); omega
  · refine congrArg B (funext fun a => Fin.ext ?_)
    match a with
    | ⟨0, _⟩ => show 0 + 1 * (x 1 : ℕ) = (k : ℕ); omega
    | ⟨1, _⟩ => rfl
  · refine congrArg G (funext fun a => Fin.ext ?_)
    match a with
    | ⟨0, _⟩ => rfl
    | ⟨1, _⟩ => show 0 + 1 * (x 1 : ℕ) = (k : ℕ); omega
    | ⟨2, _⟩ => show 0 + 1 * (x 0 : ℕ) = (q : ℕ); omega

theorem store_0_1 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 256 + x 0) (hk : (k : ℕ) = 0 + x 1) :
    k0_pay23 (F := Ideal) (View.ld X (Rect.unit ![0, 0] ![512, 2048] inb_S2048x2048_S512x2048_0_0))
      (View.ld (rounded A) (Rect.unit ![0, 256] ![2048, 256] inb_S2048x512_S2048x256_0_256))
      (View.ld B (Rect.unit ![0, 0] ![512, 1] inb_S2048x1_S512x1_0_0))
      (View.ld (active A) (Rect.unit ![0, 256] ![512, 256] inb_S2048x512_S512x256_0_256))
      (View.ld G (Rect.unit ![0, 0, 256] ![1, 512, 256] inb_S1x2048x512_S1x512x256_0_0_256)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 0 + 1 * (x 1 : ℕ); omega
    · show (q : ℕ) = 256 + 1 * (x 0 : ℕ); omega
  · refine congrArg X (funext fun a => Fin.ext ?_)
    match a with
    | ⟨0, _⟩ => show 0 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 256 + 1 * (x 0 : ℕ); omega
  · refine congrArg B (funext fun a => Fin.ext ?_)
    match a with
    | ⟨0, _⟩ => show 0 + 1 * (x 1 : ℕ) = (k : ℕ); omega
    | ⟨1, _⟩ => rfl
  · refine congrArg G (funext fun a => Fin.ext ?_)
    match a with
    | ⟨0, _⟩ => rfl
    | ⟨1, _⟩ => show 0 + 1 * (x 1 : ℕ) = (k : ℕ); omega
    | ⟨2, _⟩ => show 256 + 1 * (x 0 : ℕ) = (q : ℕ); omega

theorem store_1_0 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 0 + x 0) (hk : (k : ℕ) = 512 + x 1) :
    k0_pay23 (F := Ideal) (View.ld X (Rect.unit ![512, 0] ![512, 2048] inb_S2048x2048_S512x2048_512_0))
      (View.ld (rounded A) (Rect.unit ![0, 0] ![2048, 256] inb_S2048x512_S2048x256_0_0))
      (View.ld B (Rect.unit ![512, 0] ![512, 1] inb_S2048x1_S512x1_512_0))
      (View.ld (active A) (Rect.unit ![512, 0] ![512, 256] inb_S2048x512_S512x256_512_0))
      (View.ld G (Rect.unit ![0, 512, 0] ![1, 512, 256] inb_S1x2048x512_S1x512x256_0_512_0)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 512 + 1 * (x 1 : ℕ); omega
    · show (q : ℕ) = 0 + 1 * (x 0 : ℕ); omega
  · refine congrArg X (funext fun a => Fin.ext ?_)
    match a with
    | ⟨0, _⟩ => show 512 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 0 + 1 * (x 0 : ℕ); omega
  · refine congrArg B (funext fun a => Fin.ext ?_)
    match a with
    | ⟨0, _⟩ => show 512 + 1 * (x 1 : ℕ) = (k : ℕ); omega
    | ⟨1, _⟩ => rfl
  · refine congrArg G (funext fun a => Fin.ext ?_)
    match a with
    | ⟨0, _⟩ => rfl
    | ⟨1, _⟩ => show 512 + 1 * (x 1 : ℕ) = (k : ℕ); omega
    | ⟨2, _⟩ => show 0 + 1 * (x 0 : ℕ) = (q : ℕ); omega

theorem store_1_1 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 256 + x 0) (hk : (k : ℕ) = 512 + x 1) :
    k0_pay23 (F := Ideal) (View.ld X (Rect.unit ![512, 0] ![512, 2048] inb_S2048x2048_S512x2048_512_0))
      (View.ld (rounded A) (Rect.unit ![0, 256] ![2048, 256] inb_S2048x512_S2048x256_0_256))
      (View.ld B (Rect.unit ![512, 0] ![512, 1] inb_S2048x1_S512x1_512_0))
      (View.ld (active A) (Rect.unit ![512, 256] ![512, 256] inb_S2048x512_S512x256_512_256))
      (View.ld G (Rect.unit ![0, 512, 256] ![1, 512, 256] inb_S1x2048x512_S1x512x256_0_512_256)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 512 + 1 * (x 1 : ℕ); omega
    · show (q : ℕ) = 256 + 1 * (x 0 : ℕ); omega
  · refine congrArg X (funext fun a => Fin.ext ?_)
    match a with
    | ⟨0, _⟩ => show 512 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 256 + 1 * (x 0 : ℕ); omega
  · refine congrArg B (funext fun a => Fin.ext ?_)
    match a with
    | ⟨0, _⟩ => show 512 + 1 * (x 1 : ℕ) = (k : ℕ); omega
    | ⟨1, _⟩ => rfl
  · refine congrArg G (funext fun a => Fin.ext ?_)
    match a with
    | ⟨0, _⟩ => rfl
    | ⟨1, _⟩ => show 512 + 1 * (x 1 : ℕ) = (k : ℕ); omega
    | ⟨2, _⟩ => show 256 + 1 * (x 0 : ℕ) = (q : ℕ); omega

theorem store_2_0 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 0 + x 0) (hk : (k : ℕ) = 1024 + x 1) :
    k0_pay23 (F := Ideal) (View.ld X (Rect.unit ![1024, 0] ![512, 2048] inb_S2048x2048_S512x2048_1024_0))
      (View.ld (rounded A) (Rect.unit ![0, 0] ![2048, 256] inb_S2048x512_S2048x256_0_0))
      (View.ld B (Rect.unit ![1024, 0] ![512, 1] inb_S2048x1_S512x1_1024_0))
      (View.ld (active A) (Rect.unit ![1024, 0] ![512, 256] inb_S2048x512_S512x256_1024_0))
      (View.ld G (Rect.unit ![0, 1024, 0] ![1, 512, 256] inb_S1x2048x512_S1x512x256_0_1024_0)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 1024 + 1 * (x 1 : ℕ); omega
    · show (q : ℕ) = 0 + 1 * (x 0 : ℕ); omega
  · refine congrArg X (funext fun a => Fin.ext ?_)
    match a with
    | ⟨0, _⟩ => show 1024 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 0 + 1 * (x 0 : ℕ); omega
  · refine congrArg B (funext fun a => Fin.ext ?_)
    match a with
    | ⟨0, _⟩ => show 1024 + 1 * (x 1 : ℕ) = (k : ℕ); omega
    | ⟨1, _⟩ => rfl
  · refine congrArg G (funext fun a => Fin.ext ?_)
    match a with
    | ⟨0, _⟩ => rfl
    | ⟨1, _⟩ => show 1024 + 1 * (x 1 : ℕ) = (k : ℕ); omega
    | ⟨2, _⟩ => show 0 + 1 * (x 0 : ℕ) = (q : ℕ); omega

theorem store_2_1 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 256 + x 0) (hk : (k : ℕ) = 1024 + x 1) :
    k0_pay23 (F := Ideal) (View.ld X (Rect.unit ![1024, 0] ![512, 2048] inb_S2048x2048_S512x2048_1024_0))
      (View.ld (rounded A) (Rect.unit ![0, 256] ![2048, 256] inb_S2048x512_S2048x256_0_256))
      (View.ld B (Rect.unit ![1024, 0] ![512, 1] inb_S2048x1_S512x1_1024_0))
      (View.ld (active A) (Rect.unit ![1024, 256] ![512, 256] inb_S2048x512_S512x256_1024_256))
      (View.ld G (Rect.unit ![0, 1024, 256] ![1, 512, 256] inb_S1x2048x512_S1x512x256_0_1024_256)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 1024 + 1 * (x 1 : ℕ); omega
    · show (q : ℕ) = 256 + 1 * (x 0 : ℕ); omega
  · refine congrArg X (funext fun a => Fin.ext ?_)
    match a with
    | ⟨0, _⟩ => show 1024 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 256 + 1 * (x 0 : ℕ); omega
  · refine congrArg B (funext fun a => Fin.ext ?_)
    match a with
    | ⟨0, _⟩ => show 1024 + 1 * (x 1 : ℕ) = (k : ℕ); omega
    | ⟨1, _⟩ => rfl
  · refine congrArg G (funext fun a => Fin.ext ?_)
    match a with
    | ⟨0, _⟩ => rfl
    | ⟨1, _⟩ => show 1024 + 1 * (x 1 : ℕ) = (k : ℕ); omega
    | ⟨2, _⟩ => show 256 + 1 * (x 0 : ℕ) = (q : ℕ); omega

theorem store_3_0 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 0 + x 0) (hk : (k : ℕ) = 1536 + x 1) :
    k0_pay23 (F := Ideal) (View.ld X (Rect.unit ![1536, 0] ![512, 2048] inb_S2048x2048_S512x2048_1536_0))
      (View.ld (rounded A) (Rect.unit ![0, 0] ![2048, 256] inb_S2048x512_S2048x256_0_0))
      (View.ld B (Rect.unit ![1536, 0] ![512, 1] inb_S2048x1_S512x1_1536_0))
      (View.ld (active A) (Rect.unit ![1536, 0] ![512, 256] inb_S2048x512_S512x256_1536_0))
      (View.ld G (Rect.unit ![0, 1536, 0] ![1, 512, 256] inb_S1x2048x512_S1x512x256_0_1536_0)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 1536 + 1 * (x 1 : ℕ); omega
    · show (q : ℕ) = 0 + 1 * (x 0 : ℕ); omega
  · refine congrArg X (funext fun a => Fin.ext ?_)
    match a with
    | ⟨0, _⟩ => show 1536 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 0 + 1 * (x 0 : ℕ); omega
  · refine congrArg B (funext fun a => Fin.ext ?_)
    match a with
    | ⟨0, _⟩ => show 1536 + 1 * (x 1 : ℕ) = (k : ℕ); omega
    | ⟨1, _⟩ => rfl
  · refine congrArg G (funext fun a => Fin.ext ?_)
    match a with
    | ⟨0, _⟩ => rfl
    | ⟨1, _⟩ => show 1536 + 1 * (x 1 : ℕ) = (k : ℕ); omega
    | ⟨2, _⟩ => show 0 + 1 * (x 0 : ℕ) = (q : ℕ); omega

theorem store_3_1 (A : Vec Ideal S1x2048x512 .bf16) (B : Vec Ideal S2048x1 .f32) (G : Vec Ideal S1x2048x512 .bf16) (X : Vec Ideal S2048x2048 .bf16)
    (x : S256x512.Idx) (q : Fin 512) (k : Fin 2048) (hq : (q : ℕ) = 256 + x 0) (hk : (k : ℕ) = 1536 + x 1) :
    k0_pay23 (F := Ideal) (View.ld X (Rect.unit ![1536, 0] ![512, 2048] inb_S2048x2048_S512x2048_1536_0))
      (View.ld (rounded A) (Rect.unit ![0, 256] ![2048, 256] inb_S2048x512_S2048x256_0_256))
      (View.ld B (Rect.unit ![1536, 0] ![512, 1] inb_S2048x1_S512x1_1536_0))
      (View.ld (active A) (Rect.unit ![1536, 256] ![512, 256] inb_S2048x512_S512x256_1536_256))
      (View.ld G (Rect.unit ![0, 1536, 256] ![1, 512, 256] inb_S1x2048x512_S1x512x256_0_1536_256)) x
      = gated (gelu (A (ix3 0 k q))) (∑ e : Fin 2048, X (ix2 k e) * gelu (A (ix3 0 e q)) + B (ix2 k 0)) (G (ix3 0 k q)) := by
  rw [eq_ix2 x]
  refine (gate_at _ _ _ _ _ _ _).trans (gated_congr ?_ (congrArg₂ (· + ·) (Finset.sum_congr rfl fun e _ => congrArg₂ (· * ·) ?_ ?_) ?_) ?_)
  · refine active_at A _ k q ?_ ?_
    · show (k : ℕ) = 1536 + 1 * (x 1 : ℕ); omega
    · show (q : ℕ) = 256 + 1 * (x 0 : ℕ); omega
  · refine congrArg X (funext fun a => Fin.ext ?_)
    match a with
    | ⟨0, _⟩ => show 1536 + 1 * (x 1 : ℕ) = (k : ℕ); omega
    | ⟨1, _⟩ => show 0 + 1 * (e : ℕ) = (e : ℕ); omega
  · refine rounded_at A _ e q ?_ ?_
    · show (e : ℕ) = 0 + 1 * (e : ℕ); omega
    · show (q : ℕ) = 256 + 1 * (x 0 : ℕ); omega
  · refine congrArg B (funext fun a => Fin.ext ?_)
    match a with
    | ⟨0, _⟩ => show 1536 + 1 * (x 1 : ℕ) = (k : ℕ); omega
    | ⟨1, _⟩ => rfl
  · refine congrArg G (funext fun a => Fin.ext ?_)
    match a with
    | ⟨0, _⟩ => rfl
    | ⟨1, _⟩ => show 1536 + 1 * (x 1 : ℕ) = (k : ℕ); omega
    | ⟨2, _⟩ => show 256 + 1 * (x 0 : ℕ) = (q : ℕ); omega

theorem stores_of (A : Vec Ideal S1x2048x512 .bf16) (B : Vec Ideal S2048x1 .f32) (G : Vec Ideal S1x2048x512 .bf16) (X : Vec Ideal S2048x2048 .bf16)
    (y : S512x2048.Idx) (q : Fin 512) (k : Fin 2048) (hq : (q : ℕ) = y 0) (hk : (k : ℕ) = y 1) :
    stores A B G X y
      = gated (gelu (A (ix3 0 k q))) (∑ e : Fin 2048, X (ix2 k e) * gelu (A (ix3 0 e q)) + B (ix2 k 0)) (G (ix3 0 k q)) := by
  unfold stores
  canon_tiles x h
  · exact store_3_1 A B G X x q k (by omega) (by omega)
  · exact store_2_1 A B G X x q k (by omega) (by omega)
  · exact store_1_1 A B G X x q k (by omega) (by omega)
  · exact store_0_1 A B G X x q k (by omega) (by omega)
  · exact store_3_0 A B G X x q k (by omega) (by omega)
  · exact store_2_0 A B G X x q k (by omega) (by omega)
  · exact store_1_0 A B G X x q k (by omega) (by omega)
  · exact store_0_0 A B G X x q k (by omega) (by omega)

theorem stores_at (c : Dev nD) (t : Fin cfg0.N) (X : Vec Ideal S2048x2048 .bf16) (hX : Holds m c X)
    (y : S512x2048.Idx) (r : Fin 8192) (k : Fin 2048) (hr : (r : ℕ) = y 0 * 16 + t.val) (hk : (k : ℕ) = y 1) :
    stores (iblk m c 0 t) (iblk m c 2 t) (iblk m c 3 t) X y = result m c r k := by
  refine (stores_of _ _ _ X y (y 0) k rfl hk).trans ?_
  refine gated_congr (congrArg gelu (y_at m c t k _ r hr)) (congrArg₂ (· + ·) (Finset.sum_congr rfl fun e _ => ?_) (b_at m c t k)) (g_at m c t k _ r hr)
  refine (mul_comm _ _).trans ?_
  exact congrArg₂ (· * ·) (congrArg gelu (y_at m c t e _ r hr)) (hX k e)

theorem final (c : Dev nD) : (dats m 0 c).arrAt 4 (cfgs 0).N
    = fun i : S512x32768.Idx => result m c (⟨(i 0).val * 16 + (i 1).val / 2048, by have h0 : (i 0).val < 512 := (i 0).isLt; have h1 : (i 1).val < 32768 := (i 1).isLt; omega⟩ : Fin 8192) (⟨(i 1).val % 2048, by omega⟩ : Fin 2048) := by
  refine (dats m 0 c).arrAt_eq_of_covers 4 _ (by decide +kernel) fun t _ y => ?_
  blk_simp
  rw [after0_4]
  by_cases h0 : t.val % 16 = 0
  · rw [stored_first m c t h0]
    exact stores_at m c t _ (filled_holds m c t) y _ _ (by blk_simp [places t]; dsimp only; have h1 : (y 1).val < 2048 := (y 1).isLt; omega) (by blk_simp [places t]; dsimp only; have h1 : (y 1).val < 2048 := (y 1).isLt; omega)
  · rw [stored_later m c t h0]
    exact stores_at m c t _ (held m c _ _) y _ _ (by blk_simp [places t]; dsimp only; have h1 : (y 1).val < 2048 := (y 1).isLt; omega) (by blk_simp [places t]; dsimp only; have h1 : (y 1).val < 2048 := (y 1).isLt; omega)

end Cert.KernelGluIdeal.Gated

end
-- ==== Proof.GluReference.lean ====
/- The reference's gated linear unit, entry by entry. -/
module

public import proofs.«01_k».proof.Proof.GluValue
public import proofs.«01_k».proof.Proof.Gen.ReferenceGluIdeal.Run

@[expose] public section

set_option maxRecDepth 16384

noncomputable section

open Idealize.ShloMosaic Idealize.ShloMosaic.TcCoe Idealize.SL.Sem

namespace Cert.ReferenceGluIdeal.Entries

open Cert.ReferenceGluIdeal Cert.ReferenceGluIdeal.Gen Cert.Rows Cert.Gates Cert.KernelGluIdeal.Gated

/-- A constant over the tokens. -/
def all (w : BitVec 32) : FVec Ideal S2x4096x2048 .f32 := broadcastInDim S2x4096x2048 ![] bcast_S_S2x4096x2048 (constant S_ .f32 w)

/-- The reference's activations. -/
def act (y : FVec Ideal S2x4096x2048 .f32) : FVec Ideal S2x4096x2048 .f32 :=
  mulf y (mulf (all 0x3F000000#32) (addf (all 0x3F800000#32) (Host.tanh (mulf (all 0x3F4C422A#32) (addf y (mulf (all 0x3D372713#32) (mulf (mulf y y) y)))))))

/-- The reference's sigmoid. -/
def sig (x : FVec Ideal S2x4096x2048 .f32) : FVec Ideal S2x4096x2048 .f32 :=
  Host.divf (all 0x3F800000#32) (addf (all 0x3F800000#32) (Host.exp (Host.negf x)))

/-- The reference's argument of the gate. -/
def lin (z : FVec Ideal S2x4096x2048 .f32) (w : FVec Ideal S1x2048x2048 .f32) (b : FVec Ideal S1x2048 .f32) : FVec Ideal S2x4096x2048 .f32 :=
  addf (Host.dotGeneral dot_S2x4096x2048_S2048x2048_S2x4096x2048_2_0_01_1_n_n none z (shapeCast S2048x2048 w shapeCasts_S1x2048x2048_S2048x2048))
    (broadcastInDim S2x4096x2048 ![0, 1, 2] bcast_S1x1x2048_S2x4096x2048_0_1_2 (broadcastInDim S1x1x2048 ![2] bcast_S2048_S1x1x2048_2 (shapeCast S2048 b shapeCasts_S1x2048_S2048)))

/-- The reference's result. -/
def whole (y g : FVec Ideal S2x4096x2048 .f32) (w : FVec Ideal S1x2048x2048 .f32) (b : FVec Ideal S1x2048 .f32) : FVec Ideal S512x32768 .bf16 :=
  shapeCast S512x32768 (truncf .bf16 (mulf (mulf (act y) (sig (lin (act y) w b))) (mulf g (sig g))) bitsLt_bf16_f32) shapeCasts_S2x4096x2048_S512x32768

theorem act_at (y : FVec Ideal S2x4096x2048 .f32) (r : Fin 8192) (k : Fin 2048) : row (act y) r k = gelu (row y r k) := by
  unfold row gelu act all
  pointwise

theorem sig_at (x : FVec Ideal S2x4096x2048 .f32) (r : Fin 8192) (k : Fin 2048) : row (sig x) r k = sigmoid (row x r k) := by
  unfold row sigmoid sig all
  pointwise

theorem lin_at (z : FVec Ideal S2x4096x2048 .f32) (w : FVec Ideal S1x2048x2048 .f32) (b : FVec Ideal S1x2048 .f32) (r : Fin 8192) (k : Fin 2048) :
    row (lin z w b) r k = ∑ e : Fin 2048, row z r e * w (ix3 0 e k) + b (ix2 0 k) := by
  unfold row lin
  pointwise

theorem product_at (a s g h : FVec Ideal S2x4096x2048 .f32) (i : S512x32768.Idx) (r : Fin 8192) (k : Fin 2048)
    (hr : (r : ℕ) = i 0 * 16 + i 1 / 2048) (hk : (k : ℕ) = i 1 % 2048) :
    (shapeCast S512x32768 (truncf .bf16 (mulf (mulf a s) (mulf g h)) bitsLt_bf16_f32) shapeCasts_S2x4096x2048_S512x32768 : FVec Ideal S512x32768 .bf16) i
      = row a r k * row s r k * (row g r k * row h r k) := by
  have h0 : (i 0 : ℕ) < 512 := (i 0).isLt
  have h1 : (i 1 : ℕ) < 32768 := (i 1).isLt
  have e : (ix3 ⟨(i 0 : ℕ) / 256, by omega⟩ ⟨(i 0 : ℕ) % 256 * 16 + (i 1 : ℕ) / 2048, by omega⟩ ⟨(i 1 : ℕ) % 2048, by omega⟩ : S2x4096x2048.Idx)
      = ix3 ⟨(r : ℕ) / 4096, by omega⟩ ⟨(r : ℕ) % 4096, by omega⟩ k := by
    refine funext fun a => Fin.ext ?_
    match a with
    | ⟨0, _⟩ => show (i 0 : ℕ) / 256 = (r : ℕ) / 4096; omega
    | ⟨1, _⟩ => show (i 0 : ℕ) % 256 * 16 + (i 1 : ℕ) / 2048 = (r : ℕ) % 4096; omega
    | ⟨2, _⟩ => exact hk.symm
  unfold row
  pointwise
  rw [e]

theorem whole_at (y g : FVec Ideal S2x4096x2048 .f32) (w : FVec Ideal S1x2048x2048 .f32) (b : FVec Ideal S1x2048 .f32) (i : S512x32768.Idx) (r : Fin 8192) (k : Fin 2048)
    (hr : (r : ℕ) = i 0 * 16 + i 1 / 2048) (hk : (k : ℕ) = i 1 % 2048) :
    whole y g w b i = entry y g w b r k := by
  unfold whole entry gated
  refine (product_at _ _ _ _ i r k hr hk).trans ?_
  simp only [act_at, sig_at, lin_at]

end Cert.ReferenceGluIdeal.Entries

end
-- ==== Proof.GluAgree.lean ====
/- The gated linear unit against the reference's: the run reads off its array, and they agree entry by entry. -/
module

public import proofs.«01_k».proof.Defs
public import proofs.«01_k».proof.Proof.GluReference

@[expose] public section

set_option maxRecDepth 200000

noncomputable section

open Idealize.ShloMosaic Idealize.ShloMosaic.TcCoe Idealize.SL.Sem

namespace Cert.Proof

theorem algebraic_glu : Cert.algebraic_KernelGluIdeal_ReferenceGluIdeal := by
  pair_intro
  · run_from Cert.KernelGluIdeal.Gen.run_main m g
  · run_from Cert.ReferenceGluIdeal.Value.run m' g'
    rw [Cert.KernelGluIdeal.Gated.final m c]
    funext i
    exact Cert.ReferenceGluIdeal.Entries.whole_at _ _ _ _ i _ _ rfl rfl

end Cert.Proof

end
-- ==== Proof.MidValue.lean ====
/- The output product of the attention layers with its residual and the norm after it: the rows of both results. -/
module

public import proofs.«01_k».proof.Proof.Rows
public import proofs.«01_k».proof.Proof.Gen.KernelMidIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMidIdeal.Regrouped

open Cert.KernelMidIdeal Cert.KernelMidIdeal.Gen Cert.Rows

/-- The row of a part that token row `r` comes from. -/
def source (r : Fin 256) : Fin 256 := ⟨r.val % 16 * 16 + r.val / 16, by omega⟩

/-- The matrix of zeros and ones that puts the rows of a part in the order of their places in a chunk. -/
def perm : FVec Ideal S256x256 .bf16 :=
  k0_pay14 (F := Ideal) (iota Kind.tc S256x256 32 [0] iota_S256x256_d0_w32) (iota Kind.tc S256x256 32 [1] iota_S256x256_d1_w32) 16#32 k0_pay13

theorem pick (r k : Fin 256) (X : BitVec 32) (h : X = BitVec.ofNat 32 (source r).val) :
    Scalar.select (IntOp.cmpi CmpIPredicate.eq (BitVec.ofNat 32 k.val) X) (1 : EReal) 0 = if k = source r then 1 else 0 := by
  subst h
  have hk : BitVec.ofNat 32 k.val = BitVec.ofNat 32 (source r).val ↔ k = source r := by
    rw [Fin.ext_iff, ← BitVec.toNat_inj, BitVec.toNat_ofNat, BitVec.toNat_ofNat]
    have := k.isLt
    have := (source r).isLt
    omega
  by_cases e : k = source r
  · rw [if_pos e, e]; simp [Scalar.select, IntOp.cmpi]
  · rw [if_neg e]
    have hb : (BitVec.ofNat 32 k.val == BitVec.ofNat 32 (source r).val) = false := beq_eq_false_iff_ne.mpr fun h => e (hk.mp h)
    simp [Scalar.select, IntOp.cmpi, hb]

theorem perm_at (r k : Fin 256) : perm (ix2 r k) = if k = source r then 1 else 0 := by
  pointwise [perm, k0_pay14, k0_pay13]
  refine pick r k _ ?_
  clear k
  revert r
  decide +kernel

theorem one_row (r : Fin 256) (f : Fin 256 → EReal) : ∑ k : Fin 256, perm (ix2 r k) * f k = f (source r) := by
  rw [Finset.sum_eq_single (source r)]
  · rw [perm_at, if_pos rfl, one_mul]
  · intro k _ hk
    rw [perm_at, if_neg hk, zero_mul]
  · exact fun h => absurd (Finset.mem_univ _) h

theorem reordered (C : FVec Ideal S256x2048 .bf16) (r : Fin 256) (e : Fin 2048) :
    (truncf .bf16 (matmul dot_S256x256_S256x2048_S256x2048_1_0_0_1_n_n none perm C (constant S256x2048 .f32 0x00000000#32)) bitsLt_bf16_f32 : FVec Ideal S256x2048 .bf16) (ix2 r e)
      = C (ix2 (source r) e) := by
  pointwise
  exact one_row r _

variable (m : (ℓ : Loc nD τ sig) → Buf (Elt Ideal) ℓ)

theorem places : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] :=
  (by decide +kernel : ∀ t : Fin grid0.N, _)

/-- What the first point writes over the scratch buffer: the weight, quarter by quarter. -/
def filled (c : Dev nD) (t : Fin cfg0.N) : Vec Ideal S2048x2048 .bf16 :=
  View.canon
    [⟨Rect.unit ![1536, 0] ![512, 2048] inb_S2048x2048_S512x2048_1536_0,
        k0_pay10 (View.ld (iblk m c 2 t) (Rect.unit ![1536, 0] ![512, 2048] inb_S2048x2048_S512x2048_1536_0))⟩,
      ⟨Rect.unit ![1024, 0] ![512, 2048] inb_S2048x2048_S512x2048_1024_0,
        k0_pay9 (View.ld (iblk m c 2 t) (Rect.unit ![1024, 0] ![512, 2048] inb_S2048x2048_S512x2048_1024_0))⟩,
      ⟨Rect.unit ![512, 0] ![512, 2048] inb_S2048x2048_S512x2048_512_0,
        k0_pay8 (View.ld (iblk m c 2 t) (Rect.unit ![512, 0] ![512, 2048] inb_S2048x2048_S512x2048_512_0))⟩,
      ⟨Rect.unit ![0, 0] ![512, 2048] inb_S2048x2048_S512x2048_0_0,
        k0_pay7 (View.ld (iblk m c 2 t) (Rect.unit ![0, 0] ![512, 2048] inb_S2048x2048_S512x2048_0_0))⟩]

/-- `X` is the weight. -/
def Holds (c : Dev nD) (X : Vec Ideal S2048x2048 .bf16) : Prop :=
  ∀ (e k : Fin 2048), X (ix2 e k) = m ((c : Thread nD τ).loc main_arg2) (ix3 0 e k)

theorem filled_at (c : Dev nD) (t : Fin cfg0.N) (y : S2048x2048.Idx) (e k : Fin 2048) (he : (e : ℕ) = y 0) (hk : (k : ℕ) = y 1) :
    filled m c t y = m ((c : Thread nD τ).loc main_arg2) (ix3 0 e k) := by
  unfold filled
  canon_tiles x h
  all_goals (open_payloads; pointwise; blk_point [iblk, V, places t])

theorem filled_holds (c : Dev nD) (t : Fin cfg0.N) : Holds m c (filled m c t) :=
  fun e k => filled_at m c t _ e k rfl rfl

theorem left_first (c : Dev nD) (t : Fin cfg0.N) (h0 : t.val % 16 = 0) : (outsAt0 m c t.val t.isLt).2.2 = filled m c t := by
  funext y
  rw [outsAt0_A m c t h0]
  frame_out
  rfl

/-- The scratch buffer after any point: the weight. -/
theorem held (c : Dev nD) : ∀ (n : ℕ) (hn : n < cfg0.N), Holds m c (outsAt0 m c n hn).2.2 := by
  intro n
  induction n with
  | zero =>
    intro hn
    rw [left_first m c ⟨0, hn⟩ (Nat.zero_mod _)]
    exact filled_holds m c ⟨0, hn⟩
  | succ n ih =>
    intro hn
    by_cases h0 : (n + 1) % 16 = 0
    · rw [left_first m c ⟨n + 1, hn⟩ h0]
      exact filled_holds m c ⟨n + 1, hn⟩
    · rw [outsAt0_B m c ⟨n + 1, hn⟩ h0]
      exact ih (Nat.lt_of_succ_lt hn)

/-- A token's row of the first result: its residual row plus the products of both attention outputs with their halves of the weight. -/
def mixed (o₁ o₂ : FVec Ideal S8192x1024 .bf16) (W : FVec Ideal S1x2048x2048 .f32) (x : FVec Ideal S2x4096x2048 .f32) (r : Fin 8192) (k : Fin 2048) : EReal :=
  row x r k + ∑ e : Fin 1024, o₁ (ix2 r e) * W (ix3 0 ⟨e.val, by omega⟩ k) + ∑ e : Fin 1024, o₂ (ix2 r e) * W (ix3 0 ⟨1024 + e.val, by omega⟩ k)

/-- Entry `k` of token `r` of the norm. -/
def normed (f : Fin 8192 → Fin 2048 → EReal) (g : FVec Ideal S1x2048 .f32) (r : Fin 8192) (k : Fin 2048) : EReal :=
  f r k * rmsScale (f r) * g (ix2 0 k)

/-- The sums of one part of 256 rows. -/
def sums0 (A₁ A₂ : Vec Ideal S512x1024 .bf16) (B : Vec Ideal S512x2048 .f32) (X : Vec Ideal S2048x2048 .bf16) : FVec Ideal S256x2048 .f32 :=
  k0_pay11 (View.ld B (Rect.unit ![0, 0] ![256, 2048] inb_S512x2048_S256x2048_0_0))
    (View.ld A₁ (Rect.unit ![0, 0] ![256, 1024] inb_S512x1024_S256x1024_0_0))
    (View.ld X (Rect.unit ![0, 0] ![1024, 2048] inb_S2048x2048_S1024x2048_0_0))
    (View.ld A₂ (Rect.unit ![0, 0] ![256, 1024] inb_S512x1024_S256x1024_0_0))
    (View.ld X (Rect.unit ![1024, 0] ![1024, 2048] inb_S2048x2048_S1024x2048_1024_0))

def sums1 (A₁ A₂ : Vec Ideal S512x1024 .bf16) (B : Vec Ideal S512x2048 .f32) (X : Vec Ideal S2048x2048 .bf16) : FVec Ideal S256x2048 .f32 :=
  k0_pay11 (View.ld B (Rect.unit ![256, 0] ![256, 2048] inb_S512x2048_S256x2048_256_0))
    (View.ld A₁ (Rect.unit ![256, 0] ![256, 1024] inb_S512x1024_S256x1024_256_0))
    (View.ld X (Rect.unit ![0, 0] ![1024, 2048] inb_S2048x2048_S1024x2048_0_0))
    (View.ld A₂ (Rect.unit ![256, 0] ![256, 1024] inb_S512x1024_S256x1024_256_0))
    (View.ld X (Rect.unit ![1024, 0] ![1024, 2048] inb_S2048x2048_S1024x2048_1024_0))

theorem sums0_at (A₁ A₂ : Vec Ideal S512x1024 .bf16) (B : Vec Ideal S512x2048 .f32) (X : Vec Ideal S2048x2048 .bf16) (r : Fin 256) (k : Fin 2048) :
    sums0 A₁ A₂ B X (ix2 r k) = B (ix2 (⟨r.val, by omega⟩ : Fin 512) k)
      + ∑ e : Fin 1024, A₁ (ix2 (⟨r.val, by omega⟩ : Fin 512) e) * X (ix2 (⟨e.val, by omega⟩ : Fin 2048) k)
      + ∑ e : Fin 1024, A₂ (ix2 (⟨r.val, by omega⟩ : Fin 512) e) * X (ix2 (⟨1024 + e.val, by omega⟩ : Fin 2048) k) := by
  pointwise [sums0, k0_pay11]

theorem sums1_at (A₁ A₂ : Vec Ideal S512x1024 .bf16) (B : Vec Ideal S512x2048 .f32) (X : Vec Ideal S2048x2048 .bf16) (r : Fin 256) (k : Fin 2048) :
    sums1 A₁ A₂ B X (ix2 r k) = B (ix2 (⟨256 + r.val, by omega⟩ : Fin 512) k)
      + ∑ e : Fin 1024, A₁ (ix2 (⟨256 + r.val, by omega⟩ : Fin 512) e) * X (ix2 (⟨e.val, by omega⟩ : Fin 2048) k)
      + ∑ e : Fin 1024, A₂ (ix2 (⟨256 + r.val, by omega⟩ : Fin 512) e) * X (ix2 (⟨1024 + e.val, by omega⟩ : Fin 2048) k) := by
  pointwise [sums1, k0_pay11]

theorem grouped_at (A : FVec Ideal S256x2048 .f32) (G : Vec Ideal S1x2048 .f32) (r : Fin 256) (k : Fin 2048) :
    k0_pay15 (F := Ideal) A perm G (ix2 r k) = A (ix2 (source r) k) * rmsScale (fun k => A (ix2 (source r) k)) * G (ix2 0 k) := by
  unfold k0_pay15
  refine (reordered _ r k).trans ?_
  generalize source r = q
  pointwise [rmsScale]

theorem readback (v : View sig Kind.tc Space.vmem S2048x2048 .bf16) (L : List (View.Piece (Elt Ideal) S2048x2048 .bf16)) (r : Rect S2048x2048) :
    v.readCov L r.toLoadRect = View.ld (View.canon L) r :=
  View.readCov_eq_canon' v L _

theorem reread (h : (scM0_0).IsWhole) (X : Vec Ideal S2048x2048 .bf16) :
    View.read (Elt Ideal) (View.whole cc0_scratch0) (h.unread X) = X :=
  h.read_unread X

/-- The two stores of a point into the first result. -/
def halves (A₁ A₂ : Vec Ideal S512x1024 .bf16) (B : Vec Ideal S512x2048 .f32) (X : Vec Ideal S2048x2048 .bf16) : Vec Ideal S512x2048 .f32 :=
  View.canon
    [⟨Rect.unit ![256, 0] ![256, 2048] inb_S512x2048_S256x2048_256_0, sums1 A₁ A₂ B X⟩,
      ⟨Rect.unit ![0, 0] ![256, 2048] inb_S512x2048_S256x2048_0_0, sums0 A₁ A₂ B X⟩]

/-- Rows `o` to `o + 15` of a part. -/
def cut (o : ℕ) (h : S256x2048.Slices ![o, 0] S16x2048) (v : FVec Ideal S256x2048 .bf16) : FVec Ideal S16x2048 .bf16 :=
  extractStridedSlice S16x2048 ![o, 0] v h

/-- The thirty-two stores of a point into the second result: sixteen of each part. -/
def places16 (U V : FVec Ideal S256x2048 .bf16) : Vec Ideal S32x32768 .bf16 :=
  View.canon
    [⟨Rect.unit ![16, 30720] ![16, 2048] inb_S32x32768_S16x2048_16_30720, cut 240 slices_S256x2048_o240_0_S16x2048 V⟩,
      ⟨Rect.unit ![16, 28672] ![16, 2048] inb_S32x32768_S16x2048_16_28672, cut 224 slices_S256x2048_o224_0_S16x2048 V⟩,
      ⟨Rect.unit ![16, 26624] ![16, 2048] inb_S32x32768_S16x2048_16_26624, cut 208 slices_S256x2048_o208_0_S16x2048 V⟩,
      ⟨Rect.unit ![16, 24576] ![16, 2048] inb_S32x32768_S16x2048_16_24576, cut 192 slices_S256x2048_o192_0_S16x2048 V⟩,
      ⟨Rect.unit ![16, 22528] ![16, 2048] inb_S32x32768_S16x2048_16_22528, cut 176 slices_S256x2048_o176_0_S16x2048 V⟩,
      ⟨Rect.unit ![16, 20480] ![16, 2048] inb_S32x32768_S16x2048_16_20480, cut 160 slices_S256x2048_o160_0_S16x2048 V⟩,
      ⟨Rect.unit ![16, 18432] ![16, 2048] inb_S32x32768_S16x2048_16_18432, cut 144 slices_S256x2048_o144_0_S16x2048 V⟩,
      ⟨Rect.unit ![16, 16384] ![16, 2048] inb_S32x32768_S16x2048_16_16384, cut 128 slices_S256x2048_o128_0_S16x2048 V⟩,
      ⟨Rect.unit ![16, 14336] ![16, 2048] inb_S32x32768_S16x2048_16_14336, cut 112 slices_S256x2048_o112_0_S16x2048 V⟩,
      ⟨Rect.unit ![16, 12288] ![16, 2048] inb_S32x32768_S16x2048_16_12288, cut 96 slices_S256x2048_o96_0_S16x2048 V⟩,
      ⟨Rect.unit ![16, 10240] ![16, 2048] inb_S32x32768_S16x2048_16_10240, cut 80 slices_S256x2048_o80_0_S16x2048 V⟩,
      ⟨Rect.unit ![16, 8192] ![16, 2048] inb_S32x32768_S16x2048_16_8192, cut 64 slices_S256x2048_o64_0_S16x2048 V⟩,
      ⟨Rect.unit ![16, 6144] ![16, 2048] inb_S32x32768_S16x2048_16_6144, cut 48 slices_S256x2048_o48_0_S16x2048 V⟩,
      ⟨Rect.unit ![16, 4096] ![16, 2048] inb_S32x32768_S16x2048_16_4096, cut 32 slices_S256x2048_o32_0_S16x2048 V⟩,
      ⟨Rect.unit ![16, 2048] ![16, 2048] inb_S32x32768_S16x2048_16_2048, cut 16 slices_S256x2048_o16_0_S16x2048 V⟩,
      ⟨Rect.unit ![16, 0] ![16, 2048] inb_S32x32768_S16x2048_16_0, cut 0 slices_S256x2048_o0_0_S16x2048 V⟩,
      ⟨Rect.unit ![0, 30720] ![16, 2048] inb_S32x32768_S16x2048_0_30720, cut 240 slices_S256x2048_o240_0_S16x2048 U⟩,
      ⟨Rect.unit ![0, 28672] ![16, 2048] inb_S32x32768_S16x2048_0_28672, cut 224 slices_S256x2048_o224_0_S16x2048 U⟩,
      ⟨Rect.unit ![0, 26624] ![16, 2048] inb_S32x32768_S16x2048_0_26624, cut 208 slices_S256x2048_o208_0_S16x2048 U⟩,
      ⟨Rect.unit ![0, 24576] ![16, 2048] inb_S32x32768_S16x2048_0_24576, cut 192 slices_S256x2048_o192_0_S16x2048 U⟩,
      ⟨Rect.unit ![0, 22528] ![16, 2048] inb_S32x32768_S16x2048_0_22528, cut 176 slices_S256x2048_o176_0_S16x2048 U⟩,
      ⟨Rect.unit ![0, 20480] ![16, 2048] inb_S32x32768_S16x2048_0_20480, cut 160 slices_S256x2048_o160_0_S16x2048 U⟩,
      ⟨Rect.unit ![0, 18432] ![16, 2048] inb_S32x32768_S16x2048_0_18432, cut 144 slices_S256x2048_o144_0_S16x2048 U⟩,
      ⟨Rect.unit ![0, 16384] ![16, 2048] inb_S32x32768_S16x2048_0_16384, cut 128 slices_S256x2048_o128_0_S16x2048 U⟩,
      ⟨Rect.unit ![0, 14336] ![16, 2048] inb_S32x32768_S16x2048_0_14336, cut 112 slices_S256x2048_o112_0_S16x2048 U⟩,
      ⟨Rect.unit ![0, 12288] ![16, 2048] inb_S32x32768_S16x2048_0_12288, cut 96 slices_S256x2048_o96_0_S16x2048 U⟩,
      ⟨Rect.unit ![0, 10240] ![16, 2048] inb_S32x32768_S16x2048_0_10240, cut 80 slices_S256x2048_o80_0_S16x2048 U⟩,
      ⟨Rect.unit ![0, 8192] ![16, 2048] inb_S32x32768_S16x2048_0_8192, cut 64 slices_S256x2048_o64_0_S16x2048 U⟩,
      ⟨Rect.unit ![0, 6144] ![16, 2048] inb_S32x32768_S16x2048_0_6144, cut 48 slices_S256x2048_o48_0_S16x2048 U⟩,
      ⟨Rect.unit ![0, 4096] ![16, 2048] inb_S32x32768_S16x2048_0_4096, cut 32 slices_S256x2048_o32_0_S16x2048 U⟩,
      ⟨Rect.unit ![0, 2048] ![16, 2048] inb_S32x32768_S16x2048_0_2048, cut 16 slices_S256x2048_o16_0_S16x2048 U⟩,
      ⟨Rect.unit ![0, 0] ![16, 2048] inb_S32x32768_S16x2048_0_0, cut 0 slices_S256x2048_o0_0_S16x2048 U⟩]

theorem cut_at (o : ℕ) (h : S256x2048.Slices ![o, 0] S16x2048) (v : FVec Ideal S256x2048 .bf16) (i : Fin 16) (e : Fin 2048) (ho : o + i.val < 256) :
    cut o h v (ix2 i e) = v (ix2 ⟨o + i.val, ho⟩ e) := by
  pointwise [cut]

theorem first_later (c : Dev nD) (t : Fin cfg0.N) (h0 : ¬ t.val % 16 = 0) :
    (outsAt0 m c t.val t.isLt).1
      = halves (iblk m c 0 t) (iblk m c 1 t) (iblk m c 3 t) (outsAt0 m c (t.val - 1) (Nat.lt_of_le_of_lt (Nat.sub_le _ _) t.isLt)).2.2 := by
  funext y
  rw [outsAt0_B m c t h0]
  frame_out
  simp only [reread]
  rfl

theorem first_first (c : Dev nD) (t : Fin cfg0.N) (h0 : t.val % 16 = 0) :
    (outsAt0 m c t.val t.isLt).1 = halves (iblk m c 0 t) (iblk m c 1 t) (iblk m c 3 t) (filled m c t) := by
  funext y
  rw [outsAt0_A m c t h0]
  frame_out
  simp only [readback]
  rfl

/-- The second result's block of a point. -/
def regrouped (A₁ A₂ : Vec Ideal S512x1024 .bf16) (B : Vec Ideal S512x2048 .f32) (X : Vec Ideal S2048x2048 .bf16) (G : Vec Ideal S1x2048 .f32) : Vec Ideal S32x32768 .bf16 :=
  places16 (k0_pay15 (sums0 A₁ A₂ B X) perm G) (k0_pay15 (sums1 A₁ A₂ B X) perm G)

theorem second_later (c : Dev nD) (t : Fin cfg0.N) (h0 : ¬ t.val % 16 = 0) :
    (outsAt0 m c t.val t.isLt).2.1
      = regrouped (iblk m c 0 t) (iblk m c 1 t) (iblk m c 3 t) (outsAt0 m c (t.val - 1) (Nat.lt_of_le_of_lt (Nat.sub_le _ _) t.isLt)).2.2 (iblk m c 4 t) := by
  funext y
  rw [outsAt0_B m c t h0]
  frame_out
  simp only [reread]
  rfl

theorem second_first (c : Dev nD) (t : Fin cfg0.N) (h0 : t.val % 16 = 0) :
    (outsAt0 m c t.val t.isLt).2.1 = regrouped (iblk m c 0 t) (iblk m c 1 t) (iblk m c 3 t) (filled m c t) (iblk m c 4 t) := by
  funext y
  rw [outsAt0_A m c t h0]
  frame_out
  simp only [readback]
  rfl

/-- The first result's sums, of the arrays as they are at the start. -/
def mixedOf (c : Dev nD) : Fin 8192 → Fin 2048 → EReal :=
  mixed (m ((c : Thread nD τ).loc main_arg0)) (m ((c : Thread nD τ).loc main_arg1)) (m ((c : Thread nD τ).loc main_arg2)) (m ((c : Thread nD τ).loc main_arg3))

theorem a_at (c : Dev nD) (t : Fin cfg0.N) (p : Fin 512) (r : Fin 8192) (e : Fin 1024) (h : (r : ℕ) = t.val * 512 + p) :
    (show FVec Ideal S512x1024 .bf16 from iblk m c 0 t) (ix2 p e) = (show FVec Ideal S8192x1024 .bf16 from m ((c : Thread nD τ).loc main_arg0)) (ix2 r e) := by
  blk_point [iblk, V, places t]

theorem b_at (c : Dev nD) (t : Fin cfg0.N) (p : Fin 512) (r : Fin 8192) (e : Fin 1024) (h : (r : ℕ) = t.val * 512 + p) :
    (show FVec Ideal S512x1024 .bf16 from iblk m c 1 t) (ix2 p e) = (show FVec Ideal S8192x1024 .bf16 from m ((c : Thread nD τ).loc main_arg1)) (ix2 r e) := by
  blk_point [iblk, V, places t]

theorem x_at (c : Dev nD) (t : Fin cfg0.N) (p : Fin 512) (r : Fin 8192) (e : Fin 2048) (h : (r : ℕ) = t.val * 512 + p) :
    (show FVec Ideal S512x2048 .f32 from iblk m c 3 t) (ix2 p e) = row (show FVec Ideal S2x4096x2048 .f32 from m ((c : Thread nD τ).loc main_arg3)) r e := by
  unfold row
  blk_point [iblk, V, places t]

theorem g_at (c : Dev nD) (t : Fin cfg0.N) (e : Fin 2048) :
    (show FVec Ideal S1x2048 .f32 from iblk m c 4 t) (ix2 0 e) = (show FVec Ideal S1x2048 .f32 from m ((c : Thread nD τ).loc main_arg4)) (ix2 0 e) := by
  blk_point [iblk, V, places t]

theorem part0_at (c : Dev nD) (t : Fin cfg0.N) (X : Vec Ideal S2048x2048 .bf16) (hX : Holds m c X) (q : Fin 256) (r : Fin 8192) (k : Fin 2048)
    (hr : (r : ℕ) = t.val * 512 + 0 + q) :
    sums0 (iblk m c 0 t) (iblk m c 1 t) (iblk m c 3 t) X (ix2 q k) = mixedOf m c r k := by
  rw [sums0_at]
  refine congrArg₂ (· + ·) (congrArg₂ (· + ·) ?_ (Finset.sum_congr rfl fun e _ => ?_)) (Finset.sum_congr rfl fun e _ => ?_)
  · exact x_at m c t _ r k (by dsimp only; omega)
  · exact congrArg₂ (· * ·) (a_at m c t _ r e (by dsimp only; omega)) (hX _ k)
  · exact congrArg₂ (· * ·) (b_at m c t _ r e (by dsimp only; omega)) (hX _ k)

theorem part1_at (c : Dev nD) (t : Fin cfg0.N) (X : Vec Ideal S2048x2048 .bf16) (hX : Holds m c X) (q : Fin 256) (r : Fin 8192) (k : Fin 2048)
    (hr : (r : ℕ) = t.val * 512 + 256 + q) :
    sums1 (iblk m c 0 t) (iblk m c 1 t) (iblk m c 3 t) X (ix2 q k) = mixedOf m c r k := by
  rw [sums1_at]
  refine congrArg₂ (· + ·) (congrArg₂ (· + ·) ?_ (Finset.sum_congr rfl fun e _ => ?_)) (Finset.sum_congr rfl fun e _ => ?_)
  · exact x_at m c t _ r k (by dsimp only; omega)
  · exact congrArg₂ (· * ·) (a_at m c t _ r e (by dsimp only; omega)) (hX _ k)
  · exact congrArg₂ (· * ·) (b_at m c t _ r e (by dsimp only; omega)) (hX _ k)

theorem halves_at (c : Dev nD) (t : Fin cfg0.N) (X : Vec Ideal S2048x2048 .bf16) (hX : Holds m c X)
    (y : S512x2048.Idx) (r : Fin 8192) (k : Fin 2048) (hr : (r : ℕ) = t.val * 512 + y 0) (hk : (k : ℕ) = y 1) :
    halves (iblk m c 0 t) (iblk m c 1 t) (iblk m c 3 t) X y = mixedOf m c r k := by
  unfold halves
  canon_tiles x h
  all_goals
    obtain rfl : k = x 1 := Fin.ext (hk.trans h1)
    rw [eq_ix2 x]
  · exact part1_at m c t X hX (x 0) r _ (by omega)
  · exact part0_at m c t X hX (x 0) r _ (by omega)

/-- A norm's entry, from what the sums' row is. -/
theorem norm_at (A : FVec Ideal S256x2048 .f32) (G : Vec Ideal S1x2048 .f32) (r : Fin 256) (k : Fin 2048) (f : Fin 2048 → EReal) (g : EReal)
    (hf : ∀ k, A (ix2 (source r) k) = f k) (hg : G (ix2 0 k) = g) :
    k0_pay15 (F := Ideal) A perm G (ix2 r k) = f k * rmsScale f * g := by
  rw [grouped_at, hg, hf k, show (fun k => A (ix2 (source r) k)) = f from funext hf]

/-- Entry `j` of chunk `i` of the second result: the `j / 2048`-th token of the chunk. -/
def regroupedOf (c : Dev nD) (i : Fin 512) (j : Fin 32768) : EReal :=
  normed (mixedOf m c) (m ((c : Thread nD τ).loc main_arg4)) ⟨i.val * 16 + j.val / 2048, by omega⟩ ⟨j.val % 2048, by omega⟩

/-- One store's entry. -/
theorem cut0_at (c : Dev nD) (t : Fin cfg0.N) (X : Vec Ideal S2048x2048 .bf16) (hX : Holds m c X) (s : Fin 16)
    (h : S256x2048.Slices ![16 * s.val, 0] S16x2048) (z : S16x2048.Idx) (i : Fin 512) (j : Fin 32768)
    (hi : (i : ℕ) = t.val * 32 + z 0) (hj : (j : ℕ) = 2048 * s.val + z 1) :
    cut (16 * s.val) h (k0_pay15 (sums0 (iblk m c 0 t) (iblk m c 1 t) (iblk m c 3 t) X) perm (iblk m c 4 t)) z = regroupedOf m c i j := by
  have hz0 : (z 0).val < 16 := (z 0).isLt
  have hz1 : (z 1).val < 2048 := (z 1).isLt
  have hs := s.isLt
  rw [eq_ix2 z]
  refine (cut_at _ h _ _ _ (by omega)).trans ?_
  refine (norm_at _ _ _ _ (mixedOf m c ⟨i.val * 16 + j.val / 2048, by omega⟩) _ (fun k => part0_at m c t X hX _ _ k ?_) (g_at m c t _)).trans ?_
  · show i.val * 16 + j.val / 2048 = t.val * 512 + 0 + ((16 * s.val + (z 0).val) % 16 * 16 + (16 * s.val + (z 0).val) / 16)
    omega
  · have hk : (z 1 : Fin 2048) = ⟨j.val % 2048, by omega⟩ := Fin.ext (by show (z 1).val = j.val % 2048; omega)
    exact congrArg (fun k : Fin 2048 => mixedOf m c ⟨i.val * 16 + j.val / 2048, by omega⟩ k * rmsScale (mixedOf m c ⟨i.val * 16 + j.val / 2048, by omega⟩) * (show FVec Ideal S1x2048 .f32 from m ((c : Thread nD τ).loc main_arg4)) (ix2 0 k)) hk

theorem cut1_at (c : Dev nD) (t : Fin cfg0.N) (X : Vec Ideal S2048x2048 .bf16) (hX : Holds m c X) (s : Fin 16)
    (h : S256x2048.Slices ![16 * s.val, 0] S16x2048) (z : S16x2048.Idx) (i : Fin 512) (j : Fin 32768)
    (hi : (i : ℕ) = t.val * 32 + 16 + z 0) (hj : (j : ℕ) = 2048 * s.val + z 1) :
    cut (16 * s.val) h (k0_pay15 (sums1 (iblk m c 0 t) (iblk m c 1 t) (iblk m c 3 t) X) perm (iblk m c 4 t)) z = regroupedOf m c i j := by
  have hz0 : (z 0).val < 16 := (z 0).isLt
  have hz1 : (z 1).val < 2048 := (z 1).isLt
  have hs := s.isLt
  rw [eq_ix2 z]
  refine (cut_at _ h _ _ _ (by omega)).trans ?_
  refine (norm_at _ _ _ _ (mixedOf m c ⟨i.val * 16 + j.val / 2048, by omega⟩) _ (fun k => part1_at m c t X hX _ _ k ?_) (g_at m c t _)).trans ?_
  · show i.val * 16 + j.val / 2048 = t.val * 512 + 256 + ((16 * s.val + (z 0).val) % 16 * 16 + (16 * s.val + (z 0).val) / 16)
    omega
  · have hk : (z 1 : Fin 2048) = ⟨j.val % 2048, by omega⟩ := Fin.ext (by show (z 1).val = j.val % 2048; omega)
    exact congrArg (fun k : Fin 2048 => mixedOf m c ⟨i.val * 16 + j.val / 2048, by omega⟩ k * rmsScale (mixedOf m c ⟨i.val * 16 + j.val / 2048, by omega⟩) * (show FVec Ideal S1x2048 .f32 from m ((c : Thread nD τ).loc main_arg4)) (ix2 0 k)) hk

theorem regrouped_at (c : Dev nD) (t : Fin cfg0.N) (X : Vec Ideal S2048x2048 .bf16) (hX : Holds m c X)
    (y : S32x32768.Idx) (i : Fin 512) (j : Fin 32768) (hi : (i : ℕ) = t.val * 32 + y 0) (hj : (j : ℕ) = y 1) :
    regrouped (iblk m c 0 t) (iblk m c 1 t) (iblk m c 3 t) X (iblk m c 4 t) y = regroupedOf m c i j := by
  unfold regrouped places16
  canon_tiles x h
  · exact cut1_at m c t X hX 15 slices_S256x2048_o240_0_S16x2048 x i j (by omega) (by show j.val = 2048 * 15 + (x 1).val; omega)
  · exact cut1_at m c t X hX 14 slices_S256x2048_o224_0_S16x2048 x i j (by omega) (by show j.val = 2048 * 14 + (x 1).val; omega)
  · exact cut1_at m c t X hX 13 slices_S256x2048_o208_0_S16x2048 x i j (by omega) (by show j.val = 2048 * 13 + (x 1).val; omega)
  · exact cut1_at m c t X hX 12 slices_S256x2048_o192_0_S16x2048 x i j (by omega) (by show j.val = 2048 * 12 + (x 1).val; omega)
  · exact cut1_at m c t X hX 11 slices_S256x2048_o176_0_S16x2048 x i j (by omega) (by show j.val = 2048 * 11 + (x 1).val; omega)
  · exact cut1_at m c t X hX 10 slices_S256x2048_o160_0_S16x2048 x i j (by omega) (by show j.val = 2048 * 10 + (x 1).val; omega)
  · exact cut1_at m c t X hX 9 slices_S256x2048_o144_0_S16x2048 x i j (by omega) (by show j.val = 2048 * 9 + (x 1).val; omega)
  · exact cut1_at m c t X hX 8 slices_S256x2048_o128_0_S16x2048 x i j (by omega) (by show j.val = 2048 * 8 + (x 1).val; omega)
  · exact cut1_at m c t X hX 7 slices_S256x2048_o112_0_S16x2048 x i j (by omega) (by show j.val = 2048 * 7 + (x 1).val; omega)
  · exact cut1_at m c t X hX 6 slices_S256x2048_o96_0_S16x2048 x i j (by omega) (by show j.val = 2048 * 6 + (x 1).val; omega)
  · exact cut1_at m c t X hX 5 slices_S256x2048_o80_0_S16x2048 x i j (by omega) (by show j.val = 2048 * 5 + (x 1).val; omega)
  · exact cut1_at m c t X hX 4 slices_S256x2048_o64_0_S16x2048 x i j (by omega) (by show j.val = 2048 * 4 + (x 1).val; omega)
  · exact cut1_at m c t X hX 3 slices_S256x2048_o48_0_S16x2048 x i j (by omega) (by show j.val = 2048 * 3 + (x 1).val; omega)
  · exact cut1_at m c t X hX 2 slices_S256x2048_o32_0_S16x2048 x i j (by omega) (by show j.val = 2048 * 2 + (x 1).val; omega)
  · exact cut1_at m c t X hX 1 slices_S256x2048_o16_0_S16x2048 x i j (by omega) (by show j.val = 2048 * 1 + (x 1).val; omega)
  · exact cut1_at m c t X hX 0 slices_S256x2048_o0_0_S16x2048 x i j (by omega) (by show j.val = 2048 * 0 + (x 1).val; omega)
  · exact cut0_at m c t X hX 15 slices_S256x2048_o240_0_S16x2048 x i j (by omega) (by show j.val = 2048 * 15 + (x 1).val; omega)
  · exact cut0_at m c t X hX 14 slices_S256x2048_o224_0_S16x2048 x i j (by omega) (by show j.val = 2048 * 14 + (x 1).val; omega)
  · exact cut0_at m c t X hX 13 slices_S256x2048_o208_0_S16x2048 x i j (by omega) (by show j.val = 2048 * 13 + (x 1).val; omega)
  · exact cut0_at m c t X hX 12 slices_S256x2048_o192_0_S16x2048 x i j (by omega) (by show j.val = 2048 * 12 + (x 1).val; omega)
  · exact cut0_at m c t X hX 11 slices_S256x2048_o176_0_S16x2048 x i j (by omega) (by show j.val = 2048 * 11 + (x 1).val; omega)
  · exact cut0_at m c t X hX 10 slices_S256x2048_o160_0_S16x2048 x i j (by omega) (by show j.val = 2048 * 10 + (x 1).val; omega)
  · exact cut0_at m c t X hX 9 slices_S256x2048_o144_0_S16x2048 x i j (by omega) (by show j.val = 2048 * 9 + (x 1).val; omega)
  · exact cut0_at m c t X hX 8 slices_S256x2048_o128_0_S16x2048 x i j (by omega) (by show j.val = 2048 * 8 + (x 1).val; omega)
  · exact cut0_at m c t X hX 7 slices_S256x2048_o112_0_S16x2048 x i j (by omega) (by show j.val = 2048 * 7 + (x 1).val; omega)
  · exact cut0_at m c t X hX 6 slices_S256x2048_o96_0_S16x2048 x i j (by omega) (by show j.val = 2048 * 6 + (x 1).val; omega)
  · exact cut0_at m c t X hX 5 slices_S256x2048_o80_0_S16x2048 x i j (by omega) (by show j.val = 2048 * 5 + (x 1).val; omega)
  · exact cut0_at m c t X hX 4 slices_S256x2048_o64_0_S16x2048 x i j (by omega) (by show j.val = 2048 * 4 + (x 1).val; omega)
  · exact cut0_at m c t X hX 3 slices_S256x2048_o48_0_S16x2048 x i j (by omega) (by show j.val = 2048 * 3 + (x 1).val; omega)
  · exact cut0_at m c t X hX 2 slices_S256x2048_o32_0_S16x2048 x i j (by omega) (by show j.val = 2048 * 2 + (x 1).val; omega)
  · exact cut0_at m c t X hX 1 slices_S256x2048_o16_0_S16x2048 x i j (by omega) (by show j.val = 2048 * 1 + (x 1).val; omega)
  · exact cut0_at m c t X hX 0 slices_S256x2048_o0_0_S16x2048 x i j (by omega) (by show j.val = 2048 * 0 + (x 1).val; omega)

theorem final5 (c : Dev nD) : (dats m 0 c).arrAt 5 (cfgs 0).N = fun i : S8192x2048.Idx => mixedOf m c (i 0) (i 1) := by
  refine (dats m 0 c).arrAt_eq_of_covers 5 _ (by decide +kernel) fun t _ y => ?_
  blk_simp
  rw [after0_5]
  by_cases h0 : t.val % 16 = 0
  · rw [first_first m c t h0]
    exact halves_at m c t _ (filled_holds m c t) y _ _ (by blk_simp [places t]) (by blk_simp [places t])
  · rw [first_later m c t h0]
    exact halves_at m c t _ (held m c _ _) y _ _ (by blk_simp [places t]) (by blk_simp [places t])

theorem final6 (c : Dev nD) : (dats m 0 c).arrAt 6 (cfgs 0).N = fun i : S512x32768.Idx => regroupedOf m c (i 0) (i 1) := by
  refine (dats m 0 c).arrAt_eq_of_covers 6 _ (by decide +kernel) fun t _ y => ?_
  blk_simp
  rw [after0_6]
  by_cases h0 : t.val % 16 = 0
  · rw [second_first m c t h0]
    exact regrouped_at m c t _ (filled_holds m c t) y _ _ (by blk_simp [places t]) (by blk_simp [places t])
  · rw [second_later m c t h0]
    exact regrouped_at m c t _ (held m c _ _) y _ _ (by blk_simp [places t]) (by blk_simp [places t])

end Cert.KernelMidIdeal.Regrouped

end
-- ==== Proof.MidReference.lean ====
/- The reference's attention output product with its residual, and the norm after it, entry by entry. -/
module

public import proofs.«01_k».proof.Proof.Rows
public import proofs.«01_k».proof.Proof.MidValue
public import proofs.«01_k».proof.Proof.Gen.ReferenceMidIdeal.Run

@[expose] public section

set_option maxRecDepth 16384

noncomputable section

open Idealize.ShloMosaic Idealize.ShloMosaic.TcCoe Idealize.SL.Sem

namespace Cert.ReferenceMidIdeal.Entries

open Cert.ReferenceMidIdeal Cert.ReferenceMidIdeal.Gen Cert.Rows Cert.KernelMidIdeal.Regrouped

/-- The reference's first result. -/
def sums (o₁ o₂ : FVec Ideal S8192x1024 .bf16) (w : FVec Ideal S1x2048x2048 .f32) (x : FVec Ideal S2x4096x2048 .f32) : FVec Ideal S8192x2048 .f32 :=
  addf (shapeCast S8192x2048 x shapeCasts_S2x4096x2048_S8192x2048) (Host.dotGeneral dot_S8192x2048_S2048x2048_S8192x2048_1_0_0_1_n_n none (extf .f32 (concatenate S8192x2048 1 [⟨S8192x1024, o₁⟩, ⟨S8192x1024, o₂⟩] concatenates_S8192x1024_S8192x1024_S8192x2048_d1) bitsLt_bf16_f32) (shapeCast S2048x2048 w shapeCasts_S1x2048x2048_S2048x2048))

/-- The reference's norm of an array of rows, sixteen tokens to a row. -/
def scaled (A : FVec Ideal S8192x2048 .f32) (g : FVec Ideal S1x2048 .f32) : FVec Ideal S512x32768 .bf16 :=
  shapeCast S512x32768 (truncf .bf16 (mulf (mulf A (broadcastInDim S8192x2048 ![0, 1] bcast_S8192x1_S8192x2048_0_1 (Host.rsqrt (addf (Host.divf (broadcastInDim S8192x1 ![0] bcast_S8192_S8192x1_0 (Host.reduceAdd (mulf A A) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast S2048 g shapeCasts_S1x2048_S2048)))) bitsLt_bf16_f32) shapeCasts_S8192x2048_S512x32768

theorem side_at (o₁ o₂ : FVec Ideal S8192x1024 .bf16) (r : Fin 8192) (e : Fin 2048) :
    (concatenate S8192x2048 1 [⟨S8192x1024, o₁⟩, ⟨S8192x1024, o₂⟩] concatenates_S8192x1024_S8192x1024_S8192x2048_d1 : FVec Ideal S8192x2048 .bf16) (ix2 r e)
      = if h : e.val < 1024 then o₁ (ix2 r ⟨e.val, h⟩) else o₂ (ix2 r ⟨e.val - 1024, by omega⟩) := by
  pointwise

theorem dot_at (o : FVec Ideal S8192x2048 .bf16) (w : FVec Ideal S1x2048x2048 .f32) (x : FVec Ideal S2x4096x2048 .f32) (r : Fin 8192) (k : Fin 2048) :
    (addf (shapeCast S8192x2048 x shapeCasts_S2x4096x2048_S8192x2048) (Host.dotGeneral dot_S8192x2048_S2048x2048_S8192x2048_1_0_0_1_n_n none (extf .f32 o bitsLt_bf16_f32) (shapeCast S2048x2048 w shapeCasts_S1x2048x2048_S2048x2048)) : FVec Ideal S8192x2048 .f32) (ix2 r k)
      = row x r k + ∑ e : Fin 2048, o (ix2 r e) * w (ix3 0 e k) := by
  pointwise [row]

theorem sums_at (o₁ o₂ : FVec Ideal S8192x1024 .bf16) (w : FVec Ideal S1x2048x2048 .f32) (x : FVec Ideal S2x4096x2048 .f32) (r : Fin 8192) (k : Fin 2048) :
    sums o₁ o₂ w x (ix2 r k) = mixed o₁ o₂ w x r k := by
  refine (dot_at _ w x r k).trans ?_
  unfold mixed
  rw [add_assoc]
  refine congrArg (row x r k + ·) ?_
  refine (Fin.sum_univ_add (a := 1024) (b := 1024) _).trans ?_
  refine congrArg₂ (· + ·) (Finset.sum_congr rfl fun e _ => ?_) (Finset.sum_congr rfl fun e _ => ?_)
  · refine congrArg₂ (· * ·) ((side_at o₁ o₂ r _).trans ?_) rfl
    rw [dif_pos (show (Fin.castAdd 1024 e).val < 1024 from e.isLt)]
    rfl
  · refine congrArg₂ (· * ·) ((side_at o₁ o₂ r _).trans ?_) rfl
    rw [dif_neg (show ¬ (Fin.natAdd 1024 e).val < 1024 from by rw [Fin.val_natAdd]; omega)]
    exact congrArg (fun e => o₂ (ix2 r e)) (Fin.ext (by show 1024 + e.val - 1024 = e.val; omega))

theorem first_at (o₁ o₂ : FVec Ideal S8192x1024 .bf16) (w : FVec Ideal S1x2048x2048 .f32) (x : FVec Ideal S2x4096x2048 .f32) (i : S8192x2048.Idx) :
    sums o₁ o₂ w x i = mixed o₁ o₂ w x (i 0) (i 1) :=
  (congrArg (sums o₁ o₂ w x) (eq_ix2 i)).trans (sums_at o₁ o₂ w x (i 0) (i 1))

theorem scaled_at (A : FVec Ideal S8192x2048 .f32) (g : FVec Ideal S1x2048 .f32) (i : S512x32768.Idx) :
    scaled A g i = normed (fun r k => A (ix2 r k)) g ⟨(i 0).val * 16 + (i 1).val / 2048, by have : (i 0).val < 512 := (i 0).isLt; have : (i 1).val < 32768 := (i 1).isLt; omega⟩ ⟨(i 1).val % 2048, by omega⟩ := by
  pointwise [scaled, normed, rmsScale]

theorem result_at (o₁ o₂ : FVec Ideal S8192x1024 .bf16) (w : FVec Ideal S1x2048x2048 .f32) (x : FVec Ideal S2x4096x2048 .f32) (g : FVec Ideal S1x2048 .f32) (i : S512x32768.Idx) :
    scaled (sums o₁ o₂ w x) g i = normed (mixed o₁ o₂ w x) g ⟨(i 0).val * 16 + (i 1).val / 2048, by have : (i 0).val < 512 := (i 0).isLt; have : (i 1).val < 32768 := (i 1).isLt; omega⟩ ⟨(i 1).val % 2048, by omega⟩ := by
  rw [scaled_at, show (fun r k => sums o₁ o₂ w x (ix2 r k)) = mixed o₁ o₂ w x from funext fun r => funext fun k => sums_at o₁ o₂ w x r k]

end Cert.ReferenceMidIdeal.Entries

end
-- ==== Proof.MidAgree.lean ====
/- The attention output product and its norm against the reference's: the run reads off its arrays, and they agree entry by entry. -/
module

public import proofs.«01_k».proof.Defs
public import proofs.«01_k».proof.Proof.MidReference

@[expose] public section

set_option maxRecDepth 200000

noncomputable section

open Idealize.ShloMosaic Idealize.ShloMosaic.TcCoe Idealize.SL.Sem

namespace Cert.Proof

theorem algebraic_mid : Cert.algebraic_KernelMidIdeal_ReferenceMidIdeal := by
  pair_intro
  · run_from Cert.KernelMidIdeal.Gen.run_main m g
  · run_from Cert.ReferenceMidIdeal.Value.run m' g'
    · refine Eq.trans ?_ (Cert.KernelMidIdeal.Regrouped.final5 m c).symm
      funext i
      exact Cert.ReferenceMidIdeal.Entries.first_at _ _ _ _ i
    · refine Eq.trans ?_ (Cert.KernelMidIdeal.Regrouped.final6 m c).symm
      funext i
      exact Cert.ReferenceMidIdeal.Entries.result_at _ _ _ _ _ i

end Cert.Proof

end
-- ==== Proof.OutValue.lean ====
/- The last output product with its residual and norm: the rows of the result, each from its own token of the grouped input. -/
module

public import proofs.«01_k».proof.Proof.Rows
public import proofs.«01_k».proof.Proof.Gen.KernelOutIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutIdeal.Final

open Cert.KernelOutIdeal Cert.KernelOutIdeal.Gen Cert.Rows

/-- The row of a part that token row `r` comes from. -/
def source (r : Fin 256) : Fin 256 := ⟨r.val % 16 * 16 + r.val / 16, by omega⟩

/-- The matrix of zeros and ones that puts the rows of a part back in the order of their tokens. -/
def perm : FVec Ideal S256x256 .bf16 :=
  k0_pay11 (F := Ideal) (iota Kind.tc S256x256 32 [1] iota_S256x256_d1_w32) k0_pay7 k0_pay8 k0_pay9 k0_pay10

theorem pick (r k : Fin 256) (X : BitVec 32) (h : X = BitVec.ofNat 32 (source r).val) :
    Scalar.select (IntOp.cmpi CmpIPredicate.eq (BitVec.ofNat 32 k.val) X) (1 : EReal) 0 = if k = source r then 1 else 0 := by
  subst h
  have hk : BitVec.ofNat 32 k.val = BitVec.ofNat 32 (source r).val ↔ k = source r := by
    rw [Fin.ext_iff, ← BitVec.toNat_inj, BitVec.toNat_ofNat, BitVec.toNat_ofNat]
    have := k.isLt
    have := (source r).isLt
    omega
  by_cases e : k = source r
  · rw [if_pos e, e]; simp [Scalar.select, IntOp.cmpi]
  · rw [if_neg e]
    have hb : (BitVec.ofNat 32 k.val == BitVec.ofNat 32 (source r).val) = false := beq_eq_false_iff_ne.mpr fun h => e (hk.mp h)
    simp [Scalar.select, IntOp.cmpi, hb]

theorem perm_at (r k : Fin 256) : perm (ix2 r k) = if k = source r then 1 else 0 := by
  pointwise [perm, k0_pay11, k0_pay7, k0_pay8, k0_pay9, k0_pay10]
  refine pick r k _ ?_
  clear k
  revert r
  decide +kernel

theorem one_row (r : Fin 256) (f : Fin 256 → EReal) : ∑ k : Fin 256, perm (ix2 r k) * f k = f (source r) := by
  rw [Finset.sum_eq_single (source r)]
  · rw [perm_at, if_pos rfl, one_mul]
  · intro k _ hk
    rw [perm_at, if_neg hk, zero_mul]
  · exact fun h => absurd (Finset.mem_univ _) h

/-- The 256 tokens of the first half of a block, in their order. -/
def tokens0 (A : Vec Ideal S32x32768 .bf16) : FVec Ideal S256x2048 .bf16 :=
  k0_pay23 perm
    (k0_pay12 (View.ld A (Rect.unit ![0, 0] ![16, 2048] inb_S32x32768_S16x2048_0_0)))
    (k0_pay13 (View.ld A (Rect.unit ![0, 2048] ![16, 2048] inb_S32x32768_S16x2048_0_2048)))
    (k0_pay14 (View.ld A (Rect.unit ![0, 4096] ![16, 2048] inb_S32x32768_S16x2048_0_4096)))
    (k0_pay15 (View.ld A (Rect.unit ![0, 6144] ![16, 2048] inb_S32x32768_S16x2048_0_6144)))
    (k0_pay16 (View.ld A (Rect.unit ![0, 8192] ![16, 2048] inb_S32x32768_S16x2048_0_8192)))
    (k0_pay17 (View.ld A (Rect.unit ![0, 10240] ![16, 2048] inb_S32x32768_S16x2048_0_10240)))
    (k0_pay18 (View.ld A (Rect.unit ![0, 12288] ![16, 2048] inb_S32x32768_S16x2048_0_12288)))
    (k0_pay19 (View.ld A (Rect.unit ![0, 14336] ![16, 2048] inb_S32x32768_S16x2048_0_14336)))
    (k0_pay20 (View.ld A (Rect.unit ![0, 16384] ![16, 2048] inb_S32x32768_S16x2048_0_16384)))
    (k0_pay21 (View.ld A (Rect.unit ![0, 18432] ![16, 2048] inb_S32x32768_S16x2048_0_18432)))
    (k0_pay22 (View.ld A (Rect.unit ![0, 20480] ![16, 2048] inb_S32x32768_S16x2048_0_20480)))
    (View.ld A (Rect.unit ![0, 22528] ![16, 2048] inb_S32x32768_S16x2048_0_22528))
    (View.ld A (Rect.unit ![0, 24576] ![16, 2048] inb_S32x32768_S16x2048_0_24576))
    (View.ld A (Rect.unit ![0, 26624] ![16, 2048] inb_S32x32768_S16x2048_0_26624))
    (View.ld A (Rect.unit ![0, 28672] ![16, 2048] inb_S32x32768_S16x2048_0_28672))
    (View.ld A (Rect.unit ![0, 30720] ![16, 2048] inb_S32x32768_S16x2048_0_30720))

/-- The 256 tokens of the second half of a block, in their order. -/
def tokens1 (A : Vec Ideal S32x32768 .bf16) : FVec Ideal S256x2048 .bf16 :=
  k0_pay23 perm
    (k0_pay12 (View.ld A (Rect.unit ![16, 0] ![16, 2048] inb_S32x32768_S16x2048_16_0)))
    (k0_pay13 (View.ld A (Rect.unit ![16, 2048] ![16, 2048] inb_S32x32768_S16x2048_16_2048)))
    (k0_pay14 (View.ld A (Rect.unit ![16, 4096] ![16, 2048] inb_S32x32768_S16x2048_16_4096)))
    (k0_pay15 (View.ld A (Rect.unit ![16, 6144] ![16, 2048] inb_S32x32768_S16x2048_16_6144)))
    (k0_pay16 (View.ld A (Rect.unit ![16, 8192] ![16, 2048] inb_S32x32768_S16x2048_16_8192)))
    (k0_pay17 (View.ld A (Rect.unit ![16, 10240] ![16, 2048] inb_S32x32768_S16x2048_16_10240)))
    (k0_pay18 (View.ld A (Rect.unit ![16, 12288] ![16, 2048] inb_S32x32768_S16x2048_16_12288)))
    (k0_pay19 (View.ld A (Rect.unit ![16, 14336] ![16, 2048] inb_S32x32768_S16x2048_16_14336)))
    (k0_pay20 (View.ld A (Rect.unit ![16, 16384] ![16, 2048] inb_S32x32768_S16x2048_16_16384)))
    (k0_pay21 (View.ld A (Rect.unit ![16, 18432] ![16, 2048] inb_S32x32768_S16x2048_16_18432)))
    (k0_pay22 (View.ld A (Rect.unit ![16, 20480] ![16, 2048] inb_S32x32768_S16x2048_16_20480)))
    (View.ld A (Rect.unit ![16, 22528] ![16, 2048] inb_S32x32768_S16x2048_16_22528))
    (View.ld A (Rect.unit ![16, 24576] ![16, 2048] inb_S32x32768_S16x2048_16_24576))
    (View.ld A (Rect.unit ![16, 26624] ![16, 2048] inb_S32x32768_S16x2048_16_26624))
    (View.ld A (Rect.unit ![16, 28672] ![16, 2048] inb_S32x32768_S16x2048_16_28672))
    (View.ld A (Rect.unit ![16, 30720] ![16, 2048] inb_S32x32768_S16x2048_16_30720))

theorem reordered (C : FVec Ideal S256x2048 .bf16) (r : Fin 256) (e : Fin 2048) :
    (truncf .bf16 (matmul dot_S256x256_S256x2048_S256x2048_1_0_0_1_n_n none perm C (constant S256x2048 .f32 0x00000000#32)) bitsLt_bf16_f32 : FVec Ideal S256x2048 .bf16) (ix2 r e)
      = C (ix2 (source r) e) := by
  pointwise
  exact one_row r _

/-- Sixteen pieces of sixteen rows, one under the other, read at a row. -/
theorem joined (f : Fin 16 → Fin 16 → Fin 2048 → EReal) (x0 x1 x2 x3 x4 x5 x6 x7 x8 x9 x10 x11 x12 x13 x14 x15 : FVec Ideal S16x2048 .bf16)
    (h0 : ∀ i e, x0 (ix2 i e) = f 0 i e)
    (h1 : ∀ i e, x1 (ix2 i e) = f 1 i e)
    (h2 : ∀ i e, x2 (ix2 i e) = f 2 i e)
    (h3 : ∀ i e, x3 (ix2 i e) = f 3 i e)
    (h4 : ∀ i e, x4 (ix2 i e) = f 4 i e)
    (h5 : ∀ i e, x5 (ix2 i e) = f 5 i e)
    (h6 : ∀ i e, x6 (ix2 i e) = f 6 i e)
    (h7 : ∀ i e, x7 (ix2 i e) = f 7 i e)
    (h8 : ∀ i e, x8 (ix2 i e) = f 8 i e)
    (h9 : ∀ i e, x9 (ix2 i e) = f 9 i e)
    (h10 : ∀ i e, x10 (ix2 i e) = f 10 i e)
    (h11 : ∀ i e, x11 (ix2 i e) = f 11 i e)
    (h12 : ∀ i e, x12 (ix2 i e) = f 12 i e)
    (h13 : ∀ i e, x13 (ix2 i e) = f 13 i e)
    (h14 : ∀ i e, x14 (ix2 i e) = f 14 i e)
    (h15 : ∀ i e, x15 (ix2 i e) = f 15 i e)
    (r : Fin 256) (e : Fin 2048) :
    (concatenate S256x2048 0 [⟨S16x2048, x0⟩, ⟨S16x2048, x1⟩, ⟨S16x2048, x2⟩, ⟨S16x2048, x3⟩, ⟨S16x2048, x4⟩, ⟨S16x2048, x5⟩, ⟨S16x2048, x6⟩, ⟨S16x2048, x7⟩, ⟨S16x2048, x8⟩, ⟨S16x2048, x9⟩, ⟨S16x2048, x10⟩, ⟨S16x2048, x11⟩, ⟨S16x2048, x12⟩, ⟨S16x2048, x13⟩, ⟨S16x2048, x14⟩, ⟨S16x2048, x15⟩] concatenates_S16x2048_S16x2048_S16x2048_S16x2048_S16x2048_S16x2048_S16x2048_S16x2048_S16x2048_S16x2048_S16x2048_S16x2048_S16x2048_S16x2048_S16x2048_S16x2048_S256x2048_d0 : FVec Ideal S256x2048 .bf16) (ix2 r e)
      = f ⟨r.val / 16, by omega⟩ ⟨r.val % 16, by omega⟩ e := by
  obtain rfl : x0 = fun y => f 0 (y 0) (y 1) := funext fun y => by rw [eq_ix2 y]; exact h0 _ _
  obtain rfl : x1 = fun y => f 1 (y 0) (y 1) := funext fun y => by rw [eq_ix2 y]; exact h1 _ _
  obtain rfl : x2 = fun y => f 2 (y 0) (y 1) := funext fun y => by rw [eq_ix2 y]; exact h2 _ _
  obtain rfl : x3 = fun y => f 3 (y 0) (y 1) := funext fun y => by rw [eq_ix2 y]; exact h3 _ _
  obtain rfl : x4 = fun y => f 4 (y 0) (y 1) := funext fun y => by rw [eq_ix2 y]; exact h4 _ _
  obtain rfl : x5 = fun y => f 5 (y 0) (y 1) := funext fun y => by rw [eq_ix2 y]; exact h5 _ _
  obtain rfl : x6 = fun y => f 6 (y 0) (y 1) := funext fun y => by rw [eq_ix2 y]; exact h6 _ _
  obtain rfl : x7 = fun y => f 7 (y 0) (y 1) := funext fun y => by rw [eq_ix2 y]; exact h7 _ _
  obtain rfl : x8 = fun y => f 8 (y 0) (y 1) := funext fun y => by rw [eq_ix2 y]; exact h8 _ _
  obtain rfl : x9 = fun y => f 9 (y 0) (y 1) := funext fun y => by rw [eq_ix2 y]; exact h9 _ _
  obtain rfl : x10 = fun y => f 10 (y 0) (y 1) := funext fun y => by rw [eq_ix2 y]; exact h10 _ _
  obtain rfl : x11 = fun y => f 11 (y 0) (y 1) := funext fun y => by rw [eq_ix2 y]; exact h11 _ _
  obtain rfl : x12 = fun y => f 12 (y 0) (y 1) := funext fun y => by rw [eq_ix2 y]; exact h12 _ _
  obtain rfl : x13 = fun y => f 13 (y 0) (y 1) := funext fun y => by rw [eq_ix2 y]; exact h13 _ _
  obtain rfl : x14 = fun y => f 14 (y 0) (y 1) := funext fun y => by rw [eq_ix2 y]; exact h14 _ _
  obtain rfl : x15 = fun y => f 15 (y 0) (y 1) := funext fun y => by rw [eq_ix2 y]; exact h15 _ _
  exact concatenate_ofFn_apply (t := S256x2048) (s₁ := S16x2048) 0 (fun (s : Fin 16) (y : S16x2048.Idx) => f s (y 0) (y 1)) concatenates_S16x2048_S16x2048_S16x2048_S16x2048_S16x2048_S16x2048_S16x2048_S16x2048_S16x2048_S16x2048_S16x2048_S16x2048_S16x2048_S16x2048_S16x2048_S16x2048_S256x2048_d0 rfl 16 rfl (ix2 r e) ⟨r.val / 16, by omega⟩ rfl
    (ix2 (⟨r.val % 16, by omega⟩ : Fin 16) e) rfl (fun b hb => by match b, hb with | ⟨0, _⟩, hb => exact absurd rfl hb | ⟨1, _⟩, _ => rfl)

theorem tokens0_at (A : Vec Ideal S32x32768 .bf16) (r : Fin 256) (e : Fin 2048) :
    tokens0 A (ix2 r e) = A (ix2 (⟨0 + r.val / 16, by omega⟩ : Fin 32) (⟨r.val % 16 * 2048 + e.val, by omega⟩ : Fin 32768)) := by
  unfold tokens0 k0_pay23
  refine (reordered _ r e).trans ?_
  refine (joined (fun s i e => A (ix2 (⟨0 + i.val, by omega⟩ : Fin 32) (⟨s.val * 2048 + e.val, by omega⟩ : Fin 32768))) _ _ _ _ _ _ _ _ _ _ _ _ _ _ _ _ ?_ ?_ ?_ ?_ ?_ ?_ ?_ ?_ ?_ ?_ ?_ ?_ ?_ ?_ ?_ ?_ (source r) e).trans ?_
  iterate 16
    · intro i e
      pointwise [k0_pay12, k0_pay13, k0_pay14, k0_pay15, k0_pay16, k0_pay17, k0_pay18, k0_pay19, k0_pay20, k0_pay21, k0_pay22]
      try (congr 2 <;> (apply Fin.ext; dsimp only; omega))
  · have hs : (source r).val = r.val % 16 * 16 + r.val / 16 := rfl
    have h1 : (source r).val / 16 = r.val % 16 := by omega
    have h2 : (source r).val % 16 = r.val / 16 := by omega
    simp only [h1, h2]

theorem tokens1_at (A : Vec Ideal S32x32768 .bf16) (r : Fin 256) (e : Fin 2048) :
    tokens1 A (ix2 r e) = A (ix2 (⟨16 + r.val / 16, by omega⟩ : Fin 32) (⟨r.val % 16 * 2048 + e.val, by omega⟩ : Fin 32768)) := by
  unfold tokens1 k0_pay23
  refine (reordered _ r e).trans ?_
  refine (joined (fun s i e => A (ix2 (⟨16 + i.val, by omega⟩ : Fin 32) (⟨s.val * 2048 + e.val, by omega⟩ : Fin 32768))) _ _ _ _ _ _ _ _ _ _ _ _ _ _ _ _ ?_ ?_ ?_ ?_ ?_ ?_ ?_ ?_ ?_ ?_ ?_ ?_ ?_ ?_ ?_ ?_ (source r) e).trans ?_
  iterate 16
    · intro i e
      pointwise [k0_pay12, k0_pay13, k0_pay14, k0_pay15, k0_pay16, k0_pay17, k0_pay18, k0_pay19, k0_pay20, k0_pay21, k0_pay22]
      try (congr 2 <;> (apply Fin.ext; dsimp only; omega))
  · have hs : (source r).val = r.val % 16 * 16 + r.val / 16 := rfl
    have h1 : (source r).val / 16 = r.val % 16 := by omega
    have h2 : (source r).val % 16 = r.val / 16 := by omega
    simp only [h1, h2]

variable (m : (ℓ : Loc nD τ sig) → Buf (Elt Ideal) ℓ)

theorem places : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- What the first point writes over the scratch buffer: the weight, quarter by quarter. -/
def filled (c : Dev nD) (t : Fin cfg0.N) : Vec Ideal S2048x2048 .bf16 :=
  View.canon
    [⟨Rect.unit ![1536, 0] ![512, 2048] inb_S2048x2048_S512x2048_1536_0,
        k0_pay6 (View.ld (iblk m c 1 t) (Rect.unit ![1536, 0] ![512, 2048] inb_S2048x2048_S512x2048_1536_0))⟩,
      ⟨Rect.unit ![1024, 0] ![512, 2048] inb_S2048x2048_S512x2048_1024_0,
        k0_pay5 (View.ld (iblk m c 1 t) (Rect.unit ![1024, 0] ![512, 2048] inb_S2048x2048_S512x2048_1024_0))⟩,
      ⟨Rect.unit ![512, 0] ![512, 2048] inb_S2048x2048_S512x2048_512_0,
        k0_pay4 (View.ld (iblk m c 1 t) (Rect.unit ![512, 0] ![512, 2048] inb_S2048x2048_S512x2048_512_0))⟩,
      ⟨Rect.unit ![0, 0] ![512, 2048] inb_S2048x2048_S512x2048_0_0,
        k0_pay3 (View.ld (iblk m c 1 t) (Rect.unit ![0, 0] ![512, 2048] inb_S2048x2048_S512x2048_0_0))⟩]

/-- `X` is the weight. -/
def Holds (c : Dev nD) (X : Vec Ideal S2048x2048 .bf16) : Prop :=
  ∀ (e k : Fin 2048), X (ix2 e k) = m ((c : Thread nD τ).loc main_arg1) (ix3 0 e k)

theorem filled_at (c : Dev nD) (t : Fin cfg0.N) (y : S2048x2048.Idx) (e k : Fin 2048) (he : (e : ℕ) = y 0) (hk : (k : ℕ) = y 1) :
    filled m c t y = m ((c : Thread nD τ).loc main_arg1) (ix3 0 e k) := by
  unfold filled
  canon_tiles x h
  all_goals (open_payloads; pointwise; blk_point [iblk, V, places t])

theorem filled_holds (c : Dev nD) (t : Fin cfg0.N) : Holds m c (filled m c t) :=
  fun e k => filled_at m c t _ e k rfl rfl

theorem left_first (c : Dev nD) (t : Fin cfg0.N) (h0 : t.val % 16 = 0) : (outsAt0 m c t.val t.isLt).2 = filled m c t := by
  funext y
  rw [outsAt0_A m c t h0]
  frame_out
  rfl

/-- The scratch buffer after any point: the weight. -/
theorem held (c : Dev nD) : ∀ (n : ℕ) (hn : n < cfg0.N), Holds m c (outsAt0 m c n hn).2 := by
  intro n
  induction n with
  | zero =>
    intro hn
    rw [left_first m c ⟨0, hn⟩ (Nat.zero_mod _)]
    exact filled_holds m c ⟨0, hn⟩
  | succ n ih =>
    intro hn
    by_cases h0 : (n + 1) % 16 = 0
    · rw [left_first m c ⟨n + 1, hn⟩ h0]
      exact filled_holds m c ⟨n + 1, hn⟩
    · rw [outsAt0_B m c ⟨n + 1, hn⟩ h0]
      exact ih (Nat.lt_of_succ_lt hn)

/-- A token's row before the norm: its residual row plus its product with the weight. -/
def mixed (zz : FVec Ideal S2x4096x2048 .f32) (W : FVec Ideal S1x2048x2048 .f32) (x : FVec Ideal S2x4096x2048 .f32) (r : Fin 8192) (k : Fin 2048) : EReal :=
  row x r k + ∑ e : Fin 2048, row zz r e * W (ix3 0 e k)

/-- Entry `k` of token `r` of the result: the row scaled by its root mean square and the gain. -/
def normed (f : Fin 8192 → Fin 2048 → EReal) (g : FVec Ideal S2048 .f32) (r : Fin 8192) (k : Fin 2048) : EReal :=
  f r k * rmsScale (f r) * g (ix1 k)

/-- One store of 256 rows, from the rows' tokens `T`, their residual rows `B`, the weight `X` and the gain `G`. -/
def stored (T : FVec Ideal S256x2048 .bf16) (B : Vec Ideal S256x2048 .f32) (X : Vec Ideal S2048x2048 .bf16) (G : Vec Ideal S1x2048 .f32) : FVec Ideal S256x2048 .f32 :=
  k0_pay1 (k0_pay33 T B X) (k0_pay35 T B X) G

theorem sums_at (T : FVec Ideal S256x2048 .bf16) (B : Vec Ideal S256x2048 .f32) (X : Vec Ideal S2048x2048 .bf16) (r : Fin 256) (k : Fin 2048) :
    k0_pay33 (F := Ideal) T B X (ix2 r k) = B (ix2 r k) + ∑ e : Fin 2048, T (ix2 r e) * X (ix2 e k) := by
  pointwise [k0_pay33]

theorem scaled_at (A : FVec Ideal S256x2048 .f32) (G : Vec Ideal S1x2048 .f32) (r : Fin 256) (k : Fin 2048) :
    k0_pay2 (F := Ideal) A G (ix2 r k) = A (ix2 r k) * rmsScale (fun k => A (ix2 r k)) * G (ix2 0 k) := by
  pointwise [k0_pay2, rmsScale]

theorem stored_eq (T : FVec Ideal S256x2048 .bf16) (B : Vec Ideal S256x2048 .f32) (X : Vec Ideal S2048x2048 .bf16) (G : Vec Ideal S1x2048 .f32) :
    stored T B X G = k0_pay2 (k0_pay33 T B X) G := rfl

theorem second_eq (A : Vec Ideal S32x32768 .bf16) (B : Vec Ideal S256x2048 .f32) (X : Vec Ideal S2048x2048 .bf16) :
    k0_pay34 perm
    (k0_pay24 (View.ld A (Rect.unit ![16, 0] ![16, 2048] inb_S32x32768_S16x2048_16_0)))
    (k0_pay25 (View.ld A (Rect.unit ![16, 2048] ![16, 2048] inb_S32x32768_S16x2048_16_2048)))
    (k0_pay26 (View.ld A (Rect.unit ![16, 4096] ![16, 2048] inb_S32x32768_S16x2048_16_4096)))
    (k0_pay27 (View.ld A (Rect.unit ![16, 6144] ![16, 2048] inb_S32x32768_S16x2048_16_6144)))
    (k0_pay28 (View.ld A (Rect.unit ![16, 8192] ![16, 2048] inb_S32x32768_S16x2048_16_8192)))
    (k0_pay29 (View.ld A (Rect.unit ![16, 10240] ![16, 2048] inb_S32x32768_S16x2048_16_10240)))
    (k0_pay30 (View.ld A (Rect.unit ![16, 12288] ![16, 2048] inb_S32x32768_S16x2048_16_12288)))
    (k0_pay31 (View.ld A (Rect.unit ![16, 14336] ![16, 2048] inb_S32x32768_S16x2048_16_14336)))
    (k0_pay32 (View.ld A (Rect.unit ![16, 16384] ![16, 2048] inb_S32x32768_S16x2048_16_16384)))
    (View.ld A (Rect.unit ![16, 18432] ![16, 2048] inb_S32x32768_S16x2048_16_18432))
    (View.ld A (Rect.unit ![16, 20480] ![16, 2048] inb_S32x32768_S16x2048_16_20480))
    (View.ld A (Rect.unit ![16, 22528] ![16, 2048] inb_S32x32768_S16x2048_16_22528))
    (View.ld A (Rect.unit ![16, 24576] ![16, 2048] inb_S32x32768_S16x2048_16_24576))
    (View.ld A (Rect.unit ![16, 26624] ![16, 2048] inb_S32x32768_S16x2048_16_26624))
    (View.ld A (Rect.unit ![16, 28672] ![16, 2048] inb_S32x32768_S16x2048_16_28672))
    (View.ld A (Rect.unit ![16, 30720] ![16, 2048] inb_S32x32768_S16x2048_16_30720)) B X = k0_pay33 (tokens1 A) B X := rfl

/-- The two stores of a point, from its token blocks and the weight in the scratch buffer. -/
def halves (A : Vec Ideal S32x32768 .bf16) (B : Vec Ideal S512x2048 .f32) (X : Vec Ideal S2048x2048 .bf16) (G : Vec Ideal S1x2048 .f32) : Vec Ideal S512x2048 .f32 :=
  View.canon
    [⟨Rect.unit ![256, 0] ![256, 2048] inb_S512x2048_S256x2048_256_0,
        k0_pay2 (k0_pay33 (tokens1 A) (View.ld B (Rect.unit ![256, 0] ![256, 2048] inb_S512x2048_S256x2048_256_0)) X) G⟩,
      ⟨Rect.unit ![0, 0] ![256, 2048] inb_S512x2048_S256x2048_0_0,
        k0_pay2 (k0_pay33 (tokens0 A) (View.ld B (Rect.unit ![0, 0] ![256, 2048] inb_S512x2048_S256x2048_0_0)) X) G⟩]

theorem readback (v : View sig Kind.tc Space.vmem S2048x2048 .bf16) (L : List (View.Piece (Elt Ideal) S2048x2048 .bf16)) (r : Rect S2048x2048) :
    v.readCov L r.toLoadRect = View.ld (View.canon L) r :=
  View.readCov_eq_canon' v L _

theorem readwhole (v : View sig Kind.tc Space.vmem S2048x2048 .bf16) (L : List (View.Piece (Elt Ideal) S2048x2048 .bf16)) :
    v.readCov L (Rect.unit ![0, 0] ![2048, 2048] inb_S2048x2048_S2048x2048_0_0).toLoadRect = View.canon L := by
  rw [readback]
  funext y
  rw [eq_ix2 y]
  generalize View.canon L = X
  pointwise
  try congr 1

theorem reread (h : (scM0_0).IsWhole) (X : Vec Ideal S2048x2048 .bf16) :
    View.read (Elt Ideal) (View.whole cc0_scratch0) (h.unread X) = X :=
  h.read_unread X

theorem stored_first (c : Dev nD) (t : Fin cfg0.N) (h0 : t.val % 16 = 0) :
    (outsAt0 m c t.val t.isLt).1 = halves (iblk m c 0 t) (iblk m c 2 t) (filled m c t) (iblk m c 3 t) := by
  funext y
  rw [outsAt0_A m c t h0]
  frame_out
  simp only [readwhole]
  rfl

theorem stored_later (c : Dev nD) (t : Fin cfg0.N) (h0 : ¬ t.val % 16 = 0) :
    (outsAt0 m c t.val t.isLt).1
      = halves (iblk m c 0 t) (iblk m c 2 t) (outsAt0 m c (t.val - 1) (Nat.lt_of_le_of_lt (Nat.sub_le _ _) t.isLt)).2 (iblk m c 3 t) := by
  funext y
  rw [outsAt0_B m c t h0]
  frame_out
  simp only [reread]
  rfl

/-- A store's entry, from what its operands hold in the row it computes. -/
theorem half_at (T : FVec Ideal S256x2048 .bf16) (B : Vec Ideal S256x2048 .f32) (X : Vec Ideal S2048x2048 .bf16) (G : Vec Ideal S1x2048 .f32)
    (r : Fin 256) (k : Fin 2048) (f : Fin 2048 → EReal) (g : EReal)
    (hf : ∀ k, B (ix2 r k) + ∑ e : Fin 2048, T (ix2 r e) * X (ix2 e k) = f k) (hg : G (ix2 0 k) = g) :
    k0_pay2 (F := Ideal) (k0_pay33 T B X) G (ix2 r k) = f k * rmsScale f * g := by
  rw [scaled_at, hg]
  have e : (fun k => k0_pay33 (F := Ideal) T B X (ix2 r k)) = f := funext fun k => (sums_at T B X r k).trans (hf k)
  rw [e]
  rw [show k0_pay33 (F := Ideal) T B X (ix2 r k) = f k from congrFun e k]

theorem lower_at (B : Vec Ideal S512x2048 .f32) (p : Fin 256) (k : Fin 2048) :
    View.ld B (Rect.unit ![256, 0] ![256, 2048] inb_S512x2048_S256x2048_256_0) (ix2 p k) = B (ix2 (⟨256 + p.val, by omega⟩ : Fin 512) k) := by
  pointwise

theorem upper_at (B : Vec Ideal S512x2048 .f32) (p : Fin 256) (k : Fin 2048) :
    View.ld B (Rect.unit ![0, 0] ![256, 2048] inb_S512x2048_S256x2048_0_0) (ix2 p k) = B (ix2 (⟨p.val, by omega⟩ : Fin 512) k) := by
  pointwise

theorem zz_at (c : Dev nD) (t : Fin cfg0.N) (p : Fin 32) (q : Fin 32768) (r : Fin 8192) (e : Fin 2048)
    (h : (r : ℕ) = t.val * 512 + p * 16 + q / 2048) (he : (e : ℕ) = q % 2048) :
    (show FVec Ideal S32x32768 .bf16 from iblk m c 0 t) (ix2 p q) = row (show FVec Ideal S2x4096x2048 .f32 from m ((c : Thread nD τ).loc main_arg0)) r e := by
  unfold row
  blk_point [iblk, V, places t]

theorem x_at (c : Dev nD) (t : Fin cfg0.N) (p : Fin 512) (r : Fin 8192) (e : Fin 2048) (h : (r : ℕ) = t.val * 512 + p) :
    (show FVec Ideal S512x2048 .f32 from iblk m c 2 t) (ix2 p e) = row (show FVec Ideal S2x4096x2048 .f32 from m ((c : Thread nD τ).loc main_arg2)) r e := by
  unfold row
  blk_point [iblk, V, places t]

theorem g_at (c : Dev nD) (t : Fin cfg0.N) (e : Fin 2048) :
    (show FVec Ideal S1x2048 .f32 from iblk m c 3 t) (ix2 0 e) = (show FVec Ideal S2048 .f32 from m ((c : Thread nD τ).loc main_arg3)) (ix1 e) := by
  blk_point [iblk, V, places t]

/-- The result, entry by entry. -/
def result (c : Dev nD) (r : Fin 8192) (k : Fin 2048) : EReal :=
  normed (mixed (m ((c : Thread nD τ).loc main_arg0)) (m ((c : Thread nD τ).loc main_arg1)) (m ((c : Thread nD τ).loc main_arg2))) (m ((c : Thread nD τ).loc main_arg3)) r k

theorem halves_at (c : Dev nD) (t : Fin cfg0.N) (X : Vec Ideal S2048x2048 .bf16) (hX : Holds m c X)
    (y : S512x2048.Idx) (r : Fin 8192) (k : Fin 2048) (hr : (r : ℕ) = t.val * 512 + y 0) (hk : (k : ℕ) = y 1) :
    halves (iblk m c 0 t) (iblk m c 2 t) X (iblk m c 3 t) y = result m c r k := by
  unfold halves
  canon_tiles x h
  · obtain rfl : k = x 1 := Fin.ext (hk.trans h1)
    rw [eq_ix2 x]
    refine half_at _ _ X _ (x 0) (x 1) (mixed _ _ _ r) _ (fun k => ?_) (g_at m c t _)
    refine congrArg₂ (· + ·) ?_ (Finset.sum_congr rfl fun e _ => ?_)
    · refine Eq.trans ?_ (x_at m c t ⟨256 + (x 0).val, by omega⟩ r k (by dsimp only; omega))
      exact lower_at _ (x 0) k
    · refine congrArg₂ (· * ·) ((tokens1_at _ _ _).trans ?_) (hX e k)
      exact zz_at m c t _ _ r e (by dsimp only; omega) (by dsimp only; omega)
  · obtain rfl : k = x 1 := Fin.ext (hk.trans h1)
    rw [eq_ix2 x]
    refine half_at _ _ X _ (x 0) (x 1) (mixed _ _ _ r) _ (fun k => ?_) (g_at m c t _)
    refine congrArg₂ (· + ·) ?_ (Finset.sum_congr rfl fun e _ => ?_)
    · refine Eq.trans ?_ (x_at m c t ⟨(x 0).val, by omega⟩ r k (by dsimp only; omega))
      exact upper_at _ (x 0) k
    · refine congrArg₂ (· * ·) ((tokens0_at _ _ _).trans ?_) (hX e k)
      exact zz_at m c t _ _ r e (by dsimp only; omega) (by dsimp only; omega)

theorem final (c : Dev nD) : (dats m 0 c).arrAt 4 (cfgs 0).N = fun i : S8192x2048.Idx => result m c (i 0) (i 1) := by
  refine (dats m 0 c).arrAt_eq_of_covers 4 _ (by decide +kernel) fun t _ y => ?_
  blk_simp
  rw [after0_4]
  by_cases h0 : t.val % 16 = 0
  · rw [stored_first m c t h0]
    exact halves_at m c t _ (filled_holds m c t) y _ _ (by blk_simp [places t]) (by blk_simp [places t])
  · rw [stored_later m c t h0]
    exact halves_at m c t _ (held m c _ _) y _ _ (by blk_simp [places t]) (by blk_simp [places t])

end Cert.KernelOutIdeal.Final

end
-- ==== Proof.OutReference.lean ====
/- The reference's residual sum and its norm, entry by entry. -/
module

public import proofs.«01_k».proof.Proof.Rows
public import proofs.«01_k».proof.Proof.OutValue
public import proofs.«01_k».proof.Proof.Gen.ReferenceOutIdeal.Run

@[expose] public section

set_option maxRecDepth 16384

noncomputable section

open Idealize.ShloMosaic Idealize.ShloMosaic.TcCoe Idealize.SL.Sem

namespace Cert.ReferenceOutIdeal.Entries

open Cert.ReferenceOutIdeal Cert.ReferenceOutIdeal.Gen Cert.Rows Cert.KernelOutIdeal.Final

/-- The reference's tokens before the norm. -/
def sums (zz : FVec Ideal S2x4096x2048 .f32) (w : FVec Ideal S1x2048x2048 .f32) (x : FVec Ideal S2x4096x2048 .f32) : FVec Ideal S2x4096x2048 .f32 :=
  addf x (Host.dotGeneral dot_S2x4096x2048_S2048x2048_S2x4096x2048_2_0_01_1_n_n none zz (shapeCast S2048x2048 w shapeCasts_S1x2048x2048_S2048x2048))

/-- The reference's norm of an array of tokens, as one array of rows. -/
def scaled (A : FVec Ideal S2x4096x2048 .f32) (g : FVec Ideal S2048 .f32) : FVec Ideal S8192x2048 .f32 :=
  shapeCast S8192x2048 (mulf (mulf A (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf A A) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) shapeCasts_S2x4096x2048_S8192x2048

theorem sums_at (zz : FVec Ideal S2x4096x2048 .f32) (w : FVec Ideal S1x2048x2048 .f32) (x : FVec Ideal S2x4096x2048 .f32) (r : Fin 8192) (k : Fin 2048) :
    row (sums zz w x) r k = mixed zz w x r k := by
  unfold row mixed sums
  pointwise [row]

theorem scaled_at (A : FVec Ideal S2x4096x2048 .f32) (g : FVec Ideal S2048 .f32) (i : S8192x2048.Idx) :
    scaled A g i = normed (row A) g (i 0) (i 1) := by
  pointwise [scaled, normed, row, rmsScale]

theorem result_at (zz : FVec Ideal S2x4096x2048 .f32) (w : FVec Ideal S1x2048x2048 .f32) (x : FVec Ideal S2x4096x2048 .f32) (g : FVec Ideal S2048 .f32) (i : S8192x2048.Idx) :
    scaled (sums zz w x) g i = normed (mixed zz w x) g (i 0) (i 1) := by
  rw [scaled_at, show row (sums zz w x) = mixed zz w x from funext fun r => funext fun k => sums_at zz w x r k]

end Cert.ReferenceOutIdeal.Entries

end
-- ==== Proof.OutAgree.lean ====
/- The last output product against the reference's: the run reads off its array, and they agree entry by entry. -/
module

public import proofs.«01_k».proof.Defs
public import proofs.«01_k».proof.Proof.OutReference

@[expose] public section

set_option maxRecDepth 16384

noncomputable section

open Idealize.ShloMosaic Idealize.ShloMosaic.TcCoe Idealize.SL.Sem

namespace Cert.Proof

theorem algebraic_out : Cert.algebraic_KernelOutIdeal_ReferenceOutIdeal := by
  pair_intro
  · run_from Cert.KernelOutIdeal.Gen.run_main m g
  · run_from Cert.ReferenceOutIdeal.Value.run m' g'
    rw [Cert.KernelOutIdeal.Final.final m c]
    funext i
    exact Cert.ReferenceOutIdeal.Entries.result_at _ _ _ _ i

end Cert.Proof

end
-- ==== Proof.InValue.lean ====
/- What the first projection call computes: the normed token rows, and their products with the two weights, each the value of
   the reference's own operations at that entry. -/
module

public import proofs.«01_k».proof.Proof.Rows
public import proofs.«01_k».proof.Proof.Gen.KernelInIdeal.Value
public import proofs.«01_k».proof.Proof.Gen.ReferenceInIdeal.Run

@[expose] public section

set_option maxRecDepth 16384

noncomputable section

open Idealize.ShloMosaic Idealize.ShloMosaic.TcCoe Idealize.SL.Sem
open Idealize.ShloMosaic.Pipeline (Dat)

namespace Cert.KernelInIdeal.Projected

open Cert.KernelInIdeal Cert.KernelInIdeal.Gen Cert.Rows

variable (m : (ℓ : Loc nD τ sig) → Buf (Elt Ideal) ℓ)

/-- Entry `k` of the normed token row `r`. -/
def normed (x : FVec Ideal S2x4096x2048 .f32) (g : FVec Ideal S1x2048 .f32) (r : Fin 8192) (k : Fin 2048) : EReal :=
  row x r k * rmsScale (row x r) * g (ix2 0 k)

/-- The normed row `r` against row `s` of a weight of `n` rows. -/
def projected {n : ℕ} (x : FVec Ideal S2x4096x2048 .f32) (g : FVec Ideal S1x2048 .f32) (w : FVec Ideal ⟨2, ![n, 2048]⟩ .bf16)
    (r : Fin 8192) (s : Fin n) : EReal :=
  ∑ k : Fin 2048, normed x g r k * w (ix2 s k)

/-- The blocks of a grid point: its own 512 token rows in and out, the scale row and the weights whole. -/
theorem places : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The normed row that a grid point computes. -/
theorem block_normed (c : Dev nD) (t : Fin cfg0.N) (y : S512x2048.Idx) (r : Fin 8192) (k : Fin 2048)
    (hr : (r : ℕ) = t.val * 512 + y 0) (hk : (k : ℕ) = y 1) :
    k0_pay5 (F := Ideal) (iblk m c 0 t) (iblk m c 1 t) y
      = normed (m ((c : Thread nD τ).loc main_arg0)) (m ((c : Thread nD τ).loc main_arg1)) r k := by
  pointwise [k0_pay5, normed, row, rmsScale]
  blk_point [iblk, V, places t]

/-- A grid point's 512 columns of a product, from the piece's own column offset. -/
theorem stored5 (c : Dev nD) (t : Fin cfg0.N) (y : S512x3072.Idx) (r : Fin 8192) (s : Fin 3072)
    (hr : (r : ℕ) = t.val * 512 + y 0) (hs : (s : ℕ) = y 1) :
    out0_5 (iblk m c 0 t) (iblk m c 1 t) (iblk m c 2 t) (iblk m c 3 t) y
      = projected (m ((c : Thread nD τ).loc main_arg0)) (m ((c : Thread nD τ).loc main_arg1)) (m ((c : Thread nD τ).loc main_arg2)) r s := by
  canon_tiles x h
  all_goals (open_payloads; pointwise [projected, normed, row, rmsScale]; blk_point [iblk, V, places t])

theorem final4 (c : Dev nD) : (dats m 0 c).arrAt 4 (cfgs 0).N
    = fun i : S8192x2048.Idx => normed (m ((c : Thread nD τ).loc main_arg0)) (m ((c : Thread nD τ).loc main_arg1)) (i 0) (i 1) := by
  refine (dats m 0 c).arrAt_eq_of_covers 4 _ (by decide +kernel) fun t _ y => ?_
  blk_simp
  rw [after0_4]
  frame_out
  exact block_normed m c t y _ _ (by blk_simp [places t]) (by blk_simp [places t])

theorem final5 (c : Dev nD) : (dats m 0 c).arrAt 5 (cfgs 0).N
    = fun i : S8192x3072.Idx => projected (m ((c : Thread nD τ).loc main_arg0)) (m ((c : Thread nD τ).loc main_arg1)) (m ((c : Thread nD τ).loc main_arg2)) (i 0) (i 1) := by
  refine (dats m 0 c).arrAt_eq_of_covers 5 _ (by decide +kernel) fun t _ y => ?_
  blk_simp
  rw [after0_5]
  exact stored5 m c t y _ _ (by blk_simp [places t]) (by blk_simp [places t])

theorem final6 (c : Dev nD) : (dats m 0 c).arrAt 6 (cfgs 0).N
    = fun i : S8192x128.Idx => projected (m ((c : Thread nD τ).loc main_arg0)) (m ((c : Thread nD τ).loc main_arg1)) (m ((c : Thread nD τ).loc main_arg3)) (i 0) (i 1) := by
  refine (dats m 0 c).arrAt_eq_of_covers 6 _ (by decide +kernel) fun t _ y => ?_
  blk_simp
  rw [after0_6]
  frame_out
  have hr : ((((cfg0.win 6).blk t).view.emb y 0 : Fin 8192) : ℕ) = t.val * 512 + y 0 := by blk_simp [places t]
  have hs : ((((cfg0.win 6).blk t).view.emb y 1 : Fin 128) : ℕ) = y 1 := by blk_simp [places t]
  generalize (((cfg0.win 6).blk t).view.emb y 0 : Fin 8192) = r at hr ⊢
  generalize (((cfg0.win 6).blk t).view.emb y 1 : Fin 128) = s at hs ⊢
  unfold k0_pay9
  pointwise [k0_pay4, k0_pay5, projected, normed, row, rmsScale]
  blk_point [iblk, V, places t]

end Cert.KernelInIdeal.Projected

end
-- ==== Proof.InReference.lean ====
/- The reference's norm and its products, entry by entry: the norm read at a token row, and a product of any left array
   with the transposed weight. -/
module

public import proofs.«01_k».proof.Proof.Rows
public import proofs.«01_k».proof.Proof.InValue
public import proofs.«01_k».proof.Proof.Gen.ReferenceInIdeal.Run

@[expose] public section

set_option maxRecDepth 16384

noncomputable section

open Idealize.ShloMosaic Idealize.ShloMosaic.TcCoe Idealize.SL.Sem

namespace Cert.ReferenceInIdeal.Entries

open Cert.ReferenceInIdeal Cert.ReferenceInIdeal.Gen Cert.Rows

/-- The reference's normed tokens, as one array of rows. -/
def tokens (x : FVec Ideal S2x4096x2048 .f32) (g : FVec Ideal S1x2048 .f32) : FVec Ideal S8192x2048 .bf16 :=
  shapeCast S8192x2048 (truncf .bf16 (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast S2048 g shapeCasts_S1x2048_S2048)))) bitsLt_bf16_f32) shapeCasts_S2x4096x2048_S8192x2048

theorem tokens_at (x : FVec Ideal S2x4096x2048 .f32) (g : FVec Ideal S1x2048 .f32) (i : S8192x2048.Idx) :
    tokens x g i = Cert.KernelInIdeal.Projected.normed x g (i 0) (i 1) := by
  pointwise [tokens, Cert.KernelInIdeal.Projected.normed, row, rmsScale]

theorem projection_at (h : FVec Ideal S8192x2048 .bf16) (w : FVec Ideal S3072x2048 .bf16) (i : S8192x3072.Idx) :
    truncf .bf16 (Host.dotGeneral dot_S8192x2048_S2048x3072_S8192x3072_1_0_0_1_n_n none h
      (transpose S2048x3072 [1, 0] w transposes_S3072x2048_S2048x3072_1_0)) bitsLt_bf16_f32 i
      = ∑ k : Fin 2048, h (ix2 (i 0) k) * w (ix2 (i 1) k) := by
  pointwise

theorem small_at (h : FVec Ideal S8192x2048 .bf16) (w : FVec Ideal S128x2048 .bf16) (i : S8192x128.Idx) :
    (Host.dotGeneral dot_S8192x2048_S2048x128_S8192x128_1_0_0_1_n_n none h
      (transpose S2048x128 [1, 0] w transposes_S128x2048_S2048x128_1_0) : FVec Ideal S8192x128 .f32) i
      = ∑ k : Fin 2048, h (ix2 (i 0) k) * w (ix2 (i 1) k) := by
  pointwise

end Cert.ReferenceInIdeal.Entries

end
-- ==== Proof.FoxValue.lean ====
/- The second projection call: its result, entry by entry, as the sum over the shared axis that the reference takes. -/
module

public import proofs.«01_k».proof.Proof.Gen.KernelFoxIdeal.Value
public import proofs.«01_k».proof.Proof.Gen.ReferenceFoxIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelFoxIdeal.Product

open Cert.KernelFoxIdeal Cert.KernelFoxIdeal.Gen

variable (m : (ℓ : Loc nD τ sig) → Buf (Elt Ideal) ℓ)

/-- Entry `(r, s)` of the product the reference computes: row `r` of the left array against row `s` of the right one. -/
def product (a : FVec Ideal S8192x2048 .bf16) (w : FVec Ideal S4096x2048 .bf16) (r : Fin 8192) (s : Fin 4096) : EReal :=
  ∑ k : Fin 2048, a (ix2 r k) * w (ix2 s k)

/-- The block each grid point reads and writes: its own 512 rows, and the whole weight. -/
theorem places : ∀ t : Fin cfg0.N, win0_0.index t = ![t.val, 0] ∧ win0_1.index t = ![0, 0] ∧ win0_2.index t = ![t.val, 0] :=
  (by decide +kernel : ∀ t : Fin grid0.N, _)

theorem stored (c : Dev nD) (t : Fin cfg0.N) (y : S512x4096.Idx) (r : Fin 8192) (s : Fin 4096)
    (hr : (r : ℕ) = t.val * 512 + y 0) (hs : (s : ℕ) = y 1) :
    out0_2 (iblk m c 0 t) (iblk m c 1 t) y
      = product (m ((c : Thread nD τ).loc main_arg0)) (m ((c : Thread nD τ).loc main_arg1)) r s := by
  canon_tiles x h
  all_goals (open_payloads; pointwise [product]; blk_point [iblk, V, places t])

theorem final (c : Dev nD) : (dats m 0 c).arrAt 2 (cfgs 0).N
    = fun i : S8192x4096.Idx => product (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  exact stored m c t y _ _ (by blk_simp [places t]) (by blk_simp [places t])

theorem reference_value (a : FVec Ideal S8192x2048 .bf16) (w : FVec Ideal S4096x2048 .bf16) (i : S8192x4096.Idx) :
    truncf .bf16 (Host.dotGeneral Cert.ReferenceFoxIdeal.dot_S8192x2048_S2048x4096_S8192x4096_1_0_0_1_n_n none a
      (transpose Cert.ReferenceFoxIdeal.S2048x4096 [1, 0] w Cert.ReferenceFoxIdeal.Gen.transposes_S4096x2048_S2048x4096_1_0))
      Cert.ReferenceFoxIdeal.Gen.bitsLt_bf16_f32 i = product a w (i 0) (i 1) := by
  pointwise [product]

end Cert.KernelFoxIdeal.Product

end
-- ==== Proof.CValue.lean ====
/- The second layer's input product, grouped by channel: what the pipelined call leaves in its result, as the sum the
   reference takes. The call keeps the transposed weight block in a scratch buffer through a sweep of sixteen points. -/
module

public import proofs.«01_k».proof.Proof.Gen.KernelCIdeal.Value
public import proofs.«01_k».proof.Proof.Gen.ReferenceCIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCIdeal.Grouped

open Cert.KernelCIdeal Cert.KernelCIdeal.Gen

variable (m : (ℓ : Loc nD τ sig) → Buf (Elt Ideal) ℓ)

/-- The block each grid point reads and writes: weight columns by the sweep, token group by the point of the sweep. -/
theorem places : ∀ t : Fin cfg0.N, win0_0.index t = ![0, t.val / 16] ∧ win0_1.index t = ![0, t.val % 16] ∧ win0_2.index t = ![t.val % 16, t.val / 16, 0] :=
  (by decide +kernel : ∀ t : Fin grid0.N, _)

/-- What the first point of a sweep writes over the scratch buffer: the sweep's weight block, transposed quarter by quarter. -/
def filled (c : Dev nD) (t : Fin cfg0.N) : Vec Ideal S2048x2048 .bf16 :=
  View.canon
    [⟨Rect.unit ![1536, 0] ![512, 2048] inb_S2048x2048_S512x2048_1536_0,
        k0_pay5 (View.ld (iblk m c 0 t) (Rect.unit ![0, 1536] ![2048, 512] inb_S2048x2048_S2048x512_0_1536))⟩,
      ⟨Rect.unit ![1024, 0] ![512, 2048] inb_S2048x2048_S512x2048_1024_0,
        k0_pay4 (View.ld (iblk m c 0 t) (Rect.unit ![0, 1024] ![2048, 512] inb_S2048x2048_S2048x512_0_1024))⟩,
      ⟨Rect.unit ![512, 0] ![512, 2048] inb_S2048x2048_S512x2048_512_0,
        k0_pay3 (View.ld (iblk m c 0 t) (Rect.unit ![0, 512] ![2048, 512] inb_S2048x2048_S2048x512_0_512))⟩,
      ⟨Rect.unit ![0, 0] ![512, 2048] inb_S2048x2048_S512x2048_0_0,
        k0_pay2 (View.ld (iblk m c 0 t) (Rect.unit ![0, 0] ![2048, 512] inb_S2048x2048_S2048x512_0_0))⟩]

/-- `X` is the transposed block of the weight that point `t` works with. -/
def Holds (c : Dev nD) (n : ℕ) (X : Vec Ideal S2048x2048 .bf16) : Prop :=
  ∀ (y : S2048x2048.Idx) (s : Fin 4096) (k : Fin 2048), (s : ℕ) = n / 16 * 2048 + y 0 → (k : ℕ) = y 1 →
    X y = m ((c : Thread nD τ).loc main_arg1) (ix3 0 k s)

theorem filled_holds (c : Dev nD) (t : Fin cfg0.N) : Holds m c t.val (filled m c t) := by
  intro y s k hs hk
  unfold filled
  canon_tiles x h
  all_goals (open_payloads; pointwise; blk_point [iblk, V, places t])

theorem left_first (c : Dev nD) (t : Fin cfg0.N) (h0 : t.val % 16 = 0) : (outsAt0 m c t.val t.isLt).2 = filled m c t := by
  funext y
  rw [outsAt0_A m c t h0]
  frame_out
  rfl

/-- The scratch buffer after any point: the sweep's block of the weight, transposed. -/
theorem held (c : Dev nD) : ∀ (n : ℕ) (hn : n < cfg0.N), Holds m c n (outsAt0 m c n hn).2 := by
  intro n
  induction n with
  | zero =>
    intro hn
    rw [left_first m c ⟨0, hn⟩ (Nat.zero_mod _)]
    exact filled_holds m c ⟨0, hn⟩
  | succ n ih =>
    intro hn
    by_cases h0 : (n + 1) % 16 = 0
    · rw [left_first m c ⟨n + 1, hn⟩ h0]
      exact filled_holds m c ⟨n + 1, hn⟩
    · rw [outsAt0_B m c ⟨n + 1, hn⟩ h0]
      intro y s k hs hk
      exact ih (Nat.lt_of_succ_lt hn) y s k (by omega) hk

/-- Entry (place in the group `g`, channel `s`, chunk `n`) of the product: the token is the `g`-th of chunk `n`. -/
def grouped (X : FVec Ideal S2x4096x2048 .f32) (W : FVec Ideal S1x2048x4096 .f32) (g : Fin 16) (s : Fin 4096) (n : Fin 512) : EReal :=
  ∑ k : Fin 2048, W (ix3 0 k s) * X (ix3 ⟨n / 256, by omega⟩ ⟨n % 256 * 16 + g, by omega⟩ k)

/-- One quarter's entry, for whatever the scratch buffer holds. -/
theorem quarter (c : Dev nD) (t : Fin cfg0.N) (X : Vec Ideal S2048x2048 .bf16) (hX : Holds m c t.val X)
    (z : Fin 2048 → S2048x2048.Idx) (u : Fin 2048 → S512x2048.Idx) (g : Fin 16) (s : Fin 4096) (n : Fin 512)
    (hg : (g : ℕ) = t.val % 16) (hs : ∀ k, (s : ℕ) = t.val / 16 * 2048 + z k 0) (hz : ∀ k : Fin 2048, (k : ℕ) = z k 1)
    (hu0 : ∀ k, (n : ℕ) = u k 0) (hu1 : ∀ k : Fin 2048, (k : ℕ) = u k 1) :
    ∑ k : Fin 2048, X (z k) * (show FVec Ideal S512x2048 .bf16 from iblk m c 1 t) (u k)
      = grouped (m ((c : Thread nD τ).loc main_arg0)) (m ((c : Thread nD τ).loc main_arg1)) g s n := by
  refine Finset.sum_congr rfl fun k _ => ?_
  rw [hX (z k) s k (hs k) (hz k)]
  congr 1
  show (show FVec Ideal S512x2048 .bf16 from iblk m c 1 t) (u k) = _
  have h0 := hu0 k
  have h1 := hu1 k
  generalize u k = v at h0 h1
  dsimp only
  blk_point [iblk, V, places t]

theorem readback {s : Shape} {e : EltTy} {sp : Space} {κ : Kind} (v : View sig κ sp s e) (L : List (View.Piece (Elt Ideal) s e)) (r : Rect s) :
    v.readCov L r.toLoadRect = View.ld (View.canon L) r :=
  View.readCov_eq_canon' v L _

theorem reread (h : (scM0_0).IsWhole) (X : Vec Ideal S2048x2048 .bf16) :
    View.read (Elt Ideal) (View.whole cc0_scratch0) (h.unread X) = X :=
  h.read_unread X

/-- The four stores of a point, from its token block `B` and the contents `X` of the scratch buffer. -/
def quarters (B : Vec Ideal S512x2048 .bf16) (X : Vec Ideal S2048x2048 .bf16) : Vec Ideal S1x2048x512 .bf16 :=
  View.canon
    [⟨Rect.unit ![0, 1536, 0] ![1, 512, 512] inb_S1x2048x512_S1x512x512_0_1536_0,
        k0_pay1 (k0_pay10 B (View.ld X (Rect.unit ![1536, 0] ![512, 2048] inb_S2048x2048_S512x2048_1536_0)))⟩,
      ⟨Rect.unit ![0, 1024, 0] ![1, 512, 512] inb_S1x2048x512_S1x512x512_0_1024_0,
        k0_pay9 B (View.ld X (Rect.unit ![1024, 0] ![512, 2048] inb_S2048x2048_S512x2048_1024_0))⟩,
      ⟨Rect.unit ![0, 512, 0] ![1, 512, 512] inb_S1x2048x512_S1x512x512_0_512_0,
        k0_pay8 B (View.ld X (Rect.unit ![512, 0] ![512, 2048] inb_S2048x2048_S512x2048_512_0))⟩,
      ⟨Rect.unit ![0, 0, 0] ![1, 512, 512] inb_S1x2048x512_S1x512x512_0_0_0,
        k0_pay7 B (View.ld X (Rect.unit ![0, 0] ![512, 2048] inb_S2048x2048_S512x2048_0_0))⟩]

theorem stored_first (c : Dev nD) (t : Fin cfg0.N) (h0 : t.val % 16 = 0) :
    (outsAt0 m c t.val t.isLt).1 = quarters (iblk m c 1 t) (filled m c t) := by
  funext y
  rw [outsAt0_A m c t h0]
  frame_out
  simp only [readback]
  rfl

theorem stored_later (c : Dev nD) (t : Fin cfg0.N) (h0 : ¬ t.val % 16 = 0) :
    (outsAt0 m c t.val t.isLt).1
      = quarters (iblk m c 1 t) (outsAt0 m c (t.val - 1) (Nat.lt_of_le_of_lt (Nat.sub_le _ _) t.isLt)).2 := by
  funext y
  rw [outsAt0_B m c t h0]
  frame_out
  simp only [reread]

theorem quarters_at (c : Dev nD) (t : Fin cfg0.N) (X : Vec Ideal S2048x2048 .bf16) (hX : Holds m c t.val X)
    (y : S1x2048x512.Idx) (g : Fin 16) (s : Fin 4096) (n : Fin 512)
    (hg : (g : ℕ) = t.val % 16) (hs : (s : ℕ) = t.val / 16 * 2048 + y 1) (hn : (n : ℕ) = y 2) :
    quarters (iblk m c 1 t) X y
      = grouped (m ((c : Thread nD τ).loc main_arg0)) (m ((c : Thread nD τ).loc main_arg1)) g s n := by
  unfold quarters
  canon_tiles x h
  all_goals (open_payloads; pointwise)
  all_goals exact quarter m c t X hX _ _ g s n hg (fun k => by dsimp; omega) (fun k => rfl) (fun k => by dsimp; omega) (fun k => rfl)

theorem final (c : Dev nD) : (dats m 0 c).arrAt 2 (cfgs 0).N
    = fun i : S16x4096x512.Idx => grouped (m ((c : Thread nD τ).loc main_arg0)) (m ((c : Thread nD τ).loc main_arg1)) (i 0) (i 1) (i 2) := by
  refine (dats m 0 c).arrAt_eq_of_covers 2 _ (by decide +kernel) fun t _ y => ?_
  blk_simp
  rw [after0_2]
  by_cases h0 : t.val % 16 = 0
  · rw [stored_first m c t h0]
    exact quarters_at m c t _ (filled_holds m c t) y _ _ _ (by blk_simp [places t]) (by blk_simp [places t]) (by blk_simp [places t])
  · rw [stored_later m c t h0]
    exact quarters_at m c t _ (fun y s k hs hk => held m c _ _ y s k (by omega) hk) y _ _ _
      (by blk_simp [places t]) (by blk_simp [places t]) (by blk_simp [places t])

end Cert.KernelCIdeal.Grouped

end
-- ==== Proof.CReference.lean ====
/- The second layer's input product of the reference, entry by entry. -/
module

public import proofs.«01_k».proof.Proof.CValue
public import proofs.«01_k».proof.Proof.Gen.ReferenceCIdeal.Run

@[expose] public section

set_option maxRecDepth 16384

noncomputable section

open Idealize.ShloMosaic Idealize.ShloMosaic.TcCoe Idealize.SL.Sem

namespace Cert.ReferenceCIdeal.Entries

open Cert.ReferenceCIdeal Cert.ReferenceCIdeal.Gen

/-- The reference's array holds the grouped product: its factors stand in the other order. -/
theorem product_at (x : FVec Ideal S2x4096x2048 .f32) (w : FVec Ideal S1x2048x4096 .f32) (i : S16x4096x512.Idx) :
    transpose S16x4096x512 [1, 2, 0] (shapeCast S512x16x4096 (truncf .bf16
      (Host.dotGeneral dot_S2x4096x2048_S2048x4096_S2x4096x4096_2_0_01_1_n_n none x
        (shapeCast S2048x4096 w shapeCasts_S1x2048x4096_S2048x4096)) bitsLt_bf16_f32) shapeCasts_S2x4096x4096_S512x16x4096)
      transposes_S512x16x4096_S16x4096x512_1_2_0 i = Cert.KernelCIdeal.Grouped.grouped x w (i 0) (i 1) (i 2) := by
  refine Eq.trans (b := ∑ k : Fin 2048, x (ix3 ⟨(i 2).val / 256, by have := (i 2).isLt; change _ < 512 at this; omega⟩ ⟨(i 2).val % 256 * 16 + (i 0).val, by have := (i 0).isLt; change _ < 16 at this; omega⟩ k) * w (ix3 0 k (i 1))) ?_ ?_
  · pointwise
    blk_ext
  · exact Finset.sum_congr rfl fun k _ => mul_comm _ _

end Cert.ReferenceCIdeal.Entries

end
-- ==== Proof.Projections.lean ====
/- The projection calls against the reference's norm and products: each run reads off its arrays, and they agree entry by
   entry. -/
module

public import proofs.«01_k».proof.Defs
public import proofs.«01_k».proof.Proof.InReference
public import proofs.«01_k».proof.Proof.FoxValue
public import proofs.«01_k».proof.Proof.CReference

@[expose] public section

set_option maxRecDepth 16384

noncomputable section

open Idealize.ShloMosaic Idealize.ShloMosaic.TcCoe Idealize.SL.Sem

namespace Cert.Proof

set_option maxHeartbeats 800000 in
theorem algebraic_in : Cert.algebraic_KernelInIdeal_ReferenceInIdeal := by
  pair_intro
  · run_from Cert.KernelInIdeal.Gen.run_main m g
  · run_from Cert.ReferenceInIdeal.Value.run m' g'
    · rw [Cert.KernelInIdeal.Projected.final4 m c]
      funext i
      exact Cert.ReferenceInIdeal.Entries.tokens_at _ _ i
    · rw [Cert.KernelInIdeal.Projected.final5 m c]
      funext i
      refine (Cert.ReferenceInIdeal.Entries.projection_at (Cert.ReferenceInIdeal.Entries.tokens _ _) _ i).trans ?_
      exact Finset.sum_congr rfl fun k _ => by rw [Cert.ReferenceInIdeal.Entries.tokens_at]; rfl
    · rw [Cert.KernelInIdeal.Projected.final6 m c]
      funext i
      refine (Cert.ReferenceInIdeal.Entries.small_at (Cert.ReferenceInIdeal.Entries.tokens _ _) _ i).trans ?_
      exact Finset.sum_congr rfl fun k _ => by rw [Cert.ReferenceInIdeal.Entries.tokens_at]; rfl

theorem algebraic_fox : Cert.algebraic_KernelFoxIdeal_ReferenceFoxIdeal := by
  pair_intro
  · run_from Cert.KernelFoxIdeal.Gen.run_main m g
  · run_from Cert.ReferenceFoxIdeal.Value.run m' g'
    rw [Cert.KernelFoxIdeal.Product.final m c]
    funext i
    exact Cert.KernelFoxIdeal.Product.reference_value _ _ i

theorem algebraic_c : Cert.algebraic_KernelCIdeal_ReferenceCIdeal := by
  pair_intro
  · run_from Cert.KernelCIdeal.Gen.run_main m g
  · run_from Cert.ReferenceCIdeal.Value.run m' g'
    rw [Cert.KernelCIdeal.Grouped.final m c]
    funext i
    exact Cert.ReferenceCIdeal.Entries.product_at _ _ i

end Cert.Proof

end
-- ==== Proof.lean ====
/- The certificate: the side conditions of every program, its frames, and the values of the calls that are compared with
   the layer's mathematics. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelFox
public import proofs.«01_k».proof.Proof.Gen.KernelFox.Skeleton
public import proofs.«01_k».proof.Proof.Gen.KernelFox.Launch
public import proofs.«01_k».proof.Proof.Gen.KernelFox.Points
public import proofs.«01_k».proof.Proof.Gen.KernelFox.Frame
public import proofs.«01_k».proof.Proof.Gen.KernelFoxIdeal
public import proofs.«01_k».proof.Proof.Gen.KernelFoxIdeal.Skeleton
public import proofs.«01_k».proof.Proof.Gen.KernelFoxIdeal.Launch
public import proofs.«01_k».proof.Proof.Gen.KernelFoxIdeal.Points
public import proofs.«01_k».proof.Proof.Gen.KernelFoxIdeal.Frame
public import proofs.«01_k».proof.Proof.Gen.KernelFoxIdeal.Value
public import proofs.«01_k».proof.Proof.Gen.ReferenceFoxIdeal
public import proofs.«01_k».proof.Proof.Gen.ReferenceFoxIdeal.Run
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelC.Frame
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Run
public import proofs.«01_k».proof.Proof.Gen.KernelMid
public import proofs.«01_k».proof.Proof.Gen.KernelMid.Skeleton
public import proofs.«01_k».proof.Proof.Gen.KernelMid.Launch
public import proofs.«01_k».proof.Proof.Gen.KernelMid.Points
public import proofs.«01_k».proof.Proof.Gen.KernelMid.Frame
public import proofs.«01_k».proof.Proof.Gen.KernelMidIdeal
public import proofs.«01_k».proof.Proof.Gen.KernelMidIdeal.Skeleton
public import proofs.«01_k».proof.Proof.Gen.KernelMidIdeal.Launch
public import proofs.«01_k».proof.Proof.Gen.KernelMidIdeal.Points
public import proofs.«01_k».proof.Proof.Gen.KernelMidIdeal.Frame
public import proofs.«01_k».proof.Proof.Gen.KernelMidIdeal.Value
public import proofs.«01_k».proof.Proof.Gen.ReferenceMidIdeal
public import proofs.«01_k».proof.Proof.Gen.ReferenceMidIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelGlu
public import proofs.«01_k».proof.Proof.Gen.KernelGlu.Skeleton
public import proofs.«01_k».proof.Proof.Gen.KernelGlu.Launch
public import proofs.«01_k».proof.Proof.Gen.KernelGlu.Points
public import proofs.«01_k».proof.Proof.Gen.KernelGlu.Frame
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.AttAgree
public import proofs.«01_k».proof.Proof.Frames
public import proofs.«01_k».proof.Proof.GluAgree
public import proofs.«01_k».proof.Proof.MidAgree
public import proofs.«01_k».proof.Proof.OutAgree
public import proofs.«01_k».proof.Proof.Projections
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.KernelIn.Gen.facts, Cert.KernelInIdeal.Gen.facts, Cert.ReferenceInIdeal.Gen.facts, Cert.KernelFox.Gen.facts, Cert.KernelFoxIdeal.Gen.facts, Cert.ReferenceFoxIdeal.Gen.facts, Cert.KernelC.Gen.facts, Cert.KernelCIdeal.Gen.facts, Cert.ReferenceCIdeal.Gen.facts, Cert.KernelMid.Gen.facts, Cert.KernelMidIdeal.Gen.facts, Cert.ReferenceMidIdeal.Gen.facts, Cert.KernelOut.Gen.facts, Cert.KernelOutIdeal.Gen.facts, Cert.ReferenceOutIdeal.Gen.facts, Cert.KernelGlu.Gen.facts, Cert.KernelGluIdeal.Gen.facts, Cert.ReferenceGluIdeal.Gen.facts, Cert.KernelAtt.Gen.facts, Cert.KernelAttIdeal.Gen.facts, Cert.ReferenceAttIdeal.Gen.facts, Cert.Pre_causal_pairs.Gen.facts, Cert.Pre_finite_pairs.Gen.facts,
    frame_Kernel, frame_KernelIdeal, frame_ReferenceIdeal, frame_KernelIn, frame_KernelInIdeal, frame_ReferenceInIdeal, frame_KernelFox, frame_KernelFoxIdeal, frame_ReferenceFoxIdeal, frame_KernelC, frame_KernelCIdeal, frame_ReferenceCIdeal, frame_KernelMid, frame_KernelMidIdeal, frame_ReferenceMidIdeal, frame_KernelOut, frame_KernelOutIdeal, frame_ReferenceOutIdeal, frame_KernelGlu, frame_KernelGluIdeal, frame_ReferenceGluIdeal,
    frame_KernelAtt, frame_KernelAttIdeal, frame_KernelAttIdeal_finite, frame_ReferenceAttIdeal, frame_ReferenceAttIdeal_finite,
    trivial, trivial, algebraic_in, trivial, algebraic_fox, trivial, algebraic_c, trivial, algebraic_mid, trivial, algebraic_out, trivial, algebraic_glu, trivial, algebraic_att⟩

end Cert.Proof

end
